-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_GluDown (m : (ℓ : Loc Cert.GluDown.nD Cert.GluDown.τ Cert.GluDown.sig) → Buf (Elt Bits) ℓ) : Prop :=
  True

def Pre_GluDownIdeal (m : (ℓ : Loc Cert.GluDownIdeal.nD Cert.GluDownIdeal.τ Cert.GluDownIdeal.sig) → Buf (Elt Ideal) ℓ) : Prop :=
  True

def Pre_GluDownRefIdeal (m : (ℓ : Loc Cert.GluDownRefIdeal.nD Cert.GluDownRefIdeal.τ Cert.GluDownRefIdeal.sig) → Buf (Elt Ideal) ℓ) : Prop :=
  True

def Pre_DWDown (m : (ℓ : Loc Cert.DWDown.nD Cert.DWDown.τ Cert.DWDown.sig) → Buf (Elt Bits) ℓ) : Prop :=
  True

def Pre_DWDownIdeal (m : (ℓ : Loc Cert.DWDownIdeal.nD Cert.DWDownIdeal.τ Cert.DWDownIdeal.sig) → Buf (Elt Ideal) ℓ) : Prop :=
  True

def Pre_DWDownRefIdeal (m : (ℓ : Loc Cert.DWDownRefIdeal.nD Cert.DWDownRefIdeal.τ Cert.DWDownRefIdeal.sig) → Buf (Elt Ideal) ℓ) : Prop :=
  True

def Pre_DFfnIn (m : (ℓ : Loc Cert.DFfnIn.nD Cert.DFfnIn.τ Cert.DFfnIn.sig) → Buf (Elt Bits) ℓ) : Prop :=
  True

def Pre_DFfnInIdeal (m : (ℓ : Loc Cert.DFfnInIdeal.nD Cert.DFfnInIdeal.τ Cert.DFfnInIdeal.sig) → Buf (Elt Ideal) ℓ) : Prop :=
  True

def Pre_DFfnInRefIdeal (m : (ℓ : Loc Cert.DFfnInRefIdeal.nD Cert.DFfnInRefIdeal.τ Cert.DFfnInRefIdeal.sig) → Buf (Elt Ideal) ℓ) : Prop :=
  True

def Pre_DWGateUp (m : (ℓ : Loc Cert.DWGateUp.nD Cert.DWGateUp.τ Cert.DWGateUp.sig) → Buf (Elt Bits) ℓ) : Prop :=
  True

def Pre_DWGateUpIdeal (m : (ℓ : Loc Cert.DWGateUpIdeal.nD Cert.DWGateUpIdeal.τ Cert.DWGateUpIdeal.sig) → Buf (Elt Ideal) ℓ) : Prop :=
  True

def Pre_DWGateUpRefIdeal (m : (ℓ : Loc Cert.DWGateUpRefIdeal.nD Cert.DWGateUpRefIdeal.τ Cert.DWGateUpRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DMix (m : (ℓ : Loc Cert.DMix.nD Cert.DMix.τ Cert.DMix.sig) → Buf (Elt Bits) ℓ) : Prop :=
  True

def Pre_DMixIdeal (m : (ℓ : Loc Cert.DMixIdeal.nD Cert.DMixIdeal.τ Cert.DMixIdeal.sig) → Buf (Elt Ideal) ℓ) : Prop :=
  True

def Pre_DMixRefIdeal (m : (ℓ : Loc Cert.DMixRefIdeal.nD Cert.DMixRefIdeal.τ Cert.DMixRefIdeal.sig) → Buf (Elt Ideal) ℓ) : Prop :=
  True

def Pre_DWOut (m : (ℓ : Loc Cert.DWOut.nD Cert.DWOut.τ Cert.DWOut.sig) → Buf (Elt Bits) ℓ) : Prop :=
  True

def Pre_DWOutIdeal (m : (ℓ : Loc Cert.DWOutIdeal.nD Cert.DWOutIdeal.τ Cert.DWOutIdeal.sig) → Buf (Elt Ideal) ℓ) : Prop :=
  True

def Pre_DWOutRefIdeal (m : (ℓ : Loc Cert.DWOutRefIdeal.nD Cert.DWOutRefIdeal.τ Cert.DWOutRefIdeal.sig) → Buf (Elt Ideal) ℓ) : Prop :=
  True

def Pre_DInA (m : (ℓ : Loc Cert.DInA.nD Cert.DInA.τ Cert.DInA.sig) → Buf (Elt Bits) ℓ) : Prop :=
  True

def Pre_DInAIdeal (m : (ℓ : Loc Cert.DInAIdeal.nD Cert.DInAIdeal.τ Cert.DInAIdeal.sig) → Buf (Elt Ideal) ℓ) : Prop :=
  True

def Pre_DInARefIdeal (m : (ℓ : Loc Cert.DInARefIdeal.nD Cert.DInARefIdeal.τ Cert.DInARefIdeal.sig) → Buf (Elt Ideal) ℓ) : Prop :=
  True

def Pre_DWInA (m : (ℓ : Loc Cert.DWInA.nD Cert.DWInA.τ Cert.DWInA.sig) → Buf (Elt Bits) ℓ) : Prop :=
  True

def Pre_DWInAIdeal (m : (ℓ : Loc Cert.DWInAIdeal.nD Cert.DWInAIdeal.τ Cert.DWInAIdeal.sig) → Buf (Elt Ideal) ℓ) : Prop :=
  True

def Pre_DWInARefIdeal (m : (ℓ : Loc Cert.DWInARefIdeal.nD Cert.DWInARefIdeal.τ Cert.DWInARefIdeal.sig) → Buf (Elt Ideal) ℓ) : Prop :=
  True

def Pre_DInB (m : (ℓ : Loc Cert.DInB.nD Cert.DInB.τ Cert.DInB.sig) → Buf (Elt Bits) ℓ) : Prop :=
  True

def Pre_DInBIdeal (m : (ℓ : Loc Cert.DInBIdeal.nD Cert.DInBIdeal.τ Cert.DInBIdeal.sig) → Buf (Elt Ideal) ℓ) : Prop :=
  True

def Pre_DInBRefIdeal (m : (ℓ : Loc Cert.DInBRefIdeal.nD Cert.DInBRefIdeal.τ Cert.DInBRefIdeal.sig) → Buf (Elt Ideal) ℓ) : Prop :=
  True

def Pre_DWInB (m : (ℓ : Loc Cert.DWInB.nD Cert.DWInB.τ Cert.DWInB.sig) → Buf (Elt Bits) ℓ) : Prop :=
  True

def Pre_DWInBIdeal (m : (ℓ : Loc Cert.DWInBIdeal.nD Cert.DWInBIdeal.τ Cert.DWInBIdeal.sig) → Buf (Elt Ideal) ℓ) : Prop :=
  True

def Pre_DWInBRefIdeal (m : (ℓ : Loc Cert.DWInBRefIdeal.nD Cert.DWInBRefIdeal.τ Cert.DWInBRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_GluDown [hGluDown : Cert.GluDown.Facts] : Prop :=
  ∀ (m : (ℓ : Loc Cert.GluDown.nD Cert.GluDown.τ Cert.GluDown.sig) → Buf (Elt Bits) ℓ) (g : Dev Cert.GluDown.nD → PrngReg), Pre_GluDown m →
    θ_run (Cert.GluDown.defs (F := Bits)) (onTc (τ := Cert.GluDown.τ) (Cert.GluDown.main (F := Bits))) ⟨m, fun _ => 0, g⟩ (fun r => (∀ c : Dev Cert.GluDown.nD,
      r.2.mem ((c.tc : Thread Cert.GluDown.nD Cert.GluDown.τ).loc Cert.GluDown.main_arg0) = m ((c.tc : Thread Cert.GluDown.nD Cert.GluDown.τ).loc Cert.GluDown.main_arg0)
      ∧ r.2.mem ((c.tc : Thread Cert.GluDown.nD Cert.GluDown.τ).loc Cert.GluDown.main_arg1) = m ((c.tc : Thread Cert.GluDown.nD Cert.GluDown.τ).loc Cert.GluDown.main_arg1)
      ∧ r.2.mem ((c.tc : Thread Cert.GluDown.nD Cert.GluDown.τ).loc Cert.GluDown.main_arg2) = m ((c.tc : Thread Cert.GluDown.nD Cert.GluDown.τ).loc Cert.GluDown.main_arg2)
      ∧ r.2.mem ((c.tc : Thread Cert.GluDown.nD Cert.GluDown.τ).loc Cert.GluDown.main_arg3) = m ((c.tc : Thread Cert.GluDown.nD Cert.GluDown.τ).loc Cert.GluDown.main_arg3)
      ∧ r.2.mem ((c.tc : Thread Cert.GluDown.nD Cert.GluDown.τ).loc Cert.GluDown.main_arg4) = m ((c.tc : Thread Cert.GluDown.nD Cert.GluDown.τ).loc Cert.GluDown.main_arg4)
      ∧ r.2.mem ((c.tc : Thread Cert.GluDown.nD Cert.GluDown.τ).loc Cert.GluDown.main_arg5) = m ((c.tc : Thread Cert.GluDown.nD Cert.GluDown.τ).loc Cert.GluDown.main_arg5))
      ∧ r.2.sem = fun _ => 0)

def quiescent_GluDownIdeal [hGluDownIdeal : Cert.GluDownIdeal.Facts] : Prop :=
  ∀ (m : (ℓ : Loc Cert.GluDownIdeal.nD Cert.GluDownIdeal.τ Cert.GluDownIdeal.sig) → Buf (Elt Ideal) ℓ) (g : Dev Cert.GluDownIdeal.nD → PrngReg), Pre_GluDownIdeal m →
    θ_run (Cert.GluDownIdeal.defs (F := Ideal)) (onTc (τ := Cert.GluDownIdeal.τ) (Cert.GluDownIdeal.main (F := Ideal))) ⟨m, fun _ => 0, g⟩ (fun r => (∀ c : Dev Cert.GluDownIdeal.nD,
      r.2.mem ((c.tc : Thread Cert.GluDownIdeal.nD Cert.GluDownIdeal.τ).loc Cert.GluDownIdeal.main_arg0) = m ((c.tc : Thread Cert.GluDownIdeal.nD Cert.GluDownIdeal.τ).loc Cert.GluDownIdeal.main_arg0)
      ∧ r.2.mem ((c.tc : Thread Cert.GluDownIdeal.nD Cert.GluDownIdeal.τ).loc Cert.GluDownIdeal.main_arg1) = m ((c.tc : Thread Cert.GluDownIdeal.nD Cert.GluDownIdeal.τ).loc Cert.GluDownIdeal.main_arg1)
      ∧ r.2.mem ((c.tc : Thread Cert.GluDownIdeal.nD Cert.GluDownIdeal.τ).loc Cert.GluDownIdeal.main_arg2) = m ((c.tc : Thread Cert.GluDownIdeal.nD Cert.GluDownIdeal.τ).loc Cert.GluDownIdeal.main_arg2)
      ∧ r.2.mem ((c.tc : Thread Cert.GluDownIdeal.nD Cert.GluDownIdeal.τ).loc Cert.GluDownIdeal.main_arg3) = m ((c.tc : Thread Cert.GluDownIdeal.nD Cert.GluDownIdeal.τ).loc Cert.GluDownIdeal.main_arg3)
      ∧ r.2.mem ((c.tc : Thread Cert.GluDownIdeal.nD Cert.GluDownIdeal.τ).loc Cert.GluDownIdeal.main_arg4) = m ((c.tc : Thread Cert.GluDownIdeal.nD Cert.GluDownIdeal.τ).loc Cert.GluDownIdeal.main_arg4)
      ∧ r.2.mem ((c.tc : Thread Cert.GluDownIdeal.nD Cert.GluDownIdeal.τ).loc Cert.GluDownIdeal.main_arg5) = m ((c.tc : Thread Cert.GluDownIdeal.nD Cert.GluDownIdeal.τ).loc Cert.GluDownIdeal.main_arg5))
      ∧ r.2.sem = fun _ => 0)

def quiescent_GluDownRefIdeal [hGluDownRefIdeal : Cert.GluDownRefIdeal.Facts] : Prop :=
  ∀ (m : (ℓ : Loc Cert.GluDownRefIdeal.nD Cert.GluDownRefIdeal.τ Cert.GluDownRefIdeal.sig) → Buf (Elt Ideal) ℓ) (g : Dev Cert.GluDownRefIdeal.nD → PrngReg), Pre_GluDownRefIdeal m →
    θ_run (Cert.GluDownRefIdeal.defs (F := Ideal)) (onTc (τ := Cert.GluDownRefIdeal.τ) (Cert.GluDownRefIdeal.main (F := Ideal))) ⟨m, fun _ => 0, g⟩ (fun r => (∀ c : Dev Cert.GluDownRefIdeal.nD,
      r.2.mem ((c.tc : Thread Cert.GluDownRefIdeal.nD Cert.GluDownRefIdeal.τ).loc Cert.GluDownRefIdeal.main_arg0) = m ((c.tc : Thread Cert.GluDownRefIdeal.nD Cert.GluDownRefIdeal.τ).loc Cert.GluDownRefIdeal.main_arg0)
      ∧ r.2.mem ((c.tc : Thread Cert.GluDownRefIdeal.nD Cert.GluDownRefIdeal.τ).loc Cert.GluDownRefIdeal.main_arg1) = m ((c.tc : Thread Cert.GluDownRefIdeal.nD Cert.GluDownRefIdeal.τ).loc Cert.GluDownRefIdeal.main_arg1)
      ∧ r.2.mem ((c.tc : Thread Cert.GluDownRefIdeal.nD Cert.GluDownRefIdeal.τ).loc Cert.GluDownRefIdeal.main_arg2) = m ((c.tc : Thread Cert.GluDownRefIdeal.nD Cert.GluDownRefIdeal.τ).loc Cert.GluDownRefIdeal.main_arg2)
      ∧ r.2.mem ((c.tc : Thread Cert.GluDownRefIdeal.nD Cert.GluDownRefIdeal.τ).loc Cert.GluDownRefIdeal.main_arg3) = m ((c.tc : Thread Cert.GluDownRefIdeal.nD Cert.GluDownRefIdeal.τ).loc Cert.GluDownRefIdeal.main_arg3)
      ∧ r.2.mem ((c.tc : Thread Cert.GluDownRefIdeal.nD Cert.GluDownRefIdeal.τ).loc Cert.GluDownRefIdeal.main_arg4) = m ((c.tc : Thread Cert.GluDownRefIdeal.nD Cert.GluDownRefIdeal.τ).loc Cert.GluDownRefIdeal.main_arg4)
      ∧ r.2.mem ((c.tc : Thread Cert.GluDownRefIdeal.nD Cert.GluDownRefIdeal.τ).loc Cert.GluDownRefIdeal.main_arg5) = m ((c.tc : Thread Cert.GluDownRefIdeal.nD Cert.GluDownRefIdeal.τ).loc Cert.GluDownRefIdeal.main_arg5))
      ∧ r.2.sem = fun _ => 0)

def quiescent_DWDown [hDWDown : Cert.DWDown.Facts] : Prop :=
  ∀ (m : (ℓ : Loc Cert.DWDown.nD Cert.DWDown.τ Cert.DWDown.sig) → Buf (Elt Bits) ℓ) (g : Dev Cert.DWDown.nD → PrngReg), Pre_DWDown m →
    θ_run (Cert.DWDown.defs (F := Bits)) (onTc (τ := Cert.DWDown.τ) (Cert.DWDown.main (F := Bits))) ⟨m, fun _ => 0, g⟩ (fun r => (∀ c : Dev Cert.DWDown.nD,
      r.2.mem ((c.tc : Thread Cert.DWDown.nD Cert.DWDown.τ).loc Cert.DWDown.main_arg0) = m ((c.tc : Thread Cert.DWDown.nD Cert.DWDown.τ).loc Cert.DWDown.main_arg0)
      ∧ r.2.mem ((c.tc : Thread Cert.DWDown.nD Cert.DWDown.τ).loc Cert.DWDown.main_arg1) = m ((c.tc : Thread Cert.DWDown.nD Cert.DWDown.τ).loc Cert.DWDown.main_arg1)
      ∧ r.2.mem ((c.tc : Thread Cert.DWDown.nD Cert.DWDown.τ).loc Cert.DWDown.main_arg2) = m ((c.tc : Thread Cert.DWDown.nD Cert.DWDown.τ).loc Cert.DWDown.main_arg2))
      ∧ r.2.sem = fun _ => 0)

def quiescent_DWDownIdeal [hDWDownIdeal : Cert.DWDownIdeal.Facts] : Prop :=
  ∀ (m : (ℓ : Loc Cert.DWDownIdeal.nD Cert.DWDownIdeal.τ Cert.DWDownIdeal.sig) → Buf (Elt Ideal) ℓ) (g : Dev Cert.DWDownIdeal.nD → PrngReg), Pre_DWDownIdeal m →
    θ_run (Cert.DWDownIdeal.defs (F := Ideal)) (onTc (τ := Cert.DWDownIdeal.τ) (Cert.DWDownIdeal.main (F := Ideal))) ⟨m, fun _ => 0, g⟩ (fun r => (∀ c : Dev Cert.DWDownIdeal.nD,
      r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
      ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1)
      ∧ r.2.mem ((c.tc : Thread Cert.DWDownIdeal.nD Cert.DWDownIdeal.τ).loc Cert.DWDownIdeal.main_arg2) = m ((c.tc : Thread Cert.DWDownIdeal.nD Cert.DWDownIdeal.τ).loc Cert.DWDownIdeal.main_arg2))
      ∧ r.2.sem = fun _ => 0)

def quiescent_DWDownRefIdeal [hDWDownRefIdeal : Cert.DWDownRefIdeal.Facts] : Prop :=
  ∀ (m : (ℓ : Loc Cert.DWDownRefIdeal.nD Cert.DWDownRefIdeal.τ Cert.DWDownRefIdeal.sig) → Buf (Elt Ideal) ℓ) (g : Dev Cert.DWDownRefIdeal.nD → PrngReg), Pre_DWDownRefIdeal m →
    θ_run (Cert.DWDownRefIdeal.defs (F := Ideal)) (onTc (τ := Cert.DWDownRefIdeal.τ) (Cert.DWDownRefIdeal.main (F := Ideal))) ⟨m, fun _ => 0, g⟩ (fun r => (∀ c : Dev Cert.DWDownRefIdeal.nD,
      r.2.mem ((c.tc : Thread Cert.DWDownRefIdeal.nD Cert.DWDownRefIdeal.τ).loc Cert.DWDownRefIdeal.main_arg0) = m ((c.tc : Thread Cert.DWDownRefIdeal.nD Cert.DWDownRefIdeal.τ).loc Cert.DWDownRefIdeal.main_arg0)
      ∧ r.2.mem ((c.tc : Thread Cert.DWDownRefIdeal.nD Cert.DWDownRefIdeal.τ).loc Cert.DWDownRefIdeal.main_arg1) = m ((c.tc : Thread Cert.DWDownRefIdeal.nD Cert.DWDownRefIdeal.τ).loc Cert.DWDownRefIdeal.main_arg1)
      ∧ r.2.mem ((c.tc : Thread Cert.DWDownRefIdeal.nD Cert.DWDownRefIdeal.τ).loc Cert.DWDownRefIdeal.main_arg2) = m ((c.tc : Thread Cert.DWDownRefIdeal.nD Cert.DWDownRefIdeal.τ).loc Cert.DWDownRefIdeal.main_arg2))
      ∧ r.2.sem = fun _ => 0)

def quiescent_DFfnIn [hDFfnIn : Cert.DFfnIn.Facts] : Prop :=
  ∀ (m : (ℓ : Loc Cert.DFfnIn.nD Cert.DFfnIn.τ Cert.DFfnIn.sig) → Buf (Elt Bits) ℓ) (g : Dev Cert.DFfnIn.nD → PrngReg), Pre_DFfnIn m →
    θ_run (Cert.DFfnIn.defs (F := Bits)) (onTc (τ := Cert.DFfnIn.τ) (Cert.DFfnIn.main (F := Bits))) ⟨m, fun _ => 0, g⟩ (fun r => (∀ c : Dev Cert.DFfnIn.nD,
      r.2.mem ((c.tc : Thread Cert.DFfnIn.nD Cert.DFfnIn.τ).loc Cert.DFfnIn.main_arg0) = m ((c.tc : Thread Cert.DFfnIn.nD Cert.DFfnIn.τ).loc Cert.DFfnIn.main_arg0)
      ∧ r.2.mem ((c.tc : Thread Cert.DFfnIn.nD Cert.DFfnIn.τ).loc Cert.DFfnIn.main_arg1) = m ((c.tc : Thread Cert.DFfnIn.nD Cert.DFfnIn.τ).loc Cert.DFfnIn.main_arg1)
      ∧ r.2.mem ((c.tc : Thread Cert.DFfnIn.nD Cert.DFfnIn.τ).loc Cert.DFfnIn.main_arg2) = m ((c.tc : Thread Cert.DFfnIn.nD Cert.DFfnIn.τ).loc Cert.DFfnIn.main_arg2)
      ∧ r.2.mem ((c.tc : Thread Cert.DFfnIn.nD Cert.DFfnIn.τ).loc Cert.DFfnIn.main_arg3) = m ((c.tc : Thread Cert.DFfnIn.nD Cert.DFfnIn.τ).loc Cert.DFfnIn.main_arg3)
      ∧ r.2.mem ((c.tc : Thread Cert.DFfnIn.nD Cert.DFfnIn.τ).loc Cert.DFfnIn.main_arg4) = m ((c.tc : Thread Cert.DFfnIn.nD Cert.DFfnIn.τ).loc Cert.DFfnIn.main_arg4))
      ∧ r.2.sem = fun _ => 0)

def quiescent_DFfnInIdeal [hDFfnInIdeal : Cert.DFfnInIdeal.Facts] : Prop :=
  ∀ (m : (ℓ : Loc Cert.DFfnInIdeal.nD Cert.DFfnInIdeal.τ Cert.DFfnInIdeal.sig) → Buf (Elt Ideal) ℓ) (g : Dev Cert.DFfnInIdeal.nD → PrngReg), Pre_DFfnInIdeal m →
    θ_run (Cert.DFfnInIdeal.defs (F := Ideal)) (onTc (τ := Cert.DFfnInIdeal.τ) (Cert.DFfnInIdeal.main (F := Ideal))) ⟨m, fun _ => 0, g⟩ (fun r => (∀ c : Dev Cert.DFfnInIdeal.nD,
      r.2.mem ((c.tc : Thread Cert.DFfnInIdeal.nD Cert.DFfnInIdeal.τ).loc Cert.DFfnInIdeal.main_arg0) = m ((c.tc : Thread Cert.DFfnInIdeal.nD Cert.DFfnInIdeal.τ).loc Cert.DFfnInIdeal.main_arg0)
      ∧ r.2.mem ((c.tc : Thread Cert.DFfnInIdeal.nD Cert.DFfnInIdeal.τ).loc Cert.DFfnInIdeal.main_arg1) = m ((c.tc : Thread Cert.DFfnInIdeal.nD Cert.DFfnInIdeal.τ).loc Cert.DFfnInIdeal.main_arg1)
      ∧ r.2.mem ((c.tc : Thread Cert.DFfnInIdeal.nD Cert.DFfnInIdeal.τ).loc Cert.DFfnInIdeal.main_arg2) = m ((c.tc : Thread Cert.DFfnInIdeal.nD Cert.DFfnInIdeal.τ).loc Cert.DFfnInIdeal.main_arg2)
      ∧ r.2.mem ((c.tc : Thread Cert.DFfnInIdeal.nD Cert.DFfnInIdeal.τ).loc Cert.DFfnInIdeal.main_arg3) = m ((c.tc : Thread Cert.DFfnInIdeal.nD Cert.DFfnInIdeal.τ).loc Cert.DFfnInIdeal.main_arg3)
      ∧ r.2.mem ((c.tc : Thread Cert.DFfnInIdeal.nD Cert.DFfnInIdeal.τ).loc Cert.DFfnInIdeal.main_arg4) = m ((c.tc : Thread Cert.DFfnInIdeal.nD Cert.DFfnInIdeal.τ).loc Cert.DFfnInIdeal.main_arg4))
      ∧ r.2.sem = fun _ => 0)

def quiescent_DFfnInRefIdeal [hDFfnInRefIdeal : Cert.DFfnInRefIdeal.Facts] : Prop :=
  ∀ (m : (ℓ : Loc Cert.DFfnInRefIdeal.nD Cert.DFfnInRefIdeal.τ Cert.DFfnInRefIdeal.sig) → Buf (Elt Ideal) ℓ) (g : Dev Cert.DFfnInRefIdeal.nD → PrngReg), Pre_DFfnInRefIdeal m →
    θ_run (Cert.DFfnInRefIdeal.defs (F := Ideal)) (onTc (τ := Cert.DFfnInRefIdeal.τ) (Cert.DFfnInRefIdeal.main (F := Ideal))) ⟨m, fun _ => 0, g⟩ (fun r => (∀ c : Dev Cert.DFfnInRefIdeal.nD,
      r.2.mem ((c.tc : Thread Cert.DFfnInRefIdeal.nD Cert.DFfnInRefIdeal.τ).loc Cert.DFfnInRefIdeal.main_arg0) = m ((c.tc : Thread Cert.DFfnInRefIdeal.nD Cert.DFfnInRefIdeal.τ).loc Cert.DFfnInRefIdeal.main_arg0)
      ∧ r.2.mem ((c.tc : Thread Cert.DFfnInRefIdeal.nD Cert.DFfnInRefIdeal.τ).loc Cert.DFfnInRefIdeal.main_arg1) = m ((c.tc : Thread Cert.DFfnInRefIdeal.nD Cert.DFfnInRefIdeal.τ).loc Cert.DFfnInRefIdeal.main_arg1)
      ∧ r.2.mem ((c.tc : Thread Cert.DFfnInRefIdeal.nD Cert.DFfnInRefIdeal.τ).loc Cert.DFfnInRefIdeal.main_arg2) = m ((c.tc : Thread Cert.DFfnInRefIdeal.nD Cert.DFfnInRefIdeal.τ).loc Cert.DFfnInRefIdeal.main_arg2)
      ∧ r.2.mem ((c.tc : Thread Cert.DFfnInRefIdeal.nD Cert.DFfnInRefIdeal.τ).loc Cert.DFfnInRefIdeal.main_arg3) = m ((c.tc : Thread Cert.DFfnInRefIdeal.nD Cert.DFfnInRefIdeal.τ).loc Cert.DFfnInRefIdeal.main_arg3)
      ∧ r.2.mem ((c.tc : Thread Cert.DFfnInRefIdeal.nD Cert.DFfnInRefIdeal.τ).loc Cert.DFfnInRefIdeal.main_arg4) = m ((c.tc : Thread Cert.DFfnInRefIdeal.nD Cert.DFfnInRefIdeal.τ).loc Cert.DFfnInRefIdeal.main_arg4))
      ∧ r.2.sem = fun _ => 0)

def quiescent_DWGateUp [hDWGateUp : Cert.DWGateUp.Facts] : Prop :=
  ∀ (m : (ℓ : Loc Cert.DWGateUp.nD Cert.DWGateUp.τ Cert.DWGateUp.sig) → Buf (Elt Bits) ℓ) (g : Dev Cert.DWGateUp.nD → PrngReg), Pre_DWGateUp m →
    θ_run (Cert.DWGateUp.defs (F := Bits)) (onTc (τ := Cert.DWGateUp.τ) (Cert.DWGateUp.main (F := Bits))) ⟨m, fun _ => 0, g⟩ (fun r => (∀ c : Dev Cert.DWGateUp.nD,
      r.2.mem ((c.tc : Thread Cert.DWGateUp.nD Cert.DWGateUp.τ).loc Cert.DWGateUp.main_arg0) = m ((c.tc : Thread Cert.DWGateUp.nD Cert.DWGateUp.τ).loc Cert.DWGateUp.main_arg0)
      ∧ r.2.mem ((c.tc : Thread Cert.DWGateUp.nD Cert.DWGateUp.τ).loc Cert.DWGateUp.main_arg1) = m ((c.tc : Thread Cert.DWGateUp.nD Cert.DWGateUp.τ).loc Cert.DWGateUp.main_arg1)
      ∧ r.2.mem ((c.tc : Thread Cert.DWGateUp.nD Cert.DWGateUp.τ).loc Cert.DWGateUp.main_arg2) = m ((c.tc : Thread Cert.DWGateUp.nD Cert.DWGateUp.τ).loc Cert.DWGateUp.main_arg2)
      ∧ r.2.mem ((c.tc : Thread Cert.DWGateUp.nD Cert.DWGateUp.τ).loc Cert.DWGateUp.main_arg3) = m ((c.tc : Thread Cert.DWGateUp.nD Cert.DWGateUp.τ).loc Cert.DWGateUp.main_arg3))
      ∧ r.2.sem = fun _ => 0)

def quiescent_DWGateUpIdeal [hDWGateUpIdeal : Cert.DWGateUpIdeal.Facts] : Prop :=
  ∀ (m : (ℓ : Loc Cert.DWGateUpIdeal.nD Cert.DWGateUpIdeal.τ Cert.DWGateUpIdeal.sig) → Buf (Elt Ideal) ℓ) (g : Dev Cert.DWGateUpIdeal.nD → PrngReg), Pre_DWGateUpIdeal m →
    θ_run (Cert.DWGateUpIdeal.defs (F := Ideal)) (onTc (τ := Cert.DWGateUpIdeal.τ) (Cert.DWGateUpIdeal.main (F := Ideal))) ⟨m, fun _ => 0, g⟩ (fun r => (∀ c : Dev Cert.DWGateUpIdeal.nD,
      r.2.mem ((c.tc : Thread Cert.DWGateUpIdeal.nD Cert.DWGateUpIdeal.τ).loc Cert.DWGateUpIdeal.main_arg0) = m ((c.tc : Thread Cert.DWGateUpIdeal.nD Cert.DWGateUpIdeal.τ).loc Cert.DWGateUpIdeal.main_arg0)
      ∧ r.2.mem ((c.tc : Thread Cert.DWGateUpIdeal.nD Cert.DWGateUpIdeal.τ).loc Cert.DWGateUpIdeal.main_arg1) = m ((c.tc : Thread Cert.DWGateUpIdeal.nD Cert.DWGateUpIdeal.τ).loc Cert.DWGateUpIdeal.main_arg1)
      ∧ r.2.mem ((c.tc : Thread Cert.DWGateUpIdeal.nD Cert.DWGateUpIdeal.τ).loc Cert.DWGateUpIdeal.main_arg2) = m ((c.tc : Thread Cert.DWGateUpIdeal.nD Cert.DWGateUpIdeal.τ).loc Cert.DWGateUpIdeal.main_arg2)
      ∧ r.2.mem ((c.tc : Thread Cert.DWGateUpIdeal.nD Cert.DWGateUpIdeal.τ).loc Cert.DWGateUpIdeal.main_arg3) = m ((c.tc : Thread Cert.DWGateUpIdeal.nD Cert.DWGateUpIdeal.τ).loc Cert.DWGateUpIdeal.main_arg3))
      ∧ r.2.sem = fun _ => 0)

def quiescent_DWGateUpRefIdeal [hDWGateUpRefIdeal : Cert.DWGateUpRefIdeal.Facts] : Prop :=
  ∀ (m : (ℓ : Loc Cert.DWGateUpRefIdeal.nD Cert.DWGateUpRefIdeal.τ Cert.DWGateUpRefIdeal.sig) → Buf (Elt Ideal) ℓ) (g : Dev Cert.DWGateUpRefIdeal.nD → PrngReg), Pre_DWGateUpRefIdeal m →
    θ_run (Cert.DWGateUpRefIdeal.defs (F := Ideal)) (onTc (τ := Cert.DWGateUpRefIdeal.τ) (Cert.DWGateUpRefIdeal.main (F := Ideal))) ⟨m, fun _ => 0, g⟩ (fun r => (∀ c : Dev Cert.DWGateUpRefIdeal.nD,
      r.2.mem ((c.tc : Thread Cert.DWGateUpRefIdeal.nD Cert.DWGateUpRefIdeal.τ).loc Cert.DWGateUpRefIdeal.main_arg0) = m ((c.tc : Thread Cert.DWGateUpRefIdeal.nD Cert.DWGateUpRefIdeal.τ).loc Cert.DWGateUpRefIdeal.main_arg0)
      ∧ r.2.mem ((c.tc : Thread Cert.DWGateUpRefIdeal.nD Cert.DWGateUpRefIdeal.τ).loc Cert.DWGateUpRefIdeal.main_arg1) = m ((c.tc : Thread Cert.DWGateUpRefIdeal.nD Cert.DWGateUpRefIdeal.τ).loc Cert.DWGateUpRefIdeal.main_arg1)
      ∧ r.2.mem ((c.tc : Thread Cert.DWGateUpRefIdeal.nD Cert.DWGateUpRefIdeal.τ).loc Cert.DWGateUpRefIdeal.main_arg2) = m ((c.tc : Thread Cert.DWGateUpRefIdeal.nD Cert.DWGateUpRefIdeal.τ).loc Cert.DWGateUpRefIdeal.main_arg2)
      ∧ r.2.mem ((c.tc : Thread Cert.DWGateUpRefIdeal.nD Cert.DWGateUpRefIdeal.τ).loc Cert.DWGateUpRefIdeal.main_arg3) = m ((c.tc : Thread Cert.DWGateUpRefIdeal.nD Cert.DWGateUpRefIdeal.τ).loc Cert.DWGateUpRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_DMix [hDMix : Cert.DMix.Facts] : Prop :=
  ∀ (m : (ℓ : Loc Cert.DMix.nD Cert.DMix.τ Cert.DMix.sig) → Buf (Elt Bits) ℓ) (g : Dev Cert.DMix.nD → PrngReg), Pre_DMix m →
    θ_run (Cert.DMix.defs (F := Bits)) (onTc (τ := Cert.DMix.τ) (Cert.DMix.main (F := Bits))) ⟨m, fun _ => 0, g⟩ (fun r => (∀ c : Dev Cert.DMix.nD,
      r.2.mem ((c.tc : Thread Cert.DMix.nD Cert.DMix.τ).loc Cert.DMix.main_arg0) = m ((c.tc : Thread Cert.DMix.nD Cert.DMix.τ).loc Cert.DMix.main_arg0)
      ∧ r.2.mem ((c.tc : Thread Cert.DMix.nD Cert.DMix.τ).loc Cert.DMix.main_arg1) = m ((c.tc : Thread Cert.DMix.nD Cert.DMix.τ).loc Cert.DMix.main_arg1)
      ∧ r.2.mem ((c.tc : Thread Cert.DMix.nD Cert.DMix.τ).loc Cert.DMix.main_arg2) = m ((c.tc : Thread Cert.DMix.nD Cert.DMix.τ).loc Cert.DMix.main_arg2))
      ∧ r.2.sem = fun _ => 0)

def quiescent_DMixIdeal [hDMixIdeal : Cert.DMixIdeal.Facts] : Prop :=
  ∀ (m : (ℓ : Loc Cert.DMixIdeal.nD Cert.DMixIdeal.τ Cert.DMixIdeal.sig) → Buf (Elt Ideal) ℓ) (g : Dev Cert.DMixIdeal.nD → PrngReg), Pre_DMixIdeal m →
    θ_run (Cert.DMixIdeal.defs (F := Ideal)) (onTc (τ := Cert.DMixIdeal.τ) (Cert.DMixIdeal.main (F := Ideal))) ⟨m, fun _ => 0, g⟩ (fun r => (∀ c : Dev Cert.DMixIdeal.nD,
      r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
      ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1)
      ∧ r.2.mem ((c.tc : Thread Cert.DMixIdeal.nD Cert.DMixIdeal.τ).loc Cert.DMixIdeal.main_arg2) = m ((c.tc : Thread Cert.DMixIdeal.nD Cert.DMixIdeal.τ).loc Cert.DMixIdeal.main_arg2))
      ∧ r.2.sem = fun _ => 0)

def quiescent_DMixRefIdeal [hDMixRefIdeal : Cert.DMixRefIdeal.Facts] : Prop :=
  ∀ (m : (ℓ : Loc Cert.DMixRefIdeal.nD Cert.DMixRefIdeal.τ Cert.DMixRefIdeal.sig) → Buf (Elt Ideal) ℓ) (g : Dev Cert.DMixRefIdeal.nD → PrngReg), Pre_DMixRefIdeal m →
    θ_run (Cert.DMixRefIdeal.defs (F := Ideal)) (onTc (τ := Cert.DMixRefIdeal.τ) (Cert.DMixRefIdeal.main (F := Ideal))) ⟨m, fun _ => 0, g⟩ (fun r => (∀ c : Dev Cert.DMixRefIdeal.nD,
      r.2.mem ((c.tc : Thread Cert.DMixRefIdeal.nD Cert.DMixRefIdeal.τ).loc Cert.DMixRefIdeal.main_arg0) = m ((c.tc : Thread Cert.DMixRefIdeal.nD Cert.DMixRefIdeal.τ).loc Cert.DMixRefIdeal.main_arg0)
      ∧ r.2.mem ((c.tc : Thread Cert.DMixRefIdeal.nD Cert.DMixRefIdeal.τ).loc Cert.DMixRefIdeal.main_arg1) = m ((c.tc : Thread Cert.DMixRefIdeal.nD Cert.DMixRefIdeal.τ).loc Cert.DMixRefIdeal.main_arg1)
      ∧ r.2.mem ((c.tc : Thread Cert.DMixRefIdeal.nD Cert.DMixRefIdeal.τ).loc Cert.DMixRefIdeal.main_arg2) = m ((c.tc : Thread Cert.DMixRefIdeal.nD Cert.DMixRefIdeal.τ).loc Cert.DMixRefIdeal.main_arg2))
      ∧ r.2.sem = fun _ => 0)

def quiescent_DWOut [hDWOut : Cert.DWOut.Facts] : Prop :=
  ∀ (m : (ℓ : Loc Cert.DWOut.nD Cert.DWOut.τ Cert.DWOut.sig) → Buf (Elt Bits) ℓ) (g : Dev Cert.DWOut.nD → PrngReg), Pre_DWOut m →
    θ_run (Cert.DWOut.defs (F := Bits)) (onTc (τ := Cert.DWOut.τ) (Cert.DWOut.main (F := Bits))) ⟨m, fun _ => 0, g⟩ (fun r => (∀ c : Dev Cert.DWOut.nD,
      r.2.mem ((c.tc : Thread Cert.DWOut.nD Cert.DWOut.τ).loc Cert.DWOut.main_arg0) = m ((c.tc : Thread Cert.DWOut.nD Cert.DWOut.τ).loc Cert.DWOut.main_arg0)
      ∧ r.2.mem ((c.tc : Thread Cert.DWOut.nD Cert.DWOut.τ).loc Cert.DWOut.main_arg1) = m ((c.tc : Thread Cert.DWOut.nD Cert.DWOut.τ).loc Cert.DWOut.main_arg1)
      ∧ r.2.mem ((c.tc : Thread Cert.DWOut.nD Cert.DWOut.τ).loc Cert.DWOut.main_arg2) = m ((c.tc : Thread Cert.DWOut.nD Cert.DWOut.τ).loc Cert.DWOut.main_arg2))
      ∧ r.2.sem = fun _ => 0)

def quiescent_DWOutIdeal [hDWOutIdeal : Cert.DWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg), Pre_DWOutIdeal m →
    θ_run (Cert.DWOutIdeal.defs (F := Ideal)) (onTc (τ := Cert.DWOutIdeal.τ) (Cert.DWOutIdeal.main (F := Ideal))) ⟨m, fun _ => 0, g⟩ (fun r => (∀ c : Dev Cert.DWOutIdeal.nD,
      r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
      ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1)
      ∧ r.2.mem ((c.tc : Thread Cert.DWOutIdeal.nD Cert.DWOutIdeal.τ).loc Cert.DWOutIdeal.main_arg2) = m ((c.tc : Thread Cert.DWOutIdeal.nD Cert.DWOutIdeal.τ).loc Cert.DWOutIdeal.main_arg2))
      ∧ r.2.sem = fun _ => 0)

def quiescent_DWOutRefIdeal [hDWOutRefIdeal : Cert.DWOutRefIdeal.Facts] : Prop :=
  ∀ (m : (ℓ : Loc Cert.DWOutRefIdeal.nD Cert.DWOutRefIdeal.τ Cert.DWOutRefIdeal.sig) → Buf (Elt Ideal) ℓ) (g : Dev Cert.DWOutRefIdeal.nD → PrngReg), Pre_DWOutRefIdeal m →
    θ_run (Cert.DWOutRefIdeal.defs (F := Ideal)) (onTc (τ := Cert.DWOutRefIdeal.τ) (Cert.DWOutRefIdeal.main (F := Ideal))) ⟨m, fun _ => 0, g⟩ (fun r => (∀ c : Dev Cert.DWOutRefIdeal.nD,
      r.2.mem ((c.tc : Thread Cert.DWOutRefIdeal.nD Cert.DWOutRefIdeal.τ).loc Cert.DWOutRefIdeal.main_arg0) = m ((c.tc : Thread Cert.DWOutRefIdeal.nD Cert.DWOutRefIdeal.τ).loc Cert.DWOutRefIdeal.main_arg0)
      ∧ r.2.mem ((c.tc : Thread Cert.DWOutRefIdeal.nD Cert.DWOutRefIdeal.τ).loc Cert.DWOutRefIdeal.main_arg1) = m ((c.tc : Thread Cert.DWOutRefIdeal.nD Cert.DWOutRefIdeal.τ).loc Cert.DWOutRefIdeal.main_arg1)
      ∧ r.2.mem ((c.tc : Thread Cert.DWOutRefIdeal.nD Cert.DWOutRefIdeal.τ).loc Cert.DWOutRefIdeal.main_arg2) = m ((c.tc : Thread Cert.DWOutRefIdeal.nD Cert.DWOutRefIdeal.τ).loc Cert.DWOutRefIdeal.main_arg2))
      ∧ r.2.sem = fun _ => 0)

def quiescent_DInA [hDInA : Cert.DInA.Facts] : Prop :=
  ∀ (m : (ℓ : Loc Cert.DInA.nD Cert.DInA.τ Cert.DInA.sig) → Buf (Elt Bits) ℓ) (g : Dev Cert.DInA.nD → PrngReg), Pre_DInA m →
    θ_run (Cert.DInA.defs (F := Bits)) (onTc (τ := Cert.DInA.τ) (Cert.DInA.main (F := Bits))) ⟨m, fun _ => 0, g⟩ (fun r => (∀ c : Dev Cert.DInA.nD,
      r.2.mem ((c.tc : Thread Cert.DInA.nD Cert.DInA.τ).loc Cert.DInA.main_arg0) = m ((c.tc : Thread Cert.DInA.nD Cert.DInA.τ).loc Cert.DInA.main_arg0)
      ∧ r.2.mem ((c.tc : Thread Cert.DInA.nD Cert.DInA.τ).loc Cert.DInA.main_arg1) = m ((c.tc : Thread Cert.DInA.nD Cert.DInA.τ).loc Cert.DInA.main_arg1)
      ∧ r.2.mem ((c.tc : Thread Cert.DInA.nD Cert.DInA.τ).loc Cert.DInA.main_arg2) = m ((c.tc : Thread Cert.DInA.nD Cert.DInA.τ).loc Cert.DInA.main_arg2)
      ∧ r.2.mem ((c.tc : Thread Cert.DInA.nD Cert.DInA.τ).loc Cert.DInA.main_arg3) = m ((c.tc : Thread Cert.DInA.nD Cert.DInA.τ).loc Cert.DInA.main_arg3)
      ∧ r.2.mem ((c.tc : Thread Cert.DInA.nD Cert.DInA.τ).loc Cert.DInA.main_arg4) = m ((c.tc : Thread Cert.DInA.nD Cert.DInA.τ).loc Cert.DInA.main_arg4))
      ∧ r.2.sem = fun _ => 0)

def quiescent_DInAIdeal [hDInAIdeal : Cert.DInAIdeal.Facts] : Prop :=
  ∀ (m : (ℓ : Loc Cert.DInAIdeal.nD Cert.DInAIdeal.τ Cert.DInAIdeal.sig) → Buf (Elt Ideal) ℓ) (g : Dev Cert.DInAIdeal.nD → PrngReg), Pre_DInAIdeal m →
    θ_run (Cert.DInAIdeal.defs (F := Ideal)) (onTc (τ := Cert.DInAIdeal.τ) (Cert.DInAIdeal.main (F := Ideal))) ⟨m, fun _ => 0, g⟩ (fun r => (∀ c : Dev Cert.DInAIdeal.nD,
      r.2.mem ((c.tc : Thread Cert.DInAIdeal.nD Cert.DInAIdeal.τ).loc Cert.DInAIdeal.main_arg0) = m ((c.tc : Thread Cert.DInAIdeal.nD Cert.DInAIdeal.τ).loc Cert.DInAIdeal.main_arg0)
      ∧ r.2.mem ((c.tc : Thread Cert.DInAIdeal.nD Cert.DInAIdeal.τ).loc Cert.DInAIdeal.main_arg1) = m ((c.tc : Thread Cert.DInAIdeal.nD Cert.DInAIdeal.τ).loc Cert.DInAIdeal.main_arg1)
      ∧ r.2.mem ((c.tc : Thread Cert.DInAIdeal.nD Cert.DInAIdeal.τ).loc Cert.DInAIdeal.main_arg2) = m ((c.tc : Thread Cert.DInAIdeal.nD Cert.DInAIdeal.τ).loc Cert.DInAIdeal.main_arg2)
      ∧ r.2.mem ((c.tc : Thread Cert.DInAIdeal.nD Cert.DInAIdeal.τ).loc Cert.DInAIdeal.main_arg3) = m ((c.tc : Thread Cert.DInAIdeal.nD Cert.DInAIdeal.τ).loc Cert.DInAIdeal.main_arg3)
      ∧ r.2.mem ((c.tc : Thread Cert.DInAIdeal.nD Cert.DInAIdeal.τ).loc Cert.DInAIdeal.main_arg4) = m ((c.tc : Thread Cert.DInAIdeal.nD Cert.DInAIdeal.τ).loc Cert.DInAIdeal.main_arg4))
      ∧ r.2.sem = fun _ => 0)

def quiescent_DInARefIdeal [hDInARefIdeal : Cert.DInARefIdeal.Facts] : Prop :=
  ∀ (m : (ℓ : Loc Cert.DInARefIdeal.nD Cert.DInARefIdeal.τ Cert.DInARefIdeal.sig) → Buf (Elt Ideal) ℓ) (g : Dev Cert.DInARefIdeal.nD → PrngReg), Pre_DInARefIdeal m →
    θ_run (Cert.DInARefIdeal.defs (F := Ideal)) (onTc (τ := Cert.DInARefIdeal.τ) (Cert.DInARefIdeal.main (F := Ideal))) ⟨m, fun _ => 0, g⟩ (fun r => (∀ c : Dev Cert.DInARefIdeal.nD,
      r.2.mem ((c.tc : Thread Cert.DInARefIdeal.nD Cert.DInARefIdeal.τ).loc Cert.DInARefIdeal.main_arg0) = m ((c.tc : Thread Cert.DInARefIdeal.nD Cert.DInARefIdeal.τ).loc Cert.DInARefIdeal.main_arg0)
      ∧ r.2.mem ((c.tc : Thread Cert.DInARefIdeal.nD Cert.DInARefIdeal.τ).loc Cert.DInARefIdeal.main_arg1) = m ((c.tc : Thread Cert.DInARefIdeal.nD Cert.DInARefIdeal.τ).loc Cert.DInARefIdeal.main_arg1)
      ∧ r.2.mem ((c.tc : Thread Cert.DInARefIdeal.nD Cert.DInARefIdeal.τ).loc Cert.DInARefIdeal.main_arg2) = m ((c.tc : Thread Cert.DInARefIdeal.nD Cert.DInARefIdeal.τ).loc Cert.DInARefIdeal.main_arg2)
      ∧ r.2.mem ((c.tc : Thread Cert.DInARefIdeal.nD Cert.DInARefIdeal.τ).loc Cert.DInARefIdeal.main_arg3) = m ((c.tc : Thread Cert.DInARefIdeal.nD Cert.DInARefIdeal.τ).loc Cert.DInARefIdeal.main_arg3)
      ∧ r.2.mem ((c.tc : Thread Cert.DInARefIdeal.nD Cert.DInARefIdeal.τ).loc Cert.DInARefIdeal.main_arg4) = m ((c.tc : Thread Cert.DInARefIdeal.nD Cert.DInARefIdeal.τ).loc Cert.DInARefIdeal.main_arg4))
      ∧ r.2.sem = fun _ => 0)

def quiescent_DWInA [hDWInA : Cert.DWInA.Facts] : Prop :=
  ∀ (m : (ℓ : Loc Cert.DWInA.nD Cert.DWInA.τ Cert.DWInA.sig) → Buf (Elt Bits) ℓ) (g : Dev Cert.DWInA.nD → PrngReg), Pre_DWInA m →
    θ_run (Cert.DWInA.defs (F := Bits)) (onTc (τ := Cert.DWInA.τ) (Cert.DWInA.main (F := Bits))) ⟨m, fun _ => 0, g⟩ (fun r => (∀ c : Dev Cert.DWInA.nD,
      r.2.mem ((c.tc : Thread Cert.DWInA.nD Cert.DWInA.τ).loc Cert.DWInA.main_arg0) = m ((c.tc : Thread Cert.DWInA.nD Cert.DWInA.τ).loc Cert.DWInA.main_arg0)
      ∧ r.2.mem ((c.tc : Thread Cert.DWInA.nD Cert.DWInA.τ).loc Cert.DWInA.main_arg1) = m ((c.tc : Thread Cert.DWInA.nD Cert.DWInA.τ).loc Cert.DWInA.main_arg1)
      ∧ r.2.mem ((c.tc : Thread Cert.DWInA.nD Cert.DWInA.τ).loc Cert.DWInA.main_arg2) = m ((c.tc : Thread Cert.DWInA.nD Cert.DWInA.τ).loc Cert.DWInA.main_arg2)
      ∧ r.2.mem ((c.tc : Thread Cert.DWInA.nD Cert.DWInA.τ).loc Cert.DWInA.main_arg3) = m ((c.tc : Thread Cert.DWInA.nD Cert.DWInA.τ).loc Cert.DWInA.main_arg3))
      ∧ r.2.sem = fun _ => 0)

def quiescent_DWInAIdeal [hDWInAIdeal : Cert.DWInAIdeal.Facts] : Prop :=
  ∀ (m : (ℓ : Loc Cert.DWInAIdeal.nD Cert.DWInAIdeal.τ Cert.DWInAIdeal.sig) → Buf (Elt Ideal) ℓ) (g : Dev Cert.DWInAIdeal.nD → PrngReg), Pre_DWInAIdeal m →
    θ_run (Cert.DWInAIdeal.defs (F := Ideal)) (onTc (τ := Cert.DWInAIdeal.τ) (Cert.DWInAIdeal.main (F := Ideal))) ⟨m, fun _ => 0, g⟩ (fun r => (∀ c : Dev Cert.DWInAIdeal.nD,
      r.2.mem ((c.tc : Thread Cert.DWInAIdeal.nD Cert.DWInAIdeal.τ).loc Cert.DWInAIdeal.main_arg0) = m ((c.tc : Thread Cert.DWInAIdeal.nD Cert.DWInAIdeal.τ).loc Cert.DWInAIdeal.main_arg0)
      ∧ r.2.mem ((c.tc : Thread Cert.DWInAIdeal.nD Cert.DWInAIdeal.τ).loc Cert.DWInAIdeal.main_arg1) = m ((c.tc : Thread Cert.DWInAIdeal.nD Cert.DWInAIdeal.τ).loc Cert.DWInAIdeal.main_arg1)
      ∧ r.2.mem ((c.tc : Thread Cert.DWInAIdeal.nD Cert.DWInAIdeal.τ).loc Cert.DWInAIdeal.main_arg2) = m ((c.tc : Thread Cert.DWInAIdeal.nD Cert.DWInAIdeal.τ).loc Cert.DWInAIdeal.main_arg2)
      ∧ r.2.mem ((c.tc : Thread Cert.DWInAIdeal.nD Cert.DWInAIdeal.τ).loc Cert.DWInAIdeal.main_arg3) = m ((c.tc : Thread Cert.DWInAIdeal.nD Cert.DWInAIdeal.τ).loc Cert.DWInAIdeal.main_arg3))
      ∧ r.2.sem = fun _ => 0)

def quiescent_DWInARefIdeal [hDWInARefIdeal : Cert.DWInARefIdeal.Facts] : Prop :=
  ∀ (m : (ℓ : Loc Cert.DWInARefIdeal.nD Cert.DWInARefIdeal.τ Cert.DWInARefIdeal.sig) → Buf (Elt Ideal) ℓ) (g : Dev Cert.DWInARefIdeal.nD → PrngReg), Pre_DWInARefIdeal m →
    θ_run (Cert.DWInARefIdeal.defs (F := Ideal)) (onTc (τ := Cert.DWInARefIdeal.τ) (Cert.DWInARefIdeal.main (F := Ideal))) ⟨m, fun _ => 0, g⟩ (fun r => (∀ c : Dev Cert.DWInARefIdeal.nD,
      r.2.mem ((c.tc : Thread Cert.DWInARefIdeal.nD Cert.DWInARefIdeal.τ).loc Cert.DWInARefIdeal.main_arg0) = m ((c.tc : Thread Cert.DWInARefIdeal.nD Cert.DWInARefIdeal.τ).loc Cert.DWInARefIdeal.main_arg0)
      ∧ r.2.mem ((c.tc : Thread Cert.DWInARefIdeal.nD Cert.DWInARefIdeal.τ).loc Cert.DWInARefIdeal.main_arg1) = m ((c.tc : Thread Cert.DWInARefIdeal.nD Cert.DWInARefIdeal.τ).loc Cert.DWInARefIdeal.main_arg1)
      ∧ r.2.mem ((c.tc : Thread Cert.DWInARefIdeal.nD Cert.DWInARefIdeal.τ).loc Cert.DWInARefIdeal.main_arg2) = m ((c.tc : Thread Cert.DWInARefIdeal.nD Cert.DWInARefIdeal.τ).loc Cert.DWInARefIdeal.main_arg2)
      ∧ r.2.mem ((c.tc : Thread Cert.DWInARefIdeal.nD Cert.DWInARefIdeal.τ).loc Cert.DWInARefIdeal.main_arg3) = m ((c.tc : Thread Cert.DWInARefIdeal.nD Cert.DWInARefIdeal.τ).loc Cert.DWInARefIdeal.main_arg3))
      ∧ r.2.sem = fun _ => 0)

def quiescent_DInB [hDInB : Cert.DInB.Facts] : Prop :=
  ∀ (m : (ℓ : Loc Cert.DInB.nD Cert.DInB.τ Cert.DInB.sig) → Buf (Elt Bits) ℓ) (g : Dev Cert.DInB.nD → PrngReg), Pre_DInB m →
    θ_run (Cert.DInB.defs (F := Bits)) (onTc (τ := Cert.DInB.τ) (Cert.DInB.main (F := Bits))) ⟨m, fun _ => 0, g⟩ (fun r => (∀ c : Dev Cert.DInB.nD,
      r.2.mem ((c.tc : Thread Cert.DInB.nD Cert.DInB.τ).loc Cert.DInB.main_arg0) = m ((c.tc : Thread Cert.DInB.nD Cert.DInB.τ).loc Cert.DInB.main_arg0)
      ∧ r.2.mem ((c.tc : Thread Cert.DInB.nD Cert.DInB.τ).loc Cert.DInB.main_arg1) = m ((c.tc : Thread Cert.DInB.nD Cert.DInB.τ).loc Cert.DInB.main_arg1)
      ∧ r.2.mem ((c.tc : Thread Cert.DInB.nD Cert.DInB.τ).loc Cert.DInB.main_arg2) = m ((c.tc : Thread Cert.DInB.nD Cert.DInB.τ).loc Cert.DInB.main_arg2)
      ∧ r.2.mem ((c.tc : Thread Cert.DInB.nD Cert.DInB.τ).loc Cert.DInB.main_arg3) = m ((c.tc : Thread Cert.DInB.nD Cert.DInB.τ).loc Cert.DInB.main_arg3)
      ∧ r.2.mem ((c.tc : Thread Cert.DInB.nD Cert.DInB.τ).loc Cert.DInB.main_arg4) = m ((c.tc : Thread Cert.DInB.nD Cert.DInB.τ).loc Cert.DInB.main_arg4))
      ∧ r.2.sem = fun _ => 0)

def quiescent_DInBIdeal [hDInBIdeal : Cert.DInBIdeal.Facts] : Prop :=
  ∀ (m : (ℓ : Loc Cert.DInBIdeal.nD Cert.DInBIdeal.τ Cert.DInBIdeal.sig) → Buf (Elt Ideal) ℓ) (g : Dev Cert.DInBIdeal.nD → PrngReg), Pre_DInBIdeal m →
    θ_run (Cert.DInBIdeal.defs (F := Ideal)) (onTc (τ := Cert.DInBIdeal.τ) (Cert.DInBIdeal.main (F := Ideal))) ⟨m, fun _ => 0, g⟩ (fun r => (∀ c : Dev Cert.DInBIdeal.nD,
      r.2.mem ((c.tc : Thread Cert.DInBIdeal.nD Cert.DInBIdeal.τ).loc Cert.DInBIdeal.main_arg0) = m ((c.tc : Thread Cert.DInBIdeal.nD Cert.DInBIdeal.τ).loc Cert.DInBIdeal.main_arg0)
      ∧ r.2.mem ((c.tc : Thread Cert.DInBIdeal.nD Cert.DInBIdeal.τ).loc Cert.DInBIdeal.main_arg1) = m ((c.tc : Thread Cert.DInBIdeal.nD Cert.DInBIdeal.τ).loc Cert.DInBIdeal.main_arg1)
      ∧ r.2.mem ((c.tc : Thread Cert.DInBIdeal.nD Cert.DInBIdeal.τ).loc Cert.DInBIdeal.main_arg2) = m ((c.tc : Thread Cert.DInBIdeal.nD Cert.DInBIdeal.τ).loc Cert.DInBIdeal.main_arg2)
      ∧ r.2.mem ((c.tc : Thread Cert.DInBIdeal.nD Cert.DInBIdeal.τ).loc Cert.DInBIdeal.main_arg3) = m ((c.tc : Thread Cert.DInBIdeal.nD Cert.DInBIdeal.τ).loc Cert.DInBIdeal.main_arg3)
      ∧ r.2.mem ((c.tc : Thread Cert.DInBIdeal.nD Cert.DInBIdeal.τ).loc Cert.DInBIdeal.main_arg4) = m ((c.tc : Thread Cert.DInBIdeal.nD Cert.DInBIdeal.τ).loc Cert.DInBIdeal.main_arg4))
      ∧ r.2.sem = fun _ => 0)

def quiescent_DInBRefIdeal [hDInBRefIdeal : Cert.DInBRefIdeal.Facts] : Prop :=
  ∀ (m : (ℓ : Loc Cert.DInBRefIdeal.nD Cert.DInBRefIdeal.τ Cert.DInBRefIdeal.sig) → Buf (Elt Ideal) ℓ) (g : Dev Cert.DInBRefIdeal.nD → PrngReg), Pre_DInBRefIdeal m →
    θ_run (Cert.DInBRefIdeal.defs (F := Ideal)) (onTc (τ := Cert.DInBRefIdeal.τ) (Cert.DInBRefIdeal.main (F := Ideal))) ⟨m, fun _ => 0, g⟩ (fun r => (∀ c : Dev Cert.DInBRefIdeal.nD,
      r.2.mem ((c.tc : Thread Cert.DInBRefIdeal.nD Cert.DInBRefIdeal.τ).loc Cert.DInBRefIdeal.main_arg0) = m ((c.tc : Thread Cert.DInBRefIdeal.nD Cert.DInBRefIdeal.τ).loc Cert.DInBRefIdeal.main_arg0)
      ∧ r.2.mem ((c.tc : Thread Cert.DInBRefIdeal.nD Cert.DInBRefIdeal.τ).loc Cert.DInBRefIdeal.main_arg1) = m ((c.tc : Thread Cert.DInBRefIdeal.nD Cert.DInBRefIdeal.τ).loc Cert.DInBRefIdeal.main_arg1)
      ∧ r.2.mem ((c.tc : Thread Cert.DInBRefIdeal.nD Cert.DInBRefIdeal.τ).loc Cert.DInBRefIdeal.main_arg2) = m ((c.tc : Thread Cert.DInBRefIdeal.nD Cert.DInBRefIdeal.τ).loc Cert.DInBRefIdeal.main_arg2)
      ∧ r.2.mem ((c.tc : Thread Cert.DInBRefIdeal.nD Cert.DInBRefIdeal.τ).loc Cert.DInBRefIdeal.main_arg3) = m ((c.tc : Thread Cert.DInBRefIdeal.nD Cert.DInBRefIdeal.τ).loc Cert.DInBRefIdeal.main_arg3)
      ∧ r.2.mem ((c.tc : Thread Cert.DInBRefIdeal.nD Cert.DInBRefIdeal.τ).loc Cert.DInBRefIdeal.main_arg4) = m ((c.tc : Thread Cert.DInBRefIdeal.nD Cert.DInBRefIdeal.τ).loc Cert.DInBRefIdeal.main_arg4))
      ∧ r.2.sem = fun _ => 0)

def quiescent_DWInB [hDWInB : Cert.DWInB.Facts] : Prop :=
  ∀ (m : (ℓ : Loc Cert.DWInB.nD Cert.DWInB.τ Cert.DWInB.sig) → Buf (Elt Bits) ℓ) (g : Dev Cert.DWInB.nD → PrngReg), Pre_DWInB m →
    θ_run (Cert.DWInB.defs (F := Bits)) (onTc (τ := Cert.DWInB.τ) (Cert.DWInB.main (F := Bits))) ⟨m, fun _ => 0, g⟩ (fun r => (∀ c : Dev Cert.DWInB.nD,
      r.2.mem ((c.tc : Thread Cert.DWInB.nD Cert.DWInB.τ).loc Cert.DWInB.main_arg0) = m ((c.tc : Thread Cert.DWInB.nD Cert.DWInB.τ).loc Cert.DWInB.main_arg0)
      ∧ r.2.mem ((c.tc : Thread Cert.DWInB.nD Cert.DWInB.τ).loc Cert.DWInB.main_arg1) = m ((c.tc : Thread Cert.DWInB.nD Cert.DWInB.τ).loc Cert.DWInB.main_arg1)
      ∧ r.2.mem ((c.tc : Thread Cert.DWInB.nD Cert.DWInB.τ).loc Cert.DWInB.main_arg2) = m ((c.tc : Thread Cert.DWInB.nD Cert.DWInB.τ).loc Cert.DWInB.main_arg2)
      ∧ r.2.mem ((c.tc : Thread Cert.DWInB.nD Cert.DWInB.τ).loc Cert.DWInB.main_arg3) = m ((c.tc : Thread Cert.DWInB.nD Cert.DWInB.τ).loc Cert.DWInB.main_arg3))
      ∧ r.2.sem = fun _ => 0)

def quiescent_DWInBIdeal [hDWInBIdeal : Cert.DWInBIdeal.Facts] : Prop :=
  ∀ (m : (ℓ : Loc Cert.DWInBIdeal.nD Cert.DWInBIdeal.τ Cert.DWInBIdeal.sig) → Buf (Elt Ideal) ℓ) (g : Dev Cert.DWInBIdeal.nD → PrngReg), Pre_DWInBIdeal m →
    θ_run (Cert.DWInBIdeal.defs (F := Ideal)) (onTc (τ := Cert.DWInBIdeal.τ) (Cert.DWInBIdeal.main (F := Ideal))) ⟨m, fun _ => 0, g⟩ (fun r => (∀ c : Dev Cert.DWInBIdeal.nD,
      r.2.mem ((c.tc : Thread Cert.DWInBIdeal.nD Cert.DWInBIdeal.τ).loc Cert.DWInBIdeal.main_arg0) = m ((c.tc : Thread Cert.DWInBIdeal.nD Cert.DWInBIdeal.τ).loc Cert.DWInBIdeal.main_arg0)
      ∧ r.2.mem ((c.tc : Thread Cert.DWInBIdeal.nD Cert.DWInBIdeal.τ).loc Cert.DWInBIdeal.main_arg1) = m ((c.tc : Thread Cert.DWInBIdeal.nD Cert.DWInBIdeal.τ).loc Cert.DWInBIdeal.main_arg1)
      ∧ r.2.mem ((c.tc : Thread Cert.DWInBIdeal.nD Cert.DWInBIdeal.τ).loc Cert.DWInBIdeal.main_arg2) = m ((c.tc : Thread Cert.DWInBIdeal.nD Cert.DWInBIdeal.τ).loc Cert.DWInBIdeal.main_arg2)
      ∧ r.2.mem ((c.tc : Thread Cert.DWInBIdeal.nD Cert.DWInBIdeal.τ).loc Cert.DWInBIdeal.main_arg3) = m ((c.tc : Thread Cert.DWInBIdeal.nD Cert.DWInBIdeal.τ).loc Cert.DWInBIdeal.main_arg3))
      ∧ r.2.sem = fun _ => 0)

def quiescent_DWInBRefIdeal [hDWInBRefIdeal : Cert.DWInBRefIdeal.Facts] : Prop :=
  ∀ (m : (ℓ : Loc Cert.DWInBRefIdeal.nD Cert.DWInBRefIdeal.τ Cert.DWInBRefIdeal.sig) → Buf (Elt Ideal) ℓ) (g : Dev Cert.DWInBRefIdeal.nD → PrngReg), Pre_DWInBRefIdeal m →
    θ_run (Cert.DWInBRefIdeal.defs (F := Ideal)) (onTc (τ := Cert.DWInBRefIdeal.τ) (Cert.DWInBRefIdeal.main (F := Ideal))) ⟨m, fun _ => 0, g⟩ (fun r => (∀ c : Dev Cert.DWInBRefIdeal.nD,
      r.2.mem ((c.tc : Thread Cert.DWInBRefIdeal.nD Cert.DWInBRefIdeal.τ).loc Cert.DWInBRefIdeal.main_arg0) = m ((c.tc : Thread Cert.DWInBRefIdeal.nD Cert.DWInBRefIdeal.τ).loc Cert.DWInBRefIdeal.main_arg0)
      ∧ r.2.mem ((c.tc : Thread Cert.DWInBRefIdeal.nD Cert.DWInBRefIdeal.τ).loc Cert.DWInBRefIdeal.main_arg1) = m ((c.tc : Thread Cert.DWInBRefIdeal.nD Cert.DWInBRefIdeal.τ).loc Cert.DWInBRefIdeal.main_arg1)
      ∧ r.2.mem ((c.tc : Thread Cert.DWInBRefIdeal.nD Cert.DWInBRefIdeal.τ).loc Cert.DWInBRefIdeal.main_arg2) = m ((c.tc : Thread Cert.DWInBRefIdeal.nD Cert.DWInBRefIdeal.τ).loc Cert.DWInBRefIdeal.main_arg2)
      ∧ r.2.mem ((c.tc : Thread Cert.DWInBRefIdeal.nD Cert.DWInBRefIdeal.τ).loc Cert.DWInBRefIdeal.main_arg3) = m ((c.tc : Thread Cert.DWInBRefIdeal.nD Cert.DWInBRefIdeal.τ).loc Cert.DWInBRefIdeal.main_arg3))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1)
      ∧ r.2.mem ((c.tc : Thread Cert.InA.nD Cert.InA.τ).loc Cert.InA.main_arg2) = m ((c.tc : Thread Cert.InA.nD Cert.InA.τ).loc Cert.InA.main_arg2))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
      ∧ r.2.mem ((c.tc : Thread Cert.InAIdeal.nD Cert.InAIdeal.τ).loc Cert.InAIdeal.main_arg2) = m ((c.tc : Thread Cert.InAIdeal.nD Cert.InAIdeal.τ).loc Cert.InAIdeal.main_arg2))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1)
      ∧ r.2.mem ((c.tc : Thread Cert.InARefIdeal.nD Cert.InARefIdeal.τ).loc Cert.InARefIdeal.main_arg2) = m ((c.tc : Thread Cert.InARefIdeal.nD Cert.InARefIdeal.τ).loc Cert.InARefIdeal.main_arg2))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1)
      ∧ r.2.mem ((c.tc : Thread Cert.InBRefIdeal.nD Cert.InBRefIdeal.τ).loc Cert.InBRefIdeal.main_arg2) = m ((c.tc : Thread Cert.InBRefIdeal.nD Cert.InBRefIdeal.τ).loc Cert.InBRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v4_0)) (v1 : (c : Dev Cert.GateUpIdeal.nD) → Buf (Elt Ideal) ((c.tc : Thread Cert.GateUpIdeal.nD Cert.GateUpIdeal.τ).loc Cert.GateUpIdeal.main_v4_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v4_0) = v0 c
          ∧ r.2.mem ((c.tc : Thread Cert.GateUpIdeal.nD Cert.GateUpIdeal.τ).loc Cert.GateUpIdeal.main_v4_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v16) = v0 c
          ∧ r.2.mem ((c.tc : Thread Cert.GateUpRefIdeal.nD Cert.GateUpRefIdeal.τ).loc Cert.GateUpRefIdeal.main_v17) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_GluDown_GluDownIdeal : Prop :=
  True

def algebraic_GluDownIdeal_GluDownRefIdeal [hGluDownIdeal : Cert.GluDownIdeal.Facts] [hGluDownRefIdeal : Cert.GluDownRefIdeal.Facts] : Prop :=
  ∀ (m : (ℓ : Loc Cert.GluDownIdeal.nD Cert.GluDownIdeal.τ Cert.GluDownIdeal.sig) → Buf (Elt Ideal) ℓ) (g : Dev Cert.GluDownIdeal.nD → PrngReg)
    (m' : (ℓ : Loc Cert.GluDownRefIdeal.nD Cert.GluDownRefIdeal.τ Cert.GluDownRefIdeal.sig) → Buf (Elt Ideal) ℓ) (g' : Dev Cert.GluDownRefIdeal.nD → PrngReg), Pre_GluDownIdeal m →
    (∀ c : Dev Cert.GluDownIdeal.nD,
      m' ((c.tc : Thread Cert.GluDownRefIdeal.nD Cert.GluDownRefIdeal.τ).loc Cert.GluDownRefIdeal.main_arg0) = m ((c.tc : Thread Cert.GluDownIdeal.nD Cert.GluDownIdeal.τ).loc Cert.GluDownIdeal.main_arg0)
      ∧ m' ((c.tc : Thread Cert.GluDownRefIdeal.nD Cert.GluDownRefIdeal.τ).loc Cert.GluDownRefIdeal.main_arg1) = m ((c.tc : Thread Cert.GluDownIdeal.nD Cert.GluDownIdeal.τ).loc Cert.GluDownIdeal.main_arg1)
      ∧ m' ((c.tc : Thread Cert.GluDownRefIdeal.nD Cert.GluDownRefIdeal.τ).loc Cert.GluDownRefIdeal.main_arg2) = m ((c.tc : Thread Cert.GluDownIdeal.nD Cert.GluDownIdeal.τ).loc Cert.GluDownIdeal.main_arg2)
      ∧ m' ((c.tc : Thread Cert.GluDownRefIdeal.nD Cert.GluDownRefIdeal.τ).loc Cert.GluDownRefIdeal.main_arg3) = m ((c.tc : Thread Cert.GluDownIdeal.nD Cert.GluDownIdeal.τ).loc Cert.GluDownIdeal.main_arg3)
      ∧ m' ((c.tc : Thread Cert.GluDownRefIdeal.nD Cert.GluDownRefIdeal.τ).loc Cert.GluDownRefIdeal.main_arg4) = m ((c.tc : Thread Cert.GluDownIdeal.nD Cert.GluDownIdeal.τ).loc Cert.GluDownIdeal.main_arg4)
      ∧ m' ((c.tc : Thread Cert.GluDownRefIdeal.nD Cert.GluDownRefIdeal.τ).loc Cert.GluDownRefIdeal.main_arg5) = m ((c.tc : Thread Cert.GluDownIdeal.nD Cert.GluDownIdeal.τ).loc Cert.GluDownIdeal.main_arg5)) →
    ∃ (v0 : (c : Dev Cert.GluDownIdeal.nD) → Buf (Elt Ideal) ((c.tc : Thread Cert.GluDownIdeal.nD Cert.GluDownIdeal.τ).loc Cert.GluDownIdeal.main_v16_0)) (v1 : (c : Dev Cert.GluDownIdeal.nD) → Buf (Elt Ideal) ((c.tc : Thread Cert.GluDownIdeal.nD Cert.GluDownIdeal.τ).loc Cert.GluDownIdeal.main_v16_1)) (v2 : (c : Dev Cert.GluDownIdeal.nD) → Buf (Elt Ideal) ((c.tc : Thread Cert.GluDownIdeal.nD Cert.GluDownIdeal.τ).loc Cert.GluDownIdeal.main_v16_2)),
      θ_run (Cert.GluDownIdeal.defs (F := Ideal)) (onTc (τ := Cert.GluDownIdeal.τ) (Cert.GluDownIdeal.main (F := Ideal))) ⟨m, fun _ => 0, g⟩ (fun r => ∀ c : Dev Cert.GluDownIdeal.nD,
          r.2.mem ((c.tc : Thread Cert.GluDownIdeal.nD Cert.GluDownIdeal.τ).loc Cert.GluDownIdeal.main_v16_0) = v0 c
          ∧ r.2.mem ((c.tc : Thread Cert.GluDownIdeal.nD Cert.GluDownIdeal.τ).loc Cert.GluDownIdeal.main_v16_1) = v1 c
          ∧ r.2.mem ((c.tc : Thread Cert.GluDownIdeal.nD Cert.GluDownIdeal.τ).loc Cert.GluDownIdeal.main_v16_2) = v2 c
          ∧ r.2.mem ((c.tc : Thread Cert.GluDownIdeal.nD Cert.GluDownIdeal.τ).loc Cert.GluDownIdeal.main_arg0) = m ((c.tc : Thread Cert.GluDownIdeal.nD Cert.GluDownIdeal.τ).loc Cert.GluDownIdeal.main_arg0)
          ∧ r.2.mem ((c.tc : Thread Cert.GluDownIdeal.nD Cert.GluDownIdeal.τ).loc Cert.GluDownIdeal.main_arg1) = m ((c.tc : Thread Cert.GluDownIdeal.nD Cert.GluDownIdeal.τ).loc Cert.GluDownIdeal.main_arg1)
          ∧ r.2.mem ((c.tc : Thread Cert.GluDownIdeal.nD Cert.GluDownIdeal.τ).loc Cert.GluDownIdeal.main_arg2) = m ((c.tc : Thread Cert.GluDownIdeal.nD Cert.GluDownIdeal.τ).loc Cert.GluDownIdeal.main_arg2)
          ∧ r.2.mem ((c.tc : Thread Cert.GluDownIdeal.nD Cert.GluDownIdeal.τ).loc Cert.GluDownIdeal.main_arg3) = m ((c.tc : Thread Cert.GluDownIdeal.nD Cert.GluDownIdeal.τ).loc Cert.GluDownIdeal.main_arg3)
          ∧ r.2.mem ((c.tc : Thread Cert.GluDownIdeal.nD Cert.GluDownIdeal.τ).loc Cert.GluDownIdeal.main_arg4) = m ((c.tc : Thread Cert.GluDownIdeal.nD Cert.GluDownIdeal.τ).loc Cert.GluDownIdeal.main_arg4)
          ∧ r.2.mem ((c.tc : Thread Cert.GluDownIdeal.nD Cert.GluDownIdeal.τ).loc Cert.GluDownIdeal.main_arg5) = m ((c.tc : Thread Cert.GluDownIdeal.nD Cert.GluDownIdeal.τ).loc Cert.GluDownIdeal.main_arg5))
      ∧ θ_run (Cert.GluDownRefIdeal.defs (F := Ideal)) (onTc (τ := Cert.GluDownRefIdeal.τ) (Cert.GluDownRefIdeal.main (F := Ideal))) ⟨m', fun _ => 0, g'⟩ (fun r => ∀ c : Dev Cert.GluDownRefIdeal.nD,
          r.2.mem ((c.tc : Thread Cert.GluDownRefIdeal.nD Cert.GluDownRefIdeal.τ).loc Cert.GluDownRefIdeal.main_v30) = v0 c
          ∧ r.2.mem ((c.tc : Thread Cert.GluDownRefIdeal.nD Cert.GluDownRefIdeal.τ).loc Cert.GluDownRefIdeal.main_v33) = v1 c
          ∧ r.2.mem ((c.tc : Thread Cert.GluDownRefIdeal.nD Cert.GluDownRefIdeal.τ).loc Cert.GluDownRefIdeal.main_v36) = v2 c
          ∧ r.2.mem ((c.tc : Thread Cert.GluDownRefIdeal.nD Cert.GluDownRefIdeal.τ).loc Cert.GluDownRefIdeal.main_arg0) = m' ((c.tc : Thread Cert.GluDownRefIdeal.nD Cert.GluDownRefIdeal.τ).loc Cert.GluDownRefIdeal.main_arg0)
          ∧ r.2.mem ((c.tc : Thread Cert.GluDownRefIdeal.nD Cert.GluDownRefIdeal.τ).loc Cert.GluDownRefIdeal.main_arg1) = m' ((c.tc : Thread Cert.GluDownRefIdeal.nD Cert.GluDownRefIdeal.τ).loc Cert.GluDownRefIdeal.main_arg1)
          ∧ r.2.mem ((c.tc : Thread Cert.GluDownRefIdeal.nD Cert.GluDownRefIdeal.τ).loc Cert.GluDownRefIdeal.main_arg2) = m' ((c.tc : Thread Cert.GluDownRefIdeal.nD Cert.GluDownRefIdeal.τ).loc Cert.GluDownRefIdeal.main_arg2)
          ∧ r.2.mem ((c.tc : Thread Cert.GluDownRefIdeal.nD Cert.GluDownRefIdeal.τ).loc Cert.GluDownRefIdeal.main_arg3) = m' ((c.tc : Thread Cert.GluDownRefIdeal.nD Cert.GluDownRefIdeal.τ).loc Cert.GluDownRefIdeal.main_arg3)
          ∧ r.2.mem ((c.tc : Thread Cert.GluDownRefIdeal.nD Cert.GluDownRefIdeal.τ).loc Cert.GluDownRefIdeal.main_arg4) = m' ((c.tc : Thread Cert.GluDownRefIdeal.nD Cert.GluDownRefIdeal.τ).loc Cert.GluDownRefIdeal.main_arg4)
          ∧ r.2.mem ((c.tc : Thread Cert.GluDownRefIdeal.nD Cert.GluDownRefIdeal.τ).loc Cert.GluDownRefIdeal.main_arg5) = m' ((c.tc : Thread Cert.GluDownRefIdeal.nD Cert.GluDownRefIdeal.τ).loc Cert.GluDownRefIdeal.main_arg5))

def preserves_DWDown_DWDownIdeal : Prop :=
  True

def algebraic_DWDownIdeal_DWDownRefIdeal [hDWDownIdeal : Cert.DWDownIdeal.Facts] [hDWDownRefIdeal : Cert.DWDownRefIdeal.Facts] : Prop :=
  ∀ (m : (ℓ : Loc Cert.DWDownIdeal.nD Cert.DWDownIdeal.τ Cert.DWDownIdeal.sig) → Buf (Elt Ideal) ℓ) (g : Dev Cert.DWDownIdeal.nD → PrngReg)
    (m' : (ℓ : Loc Cert.DWDownRefIdeal.nD Cert.DWDownRefIdeal.τ Cert.DWDownRefIdeal.sig) → Buf (Elt Ideal) ℓ) (g' : Dev Cert.DWDownRefIdeal.nD → PrngReg), Pre_DWDownIdeal m →
    (∀ c : Dev Cert.DWDownIdeal.nD,
      m' ((c.tc : Thread Cert.DWDownRefIdeal.nD Cert.DWDownRefIdeal.τ).loc Cert.DWDownRefIdeal.main_arg0) = m ((c.tc : Thread Cert.DWDownIdeal.nD Cert.DWDownIdeal.τ).loc Cert.DWDownIdeal.main_arg0)
      ∧ m' ((c.tc : Thread Cert.DWDownRefIdeal.nD Cert.DWDownRefIdeal.τ).loc Cert.DWDownRefIdeal.main_arg1) = m ((c.tc : Thread Cert.DWDownIdeal.nD Cert.DWDownIdeal.τ).loc Cert.DWDownIdeal.main_arg1)
      ∧ m' ((c.tc : Thread Cert.DWDownRefIdeal.nD Cert.DWDownRefIdeal.τ).loc Cert.DWDownRefIdeal.main_arg2) = m ((c.tc : Thread Cert.DWDownIdeal.nD Cert.DWDownIdeal.τ).loc Cert.DWDownIdeal.main_arg2)) →
    ∃ (v0 : (c : Dev Cert.DWDownIdeal.nD) → Buf (Elt Ideal) ((c.tc : Thread Cert.DWDownIdeal.nD Cert.DWDownIdeal.τ).loc Cert.DWDownIdeal.main_v4)),
      θ_run (Cert.DWDownIdeal.defs (F := Ideal)) (onTc (τ := Cert.DWDownIdeal.τ) (Cert.DWDownIdeal.main (F := Ideal))) ⟨m, fun _ => 0, g⟩ (fun r => ∀ c : Dev Cert.DWDownIdeal.nD,
          r.2.mem ((c.tc : Thread Cert.DWDownIdeal.nD Cert.DWDownIdeal.τ).loc Cert.DWDownIdeal.main_v4) = v0 c
          ∧ r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
          ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1)
          ∧ r.2.mem ((c.tc : Thread Cert.DWDownIdeal.nD Cert.DWDownIdeal.τ).loc Cert.DWDownIdeal.main_arg2) = m ((c.tc : Thread Cert.DWDownIdeal.nD Cert.DWDownIdeal.τ).loc Cert.DWDownIdeal.main_arg2))
      ∧ θ_run (Cert.DWDownRefIdeal.defs (F := Ideal)) (onTc (τ := Cert.DWDownRefIdeal.τ) (Cert.DWDownRefIdeal.main (F := Ideal))) ⟨m', fun _ => 0, g'⟩ (fun r => ∀ c : Dev Cert.DWDownRefIdeal.nD,
          r.2.mem ((c.tc : Thread Cert.DWDownRefIdeal.nD Cert.DWDownRefIdeal.τ).loc Cert.DWDownRefIdeal.main_v4) = v0 c
          ∧ r.2.mem ((c.tc : Thread Cert.DWDownRefIdeal.nD Cert.DWDownRefIdeal.τ).loc Cert.DWDownRefIdeal.main_arg0) = m' ((c.tc : Thread Cert.DWDownRefIdeal.nD Cert.DWDownRefIdeal.τ).loc Cert.DWDownRefIdeal.main_arg0)
          ∧ r.2.mem ((c.tc : Thread Cert.DWDownRefIdeal.nD Cert.DWDownRefIdeal.τ).loc Cert.DWDownRefIdeal.main_arg1) = m' ((c.tc : Thread Cert.DWDownRefIdeal.nD Cert.DWDownRefIdeal.τ).loc Cert.DWDownRefIdeal.main_arg1)
          ∧ r.2.mem ((c.tc : Thread Cert.DWDownRefIdeal.nD Cert.DWDownRefIdeal.τ).loc Cert.DWDownRefIdeal.main_arg2) = m' ((c.tc : Thread Cert.DWDownRefIdeal.nD Cert.DWDownRefIdeal.τ).loc Cert.DWDownRefIdeal.main_arg2))

def preserves_DFfnIn_DFfnInIdeal : Prop :=
  True

def algebraic_DFfnInIdeal_DFfnInRefIdeal [hDFfnInIdeal : Cert.DFfnInIdeal.Facts] [hDFfnInRefIdeal : Cert.DFfnInRefIdeal.Facts] : Prop :=
  ∀ (m : (ℓ : Loc Cert.DFfnInIdeal.nD Cert.DFfnInIdeal.τ Cert.DFfnInIdeal.sig) → Buf (Elt Ideal) ℓ) (g : Dev Cert.DFfnInIdeal.nD → PrngReg)
    (m' : (ℓ : Loc Cert.DFfnInRefIdeal.nD Cert.DFfnInRefIdeal.τ Cert.DFfnInRefIdeal.sig) → Buf (Elt Ideal) ℓ) (g' : Dev Cert.DFfnInRefIdeal.nD → PrngReg), Pre_DFfnInIdeal m →
    (∀ c : Dev Cert.DFfnInIdeal.nD,
      m' ((c.tc : Thread Cert.DFfnInRefIdeal.nD Cert.DFfnInRefIdeal.τ).loc Cert.DFfnInRefIdeal.main_arg0) = m ((c.tc : Thread Cert.DFfnInIdeal.nD Cert.DFfnInIdeal.τ).loc Cert.DFfnInIdeal.main_arg0)
      ∧ m' ((c.tc : Thread Cert.DFfnInRefIdeal.nD Cert.DFfnInRefIdeal.τ).loc Cert.DFfnInRefIdeal.main_arg1) = m ((c.tc : Thread Cert.DFfnInIdeal.nD Cert.DFfnInIdeal.τ).loc Cert.DFfnInIdeal.main_arg1)
      ∧ m' ((c.tc : Thread Cert.DFfnInRefIdeal.nD Cert.DFfnInRefIdeal.τ).loc Cert.DFfnInRefIdeal.main_arg2) = m ((c.tc : Thread Cert.DFfnInIdeal.nD Cert.DFfnInIdeal.τ).loc Cert.DFfnInIdeal.main_arg2)
      ∧ m' ((c.tc : Thread Cert.DFfnInRefIdeal.nD Cert.DFfnInRefIdeal.τ).loc Cert.DFfnInRefIdeal.main_arg3) = m ((c.tc : Thread Cert.DFfnInIdeal.nD Cert.DFfnInIdeal.τ).loc Cert.DFfnInIdeal.main_arg3)
      ∧ m' ((c.tc : Thread Cert.DFfnInRefIdeal.nD Cert.DFfnInRefIdeal.τ).loc Cert.DFfnInRefIdeal.main_arg4) = m ((c.tc : Thread Cert.DFfnInIdeal.nD Cert.DFfnInIdeal.τ).loc Cert.DFfnInIdeal.main_arg4)) →
    ∃ (v0 : (c : Dev Cert.DFfnInIdeal.nD) → Buf (Elt Ideal) ((c.tc : Thread Cert.DFfnInIdeal.nD Cert.DFfnInIdeal.τ).loc Cert.DFfnInIdeal.main_v7_0)) (v1 : (c : Dev Cert.DFfnInIdeal.nD) → Buf (Elt Ideal) ((c.tc : Thread Cert.DFfnInIdeal.nD Cert.DFfnInIdeal.τ).loc Cert.DFfnInIdeal.main_v7_1)) (v2 : (c : Dev Cert.DFfnInIdeal.nD) → Buf (Elt Ideal) ((c.tc : Thread Cert.DFfnInIdeal.nD Cert.DFfnInIdeal.τ).loc Cert.DFfnInIdeal.main_v7_2)),
      θ_run (Cert.DFfnInIdeal.defs (F := Ideal)) (onTc (τ := Cert.DFfnInIdeal.τ) (Cert.DFfnInIdeal.main (F := Ideal))) ⟨m, fun _ => 0, g⟩ (fun r => ∀ c : Dev Cert.DFfnInIdeal.nD,
          r.2.mem ((c.tc : Thread Cert.DFfnInIdeal.nD Cert.DFfnInIdeal.τ).loc Cert.DFfnInIdeal.main_v7_0) = v0 c
          ∧ r.2.mem ((c.tc : Thread Cert.DFfnInIdeal.nD Cert.DFfnInIdeal.τ).loc Cert.DFfnInIdeal.main_v7_1) = v1 c
          ∧ r.2.mem ((c.tc : Thread Cert.DFfnInIdeal.nD Cert.DFfnInIdeal.τ).loc Cert.DFfnInIdeal.main_v7_2) = v2 c
          ∧ r.2.mem ((c.tc : Thread Cert.DFfnInIdeal.nD Cert.DFfnInIdeal.τ).loc Cert.DFfnInIdeal.main_arg0) = m ((c.tc : Thread Cert.DFfnInIdeal.nD Cert.DFfnInIdeal.τ).loc Cert.DFfnInIdeal.main_arg0)
          ∧ r.2.mem ((c.tc : Thread Cert.DFfnInIdeal.nD Cert.DFfnInIdeal.τ).loc Cert.DFfnInIdeal.main_arg1) = m ((c.tc : Thread Cert.DFfnInIdeal.nD Cert.DFfnInIdeal.τ).loc Cert.DFfnInIdeal.main_arg1)
          ∧ r.2.mem ((c.tc : Thread Cert.DFfnInIdeal.nD Cert.DFfnInIdeal.τ).loc Cert.DFfnInIdeal.main_arg2) = m ((c.tc : Thread Cert.DFfnInIdeal.nD Cert.DFfnInIdeal.τ).loc Cert.DFfnInIdeal.main_arg2)
          ∧ r.2.mem ((c.tc : Thread Cert.DFfnInIdeal.nD Cert.DFfnInIdeal.τ).loc Cert.DFfnInIdeal.main_arg3) = m ((c.tc : Thread Cert.DFfnInIdeal.nD Cert.DFfnInIdeal.τ).loc Cert.DFfnInIdeal.main_arg3)
          ∧ r.2.mem ((c.tc : Thread Cert.DFfnInIdeal.nD Cert.DFfnInIdeal.τ).loc Cert.DFfnInIdeal.main_arg4) = m ((c.tc : Thread Cert.DFfnInIdeal.nD Cert.DFfnInIdeal.τ).loc Cert.DFfnInIdeal.main_arg4))
      ∧ θ_run (Cert.DFfnInRefIdeal.defs (F := Ideal)) (onTc (τ := Cert.DFfnInRefIdeal.τ) (Cert.DFfnInRefIdeal.main (F := Ideal))) ⟨m', fun _ => 0, g'⟩ (fun r => ∀ c : Dev Cert.DFfnInRefIdeal.nD,
          r.2.mem ((c.tc : Thread Cert.DFfnInRefIdeal.nD Cert.DFfnInRefIdeal.τ).loc Cert.DFfnInRefIdeal.main_v38) = v0 c
          ∧ r.2.mem ((c.tc : Thread Cert.DFfnInRefIdeal.nD Cert.DFfnInRefIdeal.τ).loc Cert.DFfnInRefIdeal.main_v39) = v1 c
          ∧ r.2.mem ((c.tc : Thread Cert.DFfnInRefIdeal.nD Cert.DFfnInRefIdeal.τ).loc Cert.DFfnInRefIdeal.main_v40) = v2 c
          ∧ r.2.mem ((c.tc : Thread Cert.DFfnInRefIdeal.nD Cert.DFfnInRefIdeal.τ).loc Cert.DFfnInRefIdeal.main_arg0) = m' ((c.tc : Thread Cert.DFfnInRefIdeal.nD Cert.DFfnInRefIdeal.τ).loc Cert.DFfnInRefIdeal.main_arg0)
          ∧ r.2.mem ((c.tc : Thread Cert.DFfnInRefIdeal.nD Cert.DFfnInRefIdeal.τ).loc Cert.DFfnInRefIdeal.main_arg1) = m' ((c.tc : Thread Cert.DFfnInRefIdeal.nD Cert.DFfnInRefIdeal.τ).loc Cert.DFfnInRefIdeal.main_arg1)
          ∧ r.2.mem ((c.tc : Thread Cert.DFfnInRefIdeal.nD Cert.DFfnInRefIdeal.τ).loc Cert.DFfnInRefIdeal.main_arg2) = m' ((c.tc : Thread Cert.DFfnInRefIdeal.nD Cert.DFfnInRefIdeal.τ).loc Cert.DFfnInRefIdeal.main_arg2)
          ∧ r.2.mem ((c.tc : Thread Cert.DFfnInRefIdeal.nD Cert.DFfnInRefIdeal.τ).loc Cert.DFfnInRefIdeal.main_arg3) = m' ((c.tc : Thread Cert.DFfnInRefIdeal.nD Cert.DFfnInRefIdeal.τ).loc Cert.DFfnInRefIdeal.main_arg3)
          ∧ r.2.mem ((c.tc : Thread Cert.DFfnInRefIdeal.nD Cert.DFfnInRefIdeal.τ).loc Cert.DFfnInRefIdeal.main_arg4) = m' ((c.tc : Thread Cert.DFfnInRefIdeal.nD Cert.DFfnInRefIdeal.τ).loc Cert.DFfnInRefIdeal.main_arg4))

def preserves_DWGateUp_DWGateUpIdeal : Prop :=
  True

def algebraic_DWGateUpIdeal_DWGateUpRefIdeal [hDWGateUpIdeal : Cert.DWGateUpIdeal.Facts] [hDWGateUpRefIdeal : Cert.DWGateUpRefIdeal.Facts] : Prop :=
  ∀ (m : (ℓ : Loc Cert.DWGateUpIdeal.nD Cert.DWGateUpIdeal.τ Cert.DWGateUpIdeal.sig) → Buf (Elt Ideal) ℓ) (g : Dev Cert.DWGateUpIdeal.nD → PrngReg)
    (m' : (ℓ : Loc Cert.DWGateUpRefIdeal.nD Cert.DWGateUpRefIdeal.τ Cert.DWGateUpRefIdeal.sig) → Buf (Elt Ideal) ℓ) (g' : Dev Cert.DWGateUpRefIdeal.nD → PrngReg), Pre_DWGateUpIdeal m →
    (∀ c : Dev Cert.DWGateUpIdeal.nD,
      m' ((c.tc : Thread Cert.DWGateUpRefIdeal.nD Cert.DWGateUpRefIdeal.τ).loc Cert.DWGateUpRefIdeal.main_arg0) = m ((c.tc : Thread Cert.DWGateUpIdeal.nD Cert.DWGateUpIdeal.τ).loc Cert.DWGateUpIdeal.main_arg0)
      ∧ m' ((c.tc : Thread Cert.DWGateUpRefIdeal.nD Cert.DWGateUpRefIdeal.τ).loc Cert.DWGateUpRefIdeal.main_arg1) = m ((c.tc : Thread Cert.DWGateUpIdeal.nD Cert.DWGateUpIdeal.τ).loc Cert.DWGateUpIdeal.main_arg1)
      ∧ m' ((c.tc : Thread Cert.DWGateUpRefIdeal.nD Cert.DWGateUpRefIdeal.τ).loc Cert.DWGateUpRefIdeal.main_arg2) = m ((c.tc : Thread Cert.DWGateUpIdeal.nD Cert.DWGateUpIdeal.τ).loc Cert.DWGateUpIdeal.main_arg2)
      ∧ m' ((c.tc : Thread Cert.DWGateUpRefIdeal.nD Cert.DWGateUpRefIdeal.τ).loc Cert.DWGateUpRefIdeal.main_arg3) = m ((c.tc : Thread Cert.DWGateUpIdeal.nD Cert.DWGateUpIdeal.τ).loc Cert.DWGateUpIdeal.main_arg3)) →
    ∃ (v0 : (c : Dev Cert.DWGateUpIdeal.nD) → Buf (Elt Ideal) ((c.tc : Thread Cert.DWGateUpIdeal.nD Cert.DWGateUpIdeal.τ).loc Cert.DWGateUpIdeal.main_v17)),
      θ_run (Cert.DWGateUpIdeal.defs (F := Ideal)) (onTc (τ := Cert.DWGateUpIdeal.τ) (Cert.DWGateUpIdeal.main (F := Ideal))) ⟨m, fun _ => 0, g⟩ (fun r => ∀ c : Dev Cert.DWGateUpIdeal.nD,
          r.2.mem ((c.tc : Thread Cert.DWGateUpIdeal.nD Cert.DWGateUpIdeal.τ).loc Cert.DWGateUpIdeal.main_v17) = v0 c
          ∧ r.2.mem ((c.tc : Thread Cert.DWGateUpIdeal.nD Cert.DWGateUpIdeal.τ).loc Cert.DWGateUpIdeal.main_arg0) = m ((c.tc : Thread Cert.DWGateUpIdeal.nD Cert.DWGateUpIdeal.τ).loc Cert.DWGateUpIdeal.main_arg0)
          ∧ r.2.mem ((c.tc : Thread Cert.DWGateUpIdeal.nD Cert.DWGateUpIdeal.τ).loc Cert.DWGateUpIdeal.main_arg1) = m ((c.tc : Thread Cert.DWGateUpIdeal.nD Cert.DWGateUpIdeal.τ).loc Cert.DWGateUpIdeal.main_arg1)
          ∧ r.2.mem ((c.tc : Thread Cert.DWGateUpIdeal.nD Cert.DWGateUpIdeal.τ).loc Cert.DWGateUpIdeal.main_arg2) = m ((c.tc : Thread Cert.DWGateUpIdeal.nD Cert.DWGateUpIdeal.τ).loc Cert.DWGateUpIdeal.main_arg2)
          ∧ r.2.mem ((c.tc : Thread Cert.DWGateUpIdeal.nD Cert.DWGateUpIdeal.τ).loc Cert.DWGateUpIdeal.main_arg3) = m ((c.tc : Thread Cert.DWGateUpIdeal.nD Cert.DWGateUpIdeal.τ).loc Cert.DWGateUpIdeal.main_arg3))
      ∧ θ_run (Cert.DWGateUpRefIdeal.defs (F := Ideal)) (onTc (τ := Cert.DWGateUpRefIdeal.τ) (Cert.DWGateUpRefIdeal.main (F := Ideal))) ⟨m', fun _ => 0, g'⟩ (fun r => ∀ c : Dev Cert.DWGateUpRefIdeal.nD,
          r.2.mem ((c.tc : Thread Cert.DWGateUpRefIdeal.nD Cert.DWGateUpRefIdeal.τ).loc Cert.DWGateUpRefIdeal.main_v18) = v0 c
          ∧ r.2.mem ((c.tc : Thread Cert.DWGateUpRefIdeal.nD Cert.DWGateUpRefIdeal.τ).loc Cert.DWGateUpRefIdeal.main_arg0) = m' ((c.tc : Thread Cert.DWGateUpRefIdeal.nD Cert.DWGateUpRefIdeal.τ).loc Cert.DWGateUpRefIdeal.main_arg0)
          ∧ r.2.mem ((c.tc : Thread Cert.DWGateUpRefIdeal.nD Cert.DWGateUpRefIdeal.τ).loc Cert.DWGateUpRefIdeal.main_arg1) = m' ((c.tc : Thread Cert.DWGateUpRefIdeal.nD Cert.DWGateUpRefIdeal.τ).loc Cert.DWGateUpRefIdeal.main_arg1)
          ∧ r.2.mem ((c.tc : Thread Cert.DWGateUpRefIdeal.nD Cert.DWGateUpRefIdeal.τ).loc Cert.DWGateUpRefIdeal.main_arg2) = m' ((c.tc : Thread Cert.DWGateUpRefIdeal.nD Cert.DWGateUpRefIdeal.τ).loc Cert.DWGateUpRefIdeal.main_arg2)
          ∧ r.2.mem ((c.tc : Thread Cert.DWGateUpRefIdeal.nD Cert.DWGateUpRefIdeal.τ).loc Cert.DWGateUpRefIdeal.main_arg3) = m' ((c.tc : Thread Cert.DWGateUpRefIdeal.nD Cert.DWGateUpRefIdeal.τ).loc Cert.DWGateUpRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_DMix_DMixIdeal : Prop :=
  True

def algebraic_DMixIdeal_DMixRefIdeal [hDMixIdeal : Cert.DMixIdeal.Facts] [hDMixRefIdeal : Cert.DMixRefIdeal.Facts] : Prop :=
  ∀ (m : (ℓ : Loc Cert.DMixIdeal.nD Cert.DMixIdeal.τ Cert.DMixIdeal.sig) → Buf (Elt Ideal) ℓ) (g : Dev Cert.DMixIdeal.nD → PrngReg)
    (m' : (ℓ : Loc Cert.DMixRefIdeal.nD Cert.DMixRefIdeal.τ Cert.DMixRefIdeal.sig) → Buf (Elt Ideal) ℓ) (g' : Dev Cert.DMixRefIdeal.nD → PrngReg), Pre_DMixIdeal m →
    (∀ c : Dev Cert.DMixIdeal.nD,
      m' ((c.tc : Thread Cert.DMixRefIdeal.nD Cert.DMixRefIdeal.τ).loc Cert.DMixRefIdeal.main_arg0) = m ((c.tc : Thread Cert.DMixIdeal.nD Cert.DMixIdeal.τ).loc Cert.DMixIdeal.main_arg0)
      ∧ m' ((c.tc : Thread Cert.DMixRefIdeal.nD Cert.DMixRefIdeal.τ).loc Cert.DMixRefIdeal.main_arg1) = m ((c.tc : Thread Cert.DMixIdeal.nD Cert.DMixIdeal.τ).loc Cert.DMixIdeal.main_arg1)
      ∧ m' ((c.tc : Thread Cert.DMixRefIdeal.nD Cert.DMixRefIdeal.τ).loc Cert.DMixRefIdeal.main_arg2) = m ((c.tc : Thread Cert.DMixIdeal.nD Cert.DMixIdeal.τ).loc Cert.DMixIdeal.main_arg2)) →
    ∃ (v0 : (c : Dev Cert.DMixIdeal.nD) → Buf (Elt Ideal) ((c.tc : Thread Cert.DMixIdeal.nD Cert.DMixIdeal.τ).loc Cert.DMixIdeal.main_v3)),
      θ_run (Cert.DMixIdeal.defs (F := Ideal)) (onTc (τ := Cert.DMixIdeal.τ) (Cert.DMixIdeal.main (F := Ideal))) ⟨m, fun _ => 0, g⟩ (fun r => ∀ c : Dev Cert.DMixIdeal.nD,
          r.2.mem ((c.tc : Thread Cert.DMixIdeal.nD Cert.DMixIdeal.τ).loc Cert.DMixIdeal.main_v3) = v0 c
          ∧ r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
          ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1)
          ∧ r.2.mem ((c.tc : Thread Cert.DMixIdeal.nD Cert.DMixIdeal.τ).loc Cert.DMixIdeal.main_arg2) = m ((c.tc : Thread Cert.DMixIdeal.nD Cert.DMixIdeal.τ).loc Cert.DMixIdeal.main_arg2))
      ∧ θ_run (Cert.DMixRefIdeal.defs (F := Ideal)) (onTc (τ := Cert.DMixRefIdeal.τ) (Cert.DMixRefIdeal.main (F := Ideal))) ⟨m', fun _ => 0, g'⟩ (fun r => ∀ c : Dev Cert.DMixRefIdeal.nD,
          r.2.mem ((c.tc : Thread Cert.DMixRefIdeal.nD Cert.DMixRefIdeal.τ).loc Cert.DMixRefIdeal.main_v2) = v0 c
          ∧ r.2.mem ((c.tc : Thread Cert.DMixRefIdeal.nD Cert.DMixRefIdeal.τ).loc Cert.DMixRefIdeal.main_arg0) = m' ((c.tc : Thread Cert.DMixRefIdeal.nD Cert.DMixRefIdeal.τ).loc Cert.DMixRefIdeal.main_arg0)
          ∧ r.2.mem ((c.tc : Thread Cert.DMixRefIdeal.nD Cert.DMixRefIdeal.τ).loc Cert.DMixRefIdeal.main_arg1) = m' ((c.tc : Thread Cert.DMixRefIdeal.nD Cert.DMixRefIdeal.τ).loc Cert.DMixRefIdeal.main_arg1)
          ∧ r.2.mem ((c.tc : Thread Cert.DMixRefIdeal.nD Cert.DMixRefIdeal.τ).loc Cert.DMixRefIdeal.main_arg2) = m' ((c.tc : Thread Cert.DMixRefIdeal.nD Cert.DMixRefIdeal.τ).loc Cert.DMixRefIdeal.main_arg2))

def preserves_DWOut_DWOutIdeal : Prop :=
  True

def algebraic_DWOutIdeal_DWOutRefIdeal [hDWOutIdeal : Cert.DWOutIdeal.Facts] [hDWOutRefIdeal : Cert.DWOutRefIdeal.Facts] : Prop :=
  ∀ (m : (ℓ : Loc Cert.DWOutIdeal.nD Cert.DWOutIdeal.τ Cert.DWOutIdeal.sig) → Buf (Elt Ideal) ℓ) (g : Dev Cert.DWOutIdeal.nD → PrngReg)
    (m' : (ℓ : Loc Cert.DWOutRefIdeal.nD Cert.DWOutRefIdeal.τ Cert.DWOutRefIdeal.sig) → Buf (Elt Ideal) ℓ) (g' : Dev Cert.DWOutRefIdeal.nD → PrngReg), Pre_DWOutIdeal m →
    (∀ c : Dev Cert.DWOutIdeal.nD,
      m' ((c.tc : Thread Cert.DWOutRefIdeal.nD Cert.DWOutRefIdeal.τ).loc Cert.DWOutRefIdeal.main_arg0) = m ((c.tc : Thread Cert.DWOutIdeal.nD Cert.DWOutIdeal.τ).loc Cert.DWOutIdeal.main_arg0)
      ∧ m' ((c.tc : Thread Cert.DWOutRefIdeal.nD Cert.DWOutRefIdeal.τ).loc Cert.DWOutRefIdeal.main_arg1) = m ((c.tc : Thread Cert.DWOutIdeal.nD Cert.DWOutIdeal.τ).loc Cert.DWOutIdeal.main_arg1)
      ∧ m' ((c.tc : Thread Cert.DWOutRefIdeal.nD Cert.DWOutRefIdeal.τ).loc Cert.DWOutRefIdeal.main_arg2) = m ((c.tc : Thread Cert.DWOutIdeal.nD Cert.DWOutIdeal.τ).loc Cert.DWOutIdeal.main_arg2)) →
    ∃ (v0 : (c : Dev Cert.DWOutIdeal.nD) → Buf (Elt Ideal) ((c.tc : Thread Cert.DWOutIdeal.nD Cert.DWOutIdeal.τ).loc Cert.DWOutIdeal.main_v2)),
      θ_run (Cert.DWOutIdeal.defs (F := Ideal)) (onTc (τ := Cert.DWOutIdeal.τ) (Cert.DWOutIdeal.main (F := Ideal))) ⟨m, fun _ => 0, g⟩ (fun r => ∀ c : Dev Cert.DWOutIdeal.nD,
          r.2.mem ((c.tc : Thread Cert.DWOutIdeal.nD Cert.DWOutIdeal.τ).loc Cert.DWOutIdeal.main_v2) = v0 c
          ∧ r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
          ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1)
          ∧ r.2.mem ((c.tc : Thread Cert.DWOutIdeal.nD Cert.DWOutIdeal.τ).loc Cert.DWOutIdeal.main_arg2) = m ((c.tc : Thread Cert.DWOutIdeal.nD Cert.DWOutIdeal.τ).loc Cert.DWOutIdeal.main_arg2))
      ∧ θ_run (Cert.DWOutRefIdeal.defs (F := Ideal)) (onTc (τ := Cert.DWOutRefIdeal.τ) (Cert.DWOutRefIdeal.main (F := Ideal))) ⟨m', fun _ => 0, g'⟩ (fun r => ∀ c : Dev Cert.DWOutRefIdeal.nD,
          r.2.mem ((c.tc : Thread Cert.DWOutRefIdeal.nD Cert.DWOutRefIdeal.τ).loc Cert.DWOutRefIdeal.main_v4) = v0 c
          ∧ r.2.mem ((c.tc : Thread Cert.DWOutRefIdeal.nD Cert.DWOutRefIdeal.τ).loc Cert.DWOutRefIdeal.main_arg0) = m' ((c.tc : Thread Cert.DWOutRefIdeal.nD Cert.DWOutRefIdeal.τ).loc Cert.DWOutRefIdeal.main_arg0)
          ∧ r.2.mem ((c.tc : Thread Cert.DWOutRefIdeal.nD Cert.DWOutRefIdeal.τ).loc Cert.DWOutRefIdeal.main_arg1) = m' ((c.tc : Thread Cert.DWOutRefIdeal.nD Cert.DWOutRefIdeal.τ).loc Cert.DWOutRefIdeal.main_arg1)
          ∧ r.2.mem ((c.tc : Thread Cert.DWOutRefIdeal.nD Cert.DWOutRefIdeal.τ).loc Cert.DWOutRefIdeal.main_arg2) = m' ((c.tc : Thread Cert.DWOutRefIdeal.nD Cert.DWOutRefIdeal.τ).loc Cert.DWOutRefIdeal.main_arg2))

def preserves_DInA_DInAIdeal : Prop :=
  True

def algebraic_DInAIdeal_DInARefIdeal [hDInAIdeal : Cert.DInAIdeal.Facts] [hDInARefIdeal : Cert.DInARefIdeal.Facts] : Prop :=
  ∀ (m : (ℓ : Loc Cert.DInAIdeal.nD Cert.DInAIdeal.τ Cert.DInAIdeal.sig) → Buf (Elt Ideal) ℓ) (g : Dev Cert.DInAIdeal.nD → PrngReg)
    (m' : (ℓ : Loc Cert.DInARefIdeal.nD Cert.DInARefIdeal.τ Cert.DInARefIdeal.sig) → Buf (Elt Ideal) ℓ) (g' : Dev Cert.DInARefIdeal.nD → PrngReg), Pre_DInAIdeal m →
    (∀ c : Dev Cert.DInAIdeal.nD,
      m' ((c.tc : Thread Cert.DInARefIdeal.nD Cert.DInARefIdeal.τ).loc Cert.DInARefIdeal.main_arg0) = m ((c.tc : Thread Cert.DInAIdeal.nD Cert.DInAIdeal.τ).loc Cert.DInAIdeal.main_arg0)
      ∧ m' ((c.tc : Thread Cert.DInARefIdeal.nD Cert.DInARefIdeal.τ).loc Cert.DInARefIdeal.main_arg1) = m ((c.tc : Thread Cert.DInAIdeal.nD Cert.DInAIdeal.τ).loc Cert.DInAIdeal.main_arg1)
      ∧ m' ((c.tc : Thread Cert.DInARefIdeal.nD Cert.DInARefIdeal.τ).loc Cert.DInARefIdeal.main_arg2) = m ((c.tc : Thread Cert.DInAIdeal.nD Cert.DInAIdeal.τ).loc Cert.DInAIdeal.main_arg2)
      ∧ m' ((c.tc : Thread Cert.DInARefIdeal.nD Cert.DInARefIdeal.τ).loc Cert.DInARefIdeal.main_arg3) = m ((c.tc : Thread Cert.DInAIdeal.nD Cert.DInAIdeal.τ).loc Cert.DInAIdeal.main_arg3)
      ∧ m' ((c.tc : Thread Cert.DInARefIdeal.nD Cert.DInARefIdeal.τ).loc Cert.DInARefIdeal.main_arg4) = m ((c.tc : Thread Cert.DInAIdeal.nD Cert.DInAIdeal.τ).loc Cert.DInAIdeal.main_arg4)) →
    ∃ (v0 : (c : Dev Cert.DInAIdeal.nD) → Buf (Elt Ideal) ((c.tc : Thread Cert.DInAIdeal.nD Cert.DInAIdeal.τ).loc Cert.DInAIdeal.main_v4_0)) (v1 : (c : Dev Cert.DInAIdeal.nD) → Buf (Elt Ideal) ((c.tc : Thread Cert.DInAIdeal.nD Cert.DInAIdeal.τ).loc Cert.DInAIdeal.main_v4_1)),
      θ_run (Cert.DInAIdeal.defs (F := Ideal)) (onTc (τ := Cert.DInAIdeal.τ) (Cert.DInAIdeal.main (F := Ideal))) ⟨m, fun _ => 0, g⟩ (fun r => ∀ c : Dev Cert.DInAIdeal.nD,
          r.2.mem ((c.tc : Thread Cert.DInAIdeal.nD Cert.DInAIdeal.τ).loc Cert.DInAIdeal.main_v4_0) = v0 c
          ∧ r.2.mem ((c.tc : Thread Cert.DInAIdeal.nD Cert.DInAIdeal.τ).loc Cert.DInAIdeal.main_v4_1) = v1 c
          ∧ r.2.mem ((c.tc : Thread Cert.DInAIdeal.nD Cert.DInAIdeal.τ).loc Cert.DInAIdeal.main_arg0) = m ((c.tc : Thread Cert.DInAIdeal.nD Cert.DInAIdeal.τ).loc Cert.DInAIdeal.main_arg0)
          ∧ r.2.mem ((c.tc : Thread Cert.DInAIdeal.nD Cert.DInAIdeal.τ).loc Cert.DInAIdeal.main_arg1) = m ((c.tc : Thread Cert.DInAIdeal.nD Cert.DInAIdeal.τ).loc Cert.DInAIdeal.main_arg1)
          ∧ r.2.mem ((c.tc : Thread Cert.DInAIdeal.nD Cert.DInAIdeal.τ).loc Cert.DInAIdeal.main_arg2) = m ((c.tc : Thread Cert.DInAIdeal.nD Cert.DInAIdeal.τ).loc Cert.DInAIdeal.main_arg2)
          ∧ r.2.mem ((c.tc : Thread Cert.DInAIdeal.nD Cert.DInAIdeal.τ).loc Cert.DInAIdeal.main_arg3) = m ((c.tc : Thread Cert.DInAIdeal.nD Cert.DInAIdeal.τ).loc Cert.DInAIdeal.main_arg3)
          ∧ r.2.mem ((c.tc : Thread Cert.DInAIdeal.nD Cert.DInAIdeal.τ).loc Cert.DInAIdeal.main_arg4) = m ((c.tc : Thread Cert.DInAIdeal.nD Cert.DInAIdeal.τ).loc Cert.DInAIdeal.main_arg4))
      ∧ θ_run (Cert.DInARefIdeal.defs (F := Ideal)) (onTc (τ := Cert.DInARefIdeal.τ) (Cert.DInARefIdeal.main (F := Ideal))) ⟨m', fun _ => 0, g'⟩ (fun r => ∀ c : Dev Cert.DInARefIdeal.nD,
          r.2.mem ((c.tc : Thread Cert.DInARefIdeal.nD Cert.DInARefIdeal.τ).loc Cert.DInARefIdeal.main_v38) = v0 c
          ∧ r.2.mem ((c.tc : Thread Cert.DInARefIdeal.nD Cert.DInARefIdeal.τ).loc Cert.DInARefIdeal.main_v39) = v1 c
          ∧ r.2.mem ((c.tc : Thread Cert.DInARefIdeal.nD Cert.DInARefIdeal.τ).loc Cert.DInARefIdeal.main_arg0) = m' ((c.tc : Thread Cert.DInARefIdeal.nD Cert.DInARefIdeal.τ).loc Cert.DInARefIdeal.main_arg0)
          ∧ r.2.mem ((c.tc : Thread Cert.DInARefIdeal.nD Cert.DInARefIdeal.τ).loc Cert.DInARefIdeal.main_arg1) = m' ((c.tc : Thread Cert.DInARefIdeal.nD Cert.DInARefIdeal.τ).loc Cert.DInARefIdeal.main_arg1)
          ∧ r.2.mem ((c.tc : Thread Cert.DInARefIdeal.nD Cert.DInARefIdeal.τ).loc Cert.DInARefIdeal.main_arg2) = m' ((c.tc : Thread Cert.DInARefIdeal.nD Cert.DInARefIdeal.τ).loc Cert.DInARefIdeal.main_arg2)
          ∧ r.2.mem ((c.tc : Thread Cert.DInARefIdeal.nD Cert.DInARefIdeal.τ).loc Cert.DInARefIdeal.main_arg3) = m' ((c.tc : Thread Cert.DInARefIdeal.nD Cert.DInARefIdeal.τ).loc Cert.DInARefIdeal.main_arg3)
          ∧ r.2.mem ((c.tc : Thread Cert.DInARefIdeal.nD Cert.DInARefIdeal.τ).loc Cert.DInARefIdeal.main_arg4) = m' ((c.tc : Thread Cert.DInARefIdeal.nD Cert.DInARefIdeal.τ).loc Cert.DInARefIdeal.main_arg4))

def preserves_DWInA_DWInAIdeal : Prop :=
  True

def algebraic_DWInAIdeal_DWInARefIdeal [hDWInAIdeal : Cert.DWInAIdeal.Facts] [hDWInARefIdeal : Cert.DWInARefIdeal.Facts] : Prop :=
  ∀ (m : (ℓ : Loc Cert.DWInAIdeal.nD Cert.DWInAIdeal.τ Cert.DWInAIdeal.sig) → Buf (Elt Ideal) ℓ) (g : Dev Cert.DWInAIdeal.nD → PrngReg)
    (m' : (ℓ : Loc Cert.DWInARefIdeal.nD Cert.DWInARefIdeal.τ Cert.DWInARefIdeal.sig) → Buf (Elt Ideal) ℓ) (g' : Dev Cert.DWInARefIdeal.nD → PrngReg), Pre_DWInAIdeal m →
    (∀ c : Dev Cert.DWInAIdeal.nD,
      m' ((c.tc : Thread Cert.DWInARefIdeal.nD Cert.DWInARefIdeal.τ).loc Cert.DWInARefIdeal.main_arg0) = m ((c.tc : Thread Cert.DWInAIdeal.nD Cert.DWInAIdeal.τ).loc Cert.DWInAIdeal.main_arg0)
      ∧ m' ((c.tc : Thread Cert.DWInARefIdeal.nD Cert.DWInARefIdeal.τ).loc Cert.DWInARefIdeal.main_arg1) = m ((c.tc : Thread Cert.DWInAIdeal.nD Cert.DWInAIdeal.τ).loc Cert.DWInAIdeal.main_arg1)
      ∧ m' ((c.tc : Thread Cert.DWInARefIdeal.nD Cert.DWInARefIdeal.τ).loc Cert.DWInARefIdeal.main_arg2) = m ((c.tc : Thread Cert.DWInAIdeal.nD Cert.DWInAIdeal.τ).loc Cert.DWInAIdeal.main_arg2)
      ∧ m' ((c.tc : Thread Cert.DWInARefIdeal.nD Cert.DWInARefIdeal.τ).loc Cert.DWInARefIdeal.main_arg3) = m ((c.tc : Thread Cert.DWInAIdeal.nD Cert.DWInAIdeal.τ).loc Cert.DWInAIdeal.main_arg3)) →
    ∃ (v0 : (c : Dev Cert.DWInAIdeal.nD) → Buf (Elt Ideal) ((c.tc : Thread Cert.DWInAIdeal.nD Cert.DWInAIdeal.τ).loc Cert.DWInAIdeal.main_v15)),
      θ_run (Cert.DWInAIdeal.defs (F := Ideal)) (onTc (τ := Cert.DWInAIdeal.τ) (Cert.DWInAIdeal.main (F := Ideal))) ⟨m, fun _ => 0, g⟩ (fun r => ∀ c : Dev Cert.DWInAIdeal.nD,
          r.2.mem ((c.tc : Thread Cert.DWInAIdeal.nD Cert.DWInAIdeal.τ).loc Cert.DWInAIdeal.main_v15) = v0 c
          ∧ r.2.mem ((c.tc : Thread Cert.DWInAIdeal.nD Cert.DWInAIdeal.τ).loc Cert.DWInAIdeal.main_arg0) = m ((c.tc : Thread Cert.DWInAIdeal.nD Cert.DWInAIdeal.τ).loc Cert.DWInAIdeal.main_arg0)
          ∧ r.2.mem ((c.tc : Thread Cert.DWInAIdeal.nD Cert.DWInAIdeal.τ).loc Cert.DWInAIdeal.main_arg1) = m ((c.tc : Thread Cert.DWInAIdeal.nD Cert.DWInAIdeal.τ).loc Cert.DWInAIdeal.main_arg1)
          ∧ r.2.mem ((c.tc : Thread Cert.DWInAIdeal.nD Cert.DWInAIdeal.τ).loc Cert.DWInAIdeal.main_arg2) = m ((c.tc : Thread Cert.DWInAIdeal.nD Cert.DWInAIdeal.τ).loc Cert.DWInAIdeal.main_arg2)
          ∧ r.2.mem ((c.tc : Thread Cert.DWInAIdeal.nD Cert.DWInAIdeal.τ).loc Cert.DWInAIdeal.main_arg3) = m ((c.tc : Thread Cert.DWInAIdeal.nD Cert.DWInAIdeal.τ).loc Cert.DWInAIdeal.main_arg3))
      ∧ θ_run (Cert.DWInARefIdeal.defs (F := Ideal)) (onTc (τ := Cert.DWInARefIdeal.τ) (Cert.DWInARefIdeal.main (F := Ideal))) ⟨m', fun _ => 0, g'⟩ (fun r => ∀ c : Dev Cert.DWInARefIdeal.nD,
          r.2.mem ((c.tc : Thread Cert.DWInARefIdeal.nD Cert.DWInARefIdeal.τ).loc Cert.DWInARefIdeal.main_v18) = v0 c
          ∧ r.2.mem ((c.tc : Thread Cert.DWInARefIdeal.nD Cert.DWInARefIdeal.τ).loc Cert.DWInARefIdeal.main_arg0) = m' ((c.tc : Thread Cert.DWInARefIdeal.nD Cert.DWInARefIdeal.τ).loc Cert.DWInARefIdeal.main_arg0)
          ∧ r.2.mem ((c.tc : Thread Cert.DWInARefIdeal.nD Cert.DWInARefIdeal.τ).loc Cert.DWInARefIdeal.main_arg1) = m' ((c.tc : Thread Cert.DWInARefIdeal.nD Cert.DWInARefIdeal.τ).loc Cert.DWInARefIdeal.main_arg1)
          ∧ r.2.mem ((c.tc : Thread Cert.DWInARefIdeal.nD Cert.DWInARefIdeal.τ).loc Cert.DWInARefIdeal.main_arg2) = m' ((c.tc : Thread Cert.DWInARefIdeal.nD Cert.DWInARefIdeal.τ).loc Cert.DWInARefIdeal.main_arg2)
          ∧ r.2.mem ((c.tc : Thread Cert.DWInARefIdeal.nD Cert.DWInARefIdeal.τ).loc Cert.DWInARefIdeal.main_arg3) = m' ((c.tc : Thread Cert.DWInARefIdeal.nD Cert.DWInARefIdeal.τ).loc Cert.DWInARefIdeal.main_arg3))

def preserves_DInB_DInBIdeal : Prop :=
  True

def algebraic_DInBIdeal_DInBRefIdeal [hDInBIdeal : Cert.DInBIdeal.Facts] [hDInBRefIdeal : Cert.DInBRefIdeal.Facts] : Prop :=
  ∀ (m : (ℓ : Loc Cert.DInBIdeal.nD Cert.DInBIdeal.τ Cert.DInBIdeal.sig) → Buf (Elt Ideal) ℓ) (g : Dev Cert.DInBIdeal.nD → PrngReg)
    (m' : (ℓ : Loc Cert.DInBRefIdeal.nD Cert.DInBRefIdeal.τ Cert.DInBRefIdeal.sig) → Buf (Elt Ideal) ℓ) (g' : Dev Cert.DInBRefIdeal.nD → PrngReg), Pre_DInBIdeal m →
    (∀ c : Dev Cert.DInBIdeal.nD,
      m' ((c.tc : Thread Cert.DInBRefIdeal.nD Cert.DInBRefIdeal.τ).loc Cert.DInBRefIdeal.main_arg0) = m ((c.tc : Thread Cert.DInBIdeal.nD Cert.DInBIdeal.τ).loc Cert.DInBIdeal.main_arg0)
      ∧ m' ((c.tc : Thread Cert.DInBRefIdeal.nD Cert.DInBRefIdeal.τ).loc Cert.DInBRefIdeal.main_arg1) = m ((c.tc : Thread Cert.DInBIdeal.nD Cert.DInBIdeal.τ).loc Cert.DInBIdeal.main_arg1)
      ∧ m' ((c.tc : Thread Cert.DInBRefIdeal.nD Cert.DInBRefIdeal.τ).loc Cert.DInBRefIdeal.main_arg2) = m ((c.tc : Thread Cert.DInBIdeal.nD Cert.DInBIdeal.τ).loc Cert.DInBIdeal.main_arg2)
      ∧ m' ((c.tc : Thread Cert.DInBRefIdeal.nD Cert.DInBRefIdeal.τ).loc Cert.DInBRefIdeal.main_arg3) = m ((c.tc : Thread Cert.DInBIdeal.nD Cert.DInBIdeal.τ).loc Cert.DInBIdeal.main_arg3)
      ∧ m' ((c.tc : Thread Cert.DInBRefIdeal.nD Cert.DInBRefIdeal.τ).loc Cert.DInBRefIdeal.main_arg4) = m ((c.tc : Thread Cert.DInBIdeal.nD Cert.DInBIdeal.τ).loc Cert.DInBIdeal.main_arg4)) →
    ∃ (v0 : (c : Dev Cert.DInBIdeal.nD) → Buf (Elt Ideal) ((c.tc : Thread Cert.DInBIdeal.nD Cert.DInBIdeal.τ).loc Cert.DInBIdeal.main_v4_0)) (v1 : (c : Dev Cert.DInBIdeal.nD) → Buf (Elt Ideal) ((c.tc : Thread Cert.DInBIdeal.nD Cert.DInBIdeal.τ).loc Cert.DInBIdeal.main_v4_1)) (v2 : (c : Dev Cert.DInBIdeal.nD) → Buf (Elt Ideal) ((c.tc : Thread Cert.DInBIdeal.nD Cert.DInBIdeal.τ).loc Cert.DInBIdeal.main_v4_2)),
      θ_run (Cert.DInBIdeal.defs (F := Ideal)) (onTc (τ := Cert.DInBIdeal.τ) (Cert.DInBIdeal.main (F := Ideal))) ⟨m, fun _ => 0, g⟩ (fun r => ∀ c : Dev Cert.DInBIdeal.nD,
          r.2.mem ((c.tc : Thread Cert.DInBIdeal.nD Cert.DInBIdeal.τ).loc Cert.DInBIdeal.main_v4_0) = v0 c
          ∧ r.2.mem ((c.tc : Thread Cert.DInBIdeal.nD Cert.DInBIdeal.τ).loc Cert.DInBIdeal.main_v4_1) = v1 c
          ∧ r.2.mem ((c.tc : Thread Cert.DInBIdeal.nD Cert.DInBIdeal.τ).loc Cert.DInBIdeal.main_v4_2) = v2 c
          ∧ r.2.mem ((c.tc : Thread Cert.DInBIdeal.nD Cert.DInBIdeal.τ).loc Cert.DInBIdeal.main_arg0) = m ((c.tc : Thread Cert.DInBIdeal.nD Cert.DInBIdeal.τ).loc Cert.DInBIdeal.main_arg0)
          ∧ r.2.mem ((c.tc : Thread Cert.DInBIdeal.nD Cert.DInBIdeal.τ).loc Cert.DInBIdeal.main_arg1) = m ((c.tc : Thread Cert.DInBIdeal.nD Cert.DInBIdeal.τ).loc Cert.DInBIdeal.main_arg1)
          ∧ r.2.mem ((c.tc : Thread Cert.DInBIdeal.nD Cert.DInBIdeal.τ).loc Cert.DInBIdeal.main_arg2) = m ((c.tc : Thread Cert.DInBIdeal.nD Cert.DInBIdeal.τ).loc Cert.DInBIdeal.main_arg2)
          ∧ r.2.mem ((c.tc : Thread Cert.DInBIdeal.nD Cert.DInBIdeal.τ).loc Cert.DInBIdeal.main_arg3) = m ((c.tc : Thread Cert.DInBIdeal.nD Cert.DInBIdeal.τ).loc Cert.DInBIdeal.main_arg3)
          ∧ r.2.mem ((c.tc : Thread Cert.DInBIdeal.nD Cert.DInBIdeal.τ).loc Cert.DInBIdeal.main_arg4) = m ((c.tc : Thread Cert.DInBIdeal.nD Cert.DInBIdeal.τ).loc Cert.DInBIdeal.main_arg4))
      ∧ θ_run (Cert.DInBRefIdeal.defs (F := Ideal)) (onTc (τ := Cert.DInBRefIdeal.τ) (Cert.DInBRefIdeal.main (F := Ideal))) ⟨m', fun _ => 0, g'⟩ (fun r => ∀ c : Dev Cert.DInBRefIdeal.nD,
          r.2.mem ((c.tc : Thread Cert.DInBRefIdeal.nD Cert.DInBRefIdeal.τ).loc Cert.DInBRefIdeal.main_v38) = v0 c
          ∧ r.2.mem ((c.tc : Thread Cert.DInBRefIdeal.nD Cert.DInBRefIdeal.τ).loc Cert.DInBRefIdeal.main_v39) = v1 c
          ∧ r.2.mem ((c.tc : Thread Cert.DInBRefIdeal.nD Cert.DInBRefIdeal.τ).loc Cert.DInBRefIdeal.main_v40) = v2 c
          ∧ r.2.mem ((c.tc : Thread Cert.DInBRefIdeal.nD Cert.DInBRefIdeal.τ).loc Cert.DInBRefIdeal.main_arg0) = m' ((c.tc : Thread Cert.DInBRefIdeal.nD Cert.DInBRefIdeal.τ).loc Cert.DInBRefIdeal.main_arg0)
          ∧ r.2.mem ((c.tc : Thread Cert.DInBRefIdeal.nD Cert.DInBRefIdeal.τ).loc Cert.DInBRefIdeal.main_arg1) = m' ((c.tc : Thread Cert.DInBRefIdeal.nD Cert.DInBRefIdeal.τ).loc Cert.DInBRefIdeal.main_arg1)
          ∧ r.2.mem ((c.tc : Thread Cert.DInBRefIdeal.nD Cert.DInBRefIdeal.τ).loc Cert.DInBRefIdeal.main_arg2) = m' ((c.tc : Thread Cert.DInBRefIdeal.nD Cert.DInBRefIdeal.τ).loc Cert.DInBRefIdeal.main_arg2)
          ∧ r.2.mem ((c.tc : Thread Cert.DInBRefIdeal.nD Cert.DInBRefIdeal.τ).loc Cert.DInBRefIdeal.main_arg3) = m' ((c.tc : Thread Cert.DInBRefIdeal.nD Cert.DInBRefIdeal.τ).loc Cert.DInBRefIdeal.main_arg3)
          ∧ r.2.mem ((c.tc : Thread Cert.DInBRefIdeal.nD Cert.DInBRefIdeal.τ).loc Cert.DInBRefIdeal.main_arg4) = m' ((c.tc : Thread Cert.DInBRefIdeal.nD Cert.DInBRefIdeal.τ).loc Cert.DInBRefIdeal.main_arg4))

def preserves_DWInB_DWInBIdeal : Prop :=
  True

def algebraic_DWInBIdeal_DWInBRefIdeal [hDWInBIdeal : Cert.DWInBIdeal.Facts] [hDWInBRefIdeal : Cert.DWInBRefIdeal.Facts] : Prop :=
  ∀ (m : (ℓ : Loc Cert.DWInBIdeal.nD Cert.DWInBIdeal.τ Cert.DWInBIdeal.sig) → Buf (Elt Ideal) ℓ) (g : Dev Cert.DWInBIdeal.nD → PrngReg)
    (m' : (ℓ : Loc Cert.DWInBRefIdeal.nD Cert.DWInBRefIdeal.τ Cert.DWInBRefIdeal.sig) → Buf (Elt Ideal) ℓ) (g' : Dev Cert.DWInBRefIdeal.nD → PrngReg), Pre_DWInBIdeal m →
    (∀ c : Dev Cert.DWInBIdeal.nD,
      m' ((c.tc : Thread Cert.DWInBRefIdeal.nD Cert.DWInBRefIdeal.τ).loc Cert.DWInBRefIdeal.main_arg0) = m ((c.tc : Thread Cert.DWInBIdeal.nD Cert.DWInBIdeal.τ).loc Cert.DWInBIdeal.main_arg0)
      ∧ m' ((c.tc : Thread Cert.DWInBRefIdeal.nD Cert.DWInBRefIdeal.τ).loc Cert.DWInBRefIdeal.main_arg1) = m ((c.tc : Thread Cert.DWInBIdeal.nD Cert.DWInBIdeal.τ).loc Cert.DWInBIdeal.main_arg1)
      ∧ m' ((c.tc : Thread Cert.DWInBRefIdeal.nD Cert.DWInBRefIdeal.τ).loc Cert.DWInBRefIdeal.main_arg2) = m ((c.tc : Thread Cert.DWInBIdeal.nD Cert.DWInBIdeal.τ).loc Cert.DWInBIdeal.main_arg2)
      ∧ m' ((c.tc : Thread Cert.DWInBRefIdeal.nD Cert.DWInBRefIdeal.τ).loc Cert.DWInBRefIdeal.main_arg3) = m ((c.tc : Thread Cert.DWInBIdeal.nD Cert.DWInBIdeal.τ).loc Cert.DWInBIdeal.main_arg3)) →
    ∃ (v0 : (c : Dev Cert.DWInBIdeal.nD) → Buf (Elt Ideal) ((c.tc : Thread Cert.DWInBIdeal.nD Cert.DWInBIdeal.τ).loc Cert.DWInBIdeal.main_v15)),
      θ_run (Cert.DWInBIdeal.defs (F := Ideal)) (onTc (τ := Cert.DWInBIdeal.τ) (Cert.DWInBIdeal.main (F := Ideal))) ⟨m, fun _ => 0, g⟩ (fun r => ∀ c : Dev Cert.DWInBIdeal.nD,
          r.2.mem ((c.tc : Thread Cert.DWInBIdeal.nD Cert.DWInBIdeal.τ).loc Cert.DWInBIdeal.main_v15) = v0 c
          ∧ r.2.mem ((c.tc : Thread Cert.DWInBIdeal.nD Cert.DWInBIdeal.τ).loc Cert.DWInBIdeal.main_arg0) = m ((c.tc : Thread Cert.DWInBIdeal.nD Cert.DWInBIdeal.τ).loc Cert.DWInBIdeal.main_arg0)
          ∧ r.2.mem ((c.tc : Thread Cert.DWInBIdeal.nD Cert.DWInBIdeal.τ).loc Cert.DWInBIdeal.main_arg1) = m ((c.tc : Thread Cert.DWInBIdeal.nD Cert.DWInBIdeal.τ).loc Cert.DWInBIdeal.main_arg1)
          ∧ r.2.mem ((c.tc : Thread Cert.DWInBIdeal.nD Cert.DWInBIdeal.τ).loc Cert.DWInBIdeal.main_arg2) = m ((c.tc : Thread Cert.DWInBIdeal.nD Cert.DWInBIdeal.τ).loc Cert.DWInBIdeal.main_arg2)
          ∧ r.2.mem ((c.tc : Thread Cert.DWInBIdeal.nD Cert.DWInBIdeal.τ).loc Cert.DWInBIdeal.main_arg3) = m ((c.tc : Thread Cert.DWInBIdeal.nD Cert.DWInBIdeal.τ).loc Cert.DWInBIdeal.main_arg3))
      ∧ θ_run (Cert.DWInBRefIdeal.defs (F := Ideal)) (onTc (τ := Cert.DWInBRefIdeal.τ) (Cert.DWInBRefIdeal.main (F := Ideal))) ⟨m', fun _ => 0, g'⟩ (fun r => ∀ c : Dev Cert.DWInBRefIdeal.nD,
          r.2.mem ((c.tc : Thread Cert.DWInBRefIdeal.nD Cert.DWInBRefIdeal.τ).loc Cert.DWInBRefIdeal.main_v17) = v0 c
          ∧ r.2.mem ((c.tc : Thread Cert.DWInBRefIdeal.nD Cert.DWInBRefIdeal.τ).loc Cert.DWInBRefIdeal.main_arg0) = m' ((c.tc : Thread Cert.DWInBRefIdeal.nD Cert.DWInBRefIdeal.τ).loc Cert.DWInBRefIdeal.main_arg0)
          ∧ r.2.mem ((c.tc : Thread Cert.DWInBRefIdeal.nD Cert.DWInBRefIdeal.τ).loc Cert.DWInBRefIdeal.main_arg1) = m' ((c.tc : Thread Cert.DWInBRefIdeal.nD Cert.DWInBRefIdeal.τ).loc Cert.DWInBRefIdeal.main_arg1)
          ∧ r.2.mem ((c.tc : Thread Cert.DWInBRefIdeal.nD Cert.DWInBRefIdeal.τ).loc Cert.DWInBRefIdeal.main_arg2) = m' ((c.tc : Thread Cert.DWInBRefIdeal.nD Cert.DWInBRefIdeal.τ).loc Cert.DWInBRefIdeal.main_arg2)
          ∧ r.2.mem ((c.tc : Thread Cert.DWInBRefIdeal.nD Cert.DWInBRefIdeal.τ).loc Cert.DWInBRefIdeal.main_arg3) = m' ((c.tc : Thread Cert.DWInBRefIdeal.nD Cert.DWInBRefIdeal.τ).loc Cert.DWInBRefIdeal.main_arg3))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)
      ∧ m' ((c.tc : Thread Cert.InARefIdeal.nD Cert.InARefIdeal.τ).loc Cert.InARefIdeal.main_arg2) = m ((c.tc : Thread Cert.InAIdeal.nD Cert.InAIdeal.τ).loc Cert.InAIdeal.main_arg2)) →
    ∃ (v0 : (c : Dev Cert.InAIdeal.nD) → Buf (Elt Ideal) ((c.tc : Thread Cert.InAIdeal.nD Cert.InAIdeal.τ).loc Cert.InAIdeal.main_v3_0)) (v1 : (c : Dev Cert.InAIdeal.nD) → Buf (Elt Ideal) ((c.tc : Thread Cert.InAIdeal.nD Cert.InAIdeal.τ).loc Cert.InAIdeal.main_v3_1)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v3_0) = v0 c
          ∧ r.2.mem ((c.tc : Thread Cert.InAIdeal.nD Cert.InAIdeal.τ).loc Cert.InAIdeal.main_v3_1) = v1 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
          ∧ r.2.mem ((c.tc : Thread Cert.InAIdeal.nD Cert.InAIdeal.τ).loc Cert.InAIdeal.main_arg2) = m ((c.tc : Thread Cert.InAIdeal.nD Cert.InAIdeal.τ).loc Cert.InAIdeal.main_arg2))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v14) = v0 c
          ∧ r.2.mem ((c.tc : Thread Cert.InARefIdeal.nD Cert.InARefIdeal.τ).loc Cert.InARefIdeal.main_v15) = v1 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1)
          ∧ r.2.mem ((c.tc : Thread Cert.InARefIdeal.nD Cert.InARefIdeal.τ).loc Cert.InARefIdeal.main_arg2) = m' ((c.tc : Thread Cert.InARefIdeal.nD Cert.InARefIdeal.τ).loc Cert.InARefIdeal.main_arg2))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)
      ∧ m' ((c.tc : Thread Cert.InBRefIdeal.nD Cert.InBRefIdeal.τ).loc Cert.InBRefIdeal.main_arg2) = m ((c.tc : Thread Cert.InBIdeal.nD Cert.InBIdeal.τ).loc Cert.InBIdeal.main_arg2)) →
    ∃ (v0 : (c : Dev Cert.InBIdeal.nD) → Buf (Elt Ideal) ((c.tc : Thread Cert.InBIdeal.nD Cert.InBIdeal.τ).loc Cert.InBIdeal.main_v3_0)) (v1 : (c : Dev Cert.InBIdeal.nD) → Buf (Elt Ideal) ((c.tc : Thread Cert.InBIdeal.nD Cert.InBIdeal.τ).loc Cert.InBIdeal.main_v3_1)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v3_0) = v0 c
          ∧ r.2.mem ((c.tc : Thread Cert.InBIdeal.nD Cert.InBIdeal.τ).loc Cert.InBIdeal.main_v3_1) = v1 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v13) = v0 c
          ∧ r.2.mem ((c.tc : Thread Cert.InBRefIdeal.nD Cert.InBRefIdeal.τ).loc Cert.InBRefIdeal.main_v14) = v1 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1)
          ∧ r.2.mem ((c.tc : Thread Cert.InBRefIdeal.nD Cert.InBRefIdeal.τ).loc Cert.InBRefIdeal.main_arg2) = m' ((c.tc : Thread Cert.InBRefIdeal.nD Cert.InBRefIdeal.τ).loc Cert.InBRefIdeal.main_arg2))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpRefIdeal : Cert.GateUpRefIdeal.Facts) (hGluDown : Cert.GluDown.Facts) (hGluDownIdeal : Cert.GluDownIdeal.Facts) (hGluDownRefIdeal : Cert.GluDownRefIdeal.Facts) (hDWDown : Cert.DWDown.Facts) (hDWDownIdeal : Cert.DWDownIdeal.Facts) (hDWDownRefIdeal : Cert.DWDownRefIdeal.Facts) (hDFfnIn : Cert.DFfnIn.Facts) (hDFfnInIdeal : Cert.DFfnInIdeal.Facts) (hDFfnInRefIdeal : Cert.DFfnInRefIdeal.Facts) (hDWGateUp : Cert.DWGateUp.Facts) (hDWGateUpIdeal : Cert.DWGateUpIdeal.Facts) (hDWGateUpRefIdeal : Cert.DWGateUpRefIdeal.Facts) (hOutProj : Cert.OutProj.Facts) (hOutProjIdeal : Cert.OutProjIdeal.Facts) (hOutProjRefIdeal : Cert.OutProjRefIdeal.Facts) (hDMix : Cert.DMix.Facts) (hDMixIdeal : Cert.DMixIdeal.Facts) (hDMixRefIdeal : Cert.DMixRefIdeal.Facts) (hDWOut : Cert.DWOut.Facts) (hDWOutIdeal : Cert.DWOutIdeal.Facts) (hDWOutRefIdeal : Cert.DWOutRefIdeal.Facts) (hDInA : Cert.DInA.Facts) (hDInAIdeal : Cert.DInAIdeal.Facts) (hDInARefIdeal : Cert.DInARefIdeal.Facts) (hDWInA : Cert.DWInA.Facts) (hDWInAIdeal : Cert.DWInAIdeal.Facts) (hDWInARefIdeal : Cert.DWInARefIdeal.Facts) (hDInB : Cert.DInB.Facts) (hDInBIdeal : Cert.DInBIdeal.Facts) (hDInBRefIdeal : Cert.DInBRefIdeal.Facts) (hDWInB : Cert.DWInB.Facts) (hDWInBIdeal : Cert.DWInBIdeal.Facts) (hDWInBRefIdeal : Cert.DWInBRefIdeal.Facts) (hInA : Cert.InA.Facts) (hInAIdeal : Cert.InAIdeal.Facts) (hInARefIdeal : Cert.InARefIdeal.Facts) (hInB : Cert.InB.Facts) (hInBIdeal : Cert.InBIdeal.Facts) (hInBRefIdeal : Cert.InBRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_GluDown (hGluDown := hGluDown)
    ∧ quiescent_GluDownIdeal (hGluDownIdeal := hGluDownIdeal)
    ∧ quiescent_GluDownRefIdeal (hGluDownRefIdeal := hGluDownRefIdeal)
    ∧ quiescent_DWDown (hDWDown := hDWDown)
    ∧ quiescent_DWDownIdeal (hDWDownIdeal := hDWDownIdeal)
    ∧ quiescent_DWDownRefIdeal (hDWDownRefIdeal := hDWDownRefIdeal)
    ∧ quiescent_DFfnIn (hDFfnIn := hDFfnIn)
    ∧ quiescent_DFfnInIdeal (hDFfnInIdeal := hDFfnInIdeal)
    ∧ quiescent_DFfnInRefIdeal (hDFfnInRefIdeal := hDFfnInRefIdeal)
    ∧ quiescent_DWGateUp (hDWGateUp := hDWGateUp)
    ∧ quiescent_DWGateUpIdeal (hDWGateUpIdeal := hDWGateUpIdeal)
    ∧ quiescent_DWGateUpRefIdeal (hDWGateUpRefIdeal := hDWGateUpRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DMix (hDMix := hDMix)
    ∧ quiescent_DMixIdeal (hDMixIdeal := hDMixIdeal)
    ∧ quiescent_DMixRefIdeal (hDMixRefIdeal := hDMixRefIdeal)
    ∧ quiescent_DWOut (hDWOut := hDWOut)
    ∧ quiescent_DWOutIdeal (hDWOutIdeal := hDWOutIdeal)
    ∧ quiescent_DWOutRefIdeal (hDWOutRefIdeal := hDWOutRefIdeal)
    ∧ quiescent_DInA (hDInA := hDInA)
    ∧ quiescent_DInAIdeal (hDInAIdeal := hDInAIdeal)
    ∧ quiescent_DInARefIdeal (hDInARefIdeal := hDInARefIdeal)
    ∧ quiescent_DWInA (hDWInA := hDWInA)
    ∧ quiescent_DWInAIdeal (hDWInAIdeal := hDWInAIdeal)
    ∧ quiescent_DWInARefIdeal (hDWInARefIdeal := hDWInARefIdeal)
    ∧ quiescent_DInB (hDInB := hDInB)
    ∧ quiescent_DInBIdeal (hDInBIdeal := hDInBIdeal)
    ∧ quiescent_DInBRefIdeal (hDInBRefIdeal := hDInBRefIdeal)
    ∧ quiescent_DWInB (hDWInB := hDWInB)
    ∧ quiescent_DWInBIdeal (hDWInBIdeal := hDWInBIdeal)
    ∧ quiescent_DWInBRefIdeal (hDWInBRefIdeal := hDWInBRefIdeal)
    ∧ quiescent_InA (hInA := hInA)
    ∧ quiescent_InAIdeal (hInAIdeal := hInAIdeal)
    ∧ quiescent_InARefIdeal (hInARefIdeal := hInARefIdeal)
    ∧ quiescent_InB (hInB := hInB)
    ∧ quiescent_InBIdeal (hInBIdeal := hInBIdeal)
    ∧ quiescent_InBRefIdeal (hInBRefIdeal := hInBRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GateUp_GateUpIdeal
    ∧ algebraic_GateUpIdeal_GateUpRefIdeal (hGateUpIdeal := hGateUpIdeal) (hGateUpRefIdeal := hGateUpRefIdeal)
    ∧ preserves_GluDown_GluDownIdeal
    ∧ algebraic_GluDownIdeal_GluDownRefIdeal (hGluDownIdeal := hGluDownIdeal) (hGluDownRefIdeal := hGluDownRefIdeal)
    ∧ preserves_DWDown_DWDownIdeal
    ∧ algebraic_DWDownIdeal_DWDownRefIdeal (hDWDownIdeal := hDWDownIdeal) (hDWDownRefIdeal := hDWDownRefIdeal)
    ∧ preserves_DFfnIn_DFfnInIdeal
    ∧ algebraic_DFfnInIdeal_DFfnInRefIdeal (hDFfnInIdeal := hDFfnInIdeal) (hDFfnInRefIdeal := hDFfnInRefIdeal)
    ∧ preserves_DWGateUp_DWGateUpIdeal
    ∧ algebraic_DWGateUpIdeal_DWGateUpRefIdeal (hDWGateUpIdeal := hDWGateUpIdeal) (hDWGateUpRefIdeal := hDWGateUpRefIdeal)
    ∧ preserves_OutProj_OutProjIdeal
    ∧ algebraic_OutProjIdeal_OutProjRefIdeal (hOutProjIdeal := hOutProjIdeal) (hOutProjRefIdeal := hOutProjRefIdeal)
    ∧ preserves_DMix_DMixIdeal
    ∧ algebraic_DMixIdeal_DMixRefIdeal (hDMixIdeal := hDMixIdeal) (hDMixRefIdeal := hDMixRefIdeal)
    ∧ preserves_DWOut_DWOutIdeal
    ∧ algebraic_DWOutIdeal_DWOutRefIdeal (hDWOutIdeal := hDWOutIdeal) (hDWOutRefIdeal := hDWOutRefIdeal)
    ∧ preserves_DInA_DInAIdeal
    ∧ algebraic_DInAIdeal_DInARefIdeal (hDInAIdeal := hDInAIdeal) (hDInARefIdeal := hDInARefIdeal)
    ∧ preserves_DWInA_DWInAIdeal
    ∧ algebraic_DWInAIdeal_DWInARefIdeal (hDWInAIdeal := hDWInAIdeal) (hDWInARefIdeal := hDWInARefIdeal)
    ∧ preserves_DInB_DInBIdeal
    ∧ algebraic_DInBIdeal_DInBRefIdeal (hDInBIdeal := hDInBIdeal) (hDInBRefIdeal := hDInBRefIdeal)
    ∧ preserves_DWInB_DWInBIdeal
    ∧ algebraic_DWInBIdeal_DWInBRefIdeal (hDWInBIdeal := hDWInBIdeal) (hDWInBRefIdeal := hDWInBRefIdeal)
    ∧ preserves_InA_InAIdeal
    ∧ algebraic_InAIdeal_InARefIdeal (hInAIdeal := hInAIdeal) (hInARefIdeal := hInARefIdeal)
    ∧ preserves_InB_InBIdeal
    ∧ algebraic_InBIdeal_InBRefIdeal (hInBIdeal := hInBIdeal) (hInBRefIdeal := hInBRefIdeal)
-- ==== Pre_finite.lean ====
abbrev S4096x2816 : Shape := ⟨2, ![4096, 2816]⟩
abbrev S3x2816 : Shape := ⟨2, ![3, 2816]⟩
abbrev S2816 : Shape := ⟨1, ![2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x2816 .f32) (main_arg1 : FVec F S4096x2816 .f32) (main_arg2 : FVec F S3x2816 .f32) (main_arg3 : FVec F S2816 .f32) (main_arg4 : FVec F S2816x1024 .f32) (main_arg5 : FVec F S4096x1024 .f32) : IVec S4096x2816 1 × IVec S2816x1024 1 × IVec S4096x1024 1 :=
  let main_v0 : FVec F S4096x2816 .f32 := subf main_arg1 main_arg1
  let main_cst : FVec F S_ .f32 := constant S_ .f32 0x00000000#32
  let main_v1 : FVec F S4096x2816 .f32 := broadcastInDim S4096x2816 ![] bcast_S_S4096x2816 main_cst
  let main_v2 : IVec S4096x2816 1 := cmpf .oeq main_v0 main_v1
  let main_v3 : FVec F S2816x1024 .f32 := subf main_arg4 main_arg4
  let main_cst_0 : FVec F S_ .f32 := constant S_ .f32 0x00000000#32
  let main_v4 : FVec F S2816x1024 .f32 := broadcastInDim S2816x1024 ![] bcast_S_S2816x1024 main_cst_0
  let main_v5 : IVec S2816x1024 1 := cmpf .oeq main_v3 main_v4
  let main_v6 : FVec F S4096x1024 .f32 := subf main_arg5 main_arg5
  let main_cst_1 : FVec F S_ .f32 := constant S_ .f32 0x00000000#32
  let main_v7 : FVec F S4096x1024 .f32 := broadcastInDim S4096x1024 ![] bcast_S_S4096x1024 main_cst_1
  let main_v8 : IVec S4096x1024 1 := cmpf .oeq main_v6 main_v7
  (main_v2, main_v5, main_v8)
-- ==== Kernel.lean ====
abbrev S4096x2816 : Shape := ⟨2, ![4096, 2816]⟩
abbrev S3x2816 : Shape := ⟨2, ![3, 2816]⟩
abbrev S2816 : Shape := ⟨1, ![2816]⟩
abbrev S2816x1024 : Shape := ⟨2, ![2816, 1024]⟩
abbrev S4096x1024 : Shape := ⟨2, ![4096, 1024]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩
abbrev S4096x4x704 : Shape := ⟨3, ![4096, 4, 704]⟩
abbrev S4x4096x704 : Shape := ⟨3, ![4, 4096, 704]⟩
abbrev S1x4x4096x704 : Shape := ⟨4, ![1, 4, 4096, 704]⟩
abbrev S2x4x4096x704 : Shape := ⟨4, ![2, 4, 4096, 704]⟩
abbrev S8x2816 : Shape := ⟨2, ![8, 2816]⟩
abbrev S8x4x704 : Shape := ⟨3, ![8, 4, 704]⟩
abbrev S4x8x704 : Shape := ⟨3, ![4, 8, 704]⟩
abbrev S8x352x1024 : Shape := ⟨3, ![8, 352, 1024]⟩
abbrev S4x1x704 : Shape := ⟨3, ![4, 1, 704]⟩
abbrev S2x1x1024x704 : Shape := ⟨4, ![2, 1, 1024, 704]⟩
abbrev S1x1x16x704 : Shape := ⟨4, ![1, 1, 16, 704]⟩
abbrev S1x1024x704 : Shape := ⟨3, ![1, 1024, 704]⟩
abbrev S1x8x704 : Shape := ⟨3, ![1, 8, 704]⟩
abbrev S1024x1024 : Shape := ⟨2, ![1024, 1024]⟩
abbrev S2x352x1024 : Shape := ⟨3, ![2, 352, 1024]⟩
abbrev S1x1x704 : Shape := ⟨3, ![1, 1, 704]⟩
abbrev S16x704 : Shape := ⟨2, ![16, 704]⟩
abbrev S8x704 : Shape := ⟨2, ![8, 704]⟩
abbrev S1x704 : Shape := ⟨2, ![1, 704]⟩
abbrev S1x1x1024x704 : Shape := ⟨4, ![1, 1, 1024, 704]⟩
abbrev S1024x704 : Shape := ⟨2, ![1024, 704]⟩
abbrev S1040x704 : Shape := ⟨2, ![1040, 704]⟩
abbrev S704x1024 : Shape := ⟨2, ![704, 1024]⟩
abbrev S704 : Shape := ⟨1, ![704]⟩
abbrev S1008x704 : Shape := ⟨2, ![1008, 704]⟩

abbrev nBuf : Space → Nat
  | .hbm => 57
  | .vmem => 19
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S2x2816, .f32⟩
  | .hbm, ⟨8, _⟩ => ⟨S4098x2816, .f32⟩
  | .hbm, ⟨9, _⟩ => ⟨S1x2816, .f32⟩
  | .hbm, ⟨10, _⟩ => ⟨S2816, .f32⟩
  | .hbm, ⟨11, _⟩ => ⟨S4096x2816, .f32⟩
  | .hbm, ⟨12, _⟩ => ⟨S1x2816, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S1x2816, .f32⟩
  | .hbm, ⟨19, _⟩ => ⟨S2816, .f32⟩
  | .hbm, ⟨20, _⟩ => ⟨S4096x2816, .f32⟩
  | .hbm, ⟨21, _⟩ => ⟨S1x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S1x2816, .f32⟩
  | .hbm, ⟨26, _⟩ => ⟨S2816, .f32⟩
  | .hbm, ⟨27, _⟩ => ⟨S4096x2816, .f32⟩
  | .hbm, ⟨28, _⟩ => ⟨S1x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S1x2816, .f32⟩
  | .hbm, ⟨33, _⟩ => ⟨S4096x2816, .f32⟩
  | .hbm, ⟨34, _⟩ => ⟨S4096x2816, .f32⟩
  | .hbm, ⟨35, _⟩ => ⟨S4096x4x704, .f32⟩
  | .hbm, ⟨36, _⟩ => ⟨S4x4096x704, .f32⟩
  | .hbm, ⟨37, _⟩ => ⟨S4096x4x704, .f32⟩
  | .hbm, ⟨38, _⟩ => ⟨S4x4096x704, .f32⟩
  | .hbm, ⟨39, _⟩ => ⟨S1x4x4096x704, .f32⟩
  | .hbm, ⟨40, _⟩ => ⟨S1x4x4096x704, .f32⟩
  | .hbm, ⟨41, _⟩ => ⟨S2x4x4096x704, .f32⟩
  | .hbm, ⟨42, _⟩ => ⟨S2x4x4096x704, .bf16⟩
  | .hbm, ⟨43, _⟩ => ⟨S4096x4x704, .f32⟩
  | .hbm, ⟨44, _⟩ => ⟨S4x4096x704, .f32⟩
  | .hbm, ⟨45, _⟩ => ⟨S4x4096x704, .bf16⟩
  | .hbm, ⟨46, _⟩ => ⟨S_, .i32⟩
  | .hbm, ⟨47, _⟩ => ⟨S_, .f32⟩
  | .hbm, ⟨48, _⟩ => ⟨S8x2816, .f32⟩
  | .hbm, ⟨49, _⟩ => ⟨S8x4x704, .f32⟩
  | .hbm, ⟨50, _⟩ => ⟨S4x8x704, .f32⟩
  | .hbm, ⟨51, _⟩ => ⟨S4096x1024, .bf16⟩
  | .hbm, ⟨52, _⟩ => ⟨S8x352x1024, .f32⟩
  | .hbm, ⟨53, _⟩ => ⟨S8x352x1024, .bf16⟩
  | .hbm, ⟨54, _⟩ => ⟨S2x4x4096x704, .bf16⟩
  | .hbm, ⟨55, _⟩ => ⟨S4x8x704, .f32⟩
  | .hbm, ⟨56, _⟩ => ⟨S4x1x704, .f32⟩
  | .local _ .vmem, ⟨0, _⟩ => ⟨S2x1x1024x704, .bf16⟩
  | .local _ .vmem, ⟨1, _⟩ => ⟨S2x1x1024x704, .bf16⟩
  | .local _ .vmem, ⟨2, _⟩ => ⟨S1x1x16x704, .bf16⟩
  | .local _ .vmem, ⟨3, _⟩ => ⟨S1x1x16x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x8x704, .f32⟩
  | .local _ .vmem, ⟨7, _⟩ => ⟨S1x8x704, .f32⟩
  | .local _ .vmem, ⟨8, _⟩ => ⟨S1024x1024, .bf16⟩
  | .local _ .vmem, ⟨9, _⟩ => ⟨S1024x1024, .bf16⟩
  | .local _ .vmem, ⟨10, _⟩ => ⟨S2x352x1024, .bf16⟩
  | .local _ .vmem, ⟨11, _⟩ => ⟨S2x352x1024, .bf16⟩
  | .local _ .vmem, ⟨12, _⟩ => ⟨S2x1x1024x704, .bf16⟩
  | .local _ .vmem, ⟨13, _⟩ => ⟨S2x1x1024x704, .bf16⟩
  | .local _ .vmem, ⟨14, _⟩ => ⟨S1x8x704, .f32⟩
  | .local _ .vmem, ⟨15, _⟩ => ⟨S1x8x704, .f32⟩
  | .local _ .vmem, ⟨16, _⟩ => ⟨S1x1x704, .f32⟩
  | .local _ .vmem, ⟨17, _⟩ => ⟨S1x1x704, .f32⟩
  | .local _ .vmem, ⟨18, _⟩ => ⟨S16x704, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c : Ref sig .tc := ⟨.hbm, 46, rfl⟩
abbrev main_call0_v0 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44_0 : Ref sig .tc := ⟨.hbm, 54, rfl⟩
abbrev main_v44_1 : Ref sig .tc := ⟨.hbm, 55, rfl⟩
abbrev main_v44_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, arg0.toNat, v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x352x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4096x2816 : Shape := ⟨2, ![4096, 2816]⟩
abbrev S3x2816 : Shape := ⟨2, ![3, 2816]⟩
abbrev S2816 : Shape := ⟨1, ![2816]⟩
abbrev S2816x1024 : Shape := ⟨2, ![2816, 1024]⟩
abbrev S4096x1024 : Shape := ⟨2, ![4096, 1024]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩
abbrev S1024x2816 : Shape := ⟨2, ![1024, 2816]⟩
abbrev S1x4096x2816 : Shape := ⟨3, ![1, 4096, 2816]⟩
abbrev S2x4096x2816 : Shape := ⟨3, ![2, 4096, 2816]⟩
abbrev S2x4096x4x704 : Shape := ⟨4, ![2, 4096, 4, 704]⟩
abbrev S2x4x4096x704 : Shape := ⟨4, ![2, 4, 4096, 704]⟩
abbrev S8x2816 : Shape := ⟨2, ![8, 2816]⟩
abbrev S8x4x704 : Shape := ⟨3, ![8, 4, 704]⟩
abbrev S4x8x704 : Shape := ⟨3, ![4, 8, 704]⟩
abbrev S4x1x704 : Shape := ⟨3, ![4, 1, 704]⟩

abbrev nBuf : Space → Nat
  | .hbm => 123
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S2x2816, .f32⟩
  | .hbm, ⟨8, _⟩ => ⟨S4098x2816, .f32⟩
  | .hbm, ⟨9, _⟩ => ⟨S_, .f32⟩
  | .hbm, ⟨10, _⟩ => ⟨S2x2816, .f32⟩
  | .hbm, ⟨11, _⟩ => ⟨S1x2816, .f32⟩
  | .hbm, ⟨12, _⟩ => ⟨S2816, .f32⟩
  | .hbm, ⟨13, _⟩ => ⟨S4096x2816, .f32⟩
  | .hbm, ⟨14, _⟩ => ⟨S1x2816, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S1x2816, .f32⟩
  | .hbm, ⟨21, _⟩ => ⟨S2816, .f32⟩
  | .hbm, ⟨22, _⟩ => ⟨S4096x2816, .f32⟩
  | .hbm, ⟨23, _⟩ => ⟨S1x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S1x2816, .f32⟩
  | .hbm, ⟨28, _⟩ => ⟨S2816, .f32⟩
  | .hbm, ⟨29, _⟩ => ⟨S4096x2816, .f32⟩
  | .hbm, ⟨30, _⟩ => ⟨S1x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S1x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x1024, .f32⟩
  | .hbm, ⟨52, _⟩ => ⟨S1024x2816, .f32⟩
  | .hbm, ⟨53, _⟩ => ⟨S2816x1024, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S_, .f32⟩
  | .hbm, ⟨62, _⟩ => ⟨S2816, .f32⟩
  | .hbm, ⟨63, _⟩ => ⟨S1x2816, .f32⟩
  | .hbm, ⟨64, _⟩ => ⟨S_, .f32⟩
  | .hbm, ⟨65, _⟩ => ⟨S2816, .f32⟩
  | .hbm, ⟨66, _⟩ => ⟨S4096x2816, .f32⟩
  | .hbm, ⟨67, _⟩ => ⟨S4096x2816, .f32⟩
  | .hbm, ⟨68, _⟩ => ⟨S4096x2816, .f32⟩
  | .hbm, ⟨69, _⟩ => ⟨S_, .f32⟩
  | .hbm, ⟨70, _⟩ => ⟨S2816, .f32⟩
  | .hbm, ⟨71, _⟩ => ⟨S1x2816, .f32⟩
  | .hbm, ⟨72, _⟩ => ⟨S_, .f32⟩
  | .hbm, ⟨73, _⟩ => ⟨S2816, .f32⟩
  | .hbm, ⟨74, _⟩ => ⟨S_, .f32⟩
  | .hbm, ⟨75, _⟩ => ⟨S4098x2816, .f32⟩
  | .hbm, ⟨76, _⟩ => ⟨S1x2816, .f32⟩
  | .hbm, ⟨77, _⟩ => ⟨S_, .f32⟩
  | .hbm, ⟨78, _⟩ => ⟨S3x2816, .f32⟩
  | .hbm, ⟨79, _⟩ => ⟨S4096x2816, .f32⟩
  | .hbm, ⟨80, _⟩ => ⟨S4096x2816, .f32⟩
  | .hbm, ⟨81, _⟩ => ⟨S4096x2816, .f32⟩
  | .hbm, ⟨82, _⟩ => ⟨S_, .f32⟩
  | .hbm, ⟨83, _⟩ => ⟨S2816, .f32⟩
  | .hbm, ⟨84, _⟩ => ⟨S1x2816, .f32⟩
  | .hbm, ⟨85, _⟩ => ⟨S_, .f32⟩
  | .hbm, ⟨86, _⟩ => ⟨S2816, .f32⟩
  | .hbm, ⟨87, _⟩ => ⟨S_, .f32⟩
  | .hbm, ⟨88, _⟩ => ⟨S4098x2816, .f32⟩
  | .hbm, ⟨89, _⟩ => ⟨S4098x2816, .f32⟩
  | .hbm, ⟨90, _⟩ => ⟨S1x2816, .f32⟩
  | .hbm, ⟨91, _⟩ => ⟨S_, .f32⟩
  | .hbm, ⟨92, _⟩ => ⟨S3x2816, .f32⟩
  | .hbm, ⟨93, _⟩ => ⟨S3x2816, .f32⟩
  | .hbm, ⟨94, _⟩ => ⟨S4096x2816, .f32⟩
  | .hbm, ⟨95, _⟩ => ⟨S4096x2816, .f32⟩
  | .hbm, ⟨96, _⟩ => ⟨S4096x2816, .f32⟩
  | .hbm, ⟨97, _⟩ => ⟨S_, .f32⟩
  | .hbm, ⟨98, _⟩ => ⟨S2816, .f32⟩
  | .hbm, ⟨99, _⟩ => ⟨S1x2816, .f32⟩
  | .hbm, ⟨100, _⟩ => ⟨S_, .f32⟩
  | .hbm, ⟨101, _⟩ => ⟨S2816, .f32⟩
  | .hbm, ⟨102, _⟩ => ⟨S_, .f32⟩
  | .hbm, ⟨103, _⟩ => ⟨S4098x2816, .f32⟩
  | .hbm, ⟨104, _⟩ => ⟨S4098x2816, .f32⟩
  | .hbm, ⟨105, _⟩ => ⟨S1x2816, .f32⟩
  | .hbm, ⟨106, _⟩ => ⟨S_, .f32⟩
  | .hbm, ⟨107, _⟩ => ⟨S3x2816, .f32⟩
  | .hbm, ⟨108, _⟩ => ⟨S3x2816, .f32⟩
  | .hbm, ⟨109, _⟩ => ⟨S2x2816, .f32⟩
  | .hbm, ⟨110, _⟩ => ⟨S4096x2816, .f32⟩
  | .hbm, ⟨111, _⟩ => ⟨S1x4096x2816, .f32⟩
  | .hbm, ⟨112, _⟩ => ⟨S1x4096x2816, .f32⟩
  | .hbm, ⟨113, _⟩ => ⟨S2x4096x2816, .f32⟩
  | .hbm, ⟨114, _⟩ => ⟨S2x4096x4x704, .f32⟩
  | .hbm, ⟨115, _⟩ => ⟨S2x4x4096x704, .f32⟩
  | .hbm, ⟨116, _⟩ => ⟨S2x4x4096x704, .bf16⟩
  | .hbm, ⟨117, _⟩ => ⟨S_, .i32⟩
  | .hbm, ⟨118, _⟩ => ⟨S_, .f32⟩
  | .hbm, ⟨119, _⟩ => ⟨S8x2816, .f32⟩
  | .hbm, ⟨120, _⟩ => ⟨S8x4x704, .f32⟩
  | .hbm, ⟨121, _⟩ => ⟨S4x8x704, .f32⟩
  | .hbm, ⟨122, _⟩ => ⟨S4x1x704, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v28_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v28_1 : Ref sig .tc := ⟨.hbm, 48, rfl⟩
abbrev main_v28_0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v36 : Ref sig .tc := ⟨.hbm, 60, rfl⟩
abbrev main_cst_2 : Ref sig .tc := ⟨.hbm, 61, rfl⟩
abbrev main_v37 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_4 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_v45 : Ref sig .tc := ⟨.hbm, 73, rfl⟩
abbrev main_cst_6 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_15 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c : Ref sig .tc := ⟨.hbm, 117, rfl⟩
abbrev main_call2_v0 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩

abbrev nD : Nat := 1
abbrev τ : Topo := Topo.v7x

variable {F : FTy → Type} [FloatOps F]
-- ==== GateUp.lean ====
abbrev S4096x1024 : Shape := ⟨2, ![4096, 1024]⟩
abbrev S1024 : Shape := ⟨1, ![1024]⟩
abbrev S1024x5632 : Shape := ⟨2, ![1024, 5632]⟩
abbrev S1x1024 : Shape := ⟨2, ![1, 1024]⟩
abbrev S5632x1024 : Shape := ⟨2, ![5632, 1024]⟩
abbrev S8x704x1024 : Shape := ⟨3, ![8, 704, 1024]⟩
abbrev S2x4x4096x704 : Shape := ⟨4, ![2, 4, 4096, 704]⟩
abbrev S2048x1024 : Shape := ⟨2, ![2048, 1024]⟩
abbrev S1x704x1024 : Shape := ⟨3, ![1, 704, 1024]⟩
abbrev S1x1x2048x704 : Shape := ⟨4, ![1, 1, 2048, 704]⟩
abbrev S2048 : Shape := ⟨1, ![2048]⟩
abbrev S2048x1 : Shape := ⟨2, ![2048, 1]⟩
abbrev S704x1024 : Shape := ⟨2, ![704, 1024]⟩
abbrev S2048x704 : Shape := ⟨2, ![2048, 704]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S5632x1024, .f32⟩
  | .hbm, ⟨5, _⟩ => ⟨S8x704x1024, .f32⟩
  | .hbm, ⟨6, _⟩ => ⟨S8x704x1024, .bf16⟩
  | .hbm, ⟨7, _⟩ => ⟨S2x4x4096x704, .bf16⟩
  | .hbm, ⟨8, _⟩ => ⟨S4096x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x1x2048x704, .bf16⟩
  | .local _ .vmem, ⟨6, _⟩ => ⟨S1x1x2048x704, .bf16⟩
  | .local _ .vmem, ⟨7, _⟩ => ⟨S2048x1024, .bf16⟩
  | .local _ .vmem, ⟨8, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg0.toNat, c0_i32_10.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== GateUpRefIdeal.lean ====
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2x4x704 : Shape := ⟨4, ![4096, 2, 4, 704]⟩
abbrev S2x4x4096x704 : Shape := ⟨4, ![2, 4, 4096, 704]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x5632, .f32⟩
  | .hbm, ⟨20, _⟩ => ⟨S4096x2x4x704, .f32⟩
  | .hbm, ⟨21, _⟩ => ⟨S2x4x4096x704, .f32⟩
  | .hbm, ⟨22, _⟩ => ⟨S2x4x4096x704, .bf16⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== GluDown.lean ====
abbrev S4096x1024 : Shape := ⟨2, ![4096, 1024]⟩
abbrev S4096x2816 : Shape := ⟨2, ![4096, 2816]⟩
abbrev S3x2816 : Shape := ⟨2, ![3, 2816]⟩
abbrev S2816 : Shape := ⟨1, ![2816]⟩
abbrev S2816x1024 : Shape := ⟨2, ![2816, 1024]⟩
abbrev S4096x4x704 : Shape := ⟨3, ![4096, 4, 704]⟩
abbrev S4x4096x704 : Shape := ⟨3, ![4, 4096, 704]⟩
abbrev S1x4x4096x704 : Shape := ⟨4, ![1, 4, 4096, 704]⟩
abbrev S2x4x4096x704 : Shape := ⟨4, ![2, 4, 4096, 704]⟩
abbrev S_ : Shape := ⟨0, ![]⟩
abbrev S8x2816 : Shape := ⟨2, ![8, 2816]⟩
abbrev S8x4x704 : Shape := ⟨3, ![8, 4, 704]⟩
abbrev S4x8x704 : Shape := ⟨3, ![4, 8, 704]⟩
abbrev S1x2816 : Shape := ⟨2, ![1, 2816]⟩
abbrev S1x4x704 : Shape := ⟨3, ![1, 4, 704]⟩
abbrev S4x1x704 : Shape := ⟨3, ![4, 1, 704]⟩
abbrev S8x352x1024 : Shape := ⟨3, ![8, 352, 1024]⟩
abbrev S2x1x1024x704 : Shape := ⟨4, ![2, 1, 1024, 704]⟩
abbrev S1x1x16x704 : Shape := ⟨4, ![1, 1, 16, 704]⟩
abbrev S1x8x704 : Shape := ⟨3, ![1, 8, 704]⟩
abbrev S1x1x704 : Shape := ⟨3, ![1, 1, 704]⟩
abbrev S2x352x1024 : Shape := ⟨3, ![2, 352, 1024]⟩
abbrev S1024x1024 : Shape := ⟨2, ![1024, 1024]⟩
abbrev S1x1024x704 : Shape := ⟨3, ![1, 1024, 704]⟩
abbrev S16x704 : Shape := ⟨2, ![16, 704]⟩
abbrev S1x1x1024x704 : Shape := ⟨4, ![1, 1, 1024, 704]⟩
abbrev S1024x704 : Shape := ⟨2, ![1024, 704]⟩
abbrev S1040x704 : Shape := ⟨2, ![1040, 704]⟩
abbrev S1x704 : Shape := ⟨2, ![1, 704]⟩
abbrev S704x1024 : Shape := ⟨2, ![704, 1024]⟩

abbrev nBuf : Space → Nat
  | .hbm => 27
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S4096x4x704, .f32⟩
  | .hbm, ⟨7, _⟩ => ⟨S4x4096x704, .f32⟩
  | .hbm, ⟨8, _⟩ => ⟨S4096x4x704, .f32⟩
  | .hbm, ⟨9, _⟩ => ⟨S4x4096x704, .f32⟩
  | .hbm, ⟨10, _⟩ => ⟨S1x4x4096x704, .f32⟩
  | .hbm, ⟨11, _⟩ => ⟨S1x4x4096x704, .f32⟩
  | .hbm, ⟨12, _⟩ => ⟨S2x4x4096x704, .f32⟩
  | .hbm, ⟨13, _⟩ => ⟨S2x4x4096x704, .bf16⟩
  | .hbm, ⟨14, _⟩ => ⟨S_, .i32⟩
  | .hbm, ⟨15, _⟩ => ⟨S_, .f32⟩
  | .hbm, ⟨16, _⟩ => ⟨S8x2816, .f32⟩
  | .hbm, ⟨17, _⟩ => ⟨S8x4x704, .f32⟩
  | .hbm, ⟨18, _⟩ => ⟨S4x8x704, .f32⟩
  | .hbm, ⟨19, _⟩ => ⟨S1x2816, .f32⟩
  | .hbm, ⟨20, _⟩ => ⟨S1x4x704, .f32⟩
  | .hbm, ⟨21, _⟩ => ⟨S4x1x704, .f32⟩
  | .hbm, ⟨22, _⟩ => ⟨S8x352x1024, .f32⟩
  | .hbm, ⟨23, _⟩ => ⟨S8x352x1024, .bf16⟩
  | .hbm, ⟨24, _⟩ => ⟨S4096x1024, .f32⟩
  | .hbm, ⟨25, _⟩ => ⟨S4x4096x704, .bf16⟩
  | .hbm, ⟨26, _⟩ => ⟨S4x4096x704, .bf16⟩
  | .local _ .vmem, ⟨0, _⟩ => ⟨S2x1x1024x704, .bf16⟩
  | .local _ .vmem, ⟨1, _⟩ => ⟨S2x1x1024x704, .bf16⟩
  | .local _ .vmem, ⟨2, _⟩ => ⟨S1x1x16x704, .bf16⟩
  | .local _ .vmem, ⟨3, _⟩ => ⟨S1x1x16x704, .bf16⟩
  | .local _ .vmem, ⟨4, _⟩ => ⟨S1x8x704, .f32⟩
  | .local _ .vmem, ⟨5, _⟩ => ⟨S1x8x704, .f32⟩
  | .local _ .vmem, ⟨6, _⟩ => ⟨S1x1x704, .f32⟩
  | .local _ .vmem, ⟨7, _⟩ => ⟨S1x1x704, .f32⟩
  | .local _ .vmem, ⟨8, _⟩ => ⟨S2x352x1024, .bf16⟩
  | .local _ .vmem, ⟨9, _⟩ => ⟨S2x352x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32_31 : BitVec 32 := 0#32
  let v49 : BitVec 1 := Scalar.cmpi .eq arg1 c0_i32_31
  let v50 : BitVec 32 := Scalar.extui v49
  let c0_i32_32 : BitVec 32 := 0#32
  let v51 : BitVec 1 := Scalar.cmpi .ne v50 c0_i32_32
  v51

def k0_cond2 (i : grid0.Coords) : BitVec 1 :=
  let arg1 : BitVec 32 := BitVec.ofNat 32 (i 1).val
  let c0_i32_33 : BitVec 32 := 0#32
  let v52 : BitVec 1 := Scalar.cmpi .sgt arg1 c0_i32_33
  let v53 : BitVec 32 := Scalar.extui v52
  let c0_i32_34 : BitVec 32 := 0#32
  let v54 : BitVec 1 := Scalar.cmpi .ne v53 c0_i32_34
  v54

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, arg1.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2x1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GluDownRefIdeal.lean ====
abbrev S4096x1024 : Shape := ⟨2, ![4096, 1024]⟩
abbrev S4096x2816 : Shape := ⟨2, ![4096, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S2x2816 : Shape := ⟨2, ![2, 2816]⟩
abbrev S4098x2816 : Shape := ⟨2, ![4098, 2816]⟩
abbrev S1x2816 : Shape := ⟨2, ![1, 2816]⟩
abbrev S4096x4x704 : Shape := ⟨3, ![4096, 4, 704]⟩
abbrev S4x4096x704 : Shape := ⟨3, ![4, 4096, 704]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .f32⟩
  | .hbm, ⟨2, _⟩ => ⟨S4096x2816, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S_, .f32⟩
  | .hbm, ⟨7, _⟩ => ⟨S2x2816, .f32⟩
  | .hbm, ⟨8, _⟩ => ⟨S4098x2816, .f32⟩
  | .hbm, ⟨9, _⟩ => ⟨S1x2816, .f32⟩
  | .hbm, ⟨10, _⟩ => ⟨S2816, .f32⟩
  | .hbm, ⟨11, _⟩ => ⟨S4096x2816, .f32⟩
  | .hbm, ⟨12, _⟩ => ⟨S1x2816, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S1x2816, .f32⟩
  | .hbm, ⟨19, _⟩ => ⟨S2816, .f32⟩
  | .hbm, ⟨20, _⟩ => ⟨S4096x2816, .f32⟩
  | .hbm, ⟨21, _⟩ => ⟨S1x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S1x2816, .f32⟩
  | .hbm, ⟨26, _⟩ => ⟨S2816, .f32⟩
  | .hbm, ⟨27, _⟩ => ⟨S4096x2816, .f32⟩
  | .hbm, ⟨28, _⟩ => ⟨S1x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S1x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x1024, .f32⟩
  | .hbm, ⟨46, _⟩ => ⟨S4096x1024, .f32⟩
  | .hbm, ⟨47, _⟩ => ⟨S4096x4x704, .f32⟩
  | .hbm, ⟨48, _⟩ => ⟨S4x4096x704, .f32⟩
  | .hbm, ⟨49, _⟩ => ⟨S4x4096x704, .bf16⟩
  | .hbm, ⟨50, _⟩ => ⟨S4096x4x704, .f32⟩
  | .hbm, ⟨51, _⟩ => ⟨S4x4096x704, .f32⟩
  | .hbm, ⟨52, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== DWDown.lean ====
abbrev S4096x2816 : Shape := ⟨2, ![4096, 2816]⟩
abbrev S2816x1024 : Shape := ⟨2, ![2816, 1024]⟩
abbrev S4096x1024 : Shape := ⟨2, ![4096, 1024]⟩
abbrev S4096x4x704 : Shape := ⟨3, ![4096, 4, 704]⟩
abbrev S4x4096x704 : Shape := ⟨3, ![4, 4096, 704]⟩
abbrev S8x352x1024 : Shape := ⟨3, ![8, 352, 1024]⟩
abbrev S1x2048x704 : Shape := ⟨3, ![1, 2048, 704]⟩
abbrev S2048x1024 : Shape := ⟨2, ![2048, 1024]⟩
abbrev S2x352x1024 : Shape := ⟨3, ![2, 352, 1024]⟩
abbrev S704x1024 : Shape := ⟨2, ![704, 1024]⟩
abbrev S2048x704 : Shape := ⟨2, ![2048, 704]⟩

abbrev nBuf : Space → Nat
  | .hbm => 8
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x4x704, .f32⟩
  | .hbm, ⟨4, _⟩ => ⟨S4x4096x704, .f32⟩
  | .hbm, ⟨5, _⟩ => ⟨S4x4096x704, .bf16⟩
  | .hbm, ⟨6, _⟩ => ⟨S4096x1024, .bf16⟩
  | .hbm, ⟨7, _⟩ => ⟨S8x352x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S2x352x1024, .bf16⟩
  | .local _ .vmem, ⟨5, _⟩ => ⟨S2x352x1024, .bf16⟩
  | .local _ .vmem, ⟨6, _⟩ => ⟨S704x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DWDownRefIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S8x352x1024 : Shape := ⟨3, ![8, 352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S8x352x1024, .f32⟩
  | .hbm, ⟨7, _⟩ => ⟨S8x352x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DFfnIn.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S4096x2x4x704 : Shape := ⟨4, ![4096, 2, 4, 704]⟩
abbrev S2x4x4096x704 : Shape := ⟨4, ![2, 4, 4096, 704]⟩
abbrev S5632x1024 : Shape := ⟨2, ![5632, 1024]⟩
abbrev S8x704x1024 : Shape := ⟨3, ![8, 704, 1024]⟩
abbrev S1x1024 : Shape := ⟨2, ![1, 1024]⟩
abbrev S1x1x1024x704 : Shape := ⟨4, ![1, 1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩
abbrev S1024x1 : Shape := ⟨2, ![1024, 1]⟩

abbrev nBuf : Space → Nat
  | .hbm => 15
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x2x4x704, .f32⟩
  | .hbm, ⟨6, _⟩ => ⟨S2x4x4096x704, .f32⟩
  | .hbm, ⟨7, _⟩ => ⟨S2x4x4096x704, .bf16⟩
  | .hbm, ⟨8, _⟩ => ⟨S5632x1024, .f32⟩
  | .hbm, ⟨9, _⟩ => ⟨S8x704x1024, .f32⟩
  | .hbm, ⟨10, _⟩ => ⟨S8x704x1024, .bf16⟩
  | .hbm, ⟨11, _⟩ => ⟨S1x1024, .f32⟩
  | .hbm, ⟨12, _⟩ => ⟨S4096x1024, .f32⟩
  | .hbm, ⟨13, _⟩ => ⟨S4096x1024, .bf16⟩
  | .hbm, ⟨14, _⟩ => ⟨S1x1024, .f32⟩
  | .local _ .vmem, ⟨0, _⟩ => ⟨S1x1x1024x704, .bf16⟩
  | .local _ .vmem, ⟨1, _⟩ => ⟨S1x1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_11 : BitVec 32 := 0#32
  let v15 : BitVec 1 := Scalar.cmpi .ne v14 c0_i32_11
  v15

def k0_cond3 (i : grid0.Coords) : BitVec 1 :=
  let arg0 : BitVec 32 := BitVec.ofNat 32 (i 0).val
  let c0_i32_20 : BitVec 32 := 0#32
  let v31 : BitVec 1 := Scalar.cmpi .eq arg0 c0_i32_20
  let v32 : BitVec 32 := Scalar.extui v31
  let c0_i32_21 : BitVec 32 := 0#32
  let v33 : BitVec 1 := Scalar.cmpi .ne v32 c0_i32_21
  v33

def k0_cond4 (i : grid0.Coords) : BitVec 1 :=
  let arg0 : BitVec 32 := BitVec.ofNat 32 (i 0).val
  let c0_i32_22 : BitVec 32 := 0#32
  let v34 : BitVec 1 := Scalar.cmpi .sgt arg0 c0_i32_22
  let v35 : BitVec 32 := Scalar.extui v34
  let c0_i32_23 : BitVec 32 := 0#32
  let v36 : BitVec 1 := Scalar.cmpi .ne v35 c0_i32_23
  v36

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg0.toNat, c0_i32_10.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DFfnInRefIdeal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== DWGateUp.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S4096x2x4x704 : Shape := ⟨4, ![4096, 2, 4, 704]⟩
abbrev S2x4x4096x704 : Shape := ⟨4, ![2, 4, 4096, 704]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x704x1024 : Shape := ⟨3, ![8, 704, 1024]⟩
abbrev S1x1x2048x704 : Shape := ⟨4, ![1, 1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 25
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x2x4x704, .f32⟩
  | .hbm, ⟨5, _⟩ => ⟨S2x4x4096x704, .f32⟩
  | .hbm, ⟨6, _⟩ => ⟨S2x4x4096x704, .bf16⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S8x704x1024, .bf16⟩
  | .local _ .vmem, ⟨0, _⟩ => ⟨S1x1x2048x704, .bf16⟩
  | .local _ .vmem, ⟨1, _⟩ => ⟨S1x1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_10 : BitVec 32 := 0#32
  let v15 : BitVec 1 := Scalar.cmpi .ne v14 c0_i32_10
  v15

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DWGateUpRefIdeal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S5632x1024 : Shape := ⟨2, ![5632, 1024]⟩
abbrev S8x704x1024 : Shape := ⟨3, ![8, 704, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S5632x1024, .f32⟩
  | .hbm, ⟨22, _⟩ => ⟨S1024x5632, .f32⟩
  | .hbm, ⟨23, _⟩ => ⟨S5632x1024, .f32⟩
  | .hbm, ⟨24, _⟩ => ⟨S8x704x1024, .f32⟩
  | .hbm, ⟨25, _⟩ => ⟨S8x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S8x1x128x1024 : Shape := ⟨4, ![8, 1, 128, 1024]⟩
abbrev S8x128x1024 : Shape := ⟨3, ![8, 128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .bf16⟩
  | .hbm, ⟨4, _⟩ => ⟨S8x1x128x1024, .f32⟩
  | .hbm, ⟨5, _⟩ => ⟨S8x1x128x1024, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x1x128x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_5 : BitVec 32 := 0#32
  let v8 : BitVec 1 := Scalar.cmpi .ne v7 c0_i32_5
  v8

def k0_cond2 (i : grid0.Coords) : BitVec 1 :=
  let arg1 : BitVec 32 := BitVec.ofNat 32 (i 1).val
  let c0_i32_6 : BitVec 32 := 0#32
  let v9 : BitVec 1 := Scalar.cmpi .sgt arg1 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== OutProjRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DMix.lean ====
abbrev S4096x1024 : Shape := ⟨2, ![4096, 1024]⟩
abbrev S1024x1024 : Shape := ⟨2, ![1024, 1024]⟩
abbrev S8x1x128x1024 : Shape := ⟨4, ![8, 1, 128, 1024]⟩
abbrev S8x128x1024 : Shape := ⟨3, ![8, 128, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S8x1x128x1024, .f32⟩
  | .hbm, ⟨5, _⟩ => ⟨S8x1x128x1024, .bf16⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S8x1x128x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DMixRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DWOut.lean ====
abbrev S4096x1024 : Shape := ⟨2, ![4096, 1024]⟩
abbrev S1024x1024 : Shape := ⟨2, ![1024, 1024]⟩
abbrev S8x128x1024 : Shape := ⟨3, ![8, 128, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S8x128x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S8x128x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== DWOutRefIdeal.lean ====
abbrev S4096x1024 : Shape := ⟨2, ![4096, 1024]⟩
abbrev S1024x1024 : Shape := ⟨2, ![1024, 1024]⟩
abbrev S8x128x1024 : Shape := ⟨3, ![8, 128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S8x128x1024, .f32⟩
  | .hbm, ⟨7, _⟩ => ⟨S8x128x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DInA.lean ====
abbrev S4096x1024 : Shape := ⟨2, ![4096, 1024]⟩
abbrev S1024 : Shape := ⟨1, ![1024]⟩
abbrev S1024x1280 : Shape := ⟨2, ![1024, 1280]⟩
abbrev S4096x1280 : Shape := ⟨2, ![4096, 1280]⟩
abbrev S1280x1024 : Shape := ⟨2, ![1280, 1024]⟩
abbrev S1x1024 : Shape := ⟨2, ![1, 1024]⟩
abbrev S1024x640 : Shape := ⟨2, ![1024, 640]⟩
abbrev S640x1024 : Shape := ⟨2, ![640, 1024]⟩
abbrev S1024x1024 : Shape := ⟨2, ![1024, 1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1280, .f32⟩
  | .hbm, ⟨3, _⟩ => ⟨S4096x1280, .f32⟩
  | .hbm, ⟨4, _⟩ => ⟨S4096x1024, .f32⟩
  | .hbm, ⟨5, _⟩ => ⟨S4096x1280, .bf16⟩
  | .hbm, ⟨6, _⟩ => ⟨S1280x1024, .f32⟩
  | .hbm, ⟨7, _⟩ => ⟨S1280x1024, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S1024x640, .bf16⟩
  | .local _ .vmem, ⟨1, _⟩ => ⟨S1024x640, .bf16⟩
  | .local _ .vmem, ⟨2, _⟩ => ⟨S640x1024, .bf16⟩
  | .local _ .vmem, ⟨3, _⟩ => ⟨S640x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_17 : BitVec 32 := 0#32
  let v31 : BitVec 1 := Scalar.cmpi .eq arg0 c0_i32_17
  let v32 : BitVec 32 := Scalar.extui v31
  let c0_i32_18 : BitVec 32 := 0#32
  let v33 : BitVec 1 := Scalar.cmpi .ne v32 c0_i32_18
  v33

def k0_cond4 (i : grid0.Coords) : BitVec 1 :=
  let arg0 : BitVec 32 := BitVec.ofNat 32 (i 0).val
  let c0_i32_19 : BitVec 32 := 0#32
  let v34 : BitVec 1 := Scalar.cmpi .sgt arg0 c0_i32_19
  let v35 : BitVec 32 := Scalar.extui v34
  let c0_i32_20 : BitVec 32 := 0#32
  let v36 : BitVec 1 := Scalar.cmpi .ne v35 c0_i32_20
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DInARefIdeal.lean ====
abbrev S4096x1024 : Shape := ⟨2, ![4096, 1024]⟩
abbrev S1024 : Shape := ⟨1, ![1024]⟩
abbrev S1024x1280 : Shape := ⟨2, ![1024, 1280]⟩
abbrev S4096x1280 : Shape := ⟨2, ![4096, 1280]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1280, .f32⟩
  | .hbm, ⟨3, _⟩ => ⟨S4096x1280, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1280, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== DWInA.lean ====
abbrev S4096x1024 : Shape := ⟨2, ![4096, 1024]⟩
abbrev S1024 : Shape := ⟨1, ![1024]⟩
abbrev S1024x1280 : Shape := ⟨2, ![1024, 1280]⟩
abbrev S4096x1280 : Shape := ⟨2, ![4096, 1280]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x160x1024 : Shape := ⟨3, ![8, 160, 1024]⟩
abbrev S2048x1280 : Shape := ⟨2, ![2048, 1280]⟩
abbrev S2048x1024 : Shape := ⟨2, ![2048, 1024]⟩
abbrev S1280x1024 : Shape := ⟨2, ![1280, 1024]⟩

abbrev nBuf : Space → Nat
  | .hbm => 23
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1280, .f32⟩
  | .hbm, ⟨3, _⟩ => ⟨S4096x1280, .f32⟩
  | .hbm, ⟨4, _⟩ => ⟨S4096x1280, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S8x160x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S8x160x1024, .bf16⟩
  | .local _ .vmem, ⟨5, _⟩ => ⟨S1280x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x160x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== DWInARefIdeal.lean ====
abbrev S4096x1024 : Shape := ⟨2, ![4096, 1024]⟩
abbrev S1024 : Shape := ⟨1, ![1024]⟩
abbrev S1024x1280 : Shape := ⟨2, ![1024, 1280]⟩
abbrev S4096x1280 : Shape := ⟨2, ![4096, 1280]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1280x1024 : Shape := ⟨2, ![1280, 1024]⟩
abbrev S8x160x1024 : Shape := ⟨3, ![8, 160, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1280, .f32⟩
  | .hbm, ⟨3, _⟩ => ⟨S4096x1280, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1280, .f32⟩
  | .hbm, ⟨21, _⟩ => ⟨S1280x1024, .f32⟩
  | .hbm, ⟨22, _⟩ => ⟨S1024x1280, .f32⟩
  | .hbm, ⟨23, _⟩ => ⟨S1280x1024, .f32⟩
  | .hbm, ⟨24, _⟩ => ⟨S8x160x1024, .f32⟩
  | .hbm, ⟨25, _⟩ => ⟨S8x160x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== DInB.lean ====
abbrev S4096x1024 : Shape := ⟨2, ![4096, 1024]⟩
abbrev S1024 : Shape := ⟨1, ![1024]⟩
abbrev S1024x2688 : Shape := ⟨2, ![1024, 2688]⟩
abbrev S4096x2688 : Shape := ⟨2, ![4096, 2688]⟩
abbrev S8x1x128x2688 : Shape := ⟨4, ![8, 1, 128, 2688]⟩
abbrev S1x1024 : Shape := ⟨2, ![1, 1024]⟩
abbrev S1024x896 : Shape := ⟨2, ![1024, 896]⟩
abbrev S8x1x128x896 : Shape := ⟨4, ![8, 1, 128, 896]⟩
abbrev S1024x1024 : Shape := ⟨2, ![1024, 1024]⟩
abbrev S8x128x896 : Shape := ⟨3, ![8, 128, 896]⟩
abbrev S1024x1 : Shape := ⟨2, ![1024, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2688, .f32⟩
  | .hbm, ⟨3, _⟩ => ⟨S4096x2688, .f32⟩
  | .hbm, ⟨4, _⟩ => ⟨S4096x1024, .f32⟩
  | .hbm, ⟨5, _⟩ => ⟨S4096x2688, .bf16⟩
  | .hbm, ⟨6, _⟩ => ⟨S8x1x128x2688, .f32⟩
  | .hbm, ⟨7, _⟩ => ⟨S8x1x128x2688, .bf16⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S1024x896, .bf16⟩
  | .local _ .vmem, ⟨1, _⟩ => ⟨S1024x896, .bf16⟩
  | .local _ .vmem, ⟨2, _⟩ => ⟨S8x1x128x896, .bf16⟩
  | .local _ .vmem, ⟨3, _⟩ => ⟨S8x1x128x896, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v14 : BitVec 1 := Scalar.cmpi .eq arg1 c2_i32
  let v15 : BitVec 32 := Scalar.extui v14
  let c0_i32_10 : BitVec 32 := 0#32
  let v16 : BitVec 1 := Scalar.cmpi .ne v15 c0_i32_10
  v16

def k0_cond3 (i : grid0.Coords) : BitVec 1 :=
  let arg0 : BitVec 32 := BitVec.ofNat 32 (i 0).val
  let c0_i32_19 : BitVec 32 := 0#32
  let v32 : BitVec 1 := Scalar.cmpi .eq arg0 c0_i32_19
  let v33 : BitVec 32 := Scalar.extui v32
  let c0_i32_20 : BitVec 32 := 0#32
  let v34 : BitVec 1 := Scalar.cmpi .ne v33 c0_i32_20
  v34

def k0_cond4 (i : grid0.Coords) : BitVec 1 :=
  let arg0 : BitVec 32 := BitVec.ofNat 32 (i 0).val
  let c0_i32_21 : BitVec 32 := 0#32
  let v35 : BitVec 1 := Scalar.cmpi .sgt arg0 c0_i32_21
  let v36 : BitVec 32 := Scalar.extui v35
  let c0_i32_22 : BitVec 32 := 0#32
  let v37 : BitVec 1 := Scalar.cmpi .ne v36 c0_i32_22
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x128x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DInBRefIdeal.lean ====
abbrev S4096x1024 : Shape := ⟨2, ![4096, 1024]⟩
abbrev S1024 : Shape := ⟨1, ![1024]⟩
abbrev S1024x2688 : Shape := ⟨2, ![1024, 2688]⟩
abbrev S4096x2688 : Shape := ⟨2, ![4096, 2688]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2688, .f32⟩
  | .hbm, ⟨3, _⟩ => ⟨S4096x2688, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2688, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== DWInB.lean ====
abbrev S4096x1024 : Shape := ⟨2, ![4096, 1024]⟩
abbrev S1024 : Shape := ⟨1, ![1024]⟩
abbrev S1024x2688 : Shape := ⟨2, ![1024, 2688]⟩
abbrev S4096x2688 : Shape := ⟨2, ![4096, 2688]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128x2688 : Shape := ⟨3, ![8, 128, 2688]⟩
abbrev S2048x1024 : Shape := ⟨2, ![2048, 1024]⟩
abbrev S2048x896 : Shape := ⟨2, ![2048, 896]⟩
abbrev S8x128x896 : Shape := ⟨3, ![8, 128, 896]⟩
abbrev S1024x896 : Shape := ⟨2, ![1024, 896]⟩

abbrev nBuf : Space → Nat
  | .hbm => 23
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2688, .f32⟩
  | .hbm, ⟨3, _⟩ => ⟨S4096x2688, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x2688, .bf16⟩
  | .hbm, ⟨22, _⟩ => ⟨S8x128x2688, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S8x128x896, .bf16⟩
  | .local _ .vmem, ⟨5, _⟩ => ⟨S8x128x896, .bf16⟩
  | .local _ .vmem, ⟨6, _⟩ => ⟨S1024x896, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DWInBRefIdeal.lean ====
abbrev S4096x1024 : Shape := ⟨2, ![4096, 1024]⟩
abbrev S1024 : Shape := ⟨1, ![1024]⟩
abbrev S1024x2688 : Shape := ⟨2, ![1024, 2688]⟩
abbrev S4096x2688 : Shape := ⟨2, ![4096, 2688]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2688x1024 : Shape := ⟨2, ![2688, 1024]⟩
abbrev S8x128x2688 : Shape := ⟨3, ![8, 128, 2688]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2688, .f32⟩
  | .hbm, ⟨3, _⟩ => ⟨S4096x2688, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x2688, .f32⟩
  | .hbm, ⟨21, _⟩ => ⟨S2688x1024, .f32⟩
  | .hbm, ⟨22, _⟩ => ⟨S1024x2688, .f32⟩
  | .hbm, ⟨23, _⟩ => ⟨S8x128x2688, .f32⟩
  | .hbm, ⟨24, _⟩ => ⟨S8x128x2688, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== InA.lean ====
abbrev S4096x1024 : Shape := ⟨2, ![4096, 1024]⟩
abbrev S1024 : Shape := ⟨1, ![1024]⟩
abbrev S1024x1280 : Shape := ⟨2, ![1024, 1280]⟩
abbrev S1x1024 : Shape := ⟨2, ![1, 1024]⟩
abbrev S1280x1024 : Shape := ⟨2, ![1280, 1024]⟩
abbrev S4096x1280 : Shape := ⟨2, ![4096, 1280]⟩
abbrev S1024x1024 : Shape := ⟨2, ![1024, 1024]⟩
abbrev S640x1024 : Shape := ⟨2, ![640, 1024]⟩
abbrev S1024x640 : Shape := ⟨2, ![1024, 640]⟩
abbrev S1024x1 : Shape := ⟨2, ![1024, 1]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1280, .f32⟩
  | .hbm, ⟨3, _⟩ => ⟨S1x1024, .f32⟩
  | .hbm, ⟨4, _⟩ => ⟨S1280x1024, .f32⟩
  | .hbm, ⟨5, _⟩ => ⟨S1280x1024, .bf16⟩
  | .hbm, ⟨6, _⟩ => ⟨S4096x1280, .bf16⟩
  | .hbm, ⟨7, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S640x1024, .bf16⟩
  | .local _ .vmem, ⟨4, _⟩ => ⟨S640x1024, .bf16⟩
  | .local _ .vmem, ⟨5, _⟩ => ⟨S1024x640, .bf16⟩
  | .local _ .vmem, ⟨6, _⟩ => ⟨S1024x640, .bf16⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InARefIdeal.lean ====
abbrev S4096x1024 : Shape := ⟨2, ![4096, 1024]⟩
abbrev S1024 : Shape := ⟨1, ![1024]⟩
abbrev S1024x1280 : Shape := ⟨2, ![1024, 1280]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x1280 : Shape := ⟨2, ![4096, 1280]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1280, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1280, .f32⟩
  | .hbm, ⟨20, _⟩ => ⟨S4096x1280, .bf16⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== InB.lean ====
abbrev S4096x1024 : Shape := ⟨2, ![4096, 1024]⟩
abbrev S1024 : Shape := ⟨1, ![1024]⟩
abbrev S1024x2688 : Shape := ⟨2, ![1024, 2688]⟩
abbrev S1x1024 : Shape := ⟨2, ![1, 1024]⟩
abbrev S8x1x128x2688 : Shape := ⟨4, ![8, 1, 128, 2688]⟩
abbrev S4096x2688 : Shape := ⟨2, ![4096, 2688]⟩
abbrev S1024x1024 : Shape := ⟨2, ![1024, 1024]⟩
abbrev S8x1x128x896 : Shape := ⟨4, ![8, 1, 128, 896]⟩
abbrev S1024x896 : Shape := ⟨2, ![1024, 896]⟩
abbrev S1024x1 : Shape := ⟨2, ![1024, 1]⟩
abbrev S8x128x896 : Shape := ⟨3, ![8, 128, 896]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2688, .f32⟩
  | .hbm, ⟨3, _⟩ => ⟨S1x1024, .f32⟩
  | .hbm, ⟨4, _⟩ => ⟨S8x1x128x2688, .f32⟩
  | .hbm, ⟨5, _⟩ => ⟨S8x1x128x2688, .bf16⟩
  | .hbm, ⟨6, _⟩ => ⟨S4096x2688, .f32⟩
  | .hbm, ⟨7, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S8x1x128x896, .bf16⟩
  | .local _ .vmem, ⟨4, _⟩ => ⟨S8x1x128x896, .bf16⟩
  | .local _ .vmem, ⟨5, _⟩ => ⟨S1024x896, .f32⟩
  | .local _ .vmem, ⟨6, _⟩ => ⟨S1024x896, .f32⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x1x128x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InBRefIdeal.lean ====
abbrev S4096x1024 : Shape := ⟨2, ![4096, 1024]⟩
abbrev S1024 : Shape := ⟨1, ![1024]⟩
abbrev S1024x2688 : Shape := ⟨2, ![1024, 2688]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2688 : Shape := ⟨2, ![4096, 2688]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2688, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x2688, .f32⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Spec.lean ====
/- The mathematics both programs are compared with: the gradient of a causal three-tap convolution of the gate,
   followed by `silu(gate) * up` and the down projection, as functions of the six arguments.
   A row number is a natural number here, so that the convolution's shifts are plain additions; rows outside an
   array are zero. -/
module

public import proofs.«01_k».proof.Proof.Gen.KernelIdeal
public import Idealize.ShloMosaic.Lib.Pipeline.ValueKit
public import Idealize.ShloMosaic.Lib.Pointwise

@[expose] public section

noncomputable section

namespace Cert.Proof

open Cert.KernelIdeal Idealize.ShloMosaic

/-- The six arguments at the ideal values: gate and up projections, the convolution's taps and bias, the down
    projection's weights, and the cotangent of the block's output. -/
structure In where
  gate : FVec Ideal S4096x2816 .f32
  up : FVec Ideal S4096x2816 .f32
  w : FVec Ideal S3x2816 .f32
  b : FVec Ideal S2816 .f32
  wd : FVec Ideal S2816x1024 .f32
  ct : FVec Ideal S4096x1024 .f32

namespace In

variable (a : In)

/-- The gate with two rows of zeros before it: row `q` of the padded gate. -/
def pad (q : ℕ) (ch : Fin 2816) : EReal :=
  if h : 2 ≤ q ∧ q < 4098 then a.gate (ix2 ⟨q - 2, by omega⟩ ch) else 0

/-- The convolved gate at row `q`. -/
def conv (q : ℕ) (ch : Fin 2816) : EReal :=
  a.b (ix1 ch) + (a.w (ix2 0 ch) * a.pad q ch + a.w (ix2 1 ch) * a.pad (q + 1) ch + a.w (ix2 2 ch) * a.pad (q + 2) ch)

/-- The cotangent of `silu(conv) * up`: the output's cotangent times the down projection transposed. -/
def act (q : Fin 4096) (ch : Fin 2816) : EReal := ∑ k : Fin 1024, a.ct (ix2 q k) * a.wd (ix2 ch k)

/-- The derivative of `x * logistic x`. -/
def dsilu (x : EReal) : EReal := Ideal.logistic x * (1 + x * (1 - Ideal.logistic x))

/-- The cotangent of the convolved gate at row `q`; zero past the last row. -/
def dconv (q : ℕ) (ch : Fin 2816) : EReal :=
  if h : q < 4096 then a.act ⟨q, h⟩ ch * a.up (ix2 ⟨q, h⟩ ch) * dsilu (a.conv q ch) else 0

/-- The gradient of the gate: the taps run backwards over the cotangent of the convolved gate. -/
def dgate (q : ℕ) (ch : Fin 2816) : EReal :=
  a.dconv (q + 2) ch * a.w (ix2 0 ch) + a.dconv (q + 1) ch * a.w (ix2 1 ch) + a.dconv q ch * a.w (ix2 2 ch)

/-- The gradient of the up projection. -/
def dup (q : Fin 4096) (ch : Fin 2816) : EReal :=
  a.act q ch * (a.conv q ch * Ideal.logistic (a.conv q ch))

/-- The gradient of tap `j`. -/
def dtap (j : ℕ) (ch : Fin 2816) : EReal := ∑ q ∈ Finset.range 4096, a.pad (q + j) ch * a.dconv q ch

/-- The gradient of the convolution's bias. -/
def dbias (ch : Fin 2816) : EReal := ∑ q ∈ Finset.range 4096, a.dconv q ch

end In

/-! ## Sums over rows -/

/-- A sum against a cyclic shift by `k ≤ 2` of `D` placed below sixteen zero rows keeps only the rows `D` has. -/
theorem sum_shift (X D : ℕ → EReal) (k : ℕ) (hk : k ≤ 2) :
    ∑ e ∈ Finset.range 1040, X e * (if (e + k) % 1040 < 16 then 0 else D ((e + k) % 1040 - 16))
      = ∑ p ∈ Finset.range 1024, X (p + (16 - k)) * D p := by
  rw [show (1040 : ℕ) = (16 - k) + (1024 + k) by omega, Finset.sum_range_add, Finset.sum_range_add,
    show (16 - k) + (1024 + k) = (1040 : ℕ) by omega]
  rw [Finset.sum_eq_zero (s := Finset.range (16 - k)), Finset.sum_eq_zero (s := Finset.range k), zero_add, add_zero]
  · refine Finset.sum_congr rfl fun p hp => ?_
    have hp := Finset.mem_range.mp hp
    rw [show (16 - k + p + k) % 1040 = p + 16 by omega, if_neg (by omega), Nat.add_sub_cancel, Nat.add_comm p]
  · intro x hx
    have hx := Finset.mem_range.mp hx
    rw [if_pos (by omega), mul_zero]
  · intro x hx
    have hx := Finset.mem_range.mp hx
    rw [if_pos (by omega), mul_zero]

/-- Four tiles of 1024 rows, taken from the last to the first, make up the 4096 rows. -/
theorem sum_tiles (f : ℕ → EReal) :
    ∑ s : Fin 4, ∑ p ∈ Finset.range 1024, f ((3 - s.val) * 1024 + p) = ∑ q ∈ Finset.range 4096, f q := by
  rw [show (4096 : ℕ) = 1024 + (1024 + (1024 + 1024)) by norm_num, Finset.sum_range_add, Finset.sum_range_add,
    Finset.sum_range_add, Fin.sum_univ_four]
  simp only [Fin.isValue, Fin.val_zero, Fin.val_one, Fin.val_two, show ((3 : Fin 4) : ℕ) = 3 from rfl, Nat.reduceSub,
    Nat.reduceMul, Nat.zero_add, ← Nat.add_assoc, Nat.reduceAdd]
  abel

end Cert.Proof

end
-- ==== Proof.Reads.lean ====
/- What the kernel's blocks hold: each operand's block at a grid point, read from the six arguments.
   A grid point `t` works on the column block `t / 4` (704 columns) and the row tile `3 - t % 4` (1024 rows). -/
module

public import proofs.«01_k».proof.Proof.Gen.KernelIdeal.Value
public import proofs.«01_k».proof.Proof.Spec
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.Proof

open Cert.KernelIdeal Cert.KernelIdeal.Gen Idealize.ShloMosaic Idealize.ShloMosaic.TcCoe Idealize.SL.Sem

variable (m : (ℓ : Loc nD τ sig) → Buf (Elt Ideal) ℓ)

/-- The arguments as the kernel finds them on core `c`. -/
def args (c : Dev nD) : In where
  gate := m ((c : Thread nD τ).loc main_arg0)
  up := m ((c : Thread nD τ).loc main_arg1)
  w := m ((c : Thread nD τ).loc main_arg2)
  b := m ((c : Thread nD τ).loc main_arg3)
  wd := m ((c : Thread nD τ).loc main_arg4)
  ct := m ((c : Thread nD τ).loc main_arg5)

/-- Where each window's block lies at a grid point. -/
theorem idx : ∀ t : Fin cfg0.N, win0_0.index t = ![0, t.val / 4, 3 - t.val % 4, 0]
    ∧ win0_1.index t = ![0, t.val / 4, (3 - t.val % 4) * 64 - 1, 0] ∧ win0_2.index t = ![t.val / 4, 3 - t.val % 4, 0]
    ∧ win0_3.index t = ![t.val / 4, 0, 0] ∧ win0_4.index t = ![3 - t.val % 4, 0] ∧ win0_5.index t = ![t.val / 4, 0, 0]
    ∧ win0_6.index t = ![0, t.val / 4, 3 - t.val % 4, 0] ∧ win0_7.index t = ![t.val / 4, 0, 0]
    ∧ win0_8.index t = ![t.val / 4, 0, 0] :=
  (by decide +kernel : ∀ t : Fin grid0.N, _)

theorem lt16 (t : Fin cfg0.N) : t.val < 16 := lt_of_lt_of_eq t.isLt N_0

/-- The column of the arrays that column `l` of point `t`'s blocks is. -/
def col (t : Fin cfg0.N) (l : Fin 704) : Fin 2816 := ⟨t.val / 4 * 704 + l.val, by have := lt16 t; omega⟩

/-- The row of the arrays that row `p` of point `t`'s tiles is. -/
def row (t : Fin cfg0.N) (p : Fin 1024) : Fin 4096 := ⟨(3 - t.val % 4) * 1024 + p.val, by omega⟩

/-! ## The operands the host prepares -/

set_option maxHeartbeats 1000000 in
/-- Gate and up projections, stacked and cut into column blocks. -/
theorem entry_gu (c : Dev nD) (b : Fin 2) (j : Fin 4) (q : Fin 4096) (l : Fin 704) :
    (V m c main_v34 : FVec Ideal S2x4x4096x704 .bf16) (ix4 b j q l)
      = if b.val < 1 then (args m c).gate (ix2 q ⟨j.val * 704 + l.val, by omega⟩)
        else (args m c).up (ix2 q ⟨j.val * 704 + l.val, by omega⟩) := by
  simp only [V, hostOps0, hostOps0_1, hostOps0_2, List.flatten_cons, List.flatten_nil, List.append_nil,
    List.cons_append, List.nil_append]
  after_results_simp
  after_results_loop
  pointwise
  rfl

set_option maxHeartbeats 1000000 in
/-- The convolved gate, cut into column blocks. -/
theorem entry_conv (c : Dev nD) (j : Fin 4) (q : Fin 4096) (l : Fin 704) :
    (V m c main_v37 : FVec Ideal S4x4096x704 .bf16) (ix3 j q l)
      = (args m c).conv q.val ⟨j.val * 704 + l.val, by omega⟩ := by
  simp only [V, hostOps0, hostOps0_1, hostOps0_2, List.flatten_cons, List.flatten_nil, List.append_nil,
    List.cons_append, List.nil_append]
  after_results_simp
  after_results_loop
  pointwise
  have hq := q.isLt
  simp only [In.conv, In.pad]
  rw [dif_pos (show 2 ≤ q.val + 2 ∧ q.val + 2 < 4098 by omega)]
  have e1 : ∀ n : ℕ, (hn : n < 4098) → ∀ ch : Fin 2816, (if h : n < 2 then (0 : EReal) else (args m c).gate (ix2 ⟨n - 2, by omega⟩ ch))
      = if h : 2 ≤ n ∧ n < 4098 then (args m c).gate (ix2 ⟨n - 2, by omega⟩ ch) else 0 := by
    intro n hn ch
    by_cases h : n < 2
    · rw [dif_pos h, dif_neg (by omega)]
    · rw [dif_neg h, dif_pos (by omega)]
  rw [← e1 q.val (by omega), ← e1 (q.val + 1) (by omega)]
  simp only [Nat.add_comm q.val 1]
  rfl

set_option maxHeartbeats 1000000 in
/-- The taps, below which the host puts rows of zeros. -/
theorem entry_taps (c : Dev nD) (j : Fin 4) (r : Fin 3) (l : Fin 704) :
    (V m c main_v40 : FVec Ideal S4x8x704 .f32) (ix3 j ⟨r.val, by omega⟩ l)
      = (args m c).w (ix2 r ⟨j.val * 704 + l.val, by omega⟩) := by
  simp only [V, hostOps0, hostOps0_1, hostOps0_2, List.flatten_cons, List.flatten_nil, List.append_nil,
    List.cons_append, List.nil_append]
  after_results_simp
  after_results_loop
  simp only [StableHlo.TRef.ofBuf, StableHlo.TRef.toBuf, cast_eq]
  pointwise
  exact dif_pos (by omega)

set_option maxHeartbeats 1000000 in
/-- The down projection's weights, cut into blocks of 352 rows. -/
theorem entry_wd (c : Dev nD) (j : Fin 8) (q : Fin 352) (l : Fin 1024) :
    (V m c main_v43 : FVec Ideal S8x352x1024 .bf16) (ix3 j q l)
      = (args m c).wd (ix2 ⟨j.val * 352 + q.val, by omega⟩ l) := by
  simp only [V, hostOps0, hostOps0_1, hostOps0_2, List.flatten_cons, List.flatten_nil, List.append_nil,
    List.cons_append, List.nil_append]
  after_results_simp
  after_results_loop
  pointwise
  rfl

/-- The output's cotangent. -/
theorem entry_ct (c : Dev nD) (q : Fin 4096) (l : Fin 1024) :
    (V m c main_v41 : FVec Ideal S4096x1024 .bf16) (ix2 q l) = (args m c).ct (ix2 q l) := by
  simp only [V, hostOps0, hostOps0_1, hostOps0_2, List.flatten_cons, List.flatten_nil, List.append_nil,
    List.cons_append, List.nil_append]
  after_results_simp
  pointwise
  rfl

/-! ## The blocks -/

theorem blk_gate (c : Dev nD) (t : Fin cfg0.N) (p : Fin 1024) (l : Fin 704) :
    (iblk m c 0 t : FVec Ideal S2x1x1024x704 .bf16) (ix4 0 0 p l) = (args m c).gate (ix2 (row t p) (col t l)) := by
  have ht := lt16 t
  refine Eq.trans (b := (V m c main_v34 : FVec Ideal S2x4x4096x704 .bf16)
    (ix4 0 ⟨t.val / 4, by omega⟩ (row t p) l)) ?_ ((entry_gu m c 0 ⟨t.val / 4, by omega⟩ (row t p) l).trans rfl)
  blk_ext [iblk, idx t, row]

theorem blk_up (c : Dev nD) (t : Fin cfg0.N) (p : Fin 1024) (l : Fin 704) :
    (iblk m c 0 t : FVec Ideal S2x1x1024x704 .bf16) (ix4 1 0 p l) = (args m c).up (ix2 (row t p) (col t l)) := by
  have ht := lt16 t
  refine Eq.trans (b := (V m c main_v34 : FVec Ideal S2x4x4096x704 .bf16)
    (ix4 1 ⟨t.val / 4, by omega⟩ (row t p) l)) ?_ ((entry_gu m c 1 ⟨t.val / 4, by omega⟩ (row t p) l).trans rfl)
  blk_ext [iblk, idx t, row]

/-- The sixteen rows before the tile (at the first tile: some rows, which the body does not use). -/
theorem blk_before (c : Dev nD) (t : Fin cfg0.N) (e : Fin 16) (l : Fin 704) :
    (iblk m c 1 t : FVec Ideal S1x1x16x704 .bf16) (ix4 0 0 e l)
      = (args m c).gate (ix2 ⟨((3 - t.val % 4) * 64 - 1) * 16 + e.val, by omega⟩ (col t l)) := by
  have ht := lt16 t
  refine Eq.trans (b := (V m c main_v34 : FVec Ideal S2x4x4096x704 .bf16)
    (ix4 0 ⟨t.val / 4, by omega⟩ ⟨((3 - t.val % 4) * 64 - 1) * 16 + e.val, by omega⟩ l)) ?_ ((entry_gu m c 0 ⟨t.val / 4, by omega⟩ _ l).trans rfl)
  blk_ext [iblk, idx t]

theorem blk_conv (c : Dev nD) (t : Fin cfg0.N) (p : Fin 1024) (l : Fin 704) :
    (iblk m c 2 t : FVec Ideal S1x1024x704 .bf16) (ix3 0 p l) = (args m c).conv (row t p).val (col t l) := by
  have ht := lt16 t
  refine Eq.trans (b := (V m c main_v37 : FVec Ideal S4x4096x704 .bf16) (ix3 ⟨t.val / 4, by omega⟩ (row t p) l)) ?_
    ((entry_conv m c ⟨t.val / 4, by omega⟩ (row t p) l).trans rfl)
  blk_ext [iblk, idx t, row]

theorem blk_tap (c : Dev nD) (t : Fin cfg0.N) (r : Fin 3) (l : Fin 704) :
    (iblk m c 3 t : FVec Ideal S1x8x704 .f32) (ix3 0 ⟨r.val, by omega⟩ l) = (args m c).w (ix2 r (col t l)) := by
  have ht := lt16 t
  refine Eq.trans (b := (V m c main_v40 : FVec Ideal S4x8x704 .f32) (ix3 ⟨t.val / 4, by omega⟩ ⟨r.val, by omega⟩ l)) ?_
    ((entry_taps m c ⟨t.val / 4, by omega⟩ r l).trans rfl)
  blk_ext [iblk, idx t]

theorem blk_ct (c : Dev nD) (t : Fin cfg0.N) (p : Fin 1024) (k : Fin 1024) :
    (iblk m c 4 t : FVec Ideal S1024x1024 .bf16) (ix2 p k) = (args m c).ct (ix2 (row t p) k) := by
  refine Eq.trans (b := (V m c main_v41 : FVec Ideal S4096x1024 .bf16) (ix2 (row t p) k)) ?_ (entry_ct m c (row t p) k)
  blk_ext [iblk, idx t, row]

theorem blk_wd (c : Dev nD) (t : Fin cfg0.N) (l : Fin 704) (k : Fin 1024) :
    (iblk m c 5 t : FVec Ideal S2x352x1024 .bf16) (ix3 ⟨l.val / 352, by omega⟩ ⟨l.val % 352, by omega⟩ k)
      = (args m c).wd (ix2 (col t l) k) := by
  have ht := lt16 t
  refine Eq.trans (b := (V m c main_v43 : FVec Ideal S8x352x1024 .bf16)
    (ix3 ⟨t.val / 4 * 2 + l.val / 352, by omega⟩ ⟨l.val % 352, by omega⟩ k)) ?_ ((entry_wd m c _ _ k).trans ?_)
  · blk_ext [iblk, idx t]
  · congr 2
    exact Fin.ext (by simp only [col]; omega)

end Cert.Proof

end
-- ==== Proof.Tile.lean ====
/- What the body computes from a tile's blocks, at an index: the products, the derivative of the activation, the
   rotations that bring a later row's cotangent to a row, and the sums over the rows. -/
module

public import proofs.«01_k».proof.Proof.Gen.KernelIdeal.Value
public import proofs.«01_k».proof.Proof.Spec
public import Idealize.ShloMosaic.Lib.Pipeline.ValueKit
public import Idealize.ShloMosaic.Lib.Pointwise

@[expose] public section

set_option maxRecDepth 16384

noncomputable section

namespace Cert.Proof

open Cert.KernelIdeal Cert.KernelIdeal.Gen Idealize.ShloMosaic Idealize.ShloMosaic.TcCoe

/-- Row `n` of a tile, zero past its end. -/
def rowOf {N : ℕ} (x : FVec Ideal ⟨2, ![N, 704]⟩ .f32) (n : ℕ) (l : Fin 704) : EReal :=
  if h : n < N then x (ix2 ⟨n, h⟩ l) else 0

theorem rowOf_val {N : ℕ} (x : FVec Ideal ⟨2, ![N, 704]⟩ .f32) (p : Fin N) (l : Fin 704) :
    rowOf x p.val l = x (ix2 p l) := dif_pos p.isLt

/-- Row `e` of a tile put below sixteen rows of zeros. -/
def below (D : FVec Ideal S1024x704 .f32) (e : ℕ) (l : Fin 704) : EReal :=
  if e < 16 then 0 else rowOf D (e - 16) l

variable (a b u : FVec Ideal S1024x704 .f32) (z : Ideal .f32)

theorem pay9_at (x : Vec Ideal S1024x1024 .bf16) (w : Vec Ideal S2x352x1024 .bf16) (p : Fin 1024) (l : Fin 704) :
    k0_pay9 x w (ix2 p l)
      = ∑ k : Fin 1024, (x (ix2 p k) * w (ix3 ⟨l.val / 352, by omega⟩ ⟨l.val % 352, by omega⟩ k) : EReal) := by
  pointwise [k0_pay9]

/-- The cotangent of the convolved gate, over a tile. -/
theorem pay12_at (g : Vec Ideal S1x1024x704 .bf16) (p : Fin 1024) (l : Fin 704) :
    k0_pay12 (k0_pay7 g) (k0_pay8 g) u (FloatOps.ofBits FTy.f32 1065353216#32) (ix2 p l)
      = (u (ix2 p l) * In.dsilu (g (ix3 0 p l)) : EReal) := by
  pointwise [k0_pay12, k0_pay7, k0_pay8]
  rfl

theorem pay14_at (e : Fin 1040) (l : Fin 704) : k0_pay14 a b u z (ix2 e l) = below (k0_pay12 a b u z) e.val l := by
  pointwise [k0_pay14]
  unfold below rowOf
  by_cases h : e.val < 16
  · rw [dif_pos h, if_pos h]
  · rw [dif_neg h, if_neg h, dif_pos (by omega)]

theorem pay15_at (e : Fin 1040) (l : Fin 704) :
    k0_pay15 a b u z (ix2 e l) = below (k0_pay12 a b u z) ((e.val + 2) % 1040) l := by
  refine Eq.trans ?_ (pay14_at a b u z ⟨(e.val + 2) % 1040, by omega⟩ l)
  pointwise [k0_pay15]
  blk_ext

theorem pay16_at (e : Fin 1040) (l : Fin 704) :
    k0_pay16 a b u z (ix2 e l) = below (k0_pay12 a b u z) ((e.val + 1) % 1040) l := by
  refine Eq.trans ?_ (pay14_at a b u z ⟨(e.val + 1) % 1040, by omega⟩ l)
  pointwise [k0_pay16]
  blk_ext

/-- The rows of the gate a tile uses: sixteen rows before it, zero at the first tile, then its own. -/
theorem pay6_at (t : Fin cfg0.N) (h : Vec Ideal S1x1x16x704 .bf16) (x : Vec Ideal S2x1x1024x704 .bf16) (e : Fin 1040)
    (l : Fin 704) :
    k0_pay6 (grid0.coords t) h
        (View.ld x (Rect.unit ![0, 0, 0, 0] ![1, 1, 1024, 704] inb_S2x1x1024x704_S1x1x1024x704_0_0_0_0)) (ix2 e l)
      = if he : e.val < 16 then (if t.val % 4 = 3 then (0 : EReal) else h (ix4 0 0 ⟨e.val, he⟩ l))
        else x (ix4 0 0 ⟨e.val - 16, by omega⟩ l) := by
  pointwise [k0_pay6]
  have hs : ∀ t : Fin cfg0.N, (Scalar.cmpi CmpIPredicate.sgt (Scalar.subi (3#32) (BitVec.ofNat 32 (grid0.coords t 1).val)) 0#32 : BitVec 1)
      = if t.val % 4 = 3 then 0#1 else 1#1 := (by decide +kernel : ∀ t : Fin grid0.N, _)
  rw [hs t]
  by_cases he : e.val < 16
  · rw [dif_pos he, dif_pos he]
    by_cases h3 : t.val % 4 = 3
    · rw [if_pos h3, if_pos h3]; rfl
    · rw [if_neg h3, if_neg h3]; rfl
  · rw [dif_neg he, dif_neg he]

/-- The sum of rows of `x` against the rotated cotangent is a sum over the tile's own rows. -/
theorem sum_rot (x y : FVec Ideal S1040x704 .f32) (D : FVec Ideal S1024x704 .f32) (k : ℕ) (hk : k ≤ 2) (l : Fin 704)
    (hy : ∀ e : Fin 1040, y (ix2 e l) = below D ((e.val + k) % 1040) l) :
    ∑ e : Fin 1040, (x (ix2 e l) * y (ix2 e l) : EReal)
      = ∑ p ∈ Finset.range 1024, rowOf x (p + (16 - k)) l * rowOf D p l := by
  rw [← sum_shift (fun e => rowOf x e l) (fun e => rowOf D e l) k hk, Finset.sum_range]
  refine Finset.sum_congr rfl fun e _ => ?_
  rw [hy e, rowOf_val x e l]
  rfl

theorem pay13_at (x : Vec Ideal S1x1x704 .f32) (l : Fin 704) :
    k0_pay13 a b u z x (ix3 0 0 l) = (x (ix3 0 0 l) + ∑ p ∈ Finset.range 1024, rowOf (k0_pay12 a b u z) p l : EReal) := by
  rw [Finset.sum_range]
  simp only [rowOf_val]
  pointwise [k0_pay13]

theorem pay18_at (x : FVec Ideal S1040x704 .f32) (y : Vec Ideal S1x1x704 .f32) (l : Fin 704) :
    k0_pay18 x a b u z y (ix3 0 0 l)
      = (y (ix3 0 0 l) + ∑ p ∈ Finset.range 1024, rowOf x (p + 14) l * rowOf (k0_pay12 a b u z) p l : EReal) := by
  rw [← sum_rot x (k0_pay15 a b u z) (k0_pay12 a b u z) 2 le_rfl l (fun e => pay15_at a b u z e l)]
  pointwise [k0_pay18]

theorem pay20_at (x : FVec Ideal S1040x704 .f32) (y : Vec Ideal S1x1x704 .f32) (l : Fin 704) :
    k0_pay20 x (k0_pay16 a b u z) (k0_pay19 y) (ix3 0 0 l)
      = (y (ix3 0 0 l) + ∑ p ∈ Finset.range 1024, rowOf x (p + 15) l * rowOf (k0_pay12 a b u z) p l : EReal) := by
  rw [← sum_rot x (k0_pay16 a b u z) (k0_pay12 a b u z) 1 (by omega) l (fun e => pay16_at a b u z e l)]
  pointwise [k0_pay20, k0_pay19]

theorem pay21_at (x : FVec Ideal S1040x704 .f32) (y : Vec Ideal S1x1x704 .f32) (l : Fin 704) :
    k0_pay21 x (k0_pay14 a b u z) y (ix3 0 0 l)
      = (y (ix3 0 0 l) + ∑ p ∈ Finset.range 1024, rowOf x (p + 16) l * rowOf (k0_pay12 a b u z) p l : EReal) := by
  rw [← sum_rot x (k0_pay14 a b u z) (k0_pay12 a b u z) 0 (by omega) l (fun e => by
    rw [pay14_at, Nat.add_zero, Nat.mod_eq_of_lt e.isLt])]
  pointwise [k0_pay21]

/-- The gradient of the gate that the cotangents of a tile give, `e` counted from sixteen rows before the tile. -/
theorem pay22_at (w0 w1 w2 : Vec Ideal S1x1x704 .f32) (e : Fin 1040) (l : Fin 704) :
    k0_pay22 (k0_pay14 a b u z) (k0_pay16 a b u z) (k0_pay17 a b u z w0) w1 w2 (ix2 e l)
      = (below (k0_pay12 a b u z) ((e.val + 2) % 1040) l * w0 (ix3 0 0 l)
          + below (k0_pay12 a b u z) ((e.val + 1) % 1040) l * w1 (ix3 0 0 l)
          + below (k0_pay12 a b u z) e.val l * w2 (ix3 0 0 l) : EReal) := by
  rw [← pay14_at, ← pay15_at, ← pay16_at]
  pointwise [k0_pay22, k0_pay17]

theorem pay23_at (v46 v48 v52 : FVec Ideal S1040x704 .f32) (v71 v85 : Vec Ideal S1x1x704 .f32) (x : Vec Ideal S16x704 .f32)
    (p : Fin 1024) (l : Fin 704) :
    k0_pay23 v46 v48 v52 v71 v85 x (ix2 p l)
      = (k0_pay22 v46 v48 v52 v71 v85 (ix2 ⟨16 + p.val, by omega⟩ l)
          + if h : p.val < 1008 then (0 : EReal) else x (ix2 ⟨p.val - 1008, by omega⟩ l) : EReal) := by
  pointwise [k0_pay23]

theorem pay24_at (v46 v48 v52 : FVec Ideal S1040x704 .f32) (v71 v85 : Vec Ideal S1x1x704 .f32) (e : Fin 16) (l : Fin 704) :
    k0_pay24 v46 v48 v52 v71 v85 (ix2 e l) = k0_pay22 v46 v48 v52 v71 v85 (ix2 ⟨e.val, by omega⟩ l) := by
  pointwise [k0_pay24]

end Cert.Proof

end
-- ==== Proof.Points.lean ====
/- What a grid point leaves in each output's block and in the carried rows, in terms of the gradients over the whole
   arrays: the two gradients of the projections at the point's tile, the tile's part of the taps' and the bias's
   gradients, and the rows of the gate's gradient that reach into the tile before. -/
module

public import proofs.«01_k».proof.Proof.Reads
public import proofs.«01_k».proof.Proof.Tile
public import Idealize.ShloMosaic.Lib.Pipeline.ReadBack
public import Idealize.ShloMosaic.Lib.WritesUnit

@[expose] public section

set_option maxRecDepth 16384

noncomputable section

namespace Cert.Proof

open Cert.KernelIdeal Cert.KernelIdeal.Gen Idealize.ShloMosaic Idealize.ShloMosaic.TcCoe Idealize.SL.Sem

variable (m : (ℓ : Loc nD τ sig) → Buf (Elt Ideal) ℓ)

/-! ## The tile's operands -/

/-- The gate rows the tile uses. -/
abbrev gateTile (c : Dev nD) (t : Fin cfg0.N) : FVec Ideal S1040x704 .f32 :=
  k0_pay6 (grid0.coords t) (iblk m c 1 t)
    (View.ld (iblk m c 0 t) (Rect.unit ![0, 0, 0, 0] ![1, 1, 1024, 704] inb_S2x1x1024x704_S1x1x1024x704_0_0_0_0))

/-- The cotangent of the activation times the up projection. -/
abbrev upTile (c : Dev nD) (t : Fin cfg0.N) : FVec Ideal S1024x704 .f32 :=
  k0_pay11 (View.ld (iblk m c 0 t) (Rect.unit ![1, 0, 0, 0] ![1, 1, 1024, 704] inb_S2x1x1024x704_S1x1x1024x704_1_0_0_0))
    (iblk m c 4 t) (iblk m c 5 t)

/-- The cotangent of the convolved gate on the tile. -/
abbrev convTile (c : Dev nD) (t : Fin cfg0.N) : FVec Ideal S1024x704 .f32 :=
  k0_pay12 (k0_pay7 (iblk m c 2 t)) (k0_pay8 (iblk m c 2 t)) (upTile m c t) (FloatOps.ofBits FTy.f32 1065353216#32)

theorem act_at (c : Dev nD) (t : Fin cfg0.N) (p : Fin 1024) (l : Fin 704) :
    k0_pay9 (iblk m c 4 t) (iblk m c 5 t) (ix2 p l) = (args m c).act (row t p) (col t l) := by
  rw [pay9_at]
  refine Finset.sum_congr rfl fun k _ => ?_
  exact congrArg₂ (· * ·) (blk_ct m c t p k) (blk_wd m c t l k)

theorem upTile_at (c : Dev nD) (t : Fin cfg0.N) (p : Fin 1024) (l : Fin 704) :
    upTile m c t (ix2 p l) = (args m c).act (row t p) (col t l) * (args m c).up (ix2 (row t p) (col t l)) := by
  rw [← act_at, ← blk_up]
  pointwise [k0_pay11]

theorem dup_at (c : Dev nD) (t : Fin cfg0.N) (p : Fin 1024) (l : Fin 704) :
    k0_pay10 (iblk m c 2 t) (iblk m c 4 t) (iblk m c 5 t) (ix2 p l) = (args m c).dup (row t p) (col t l) := by
  unfold In.dup
  rw [← act_at, ← blk_conv]
  pointwise [k0_pay10, k0_pay7, k0_pay8]

theorem convTile_at (c : Dev nD) (t : Fin cfg0.N) (p : Fin 1024) (l : Fin 704) :
    convTile m c t (ix2 p l) = (args m c).dconv ((3 - t.val % 4) * 1024 + p.val) (col t l) := by
  refine (pay12_at (upTile m c t) (iblk m c 2 t) p l).trans ?_
  have h : (3 - t.val % 4) * 1024 + p.val < 4096 := by omega
  rw [In.dconv, dif_pos h]
  exact congrArg₂ (· * ·) (upTile_at m c t p l) (congrArg In.dsilu (blk_conv m c t p l))

theorem convTile_row (c : Dev nD) (t : Fin cfg0.N) (p : ℕ) (hp : p < 1024) (l : Fin 704) :
    rowOf (convTile m c t) p l = (args m c).dconv ((3 - t.val % 4) * 1024 + p) (col t l) :=
  (rowOf_val (convTile m c t) ⟨p, hp⟩ l).trans (convTile_at m c t ⟨p, hp⟩ l)

theorem gateTile_row (c : Dev nD) (t : Fin cfg0.N) (p j : ℕ) (hp : p < 1024) (hj : j < 3) (l : Fin 704) :
    rowOf (gateTile m c t) (p + (14 + j)) l = (args m c).pad ((3 - t.val % 4) * 1024 + p + j) (col t l) := by
  have h : p + (14 + j) < 1040 := by omega
  refine (rowOf_val (gateTile m c t) ⟨p + (14 + j), h⟩ l).trans ((pay6_at t _ _ _ l).trans ?_)
  simp only
  by_cases he : p + (14 + j) < 16
  · rw [dif_pos he]
    by_cases h3 : t.val % 4 = 3
    · rw [if_pos h3, In.pad, dif_neg (by omega)]
    · rw [if_neg h3, In.pad, dif_pos (by omega)]
      refine (blk_before m c t ⟨p + (14 + j), he⟩ l).trans ?_
      congr 2
      exact Fin.ext (by simp only; omega)
  · rw [dif_neg he, In.pad, dif_pos (by omega)]
    refine (blk_gate m c t ⟨p + (14 + j) - 16, by omega⟩ l).trans ?_
    congr 2
    exact Fin.ext (by simp only [row]; omega)

/-- The tile's part of the gradient of tap `j`. -/
theorem tap_sum (c : Dev nD) (t : Fin cfg0.N) (j : ℕ) (hj : j < 3) (l : Fin 704) :
    ∑ p ∈ Finset.range 1024, rowOf (gateTile m c t) (p + (14 + j)) l * rowOf (convTile m c t) p l
      = ∑ p ∈ Finset.range 1024, (args m c).pad ((3 - t.val % 4) * 1024 + p + j) (col t l)
          * (args m c).dconv ((3 - t.val % 4) * 1024 + p) (col t l) := by
  refine Finset.sum_congr rfl fun p hp => ?_
  have hp := Finset.mem_range.mp hp
  rw [gateTile_row m c t p j hp hj l, convTile_row m c t p hp l]

theorem tap0 (c : Dev nD) (t : Fin cfg0.N) (l : Fin 704) :
    View.ld (iblk m c 3 t) (Rect.unit ![0, 0, 0] ![1, 1, 704] inb_S1x8x704_S1x1x704_0_0_0) (ix3 0 0 l)
      = (args m c).w (ix2 0 (col t l)) := by
  rw [← blk_tap m c t 0 l]
  pointwise

theorem tap1 (c : Dev nD) (t : Fin cfg0.N) (l : Fin 704) :
    View.ld (iblk m c 3 t) (Rect.unit ![0, 1, 0] ![1, 1, 704] inb_S1x8x704_S1x1x704_0_1_0) (ix3 0 0 l)
      = (args m c).w (ix2 1 (col t l)) := by
  rw [← blk_tap m c t 1 l]
  pointwise

theorem tap2 (c : Dev nD) (t : Fin cfg0.N) (l : Fin 704) :
    View.ld (iblk m c 3 t) (Rect.unit ![0, 2, 0] ![1, 1, 704] inb_S1x8x704_S1x1x704_0_2_0) (ix3 0 0 l)
      = (args m c).w (ix2 2 (col t l)) := by
  rw [← blk_tap m c t 2 l]
  pointwise

/-- The gradient of the gate that this tile's cotangents give, at a row counted from sixteen rows before the tile. -/
abbrev ownTile (c : Dev nD) (t : Fin cfg0.N) : FVec Ideal S1040x704 .f32 :=
  k0_pay22 (k0_pay14 (k0_pay7 (iblk m c 2 t)) (k0_pay8 (iblk m c 2 t)) (upTile m c t) (FloatOps.ofBits FTy.f32 1065353216#32))
    (k0_pay16 (k0_pay7 (iblk m c 2 t)) (k0_pay8 (iblk m c 2 t)) (upTile m c t) (FloatOps.ofBits FTy.f32 1065353216#32))
    (k0_pay17 (k0_pay7 (iblk m c 2 t)) (k0_pay8 (iblk m c 2 t)) (upTile m c t) (FloatOps.ofBits FTy.f32 1065353216#32)
      (View.ld (iblk m c 3 t) (Rect.unit ![0, 0, 0] ![1, 1, 704] inb_S1x8x704_S1x1x704_0_0_0)))
    (View.ld (iblk m c 3 t) (Rect.unit ![0, 1, 0] ![1, 1, 704] inb_S1x8x704_S1x1x704_0_1_0))
    (View.ld (iblk m c 3 t) (Rect.unit ![0, 2, 0] ![1, 1, 704] inb_S1x8x704_S1x1x704_0_2_0))

theorem ownTile_at (c : Dev nD) (t : Fin cfg0.N) (e : Fin 1040) (l : Fin 704) :
    ownTile m c t (ix2 e l)
      = below (convTile m c t) ((e.val + 2) % 1040) l * (args m c).w (ix2 0 (col t l))
        + below (convTile m c t) ((e.val + 1) % 1040) l * (args m c).w (ix2 1 (col t l))
        + below (convTile m c t) e.val l * (args m c).w (ix2 2 (col t l)) := by
  refine (pay22_at _ _ _ _ _ _ _ e l).trans ?_
  rw [tap0, tap1, tap2]

/-! ## The carried rows -/

set_option maxHeartbeats 1000000 in
/-- A point leaves the first sixteen rows of its gradient of the gate for the tile before. -/
theorem carry_eq (c : Dev nD) (t : Fin cfg0.N) (e : Fin 16) (l : Fin 704) :
    (outsAt0 m c t.val t.isLt).2.2.2 (ix2 e l) = ownTile m c t (ix2 ⟨e.val, by omega⟩ l) := by
  by_cases h : t.val % 4 = 0
  · rw [outsAt0_A m c t h]
    frame_out
    exact pay24_at _ _ _ _ _ e l
  · rw [outsAt0_B m c t h]
    frame_out
    exact pay24_at _ _ _ _ _ e l

/-! ## The gradients of the two projections -/

/-- The convolved gate's cotangent at row `e`, counted from sixteen rows before tile `T`; zero off the tile. -/
def In.onTile (a : In) (T e : ℕ) (ch : Fin 2816) : EReal :=
  if 16 ≤ e ∧ e < 1040 then a.dconv (T * 1024 + (e - 16)) ch else 0

theorem below_onTile (c : Dev nD) (t : Fin cfg0.N) (e : ℕ) (he : e < 1042) (l : Fin 704) :
    below (convTile m c t) (e % 1040) l = (args m c).onTile (3 - t.val % 4) e (col t l) := by
  unfold below In.onTile
  by_cases h : 16 ≤ e ∧ e < 1040
  · rw [if_pos h, Nat.mod_eq_of_lt h.2, if_neg (by omega)]
    exact convTile_row m c t (e - 16) (by omega) l
  · rw [if_neg h, if_pos (by omega)]

theorem ownTile_eq (c : Dev nD) (t : Fin cfg0.N) (e : ℕ) (he : e < 1040) (l : Fin 704) :
    ownTile m c t (ix2 ⟨e, he⟩ l)
      = (args m c).onTile (3 - t.val % 4) (e + 2) (col t l) * (args m c).w (ix2 0 (col t l))
        + (args m c).onTile (3 - t.val % 4) (e + 1) (col t l) * (args m c).w (ix2 1 (col t l))
        + (args m c).onTile (3 - t.val % 4) e (col t l) * (args m c).w (ix2 2 (col t l)) := by
  rw [ownTile_at, below_onTile m c t (e + 2) (by omega), below_onTile m c t (e + 1) (by omega),
    ← below_onTile m c t e (by omega), Nat.mod_eq_of_lt he]

/-- A tile's own part and the rows the tile after it reaches back to make the gradient of the gate. -/
theorem In.dgate_split (a : In) (T p : ℕ) (hp : p < 1024) (ch : Fin 2816) :
    (a.onTile T (16 + p + 2) ch * a.w (ix2 0 ch) + a.onTile T (16 + p + 1) ch * a.w (ix2 1 ch)
        + a.onTile T (16 + p) ch * a.w (ix2 2 ch))
      + (if p < 1008 then 0 else a.onTile (T + 1) (p - 1008 + 2) ch * a.w (ix2 0 ch)
          + a.onTile (T + 1) (p - 1008 + 1) ch * a.w (ix2 1 ch) + a.onTile (T + 1) (p - 1008) ch * a.w (ix2 2 ch))
      = a.dconv (T * 1024 + p + 2) ch * a.w (ix2 0 ch) + a.dconv (T * 1024 + p + 1) ch * a.w (ix2 1 ch)
        + a.dconv (T * 1024 + p) ch * a.w (ix2 2 ch) := by
  by_cases h1 : p < 1022
  · have hz : (if p < 1008 then (0 : EReal) else a.onTile (T + 1) (p - 1008 + 2) ch * a.w (ix2 0 ch)
          + a.onTile (T + 1) (p - 1008 + 1) ch * a.w (ix2 1 ch) + a.onTile (T + 1) (p - 1008) ch * a.w (ix2 2 ch)) = 0 := by
      by_cases h2 : p < 1008
      · rw [if_pos h2]
      · rw [if_neg h2]
        unfold In.onTile
        rw [if_neg (by omega), if_neg (by omega), if_neg (by omega)]
        simp only [zero_mul, add_zero]
    rw [hz, add_zero]
    unfold In.onTile
    rw [if_pos (by omega), if_pos (by omega), if_pos (by omega), show T * 1024 + (16 + p + 2 - 16) = T * 1024 + p + 2 by omega,
      show T * 1024 + (16 + p + 1 - 16) = T * 1024 + p + 1 by omega, show T * 1024 + (16 + p - 16) = T * 1024 + p by omega]
  · rw [if_neg (by omega)]
    by_cases h2 : p = 1022
    · subst h2
      unfold In.onTile
      rw [if_neg (by omega), if_pos (by omega), if_pos (by omega), if_pos (by omega), if_neg (by omega), if_neg (by omega),
        show T * 1024 + (16 + 1022 + 1 - 16) = T * 1024 + 1022 + 1 by omega,
        show T * 1024 + (16 + 1022 - 16) = T * 1024 + 1022 by omega,
        show (T + 1) * 1024 + (1022 - 1008 + 2 - 16) = T * 1024 + 1022 + 2 by omega]
      simp only [zero_mul, zero_add, add_zero]
      abel
    · obtain rfl : p = 1023 := by omega
      unfold In.onTile
      rw [if_neg (by omega), if_neg (by omega), if_pos (by omega), if_pos (by omega), if_pos (by omega), if_neg (by omega),
        show T * 1024 + (16 + 1023 - 16) = T * 1024 + 1023 by omega,
        show (T + 1) * 1024 + (1023 - 1008 + 2 - 16) = T * 1024 + 1023 + 2 by omega,
        show (T + 1) * 1024 + (1023 - 1008 + 1 - 16) = T * 1024 + 1023 + 1 by omega]
      simp only [zero_mul, zero_add, add_zero]
      abel

/-- Past the last row there is no cotangent. -/
theorem In.onTile_last (a : In) (e : ℕ) (ch : Fin 2816) : a.onTile 4 e ch = 0 := by
  unfold In.onTile In.dconv
  by_cases h : 16 ≤ e ∧ e < 1040
  · rw [if_pos h, dif_neg (by omega)]
  · rw [if_neg h]

/-- What the tile's gate rows get from its own cotangents and from the carried rows. -/
theorem gate_row (c : Dev nD) (t : Fin cfg0.N) (carried : FVec Ideal S16x704 .f32) (p : Fin 1024) (l : Fin 704)
    (hc : ∀ e : Fin 16, carried (ix2 e l)
      = (args m c).onTile (3 - t.val % 4 + 1) (e.val + 2) (col t l) * (args m c).w (ix2 0 (col t l))
        + (args m c).onTile (3 - t.val % 4 + 1) (e.val + 1) (col t l) * (args m c).w (ix2 1 (col t l))
        + (args m c).onTile (3 - t.val % 4 + 1) e.val (col t l) * (args m c).w (ix2 2 (col t l))) :
    k0_pay23 (k0_pay14 (k0_pay7 (iblk m c 2 t)) (k0_pay8 (iblk m c 2 t)) (upTile m c t) (FloatOps.ofBits FTy.f32 1065353216#32))
      (k0_pay16 (k0_pay7 (iblk m c 2 t)) (k0_pay8 (iblk m c 2 t)) (upTile m c t) (FloatOps.ofBits FTy.f32 1065353216#32))
      (k0_pay17 (k0_pay7 (iblk m c 2 t)) (k0_pay8 (iblk m c 2 t)) (upTile m c t) (FloatOps.ofBits FTy.f32 1065353216#32)
        (View.ld (iblk m c 3 t) (Rect.unit ![0, 0, 0] ![1, 1, 704] inb_S1x8x704_S1x1x704_0_0_0)))
      (View.ld (iblk m c 3 t) (Rect.unit ![0, 1, 0] ![1, 1, 704] inb_S1x8x704_S1x1x704_0_1_0))
      (View.ld (iblk m c 3 t) (Rect.unit ![0, 2, 0] ![1, 1, 704] inb_S1x8x704_S1x1x704_0_2_0)) carried (ix2 p l)
      = (args m c).dgate (row t p) (col t l) := by
  refine (pay23_at _ _ _ _ _ _ p l).trans ?_
  refine Eq.trans ?_ ((args m c).dgate_split (3 - t.val % 4) p.val p.isLt (col t l))
  refine congrArg₂ (· + ·) (ownTile_eq m c t (16 + p.val) (by omega) l) ?_
  by_cases h : p.val < 1008
  · simp only [h, if_true, dite_true]
  · simp only [h, if_false, dite_false]
    exact hc ⟨p.val - 1008, by omega⟩

theorem slab1_at (v : FVec Ideal S1024x704 .f32) (p : Fin 1024) (l : Fin 704) : k0_pay1 v (ix4 0 0 p l) = v (ix2 p l) := by
  pointwise [k0_pay1]

theorem slab2_at (v : FVec Ideal S1024x704 .f32) (p : Fin 1024) (l : Fin 704) : k0_pay2 v (ix4 0 0 p l) = v (ix2 p l) := by
  pointwise [k0_pay2]

theorem pay3_at (e : Fin 16) (l : Fin 704) : k0_pay3 (F := Ideal) (ix2 e l) = (0 : EReal) := by
  pointwise [k0_pay3]

theorem carry_prev (c : Dev nD) (t : Fin cfg0.N) (h : ¬ t.val % 4 = 0) (e : Fin 16) (l : Fin 704) :
    (outsAt0 m c (t.val - 1) (by omega)).2.2.2 (ix2 e l)
      = (args m c).onTile (3 - t.val % 4 + 1) (e.val + 2) (col t l) * (args m c).w (ix2 0 (col t l))
        + (args m c).onTile (3 - t.val % 4 + 1) (e.val + 1) (col t l) * (args m c).w (ix2 1 (col t l))
        + (args m c).onTile (3 - t.val % 4 + 1) e.val (col t l) * (args m c).w (ix2 2 (col t l)) := by
  have hcol : col ⟨t.val - 1, by omega⟩ l = col t l := Fin.ext (by simp only [col]; omega)
  have hT : 3 - (t.val - 1) % 4 = 3 - t.val % 4 + 1 := by omega
  refine (carry_eq m c ⟨t.val - 1, by omega⟩ e l).trans ((ownTile_eq m c _ e.val (by omega) l).trans ?_)
  rw [hcol]
  simp only [hT]

set_option maxHeartbeats 1000000 in
/-- The gradient of the gate in the block a point leaves. -/
theorem out_gate (c : Dev nD) (t : Fin cfg0.N) (p : Fin 1024) (l : Fin 704) :
    (outsAt0 m c t.val t.isLt).1 (ix4 0 0 p l) = (args m c).dgate (row t p) (col t l) := by
  by_cases h : t.val % 4 = 0
  · rw [outsAt0_A m c t h]
    frame_out
    canon_tiles x hx
    · have e0 : (0 : ℕ) = 1 + (x 0).val := hx0
      omega
    · have ex : x = ix4 0 0 p l := by funext a; fin_cases a <;> exact Fin.ext (by simp_all)
      rw [ex]
      refine (slab1_at _ p l).trans (gate_row m c t k0_pay3 p l fun e => ?_)
      rw [show 3 - t.val % 4 + 1 = 4 by omega, In.onTile_last, In.onTile_last, In.onTile_last, pay3_at]
      simp only [zero_mul, add_zero]
  · rw [outsAt0_B m c t h]
    frame_out
    canon_tiles x hx
    · have e0 : (0 : ℕ) = 1 + (x 0).val := hx0
      omega
    · have ex : x = ix4 0 0 p l := by funext a; fin_cases a <;> exact Fin.ext (by simp_all)
      rw [ex]
      refine (slab1_at _ p l).trans (gate_row m c t _ p l fun e => ?_)
      simp only [read_unread_whole]
      exact carry_prev m c t h e l

set_option maxHeartbeats 1000000 in
/-- The gradient of the up projection in the block a point leaves. -/
theorem out_up (c : Dev nD) (t : Fin cfg0.N) (p : Fin 1024) (l : Fin 704) :
    (outsAt0 m c t.val t.isLt).1 (ix4 1 0 p l) = (args m c).dup (row t p) (col t l) := by
  by_cases h : t.val % 4 = 0
  · rw [outsAt0_A m c t h]
    frame_out
    canon_tiles x hx
    · have ex : x = ix4 0 0 p l := by funext a; fin_cases a <;> exact Fin.ext (by simp_all)
      rw [ex]
      exact (slab2_at _ p l).trans (dup_at m c t p l)
    · have e0 : (1 : ℕ) = (x 0).val := hx0
      have e1 : (x 0).val < 1 := (x 0).isLt
      omega
  · rw [outsAt0_B m c t h]
    frame_out
    canon_tiles x hx
    · have ex : x = ix4 0 0 p l := by funext a; fin_cases a <;> exact Fin.ext (by simp_all)
      rw [ex]
      exact (slab2_at _ p l).trans (dup_at m c t p l)
    · have e0 : (1 : ℕ) = (x 0).val := hx0
      have e1 : (x 0).val < 1 := (x 0).isLt
      omega

/-! ## The sums: the taps and the bias -/

/-- The tile's part of the bias's gradient. -/
theorem bias_sum (c : Dev nD) (t : Fin cfg0.N) (l : Fin 704) :
    ∑ p ∈ Finset.range 1024, rowOf (convTile m c t) p l
      = ∑ p ∈ Finset.range 1024, (args m c).dconv ((3 - t.val % 4) * 1024 + p) (col t l) :=
  Finset.sum_congr rfl fun p hp => convTile_row m c t p (Finset.mem_range.mp hp) l

theorem pay5_at (l : Fin 704) : k0_pay5 (F := Ideal) (ix3 0 0 l) = (0 : EReal) := by
  pointwise [k0_pay5]

theorem pay4_at (r : Fin 8) (l : Fin 704) : k0_pay4 (F := Ideal) (ix3 0 r l) = (0 : EReal) := by
  pointwise [k0_pay4]

set_option maxHeartbeats 1000000 in
/-- The first of four tiles starts the bias's gradient. -/
theorem bias_first (c : Dev nD) (t : Fin cfg0.N) (h : t.val % 4 = 0) (l : Fin 704) :
    (outsAt0 m c t.val t.isLt).2.2.1 (ix3 0 0 l)
      = (0 + ∑ p ∈ Finset.range 1024, (args m c).dconv ((3 - t.val % 4) * 1024 + p) (col t l) : EReal) := by
  rw [outsAt0_A m c t h]
  frame_out
  refine (pay13_at _ _ _ _ _ l).trans ?_
  exact congrArg₂ (· + ·) (pay5_at l) (bias_sum m c t l)

set_option maxHeartbeats 1000000 in
/-- A later tile adds its part to the bias's gradient. -/
theorem bias_next (c : Dev nD) (t : Fin cfg0.N) (h : ¬ t.val % 4 = 0) (l : Fin 704) :
    (outsAt0 m c t.val t.isLt).2.2.1 (ix3 0 0 l)
      = ((outsAt0 m c (t.val - 1) (by omega)).2.2.1 (ix3 0 0 l)
          + ∑ p ∈ Finset.range 1024, (args m c).dconv ((3 - t.val % 4) * 1024 + p) (col t l) : EReal) := by
  rw [outsAt0_B m c t h]
  frame_out
  refine (pay13_at _ _ _ _ _ l).trans ?_
  exact congrArg₂ (· + ·) rfl (bias_sum m c t l)

/-- The tile's part of row `r` of the taps' gradient: a tap on the first three rows, nothing on the others. -/
def tapPart (c : Dev nD) (t : Fin cfg0.N) (r : Fin 8) (l : Fin 704) : EReal :=
  if r.val < 3 then
    ∑ p ∈ Finset.range 1024, (args m c).pad ((3 - t.val % 4) * 1024 + p + r.val) (col t l)
      * (args m c).dconv ((3 - t.val % 4) * 1024 + p) (col t l)
  else 0

/-- Three rows stored one after the other, read back at any row. -/
theorem three_rows {sp : Space} {κ : Kind} (v : View sig κ sp S1x8x704 .f32) (f : v.ty.Contents (Elt Ideal))
    (p0 p1 p2 : S1x1x704.Idx → Elt Ideal .f32) (L : List (View.Piece (Elt Ideal) S1x8x704 .f32)) (r : Fin 8) (l : Fin 704) :
    v.read (Elt Ideal) (v.writes (Elt Ideal) f
        (⟨Rect.unit ![0, 2, 0] ![1, 1, 704] inb_S1x8x704_S1x1x704_0_2_0, p2⟩
          :: ⟨Rect.unit ![0, 1, 0] ![1, 1, 704] inb_S1x8x704_S1x1x704_0_1_0, p1⟩
          :: ⟨Rect.unit ![0, 0, 0] ![1, 1, 704] inb_S1x8x704_S1x1x704_0_0_0, p0⟩ :: L)) (ix3 0 r l)
      = if r.val = 2 then p2 (ix3 0 0 l) else if r.val = 1 then p1 (ix3 0 0 l) else if r.val = 0 then p0 (ix3 0 0 l)
        else v.read (Elt Ideal) (v.writes (Elt Ideal) f L) (ix3 0 r l) := by
  by_cases h2 : r.val = 2
  · rw [if_pos h2]
    refine View.read_writes_cons_unit_of_mem v f _ _ _ _ (ix3 0 0 l) rfl fun a => ?_
    fin_cases a <;> simp [ix3, h2]
  rw [if_neg h2]
  refine (View.read_writes_cons_unit_of_not_mem v f _ _ _ _ rfl 1 (by simp [ix3]; omega)).trans ?_
  by_cases h1 : r.val = 1
  · rw [if_pos h1]
    refine View.read_writes_cons_unit_of_mem v f _ _ _ _ (ix3 0 0 l) rfl fun a => ?_
    fin_cases a <;> simp [ix3, h1]
  rw [if_neg h1]
  refine (View.read_writes_cons_unit_of_not_mem v f _ _ _ _ rfl 1 (by simp [ix3]; omega)).trans ?_
  by_cases h0 : r.val = 0
  · rw [if_pos h0]
    refine View.read_writes_cons_unit_of_mem v f _ _ _ _ (ix3 0 0 l) rfl fun a => ?_
    fin_cases a <;> simp [ix3, h0]
  rw [if_neg h0]
  exact View.read_writes_cons_unit_of_not_mem v f _ _ _ _ rfl 1 (by simp [ix3]; omega)

/-- The same over a store of the whole block. -/
theorem three_rows_whole {sp : Space} {κ : Kind} (v : View sig κ sp S1x8x704 .f32) (f : v.ty.Contents (Elt Ideal))
    (p0 p1 p2 : S1x1x704.Idx → Elt Ideal .f32) (z : S1x8x704.Idx → Elt Ideal .f32) (r : Fin 8) (l : Fin 704) :
    v.read (Elt Ideal) (v.writes (Elt Ideal) f
        [⟨Rect.unit ![0, 2, 0] ![1, 1, 704] inb_S1x8x704_S1x1x704_0_2_0, p2⟩,
          ⟨Rect.unit ![0, 1, 0] ![1, 1, 704] inb_S1x8x704_S1x1x704_0_1_0, p1⟩,
          ⟨Rect.unit ![0, 0, 0] ![1, 1, 704] inb_S1x8x704_S1x1x704_0_0_0, p0⟩,
          ⟨Rect.unit ![0, 0, 0] ![1, 8, 704] inb_S1x8x704_S1x8x704_0_0_0, z⟩]) (ix3 0 r l)
      = if r.val = 2 then p2 (ix3 0 0 l) else if r.val = 1 then p1 (ix3 0 0 l) else if r.val = 0 then p0 (ix3 0 0 l)
        else z (ix3 0 r l) := by
  refine (three_rows v f p0 p1 p2 _ r l).trans ?_
  have e : v.read (Elt Ideal) (v.writes (Elt Ideal) f
      [⟨Rect.unit ![0, 0, 0] ![1, 8, 704] inb_S1x8x704_S1x8x704_0_0_0, z⟩]) (ix3 0 r l) = z (ix3 0 r l) := by
    refine View.read_writes_cons_unit_of_mem v f _ z [] (ix3 0 r l) (ix3 0 r l) rfl fun a => ?_
    fin_cases a <;> simp [ix3]
  rw [e]

/-- Row by row, what the three stores add to the block they find. -/
theorem tap_rows (c : Dev nD) (t : Fin cfg0.N) (y : Vec Ideal S1x8x704 .f32) (r : Fin 8) (l : Fin 704) :
    (if r.val = 2 then
        k0_pay21 (gateTile m c t)
          (k0_pay14 (k0_pay7 (iblk m c 2 t)) (k0_pay8 (iblk m c 2 t)) (upTile m c t) (FloatOps.ofBits FTy.f32 1065353216#32))
          (View.ld y (Rect.unit ![0, 2, 0] ![1, 1, 704] inb_S1x8x704_S1x1x704_0_2_0) : Vec Ideal S1x1x704 .f32) (ix3 0 0 l)
      else if r.val = 1 then
        k0_pay20 (gateTile m c t)
          (k0_pay16 (k0_pay7 (iblk m c 2 t)) (k0_pay8 (iblk m c 2 t)) (upTile m c t) (FloatOps.ofBits FTy.f32 1065353216#32))
          (k0_pay19 (View.ld y (Rect.unit ![0, 1, 0] ![1, 1, 704] inb_S1x8x704_S1x1x704_0_1_0) : Vec Ideal S1x1x704 .f32)) (ix3 0 0 l)
      else if r.val = 0 then
        k0_pay18 (gateTile m c t) (k0_pay7 (iblk m c 2 t)) (k0_pay8 (iblk m c 2 t)) (upTile m c t)
          (FloatOps.ofBits FTy.f32 1065353216#32)
          (View.ld y (Rect.unit ![0, 0, 0] ![1, 1, 704] inb_S1x8x704_S1x1x704_0_0_0) : Vec Ideal S1x1x704 .f32) (ix3 0 0 l)
      else y (ix3 0 r l))
      = (y (ix3 0 r l) + tapPart m c t r l : EReal) := by
  unfold tapPart
  by_cases h2 : r.val = 2
  · obtain rfl : r = 2 := Fin.ext h2
    rw [if_pos h2, if_pos (by decide)]
    refine (pay21_at _ _ _ _ _ _ l).trans (congrArg₂ (· + ·) ?_ (tap_sum m c t 2 (by decide) l))
    pointwise
  rw [if_neg h2]
  by_cases h1 : r.val = 1
  · obtain rfl : r = 1 := Fin.ext h1
    rw [if_pos h1, if_pos (by decide)]
    refine (pay20_at _ _ _ _ _ _ l).trans (congrArg₂ (· + ·) ?_ (tap_sum m c t 1 (by decide) l))
    pointwise
  rw [if_neg h1]
  by_cases h0 : r.val = 0
  · obtain rfl : r = 0 := Fin.ext h0
    rw [if_pos h0, if_pos (by decide)]
    refine (pay18_at _ _ _ _ _ _ l).trans (congrArg₂ (· + ·) ?_ (tap_sum m c t 0 (by decide) l))
    pointwise
  rw [if_neg h0, if_neg (by omega), add_zero]

set_option maxHeartbeats 1000000 in
/-- The first of four tiles starts the taps' gradient. -/
theorem taps_first (c : Dev nD) (t : Fin cfg0.N) (h : t.val % 4 = 0) (r : Fin 8) (l : Fin 704) :
    (outsAt0 m c t.val t.isLt).2.1 (ix3 0 r l) = 0 + tapPart m c t r l := by
  rw [outsAt0_A m c t h]
  frame_open
  simp (disch := decide) only [↓ View.readCov_skip, ↓ View.readCov_cons_toLoadRect, ↓ View.readCov_fill]
  frame_out
  rw [← View.read_writes_junk_eq_canon (ms0_7 t).view]
  refine (three_rows_whole _ _ _ _ _ _ r l).trans ?_
  exact (tap_rows m c t (k0_pay4 (F := Ideal)) r l).trans (congrArg (· + tapPart m c t r l) (pay4_at r l))

set_option maxHeartbeats 1000000 in
/-- A later tile adds its part to the taps' gradient. -/
theorem taps_next (c : Dev nD) (t : Fin cfg0.N) (h : ¬ t.val % 4 = 0) (r : Fin 8) (l : Fin 704) :
    (outsAt0 m c t.val t.isLt).2.1 (ix3 0 r l)
      = ((outsAt0 m c (t.val - 1) (by omega)).2.1 (ix3 0 r l) + tapPart m c t r l : EReal) := by
  rw [outsAt0_B m c t h]
  frame_out
  refine (three_rows _ _ _ _ _ _ r l).trans ?_
  refine Eq.trans ?_ (tap_rows m c t (outsAt0 m c (t.val - 1) (by omega)).2.1 r l)
  congr 3
  exact congrFun (Memref.IsWhole.read_unread _ _) _

end Cert.Proof

end
-- ==== Proof.Arrays.lean ====
/- The kernel's three results after its run, entry by entry: the gradients of the gate and of the up projection, the
   gradients of the three taps (with five rows of zeros after them), and the gradient of the bias. -/
module

public import proofs.«01_k».proof.Proof.Points
public import proofs.«01_k».proof.Proof.Gen.KernelIdeal.Value
public import Idealize.ShloMosaic.Lib.Pipeline.ValueKit

@[expose] public section

set_option maxRecDepth 16384

noncomputable section

namespace Cert.Proof

open Cert.KernelIdeal Cert.KernelIdeal.Gen Idealize.ShloMosaic Idealize.ShloMosaic.TcCoe Idealize.SL.Sem

/-- The channel at lane `l` of block `b`. -/
abbrev chan (b : Fin 4) (l : Fin 704) : Fin 2816 := ⟨b.val * 704 + l.val, by omega⟩

/-- The gradients of the two projections as one array. -/
def In.projections (a : In) : FVec Ideal S2x4x4096x704 .bf16 := fun i =>
  if (i 0).val = 0 then a.dgate (i 2).val (chan (i 1) (i 3)) else a.dup (i 2) (chan (i 1) (i 3))

/-- The gradients of the taps, eight rows of which three are taps. -/
def In.taps (a : In) : FVec Ideal S4x8x704 .f32 := fun i =>
  if (i 1).val < 3 then a.dtap (i 1).val (chan (i 0) (i 2)) else 0

/-- The gradient of the bias. -/
def In.bias (a : In) : FVec Ideal S4x1x704 .f32 := fun i => a.dbias (chan (i 0) (i 2))

variable (m : (ℓ : Loc nD τ sig) → Buf (Elt Ideal) ℓ)

theorem outIdx : ∀ t : Fin cfg0.N, win0_6.index t = ![0, t.val / 4, 3 - t.val % 4, 0]
    ∧ win0_7.index t = ![t.val / 4, 0, 0] ∧ win0_8.index t = ![t.val / 4, 0, 0] :=
  (by decide +kernel : ∀ t : Fin grid0.N, _)

theorem place6 (t : Fin cfg0.N) (s : Fin 2) (p : Fin 1024) (l : Fin 704) :
    (win0_6.blk t).view.emb (ix4 s 0 p l) = ix4 s ⟨t.val / 4, by have := lt16 t; omega⟩ (row t p) l := by
  blk_ext [outIdx t, row]

theorem place7 (t : Fin cfg0.N) (r : Fin 8) (l : Fin 704) :
    (win0_7.blk t).view.emb (ix3 0 r l) = ix3 ⟨t.val / 4, by have := lt16 t; omega⟩ r l := by
  blk_ext [outIdx t]

theorem place8 (t : Fin cfg0.N) (l : Fin 704) :
    (win0_8.blk t).view.emb (ix3 0 0 l) = ix3 ⟨t.val / 4, by have := lt16 t; omega⟩ 0 l := by
  blk_ext [outIdx t]

theorem eq6 (y : S2x1x1024x704.Idx) : y = ix4 (y 0) 0 (y 2) (y 3) := by
  funext a
  fin_cases a
  · rfl
  · exact Subsingleton.elim (α := Fin 1) _ _
  · rfl
  · rfl

theorem eq7 (y : S1x8x704.Idx) : y = ix3 0 (y 1) (y 2) := by
  funext a
  fin_cases a
  · exact Subsingleton.elim (α := Fin 1) _ _
  · rfl
  · rfl

theorem eq8 (y : S1x1x704.Idx) : y = ix3 0 0 (y 2) := by
  funext a
  fin_cases a
  · exact Subsingleton.elim (α := Fin 1) _ _
  · exact Subsingleton.elim (α := Fin 1) _ _
  · rfl

/-- The gradients of the two projections. -/
theorem final_projections (c : Dev nD) : (dats m 0 c).arrAt 6 cfg0.N = (args m c).projections := by
  refine (dats m 0 c).arrAt_eq_of_covers 6 _ (by decide +kernel) fun t _ y => ?_
  blk_simp
  rw [after0_6]
  have e : ∀ (s : Fin 2) (p : Fin 1024) (l : Fin 704), (outsAt0 m c t.val t.isLt).1 (ix4 s 0 p l)
      = (args m c).projections ((win0_6.blk t).view.emb (ix4 s 0 p l)) := by
    intro s p l
    rw [place6]
    unfold In.projections
    by_cases h : s.val = 0
    · obtain rfl : s = 0 := Fin.ext h
      exact out_gate m c t p l
    · obtain rfl : s = 1 := Fin.ext (by omega)
      exact out_up m c t p l
  have ey := eq6 y
  rw [ey]
  exact e _ _ _

/-- The taps' gradient at a run's last point is the sum of its four tiles' parts. -/
theorem taps_at (c : Dev nD) (t : Fin cfg0.N) (hr : t.val % 4 = 3) (r : Fin 8) (l : Fin 704) :
    (outsAt0 m c t.val t.isLt).2.1 (ix3 0 r l) = if r.val < 3 then (args m c).dtap r.val (col t l) else 0 := by
  have hsum := Pipeline.eq_sum_fin_of_reset_step_apply_of_flush (N := cfg0.N) (ι := Fin 8 × Fin 704) (M := EReal)
    (fun n h i => (outsAt0 m c n h).2.1 (ix3 0 i.1 i.2)) 4 (fun _ => 0) (fun t i => tapPart m c t i.1 i.2)
    (fun t h i => taps_first m c t h i.1 i.2) (fun t h i => taps_next m c t h i.1 i.2) t hr (r, l)
  refine hsum.trans ?_
  rw [zero_add]
  unfold tapPart
  by_cases h : r.val < 3
  · simp only [h, if_true]
    refine Eq.trans ?_ (sum_tiles fun q => (args m c).pad (q + r.val) (col t l) * (args m c).dconv q (col t l))
    refine Finset.sum_congr rfl fun s _ => ?_
    have hs : (4 * (t.val / 4) + s.val) % 4 = s.val := by omega
    have hc : col ⟨4 * (t.val / 4) + s.val, Pipeline.run_point_lt_of_flush t hr s⟩ l = col t l :=
      Fin.ext (by simp only [col]; omega)
    rw [hc]
    simp only [hs]
  · simp only [h, if_false, Finset.sum_const_zero]

/-- The bias's gradient at a run's last point is the sum of its four tiles' parts. -/
theorem bias_at (c : Dev nD) (t : Fin cfg0.N) (hr : t.val % 4 = 3) (l : Fin 704) :
    (outsAt0 m c t.val t.isLt).2.2.1 (ix3 0 0 l) = (args m c).dbias (col t l) := by
  have hsum := Pipeline.eq_sum_fin_of_reset_step_apply_of_flush (N := cfg0.N) (ι := Fin 704) (M := EReal)
    (fun n h i => (outsAt0 m c n h).2.2.1 (ix3 0 0 i)) 4 (fun _ => 0)
    (fun t i => ∑ p ∈ Finset.range 1024, (args m c).dconv ((3 - t.val % 4) * 1024 + p) (col t i))
    (fun t h i => bias_first m c t h i) (fun t h i => bias_next m c t h i) t hr l
  refine hsum.trans ?_
  rw [zero_add]
  refine Eq.trans ?_ (sum_tiles fun q => (args m c).dconv q (col t l))
  refine Finset.sum_congr rfl fun s _ => ?_
  have hs : (4 * (t.val / 4) + s.val) % 4 = s.val := by omega
  have hc : col ⟨4 * (t.val / 4) + s.val, Pipeline.run_point_lt_of_flush t hr s⟩ l = col t l :=
    Fin.ext (by simp only [col]; omega)
  rw [hc]
  simp only [hs]

/-- The gradients of the taps. -/
theorem final_taps (c : Dev nD) : (dats m 0 c).arrAt 7 cfg0.N = (args m c).taps := by
  refine (dats m 0 c).arrAt_eq_of_covers 7 _ (by decide +kernel) fun t hf y => ?_
  blk_simp
  rw [after0_7]
  have e : ∀ (r : Fin 8) (l : Fin 704), (outsAt0 m c t.val t.isLt).2.1 (ix3 0 r l)
      = (args m c).taps ((win0_7.blk t).view.emb (ix3 0 r l)) := by
    intro r l
    rw [place7]
    exact taps_at m c t ((flush0_7 t).mp hf) r l
  have ey := eq7 y
  rw [ey]
  exact e _ _

/-- The gradient of the bias. -/
theorem final_bias (c : Dev nD) : (dats m 0 c).arrAt 8 cfg0.N = (args m c).bias := by
  refine (dats m 0 c).arrAt_eq_of_covers 8 _ (by decide +kernel) fun t hf y => ?_
  blk_simp
  rw [after0_8]
  have e : ∀ l : Fin 704, (outsAt0 m c t.val t.isLt).2.2.1 (ix3 0 0 l)
      = (args m c).bias ((win0_8.blk t).view.emb (ix3 0 0 l)) := by
    intro l
    rw [place8]
    exact bias_at m c t ((flush0_8 t).mp hf) l
  have ey := eq8 y
  rw [ey]
  exact e _

end Cert.Proof

end
-- ==== Proof.Reference.lean ====
/- What the reference computes, entry by entry: the vector-Jacobian product of the convolved, gated feed-forward, read
   down to the gradients of Spec.lean. -/
module

public import proofs.«01_k».proof.Proof.Spec
public import proofs.«01_k».proof.Proof.Gen.ReferenceIdeal.Run
public import proofs.«01_k».proof.Proof.Gen.ReferenceIdeal.Read
public import Idealize.ShloMosaic.Lib.Pointwise
public import Idealize.ShloMosaic.Lib.KernelVsHost

@[expose] public section

set_option maxRecDepth 16384

noncomputable section

namespace Cert.Proof.Ref

open Cert.ReferenceIdeal Cert.ReferenceIdeal.Gen Cert.ReferenceIdeal.Read Idealize.ShloMosaic Idealize.ShloMosaic.TcCoe Idealize.SL.Sem

variable (x0 x1 : FVec Ideal S4096x2816 .f32) (x2 : FVec Ideal S3x2816 .f32) (x3 : FVec Ideal S2816 .f32)
  (x4 : FVec Ideal S2816x1024 .f32) (x5 : FVec Ideal S4096x1024 .f32)

/-- The arguments. -/
abbrev ins : In := ⟨x0, x1, x2, x3, x4, x5⟩

theorem pad_at (q : Fin 4098) (ch : Fin 2816) :
    val_main_v1 (F := Ideal) x0 (ix2 q ch) = (ins x0 x1 x2 x3 x4 x5).pad q.val ch := by
  unfold In.pad
  have h : val_main_v1 (F := Ideal) x0 (ix2 q ch)
      = if h : q.val < 2 then (0 : EReal) else x0 (ix2 ⟨q.val - 2, by omega⟩ ch) := by
    pointwise [val_main_v1, val_main_v0, val_main_cst]
  rw [h]
  by_cases h2 : q.val < 2
  · rw [dif_pos h2, dif_neg (by omega)]
  · rw [dif_neg h2, dif_pos (by omega)]

theorem conv_at (q : Fin 4096) (ch : Fin 2816) :
    val_main_v27 (F := Ideal) x0 x2 x3 (ix2 q ch) = (ins x0 x1 x2 x3 x4 x5).conv q.val ch := by
  have h : val_main_v27 (F := Ideal) x0 x2 x3 (ix2 q ch)
      = 0 + x2 (ix2 0 ch) * val_main_v1 (F := Ideal) x0 (ix2 ⟨q.val, by omega⟩ ch)
        + x2 (ix2 1 ch) * val_main_v1 (F := Ideal) x0 (ix2 ⟨1 + q.val, by omega⟩ ch)
        + x2 (ix2 2 ch) * val_main_v1 (F := Ideal) x0 (ix2 ⟨2 + q.val, by omega⟩ ch) + x3 (ix1 ch) := by
    pointwise [val_main_v27, val_main_v24, val_main_v17, val_main_v10, val_main_v9, val_main_cst_1, val_main_v8, val_main_v16,
      val_main_v23, val_main_v7, val_main_v15, val_main_v22, val_main_v6, val_main_v14, val_main_v21, val_main_v4, val_main_v12,
      val_main_v19, val_main_v3, val_main_v11, val_main_v18, val_main_v5, val_main_v13, val_main_v20, val_main_v26, val_main_v25]
  rw [h, pad_at x0 x1 x2 x3 x4 x5, pad_at x0 x1 x2 x3 x4 x5, pad_at x0 x1 x2 x3 x4 x5, zero_add, add_comm,
    show (⟨1 + q.val, by omega⟩ : Fin 4098).val = q.val + 1 from Nat.add_comm _ _,
    show (⟨2 + q.val, by omega⟩ : Fin 4098).val = q.val + 2 from Nat.add_comm _ _]
  rfl

theorem act_at (q : Fin 4096) (ch : Fin 2816) :
    val_main_v33 (F := Ideal) x4 x5 (ix2 q ch) = (ins x0 x1 x2 x3 x4 x5).act q ch := by
  unfold In.act
  pointwise [val_main_v33]

theorem sig_at (q : Fin 4096) (ch : Fin 2816) :
    val_main_v28_2 (F := Ideal) x0 x2 x3 (ix2 q ch)
      = Ideal.logistic (val_main_v27 (F := Ideal) x0 x2 x3 (ix2 q ch)) := by
  pointwise [val_main_v28_2, val_main_call0_v4, val_main_call0_cst_0, val_main_call0_v3, val_main_call0_v2, val_main_call0_cst,
    val_main_call0_v1, val_main_call0_v0]
  rfl

theorem dup_at (q : Fin 4096) (ch : Fin 2816) :
    val_main_v34 (F := Ideal) x0 x2 x3 x4 x5 (ix2 q ch) = (ins x0 x1 x2 x3 x4 x5).dup q ch := by
  have h : val_main_v34 (F := Ideal) x0 x2 x3 x4 x5 (ix2 q ch)
      = (val_main_v27 (F := Ideal) x0 x2 x3 (ix2 q ch) * val_main_v28_2 (F := Ideal) x0 x2 x3 (ix2 q ch))
        * val_main_v33 (F := Ideal) x4 x5 (ix2 q ch) := by
    pointwise [val_main_v34, val_main_v28_0]
  rw [h, sig_at, conv_at x0 x1 x2 x3 x4 x5, act_at x0 x1 x2 x3 x4 x5, mul_comm]
  rfl

/-- The cotangent of the convolved gate, as differentiation leaves it. -/
theorem dconv_at (q : Fin 4096) (ch : Fin 2816) :
    val_main_v36 (F := Ideal) x0 x1 x2 x3 x4 x5 (ix2 q ch)
      = (let a := (ins x0 x1 x2 x3 x4 x5).act q ch * x1 (ix2 q ch)
         let g := (ins x0 x1 x2 x3 x4 x5).conv q.val ch
         a * Ideal.logistic g + (g * a) * (Ideal.logistic g * (1 - Ideal.logistic g)) : EReal) := by
  have h : val_main_v36 (F := Ideal) x0 x1 x2 x3 x4 x5 (ix2 q ch)
      = (let a := val_main_v33 (F := Ideal) x4 x5 (ix2 q ch) * x1 (ix2 q ch)
         let g := val_main_v27 (F := Ideal) x0 x2 x3 (ix2 q ch)
         let s := val_main_v28_2 (F := Ideal) x0 x2 x3 (ix2 q ch)
         a * s + (g * a) * (s * (1 - s)) : EReal) := by
    pointwise [val_main_v36, val_main_call1_v1, val_main_call1_v2, val_main_call1_v0, val_main_v35, val_main_v28_1,
      val_main_call0_v7, val_main_call0_v6, val_main_call0_cst_1]
  rw [h]
  simp only [sig_at, conv_at x0 x1 x2 x3 x4 x5, act_at x0 x1 x2 x3 x4 x5]

/-- The gradient of the gate, over the cotangent `D` of the convolved gate. -/
theorem dgate_at (q : Fin 4096) (ch : Fin 2816) (D : ℕ → EReal)
    (hD : ∀ q : Fin 4096, val_main_v36 (F := Ideal) x0 x1 x2 x3 x4 x5 (ix2 q ch) = D q.val) (h0 : ∀ q, 4096 ≤ q → D q = 0) :
    val_main_v72 (F := Ideal) x0 x1 x2 x3 x4 x5 (ix2 q ch)
      = D (q.val + 2) * x2 (ix2 0 ch) + D (q.val + 1) * x2 (ix2 1 ch) + D q.val * x2 (ix2 2 ch) := by
  have h : val_main_v72 (F := Ideal) x0 x1 x2 x3 x4 x5 (ix2 q ch)
      = ((x2 (ix2 2 ch) * val_main_v36 (F := Ideal) x0 x1 x2 x3 x4 x5 (ix2 q ch)
          + if h : 1 ≤ 2 + q.val ∧ 2 + q.val - 1 < 4096 then
              x2 (ix2 1 ch) * val_main_v36 (F := Ideal) x0 x1 x2 x3 x4 x5 (ix2 ⟨2 + q.val - 1, h.2⟩ ch) else 0)
        + if h : 2 + q.val < 4096 then
            x2 (ix2 0 ch) * val_main_v36 (F := Ideal) x0 x1 x2 x3 x4 x5 (ix2 ⟨2 + q.val, h⟩ ch) else 0 : EReal) := by
    pointwise [val_main_v72, val_main_v67, val_main_v56, val_main_v46, val_main_v55, val_main_v66, val_main_v41, val_main_v50,
      val_main_v61, val_main_v40, val_main_v49, val_main_v60, val_main_v6, val_main_v14, val_main_v21, val_main_v4, val_main_v12,
      val_main_v19, val_main_v3, val_main_v11, val_main_v18, val_main_cst_6, val_main_cst_10, val_main_cst_14]
  have e1 : (if h : 1 ≤ 2 + q.val ∧ 2 + q.val - 1 < 4096 then
      x2 (ix2 1 ch) * val_main_v36 (F := Ideal) x0 x1 x2 x3 x4 x5 (ix2 ⟨2 + q.val - 1, h.2⟩ ch) else (0 : EReal))
      = D (q.val + 1) * x2 (ix2 1 ch) := by
    by_cases h : q.val + 1 < 4096
    · rw [dif_pos (by omega), hD, mul_comm]
      exact congrArg (fun n => D n * x2 (ix2 1 ch)) (show 2 + q.val - 1 = q.val + 1 by omega)
    · rw [dif_neg (by omega), h0 _ (by omega), zero_mul]
  have e2 : (if h : 2 + q.val < 4096 then
      x2 (ix2 0 ch) * val_main_v36 (F := Ideal) x0 x1 x2 x3 x4 x5 (ix2 ⟨2 + q.val, h⟩ ch) else (0 : EReal))
      = D (q.val + 2) * x2 (ix2 0 ch) := by
    by_cases h : q.val + 2 < 4096
    · rw [dif_pos (by omega), hD, mul_comm]
      exact congrArg (fun n => D n * x2 (ix2 0 ch)) (show 2 + q.val = q.val + 2 by omega)
    · rw [dif_neg (by omega), h0 _ (by omega), zero_mul]
  rw [h, e1, e2, hD, mul_comm (x2 (ix2 2 ch))]
  exact (add_comm _ _).trans ((congrArg (_ + ·) (add_comm _ _)).trans (add_assoc _ _ _).symm)

/-- A sum over the rows of the cotangent times the gate, `j` rows further down its padded copy. -/
theorem tap_sum (ch : Fin 2816) (j : ℕ) (hj : j ≤ 2) (D : ℕ → EReal)
    (hD : ∀ q : Fin 4096, val_main_v36 (F := Ideal) x0 x1 x2 x3 x4 x5 (ix2 q ch) = D q.val) :
    ∑ q : Fin 4096, val_main_v36 (F := Ideal) x0 x1 x2 x3 x4 x5 (ix2 q ch)
        * val_main_v1 (F := Ideal) x0 (ix2 ⟨j + q.val, by omega⟩ ch)
      = ∑ q ∈ Finset.range 4096, (ins x0 x1 x2 x3 x4 x5).pad (q + j) ch * D q := by
  rw [Finset.sum_range]
  refine Finset.sum_congr rfl fun q _ => ?_
  rw [hD, pad_at x0 x1 x2 x3 x4 x5, mul_comm, Nat.add_comm q.val j]

theorem tap0_at (ch : Fin 2816) : val_main_v65 (F := Ideal) x0 x1 x2 x3 x4 x5 (ix1 ch)
    = (∑ q : Fin 4096, val_main_v36 (F := Ideal) x0 x1 x2 x3 x4 x5 (ix2 q ch)
        * val_main_v1 (F := Ideal) x0 (ix2 ⟨0 + q.val, by omega⟩ ch) : EReal) := by
  simp only [Nat.zero_add]
  pointwise [val_main_v65, val_main_v64, val_main_v63, val_main_v62, val_main_v5, val_main_cst_13, val_main_cst_12]
  exact Fin.sum_univ_one _

theorem tap1_at (ch : Fin 2816) : val_main_v54 (F := Ideal) x0 x1 x2 x3 x4 x5 (ix1 ch)
    = (∑ q : Fin 4096, val_main_v36 (F := Ideal) x0 x1 x2 x3 x4 x5 (ix2 q ch)
        * val_main_v1 (F := Ideal) x0 (ix2 ⟨1 + q.val, by omega⟩ ch) : EReal) := by
  pointwise [val_main_v54, val_main_v53, val_main_v52, val_main_v51, val_main_v13, val_main_cst_9, val_main_cst_8]
  exact Fin.sum_univ_one _

theorem tap2_at (ch : Fin 2816) : val_main_v45 (F := Ideal) x0 x1 x2 x3 x4 x5 (ix1 ch)
    = (∑ q : Fin 4096, val_main_v36 (F := Ideal) x0 x1 x2 x3 x4 x5 (ix2 q ch)
        * val_main_v1 (F := Ideal) x0 (ix2 ⟨2 + q.val, by omega⟩ ch) : EReal) := by
  pointwise [val_main_v45, val_main_v44, val_main_v43, val_main_v42, val_main_v20, val_main_cst_5, val_main_cst_4]
  exact Fin.sum_univ_one _

theorem dbias_at (ch : Fin 2816) : val_main_v39 (F := Ideal) x0 x1 x2 x3 x4 x5 (ix1 ch)
    = (∑ q : Fin 4096, val_main_v36 (F := Ideal) x0 x1 x2 x3 x4 x5 (ix2 q ch) : EReal) := by
  pointwise [val_main_v39, val_main_v38, val_main_v37, val_main_cst_2, val_main_cst_3]
  exact Fin.sum_univ_one _

theorem row0_at (ch : Fin 2816) :
    val_main_v70 (F := Ideal) x0 x1 x2 x3 x4 x5 (ix2 0 ch) = val_main_v65 (F := Ideal) x0 x1 x2 x3 x4 x5 (ix1 ch) := by
  pointwise [val_main_v70, val_main_v59, val_main_v48, val_main_v58, val_main_v69, val_main_v68, val_main_v57, val_main_v47,
    val_main_cst_7, val_main_cst_11, val_main_cst_15]

theorem row1_at (ch : Fin 2816) :
    val_main_v70 (F := Ideal) x0 x1 x2 x3 x4 x5 (ix2 1 ch) = val_main_v54 (F := Ideal) x0 x1 x2 x3 x4 x5 (ix1 ch) := by
  pointwise [val_main_v70, val_main_v59, val_main_v48, val_main_v58, val_main_v69, val_main_v68, val_main_v57, val_main_v47,
    val_main_cst_7, val_main_cst_11, val_main_cst_15]

theorem row2_at (ch : Fin 2816) :
    val_main_v70 (F := Ideal) x0 x1 x2 x3 x4 x5 (ix2 2 ch) = val_main_v45 (F := Ideal) x0 x1 x2 x3 x4 x5 (ix1 ch) := by
  pointwise [val_main_v70, val_main_v59, val_main_v48, val_main_v58, val_main_v69, val_main_v68, val_main_v57, val_main_v47,
    val_main_cst_7, val_main_cst_11, val_main_cst_15]

theorem fill_at : val_main_call2_v0 (F := Ideal) (Shape.Idx.first h_S_) = (0 : EReal) := by
  exact sitofp_zero (φ := .f32)

theorem padded_at (r : Fin 8) (ch : Fin 2816) :
    val_main_v79 (F := Ideal) x0 x1 x2 x3 x4 x5 (ix2 r ch)
      = if h : r.val < 3 ∧ ch.val < 2816 then val_main_v70 (F := Ideal) x0 x1 x2 x3 x4 x5 (ix2 ⟨r.val, h.1⟩ ⟨ch.val, h.2⟩)
        else val_main_call2_v0 (F := Ideal) (Shape.Idx.first h_S_) := by
  pointwise [val_main_v79]

theorem taps_at (j : Fin 4) (r : Fin 8) (l : Fin 704) :
    val_main_v81 (F := Ideal) x0 x1 x2 x3 x4 x5 (ix3 j r l)
      = val_main_v79 (F := Ideal) x0 x1 x2 x3 x4 x5 (ix2 r ⟨j.val * 704 + l.val, by omega⟩) := by
  pointwise [val_main_v81, val_main_v80]

theorem bias_at (j : Fin 4) (l : Fin 704) :
    val_main_v82 (F := Ideal) x0 x1 x2 x3 x4 x5 (ix3 j 0 l)
      = val_main_v39 (F := Ideal) x0 x1 x2 x3 x4 x5 (ix1 ⟨j.val * 704 + l.val, by omega⟩) := by
  pointwise [val_main_v82]

theorem stack0_at (q : Fin 4096) (ch : Fin 2816) :
    val_main_v75 (F := Ideal) x0 x1 x2 x3 x4 x5 (ix3 0 q ch) = val_main_v72 (F := Ideal) x0 x1 x2 x3 x4 x5 (ix2 q ch) := by
  pointwise [val_main_v75, val_main_v74, val_main_v73]

theorem stack1_at (q : Fin 4096) (ch : Fin 2816) :
    val_main_v75 (F := Ideal) x0 x1 x2 x3 x4 x5 (ix3 1 q ch) = val_main_v34 (F := Ideal) x0 x2 x3 x4 x5 (ix2 q ch) := by
  pointwise [val_main_v75, val_main_v74, val_main_v73]

theorem stacked_at (b : Fin 2) (j : Fin 4) (q : Fin 4096) (l : Fin 704) :
    val_main_v78 (F := Ideal) x0 x1 x2 x3 x4 x5 (ix4 b j q l)
      = val_main_v75 (F := Ideal) x0 x1 x2 x3 x4 x5 (ix3 b q ⟨j.val * 704 + l.val, by omega⟩) := by
  rw [val_main_v78_apply, val_main_v77_apply, val_main_v76_apply]
  refine congrArg (val_main_v75 (F := Ideal) x0 x1 x2 x3 x4 x5) (funext fun a => ?_)
  fin_cases a
  · exact Fin.ext (show ((((b.val * 4096 + q.val) * 4 + j.val) * 704 + l.val) / 11534336 : ℕ) = b.val by omega)
  · exact Fin.ext (show ((((b.val * 4096 + q.val) * 4 + j.val) * 704 + l.val) / 2816 % 4096 : ℕ) = q.val by omega)
  · exact Fin.ext (show ((((b.val * 4096 + q.val) * 4 + j.val) * 704 + l.val) % 2816 : ℕ) = j.val * 704 + l.val by omega)

end Cert.Proof.Ref

end
-- ==== Proof.Equation.lean ====
/- Where the two computations differ and why they agree: the derivative of `x * logistic x` in two arrangements, equal
   when the factor it multiplies is finite, which the finiteness of the arguments gives. -/
module

public import proofs.«01_k».proof.Proof.Arrays
public import proofs.«01_k».proof.Proof.Reference
public import proofs.«01_k».proof.Defs
public import proofs.«01_k».proof.Proof.Gen.Pre_finite

@[expose] public section

set_option maxRecDepth 16384

noncomputable section

namespace Cert.Proof

open Cert.KernelIdeal Idealize.ShloMosaic Idealize.ShloMosaic.TcCoe Idealize.SL.Sem

/-- `a·s + (g·a)·(s·(1 − s)) = a·(s·(1 + g·(1 − s)))` with `s = logistic g`, for a finite `a` and any `g`. -/
theorem silu_forms (a : ℝ) (g : EReal) :
    ((a : EReal) * Ideal.logistic g + (g * a) * (Ideal.logistic g * (1 - Ideal.logistic g)) : EReal) = a * In.dsilu g := by
  unfold In.dsilu
  induction g with
  | bot => simp
  | top =>
    have h : (1 : EReal) - 1 = 0 := by rw [← EReal.coe_one, ← EReal.coe_sub, sub_self, EReal.coe_zero]
    simp [h]
  | coe g =>
    rw [Ideal.logistic_coe]
    generalize (1 + Real.exp (-g))⁻¹ = s
    norm_cast
    push_cast
    ring

theorem real_of_sub_self {x : EReal} (h : x - x = 0) : ∃ r : ℝ, x = r := by
  induction x with
  | bot => simp at h
  | top => simp at h
  | coe r => exact ⟨r, rfl⟩

/-- A sum of products of finite numbers is finite. -/
theorem real_sum {n : ℕ} (f g : Fin n → EReal) (hf : ∀ k, ∃ r : ℝ, f k = r) (hg : ∀ k, ∃ r : ℝ, g k = r) :
    ∃ r : ℝ, ∑ k, f k * g k = r := by
  choose u hu using hf
  choose v hv using hg
  refine ⟨∑ k, u k * v k, ?_⟩
  simp only [hu, hv, ← EReal.coe_mul]
  exact (map_sum (⟨⟨Real.toEReal, EReal.coe_zero⟩, EReal.coe_add⟩ : ℝ →+ EReal) _ _).symm

/-- The arguments the derivative needs finite. -/
structure In.Finite (a : In) : Prop where
  up : ∀ q ch, ∃ r : ℝ, a.up (ix2 q ch) = (r : EReal)
  wd : ∀ ch k, ∃ r : ℝ, a.wd (ix2 ch k) = (r : EReal)
  ct : ∀ q k, ∃ r : ℝ, a.ct (ix2 q k) = (r : EReal)

theorem In.Finite.act {a : In} (h : a.Finite) (q : Fin 4096) (ch : Fin 2816) : ∃ r : ℝ, a.act q ch = r :=
  real_sum _ _ (fun k => h.ct q k) (fun k => h.wd ch k)

section
variable (x0 x1 : FVec Ideal S4096x2816 .f32) (x2 : FVec Ideal S3x2816 .f32) (x3 : FVec Ideal S2816 .f32)
  (x4 : FVec Ideal S2816x1024 .f32) (x5 : FVec Ideal S4096x1024 .f32)

open Cert.ReferenceIdeal.Read

/-- The reference's cotangent of the convolved gate. -/
theorem ref_dconv (h : (Ref.ins x0 x1 x2 x3 x4 x5).Finite) (ch : Fin 2816) (q : Fin 4096) :
    val_main_v36 (F := Ideal) x0 x1 x2 x3 x4 x5 (ix2 q ch) = (Ref.ins x0 x1 x2 x3 x4 x5).dconv q.val ch := by
  rw [Ref.dconv_at, In.dconv, dif_pos q.isLt]
  obtain ⟨u, hu⟩ := h.act q ch
  obtain ⟨v, hv⟩ := h.up q ch
  have hv : x1 (ix2 q ch) = (v : EReal) := hv
  simp only [hu, hv]
  have e := silu_forms (u * v) ((Ref.ins x0 x1 x2 x3 x4 x5).conv q.val ch)
  rw [EReal.coe_mul] at e
  exact e

theorem dconv_past (a : In) (ch : Fin 2816) (q : ℕ) (hq : 4096 ≤ q) : a.dconv q ch = 0 := by
  rw [In.dconv, dif_neg (by omega)]

theorem ref_projections (h : (Ref.ins x0 x1 x2 x3 x4 x5).Finite) :
    val_main_v78 (F := Ideal) x0 x1 x2 x3 x4 x5 = (Ref.ins x0 x1 x2 x3 x4 x5).projections := by
  have e : ∀ (b : Fin 2) (j : Fin 4) (q : Fin 4096) (l : Fin 704),
      val_main_v78 (F := Ideal) x0 x1 x2 x3 x4 x5 (ix4 b j q l)
        = (Ref.ins x0 x1 x2 x3 x4 x5).projections (ix4 b j q l) := by
    intro b j q l
    rw [Ref.stacked_at]
    unfold In.projections
    by_cases hb : b.val = 0
    · obtain rfl : b = 0 := Fin.ext hb
      rw [Ref.stack0_at, Ref.dgate_at x0 x1 x2 x3 x4 x5 q _ (fun n => (Ref.ins x0 x1 x2 x3 x4 x5).dconv n _)
        (ref_dconv x0 x1 x2 x3 x4 x5 h _) (dconv_past _ _)]
      rfl
    · obtain rfl : b = 1 := Fin.ext (by omega)
      rw [Ref.stack1_at, Ref.dup_at x0 x1 x2 x3 x4 x5]
      rfl
  funext i
  rw [show i = ix4 (i 0) (i 1) (i 2) (i 3) by funext a; fin_cases a <;> rfl]
  exact e _ _ _ _

theorem ref_taps (h : (Ref.ins x0 x1 x2 x3 x4 x5).Finite) :
    val_main_v81 (F := Ideal) x0 x1 x2 x3 x4 x5 = (Ref.ins x0 x1 x2 x3 x4 x5).taps := by
  have e : ∀ (j : Fin 4) (r : Fin 8) (l : Fin 704),
      val_main_v81 (F := Ideal) x0 x1 x2 x3 x4 x5 (ix3 j r l) = (Ref.ins x0 x1 x2 x3 x4 x5).taps (ix3 j r l) := by
    intro j r l
    rw [Ref.taps_at, Ref.padded_at]
    unfold In.taps
    by_cases hr : r.val < 3
    · rw [dif_pos ⟨hr, by simp only; omega⟩]
      have e0 := Ref.tap_sum x0 x1 x2 x3 x4 x5 (chan j l) 0 (by decide) (fun n => (Ref.ins x0 x1 x2 x3 x4 x5).dconv n (chan j l))
        (ref_dconv x0 x1 x2 x3 x4 x5 h _)
      have e1 := Ref.tap_sum x0 x1 x2 x3 x4 x5 (chan j l) 1 (by decide) (fun n => (Ref.ins x0 x1 x2 x3 x4 x5).dconv n (chan j l))
        (ref_dconv x0 x1 x2 x3 x4 x5 h _)
      have e2 := Ref.tap_sum x0 x1 x2 x3 x4 x5 (chan j l) 2 (by decide) (fun n => (Ref.ins x0 x1 x2 x3 x4 x5).dconv n (chan j l))
        (ref_dconv x0 x1 x2 x3 x4 x5 h _)
      obtain hr | hr | hr : r.val = 0 ∨ r.val = 1 ∨ r.val = 2 := by omega
      · obtain rfl : r = 0 := Fin.ext hr
        exact (Ref.row0_at x0 x1 x2 x3 x4 x5 _).trans ((Ref.tap0_at x0 x1 x2 x3 x4 x5 _).trans e0)
      · obtain rfl : r = 1 := Fin.ext hr
        exact (Ref.row1_at x0 x1 x2 x3 x4 x5 _).trans ((Ref.tap1_at x0 x1 x2 x3 x4 x5 _).trans e1)
      · obtain rfl : r = 2 := Fin.ext hr
        exact (Ref.row2_at x0 x1 x2 x3 x4 x5 _).trans ((Ref.tap2_at x0 x1 x2 x3 x4 x5 _).trans e2)
    · rw [dif_neg (fun hh => hr hh.1), Ref.fill_at]
      exact (if_neg hr).symm
  funext i
  rw [show i = ix3 (i 0) (i 1) (i 2) by funext a; fin_cases a <;> rfl]
  exact e _ _ _

theorem ref_bias (h : (Ref.ins x0 x1 x2 x3 x4 x5).Finite) :
    val_main_v82 (F := Ideal) x0 x1 x2 x3 x4 x5 = (Ref.ins x0 x1 x2 x3 x4 x5).bias := by
  have e : ∀ (j : Fin 4) (l : Fin 704),
      val_main_v82 (F := Ideal) x0 x1 x2 x3 x4 x5 (ix3 j 0 l) = (Ref.ins x0 x1 x2 x3 x4 x5).bias (ix3 j 0 l) := by
    intro j l
    rw [Ref.bias_at, Ref.dbias_at]
    refine Eq.trans ?_ (Finset.sum_range _).symm
    exact Finset.sum_congr rfl fun q _ => ref_dconv x0 x1 x2 x3 x4 x5 h _ q
  funext i
  rw [show i = ix3 (i 0) 0 (i 2) by
    funext a
    fin_cases a
    · rfl
    · exact Subsingleton.elim (α := Fin 1) _ _
    · rfl]
  exact e _ _

end

/-- The comparison of a difference with zero, read back. -/
theorem eq_of_cmp {s : Shape} (x z : FVec Ideal s .f32) (i : s.Idx) (hz : z i = (0 : EReal))
    (h : cmpf .oeq (subf x x) z i = 1#1) : ∃ r : ℝ, x i = (r : EReal) := by
  refine real_of_sub_self ?_
  have h : Ideal.cmp .oeq (x i - x i : EReal) (z i) = 1#1 := h
  rw [hz] at h
  by_contra hne
  simp [Ideal.cmp, hne] at h

/-- The precondition gives the finiteness. -/
theorem finite_of_pre (m : (ℓ : Loc nD τ sig) → Buf (Elt Ideal) ℓ)
    (h : Cert.Pre_KernelIdeal_finite (hPre_finite := Cert.Pre_finite.Gen.facts) m) (c : Dev nD) : (args m c).Finite := by
  obtain ⟨h1, h4, h5⟩ := h c
  refine ⟨fun q ch => ?_, fun ch k => ?_, fun q k => ?_⟩
  · exact eq_of_cmp _ _ _ (by pointwise) (congrFun h1 (ix2 q ch))
  · exact eq_of_cmp _ _ _ (by pointwise) (congrFun h4 (ix2 ch k))
  · exact eq_of_cmp _ _ _ (by pointwise) (congrFun h5 (ix2 q k))

end Cert.Proof

end
-- ==== Proof.Stored.lean ====
/- Reading back a buffer that one store has filled. -/
module

public import Idealize.ShloMosaic.Lib.Pipeline.ValueKit
public import Idealize.ShloMosaic.Lib.WritesUnit

@[expose] public section

noncomputable section

namespace Cert.Proof

open Idealize.ShloMosaic

variable {F : FTy → Type} [FloatOps F] {sig : RefSig}

/-- A buffer stored whole holds what was stored. -/
theorem read_stored {sp : Space} {S : Shape} {e : EltTy} (v : View sig .tc sp S e) (f : v.ty.Contents (Elt F)) {off : Fin S.rank → ℕ}
    (inb : ∀ a, off a + S.size a ≤ S.size a) (w : S.Idx → Elt F e) (h : ∀ a, off a = 0) :
    v.read (Elt F) (v.writes (Elt F) f [⟨Rect.unit off S.size inb, w⟩]) = w :=
  funext fun y => View.read_writes_cons_unit_of_mem v f inb w [] y y rfl fun a => by rw [h a, Nat.zero_add]

end Cert.Proof

end
-- ==== Proof.GateUpRun.lean ====
/- The feed-forward's up projection: what one point of its grid does to the two results' buffers. -/
module

public import proofs.«01_k».proof.Proof.Gen.GateUpIdeal.Frame
public import proofs.«01_k».proof.Proof.Gen.GateUpIdeal.Skeleton
public import Idealize.ShloMosaic.Lib.Pipeline.ValueKit
public import Idealize.ShloMosaic.Lib.Pipeline.TableIdle
public import proofs.«01_k».proof.Proof.Stored

@[expose] public section

set_option maxRecDepth 16384

noncomputable section

namespace Cert.Proof.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.GateUpIdeal Cert.GateUpIdeal.Gen

variable {F : FTy → Type} [FloatOps F]

/-- The resources a run of the program is stated over. -/
abbrev Res (F : FTy → Type) [FloatOps F] := MT nD τ sig Unit (Elt F) ℕ (UR sig nD τ) ℕ

/-- At the first point of a band of rows the body stores the band's norm and the product of that norm. -/
theorem run_first (c : Dev nD) (i : grid0.Coords) (a2 : Memref sig .tc .vmem S2048x1024 .f32) (h2 : a2.IsWhole)
    (a3 : Memref sig .tc .vmem S1x1024 .f32) (h3 : a3.IsWhole) (a4 : Memref sig .tc .vmem S1x704x1024 .bf16) (h4 : a4.IsWhole)
    (a5 : Memref sig .tc .vmem S1x1x2048x704 .bf16) (h5 : a5.IsWhole) (a6 : Memref sig .tc .vmem S2048x1024 .bf16) (h6 : a6.IsWhole)
    (hc : k0_cond1 i = 1#1) (x0 : Vec F S2048x1024 .f32) (x1 : Vec F S1x1024 .f32) (x2 : Vec F S1x704x1024 .bf16)
    (E : Set ℕ) (K : PUnit → sProp (Res F)) :
    iprop(owns (c : Thread nD τ) a2 fullShare x0 ∗ owns (c : Thread nD τ) a3 fullShare x1 ∗ owns (c : Thread nD τ) a4 fullShare x2
        ∗ (∃ d, owns (c : Thread nD τ) a5 fullShare d) ∗ (∃ d, owns (c : Thread nD τ) a6 fullShare d)
        ∗ (iprop(owns (c : Thread nD τ) a2 fullShare x0 ∗ owns (c : Thread nD τ) a3 fullShare x1 ∗ owns (c : Thread nD τ) a4 fullShare x2
            ∗ owns (c : Thread nD τ) a5 fullShare (k0_pay2 (k0_pay1 x0 x1) x2) ∗ owns (c : Thread nD τ) a6 fullShare (k0_pay1 x0 x1)) -∗ K ⟨⟩))
      ⊢ wp frame (wpE (defs₀ (F := F)) Variants.none c none) E (cc0_gate_up i a2 h2 a3 h3 a4 h4 a5 h5 a6 h6) K := by
  simp only [cc0_gate_up_eq_skeleton]; unfold cc0_gate_up_skel
  unfold owns
  iintro ⟨⟨%f0, %e0, H0⟩, ⟨%f1, %e1, H1⟩, ⟨%f2, %e2, H2⟩, ⟨%d3, %f3, -, H3⟩, ⟨%d4, %f4, -, H4⟩, Hk⟩
  obtain rfl := h2.eq_unread e0; obtain rfl := h3.eq_unread e1; obtain rfl := h4.eq_unread e2
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    refine (read_stored _ _ _ _ (by decide)).trans ?_
    unfold run_first.sl.v3 run_first.sl.H4_1
    simp (disch := decide) only [View.readCov_unit_lit, View.readAt_eq_ld, View.ld_unit_lit, Memref.IsWhole.read_unread]
  iexists _; isplitr
  swap; · iexact H4
  ipureintro
  unfold run_first.sl.H4_1
  refine (read_stored _ _ _ _ (by decide)).trans ?_
  simp (disch := decide) only [View.readAt_eq_ld, View.ld_unit_lit, Memref.IsWhole.read_unread]

/-- At the other points it stores the product of the norm it finds, and leaves that norm as it is. -/
theorem run_later (c : Dev nD) (i : grid0.Coords) (a2 : Memref sig .tc .vmem S2048x1024 .f32) (h2 : a2.IsWhole)
    (a3 : Memref sig .tc .vmem S1x1024 .f32) (h3 : a3.IsWhole) (a4 : Memref sig .tc .vmem S1x704x1024 .bf16) (h4 : a4.IsWhole)
    (a5 : Memref sig .tc .vmem S1x1x2048x704 .bf16) (h5 : a5.IsWhole) (a6 : Memref sig .tc .vmem S2048x1024 .bf16) (h6 : a6.IsWhole)
    (hc : ¬k0_cond1 i = 1#1) (x0 : Vec F S2048x1024 .f32) (x1 : Vec F S1x1024 .f32) (x2 : Vec F S1x704x1024 .bf16)
    (x4 : Vec F S2048x1024 .bf16) (E : Set ℕ) (K : PUnit → sProp (Res F)) :
    iprop(owns (c : Thread nD τ) a2 fullShare x0 ∗ owns (c : Thread nD τ) a3 fullShare x1 ∗ owns (c : Thread nD τ) a4 fullShare x2
        ∗ (∃ d, owns (c : Thread nD τ) a5 fullShare d) ∗ owns (c : Thread nD τ) a6 fullShare x4
        ∗ (iprop(owns (c : Thread nD τ) a2 fullShare x0 ∗ owns (c : Thread nD τ) a3 fullShare x1 ∗ owns (c : Thread nD τ) a4 fullShare x2
            ∗ owns (c : Thread nD τ) a5 fullShare (k0_pay2 x4 x2) ∗ owns (c : Thread nD τ) a6 fullShare x4) -∗ K ⟨⟩))
      ⊢ wp frame (wpE (defs₀ (F := F)) Variants.none c none) E (cc0_gate_up i a2 h2 a3 h3 a4 h4 a5 h5 a6 h6) K := by
  simp only [cc0_gate_up_eq_skeleton]; unfold cc0_gate_up_skel
  unfold owns
  iintro ⟨⟨%f0, %e0, H0⟩, ⟨%f1, %e1, H1⟩, ⟨%f2, %e2, H2⟩, ⟨%d3, %f3, -, H3⟩, ⟨%f4, %e4, H4⟩, Hk⟩
  obtain rfl := h2.eq_unread e0; obtain rfl := h3.eq_unread e1; obtain rfl := h4.eq_unread e2; obtain rfl := h6.eq_unread e4
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    refine (read_stored _ _ _ _ (by decide)).trans ?_
    simp (disch := decide) only [View.readAt_eq_ld, View.ld_unit_lit, Memref.IsWhole.read_unread]
  iexists _; isplitr; · ipureintro; exact h6.read_unread _
  iexact H4

/-! ## The grid -/

/-- The body takes its first branch at the first of a band's eight points. -/
theorem cond_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- Only there does it store into the norm's buffer. -/
theorem idle_eq : ∀ t : Fin cfg0.N, cfg0.idle 4 (grid0.coords t) = decide (t.val % 8 ≠ 0) :=
  (by decide +kernel : ∀ t : Fin grid0.N, idle0 4 (grid0.coords t) = decide (t.val % 8 ≠ 0))

/-- The norm's buffer holds nothing of the band yet only before the band's first point. -/
theorem fresh_eq (t : Fin cfg0.N) : cfg0.fresh 4 t.val = decide (t.val % 8 = 0) :=
  Pipeline.Cfg.fresh_tab cfg0 4 (fun n => decide (n % 8 = 0)) rfl
    (by decide +kernel : ∀ t : Fin grid0.N, decide ((t.val + 1) % 8 = 0) = (win0_4.flush t || (idle0 4 (grid0.coords t) && decide (t.val % 8 = 0))))
    t.val (Nat.le_of_lt t.isLt)

theorem idx : ∀ t : Fin cfg0.N, win0_0.index t = ![t.val / 8, 0] ∧ win0_1.index t = ![0, 0] ∧ win0_2.index t = ![t.val % 8, 0, 0]
    ∧ win0_3.index t = ![t.val % 8 / 4, t.val % 4, t.val / 8, 0] ∧ win0_4.index t = ![t.val / 8, 0] :=
  (by decide +kernel : ∀ t : Fin grid0.N, _)

variable (m : (ℓ : Loc nD τ sig) → Buf (Elt F) ℓ) (ρ : Dev nD → PrngReg)

/-- The norm of the rows a point works on, times the norm's weights. -/
def normed (c : Dev nD) (t : Fin cfg0.N) : Vec F S2048x1024 .bf16 := k0_pay1 (iblk m c 0 t) (iblk m c 1 t)

/-- Two points of one band have the same norm. -/
theorem normed_prev (c : Dev nD) (t : Fin cfg0.N) (h : t.val % 8 ≠ 0) :
    normed m c t = normed m c ⟨t.val - 1, Nat.lt_of_le_of_lt (Nat.sub_le _ _) t.isLt⟩ := by
  have e0 : (iblk m c 0 t : Vec F S2048x1024 .f32) = iblk m c 0 ⟨t.val - 1, Nat.lt_of_le_of_lt (Nat.sub_le _ _) t.isLt⟩ := by
    funext y
    blk_ext [iblk, idx t, idx ⟨t.val - 1, Nat.lt_of_le_of_lt (Nat.sub_le _ _) t.isLt⟩]
  have e1 : (iblk m c 1 t : Vec F S1x1024 .f32) = iblk m c 1 ⟨t.val - 1, Nat.lt_of_le_of_lt (Nat.sub_le _ _) t.isLt⟩ := by
    funext y
    blk_ext [iblk, idx t, idx ⟨t.val - 1, Nat.lt_of_le_of_lt (Nat.sub_le _ _) t.isLt⟩]
  unfold normed
  rw [e0, e1]

/-! ## The buffers at every point -/

/-- What the buffers hold after each point: the inputs their blocks, the results the product and the norm. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (normed m c t) (iblk m c 2 t)
    | ⟨4, _⟩ => normed m c t
  Φ _ := Pipeline.ΦA spec0 c
  q _ := fullShare
  owed _ := 0

theorem arr_eq (c : Dev nD) (w : Fin cfg0.W) : (dats m 0 c).A w = V m c (Pipeline.arrRef spec0 w) := by dsimp only [dats]
theorem after_rows (c : Dev nD) (t : Fin cfg0.N) : (dats m 0 c).after 0 t = iblk m c 0 t := by dsimp only [dats]
theorem after_scale (c : Dev nD) (t : Fin cfg0.N) : (dats m 0 c).after 1 t = iblk m c 1 t := by dsimp only [dats]
theorem after_weights (c : Dev nD) (t : Fin cfg0.N) : (dats m 0 c).after 2 t = iblk m c 2 t := by dsimp only [dats]
theorem after_product (c : Dev nD) (t : Fin cfg0.N) : (dats m 0 c).after 3 t = k0_pay2 (normed m c t) (iblk m c 2 t) := by dsimp only [dats]
theorem after_norm (c : Dev nD) (t : Fin cfg0.N) : (dats m 0 c).after 4 t = normed m c t := by dsimp only [dats]

/-- After a band's first point the norm's buffer is found holding the norm. -/
theorem before_norm (c : Dev nD) (t : Fin cfg0.N) (h : t.val % 8 ≠ 0) (d) : (dats m 0 c).before 4 t d = normed m c t := by
  rw [Dat.before_out_traj _ 4 rfl (fun _ _ => rfl) (fun s _ hi _ => ?_) t.val t rfl d,
    if_neg (by rw [fresh_eq]; simpa using h), after_norm, ← normed_prev m c t h]
  rw [after_norm, after_norm]
  refine normed_prev m c s fun hs => ?_
  rw [show cfg0.idle 4 (cfg0.grid.coords s) = decide (s.val % 8 ≠ 0) from idle_eq s] at hi
  exact of_decide_eq_true hi hs

theorem leaves_first (c : Dev nD) (t : Fin cfg0.N) (h : t.val % 8 = 0) :
    (dats m 0 c).leavesExact 4 t = owns (c : Thread nD τ) (st0_4 t) fullShare (normed m c t) := by
  unfold Dat.leavesExact
  rw [show cfg0.idle 4 (cfg0.grid.coords t) = decide (t.val % 8 ≠ 0) from idle_eq t, decide_eq_false (not_not.mpr h)]
  dsimp only [dats]

theorem leaves_later (c : Dev nD) (t : Fin cfg0.N) (h : t.val % 8 ≠ 0) :
    owns (c : Thread nD τ) (st0_4 t) fullShare (normed m c t) ⊢ ((dats m 0 c).leavesExact 4 t : sProp (Res F)) := by
  unfold Dat.leavesExact
  rw [show cfg0.idle 4 (cfg0.grid.coords t) = decide (t.val % 8 ≠ 0) from idle_eq t, decide_eq_true h]
  cases hf : (cfg0.win 4).flush t
  · dsimp only
    iintro H
    iexists normed m c t
    rw [before_norm m c t h]
    iexact H
  · dsimp only [dats]
    exact .rfl

set_option maxHeartbeats 800000 in
/-- The body at any point: from what it finds to what it leaves. -/
theorem body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d)))
      ⊢ wp frame (wpE (defs₀ (F := F)) Variants.none c none) Set.univ (bodyAt0 t) fun _ =>
        iprop((dats m 0 c).Φ t.succ ∗ (dats m 0 c).owesAt () t.succ ∗ (dats m 0 c).leavesExact 0 t ∗ (dats m 0 c).leavesExact 1 t
          ∗ (dats m 0 c).leavesExact 2 t ∗ (dats m 0 c).leavesExact 3 t ∗ (dats m 0 c).leavesExact 4 t) := by
  simp only [before0_0_of m (dats m 0 c) (arr_eq m c 0) (after_rows m c), before0_1_of m (dats m 0 c) (arr_eq m c 1) (after_scale m c),
    before0_2_of m (dats m 0 c) (arr_eq m c 2) (after_weights m c)]
  rw [show (dats m 0 c).leavesExact 0 t = owns (c : Thread nD τ) (st0_0 t) fullShare (iblk m c 0 t) from by
      unfold Dat.leavesExact; rw [← after_rows m c t],
    show (dats m 0 c).leavesExact 1 t = owns (c : Thread nD τ) (st0_1 t) fullShare (iblk m c 1 t) from by
      unfold Dat.leavesExact; rw [← after_scale m c t],
    show (dats m 0 c).leavesExact 2 t = owns (c : Thread nD τ) (st0_2 t) fullShare (iblk m c 2 t) from by
      unfold Dat.leavesExact; rw [← after_weights m c t],
    show (dats m 0 c).leavesExact 3 t = owns (c : Thread nD τ) (st0_3 t) fullShare (k0_pay2 (normed m c t) (iblk m c 2 t)) from by
      unfold Dat.leavesExact; rw [← after_product m c t]]
  rw [show (dats m 0 c).Φ t.succ = (dats m 0 c).Φ t.castSucc from rfl,
    show (dats m 0 c).owesAt () t.succ = (dats m 0 c).owesAt () t.castSucc from rfl]
  unfold bodyAt0
  by_cases h : t.val % 8 = 0
  · rw [leaves_first m c t h]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((cond_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before_norm m c t h]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (fun e => h ((cond_iff t).mp e)) (iblk m c 0 t) (iblk m c 1 t) (iblk m c 2 t)
      (normed m c t) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_later m c t h)
    iexact H4

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body m c t) rfl .rfl fun _ => .rfl

/-! ## The run -/

set_option backward.isDefEq.respectTransparency.types false in
/-- Every run ends, with the arrays as the points leave them and every semaphore at zero. -/
theorem run_arrays : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := arr_eq m) (hΦ := fun _ _ => rfl)

/-- The arguments end as they began, and the two results hold what the points write. -/
theorem run : θ_run defs (onTc (τ := τ) (main (F := F))) ⟨m, fun _ => 0, ρ⟩ (fun r => (∀ c : Dev nD,
      r.2.mem ((c.tc : Thread nD τ).loc main_v4_0) = (dats m 0 c).arrAt 3 cfg0.N
      ∧ r.2.mem ((c.tc : Thread nD τ).loc main_v4_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1.1 c).1 3, (h.1.1 c).1 4, h.2 c⟩, h.1.2⟩)
    (θ_run_and (run_arrays m ρ) (frame_of m ρ (dats m) (arr_eq m) ((θ_run defs _ _).mono (fun _ h => h.1) (run_arrays m ρ))))

end Cert.Proof.GateUp

end
-- ==== Proof.Norm.lean ====
/- The root-mean-square norm of a row, as a function of the array and the weights. -/
module

public import Idealize.ShloMosaic.Lib.Pointwise

@[expose] public section

noncomputable section

namespace Cert.Proof

open Idealize.ShloMosaic

/-- The mean of the squares of row `q`, with the small constant added. -/
def meanSq (h : FVec Ideal ⟨2, ![4096, 1024]⟩ .f32) (q : Fin 4096) : EReal :=
  Ideal.div (∑ x : Fin 1024, h (ix2 q x) * h (ix2 q x)) (Ideal.ofBits FTy.f32 1149239296#32)
    + Ideal.ofBits FTy.f32 897988541#32

/-- The row scaled by the inverse root of that mean, times the weights. -/
def normed (h : FVec Ideal ⟨2, ![4096, 1024]⟩ .f32) (g : FVec Ideal ⟨1, ![1024]⟩ .f32) (q : Fin 4096) (k : Fin 1024) : EReal :=
  h (ix2 q k) * Ideal.rsqrt (meanSq h q) * g (ix1 k)

end Cert.Proof

end
-- ==== Proof.GateUp.lean ====
/- The feed-forward's up projection: the rows' norm, and its product with the gate and up weights, split into the two halves
   and their four column blocks. A grid point `t` works on the row band `t / 8` (2048 rows) and the column block `t % 8`
   (704 of the product's 5632 columns). -/
module

public import proofs.«01_k».proof.Proof.GateUpRun
public import proofs.«01_k».proof.Proof.Gen.GateUpRefIdeal.Read
public import proofs.«01_k».proof.Proof.Norm
public import Idealize.ShloMosaic.Lib.Pipeline.ReadBack
public import Idealize.ShloMosaic.Lib.StableHlo.RunRead
public import Idealize.ShloMosaic.Lib.Claim

@[expose] public section

set_option maxRecDepth 16384

noncomputable section

namespace Cert.Proof.GateUp

open Cert.GateUpIdeal Cert.GateUpIdeal.Gen Idealize.ShloMosaic Idealize.ShloMosaic.TcCoe Idealize.SL.Sem

/-- The three arguments: the rows, the norm's weights, the product's weights. -/
structure In where
  h : FVec Ideal S4096x1024 .f32
  g : FVec Ideal S1024 .f32
  w : FVec Ideal S1024x5632 .f32

namespace In

variable (a : In)

/-- The product of the norm and the weights. -/
def up (q : Fin 4096) (n : Fin 5632) : EReal := ∑ k : Fin 1024, Cert.Proof.normed a.h a.g q k * a.w (ix2 k n)

/-- The column that column `l` of block `j` of half `b` is. -/
def colOf (b : Fin 2) (j : Fin 4) (l : Fin 704) : Fin 5632 := ⟨(b.val * 4 + j.val) * 704 + l.val, by omega⟩

/-- The first result: the product, by half, block, row and column. -/
def product : FVec Ideal S2x4x4096x704 .bf16 := fun i => (a.up (i 2) (colOf (i 0) (i 1) (i 3)) : EReal)

/-- The second result: the norm. -/
def norm : FVec Ideal S4096x1024 .bf16 := fun i => (Cert.Proof.normed a.h a.g (i 0) (i 1) : EReal)

end In

variable (m : (ℓ : Loc nD τ sig) → Buf (Elt Ideal) ℓ)

/-- The arguments as the kernel finds them on core `c`. -/
def args (c : Dev nD) : In where
  h := m ((c : Thread nD τ).loc main_arg0)
  g := m ((c : Thread nD τ).loc main_arg1)
  w := m ((c : Thread nD τ).loc main_arg2)

theorem lt16 (t : Fin cfg0.N) : t.val < 16 := lt_of_lt_of_eq t.isLt N_0

/-- The row that row `p` of point `t`'s band is. -/
def row (t : Fin cfg0.N) (p : Fin 2048) : Fin 4096 := ⟨t.val / 8 * 2048 + p.val, by have := lt16 t; omega⟩

/-- The column that column `l` of point `t`'s block is. -/
def col (t : Fin cfg0.N) (l : Fin 704) : Fin 5632 := ⟨t.val % 8 * 704 + l.val, by omega⟩

/-! ## The operands the host prepares -/

theorem entry_g (c : Dev nD) (k : Fin 1024) :
    (V m c main_v0 : FVec Ideal S1x1024 .f32) (ix2 0 k) = (args m c).g (ix1 k) := by
  simp only [V, hostOps0]
  after_results_simp
  after_results_loop
  pointwise
  rfl

theorem entry_w (c : Dev nD) (j : Fin 8) (l : Fin 704) (k : Fin 1024) :
    (V m c main_v3 : FVec Ideal S8x704x1024 .bf16) (ix3 j l k) = (args m c).w (ix2 k ⟨j.val * 704 + l.val, by omega⟩) := by
  simp only [V, hostOps0]
  after_results_simp
  after_results_loop
  pointwise
  rfl

theorem entry_h (c : Dev nD) (q : Fin 4096) (k : Fin 1024) :
    (V m c main_arg0 : FVec Ideal S4096x1024 .f32) (ix2 q k) = (args m c).h (ix2 q k) := by
  simp only [V, hostOps0]
  after_results_simp
  rfl

/-! ## The blocks -/

theorem blk_h (c : Dev nD) (t : Fin cfg0.N) (p : Fin 2048) (k : Fin 1024) :
    (iblk m c 0 t : FVec Ideal S2048x1024 .f32) (ix2 p k) = (args m c).h (ix2 (row t p) k) := by
  refine Eq.trans (b := (V m c main_arg0 : FVec Ideal S4096x1024 .f32) (ix2 (row t p) k)) ?_ (entry_h m c (row t p) k)
  blk_ext [iblk, idx t, row]

theorem blk_g (c : Dev nD) (t : Fin cfg0.N) (k : Fin 1024) :
    (iblk m c 1 t : FVec Ideal S1x1024 .f32) (ix2 0 k) = (args m c).g (ix1 k) := by
  refine Eq.trans (b := (V m c main_v0 : FVec Ideal S1x1024 .f32) (ix2 0 k)) ?_ (entry_g m c k)
  blk_ext [iblk, idx t]

theorem blk_w (c : Dev nD) (t : Fin cfg0.N) (l : Fin 704) (k : Fin 1024) :
    (iblk m c 2 t : FVec Ideal S1x704x1024 .bf16) (ix3 0 l k) = (args m c).w (ix2 k (col t l)) := by
  have ht := lt16 t
  refine Eq.trans (b := (V m c main_v3 : FVec Ideal S8x704x1024 .bf16) (ix3 ⟨t.val % 8, by omega⟩ l k)) ?_
    ((entry_w m c _ l k).trans rfl)
  blk_ext [iblk, idx t]

/-! ## The body's values -/

theorem pay1_at (h : Vec Ideal S2048x1024 .f32) (g : Vec Ideal S1x1024 .f32) (p : Fin 2048) (k : Fin 1024) :
    k0_pay1 h g (ix2 p k) = (h (ix2 p k) * Ideal.rsqrt (Ideal.div (∑ x : Fin 1024, h (ix2 p x) * h (ix2 p x))
      (Ideal.ofBits FTy.f32 1149239296#32) + Ideal.ofBits FTy.f32 897988541#32) * g (ix2 0 k) : EReal) := by
  pointwise [k0_pay1]

theorem pay2_at (a : Vec Ideal S2048x1024 .bf16) (b : Vec Ideal S1x704x1024 .bf16) (p : Fin 2048) (l : Fin 704) :
    k0_pay2 a b (ix4 0 0 p l) = (∑ k : Fin 1024, a (ix2 p k) * b (ix3 0 l k) : EReal) := by
  pointwise [k0_pay2]

theorem norm_at (c : Dev nD) (t : Fin cfg0.N) (p : Fin 2048) (k : Fin 1024) :
    normed m c t (ix2 p k) = (args m c).norm (ix2 (row t p) k) := by
  refine (pay1_at _ _ p k).trans ?_
  simp only [blk_h, blk_g]
  rfl

theorem product_at (c : Dev nD) (t : Fin cfg0.N) (p : Fin 2048) (l : Fin 704) :
    k0_pay2 (normed m c t) (iblk m c 2 t) (ix4 0 0 p l) = (args m c).up (row t p) (col t l) := by
  refine (pay2_at _ _ p l).trans (Finset.sum_congr rfl fun k _ => ?_)
  exact congrArg₂ (· * ·) (norm_at m c t p k) (blk_w m c t l k)

/-! ## The results -/

theorem final_product (c : Dev nD) : (dats m 0 c).arrAt 3 cfg0.N = (args m c).product := by
  refine (dats m 0 c).arrAt_eq_of_covers 3 _ (by decide +kernel) fun t hf y => ?_
  blk_simp
  rw [after_product]
  have e : ∀ (p : Fin 2048) (l : Fin 704), k0_pay2 (normed m c t) (iblk m c 2 t) (ix4 0 0 p l)
      = (args m c).product ((win0_3.blk t).view.emb (ix4 0 0 p l)) := by
    intro p l
    have ht := lt16 t
    refine (product_at m c t p l).trans ?_
    refine Eq.trans (b := (args m c).product (ix4 ⟨t.val % 8 / 4, by omega⟩ ⟨t.val % 4, by omega⟩ (row t p) l)) ?_ (congrArg _ ?_)
    · exact congrArg ((args m c).up (row t p)) (Fin.ext
        (show t.val % 8 * 704 + l.val = (t.val % 8 / 4 * 4 + t.val % 4) * 704 + l.val by omega))
    · blk_ext [idx t, row]
  have ey : y = ix4 0 0 (y 2) (y 3) := by
    funext a
    fin_cases a
    · exact Fin.ext (by have h : (y 0).val < 1 := (y 0).isLt; show (y 0).val = 0; omega)
    · exact Fin.ext (by have h : (y 1).val < 1 := (y 1).isLt; show (y 1).val = 0; omega)
    · rfl
    · rfl
  rw [ey]
  exact e _ _

theorem final_norm (c : Dev nD) : (dats m 0 c).arrAt 4 cfg0.N = (args m c).norm := by
  refine (dats m 0 c).arrAt_eq_of_covers 4 _ (by decide +kernel) fun t hf y => ?_
  blk_simp
  rw [after_norm]
  have e : ∀ (p : Fin 2048) (k : Fin 1024), normed m c t (ix2 p k)
      = (args m c).norm ((win0_4.blk t).view.emb (ix2 p k)) := by
    intro p k
    have ht := lt16 t
    refine (norm_at m c t p k).trans (congrArg _ ?_)
    blk_ext [idx t, row]
  have ey : y = ix2 (y 0) (y 1) := by funext a; fin_cases a <;> rfl
  rw [ey]
  exact e _ _

/-! ## The reference -/

section Reference

open Cert.GateUpRefIdeal.Read

variable (x0 : FVec Ideal S4096x1024 .f32) (x1 : FVec Ideal S1024 .f32) (x2 : FVec Ideal S1024x5632 .f32)

theorem ref_norm_at (q : Fin 4096) (k : Fin 1024) :
    val_main_v12 (F := Ideal) x0 x1 (ix2 q k) = Cert.Proof.normed x0 x1 q k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem ref_up (q : Fin 4096) (n : Fin 5632) :
    val_main_v13 (F := Ideal) x0 x1 x2 (ix2 q n) = (In.mk x0 x1 x2).up q n := by
  unfold In.up
  simp only [← ref_norm_at]
  pointwise [val_main_v13]

theorem ref_product : val_main_v16 (F := Ideal) x0 x1 x2 = (In.mk x0 x1 x2).product := by
  have e : ∀ (b : Fin 2) (j : Fin 4) (q : Fin 4096) (l : Fin 704), val_main_v16 (F := Ideal) x0 x1 x2 (ix4 b j q l)
      = (In.mk x0 x1 x2).product (ix4 b j q l) := by
    intro b j q l
    refine Eq.trans (b := val_main_v13 (F := Ideal) x0 x1 x2 (ix2 q (In.colOf b j l))) ?_ (ref_up x0 x1 x2 q _)
    pointwise [val_main_v16, val_main_v15, val_main_v14]
    exact congrArg (val_main_v13 (F := Ideal) x0 x1 x2) (congrArg (ix2 q) (Fin.ext (by simp only [In.colOf]; omega)))
  funext i
  rw [show i = ix4 (i 0) (i 1) (i 2) (i 3) by funext a; fin_cases a <;> rfl]
  exact e _ _ _ _

theorem ref_norm : val_main_v17 (F := Ideal) x0 x1 = (In.mk x0 x1 x2).norm := by
  have e : ∀ (q : Fin 4096) (k : Fin 1024), val_main_v17 (F := Ideal) x0 x1 (ix2 q k) = (In.mk x0 x1 x2).norm (ix2 q k) :=
    fun q k => ref_norm_at x0 x1 q k
  funext i
  rw [show i = ix2 (i 0) (i 1) by funext a; fin_cases a <;> rfl]
  exact e _ _

end Reference

end Cert.Proof.GateUp

end
-- ==== Proof.Tiles.lean ====
/- A sum over all rows is the sum over the tiles of the sums over each tile's rows. -/
module

public import Idealize.ShloMosaic.Lib.Pointwise

@[expose] public section

namespace Cert.Proof

/-- `a` tiles of `b` rows each make up `N = a * b` rows. -/
theorem sum_tiled {M : Type*} [AddCommMonoid M] {N : ℕ} (a b : ℕ) (h : N = a * b) (f : Fin N → M) :
    ∑ s : Fin a, ∑ p : Fin b, f ⟨s.val * b + p.val, by
        subst h; calc s.val * b + p.val < s.val * b + b := by omega
          _ = (s.val + 1) * b := by ring
          _ ≤ a * b := Nat.mul_le_mul_right b s.isLt⟩ = ∑ q, f q := by
  subst h
  rw [← finProdFinEquiv.sum_comp, Fintype.sum_prod_type]
  refine Finset.sum_congr rfl fun s _ => Finset.sum_congr rfl fun p _ => congrArg f (Fin.ext ?_)
  simp only [finProdFinEquiv_apply_val]
  ring

end Cert.Proof
-- ==== Proof.GluDown.lean ====
/- The feed-forward's down projection: a causal three-tap convolution of the gate, `silu(gate) * up`, the product with
   the weights and the residual. A grid point `t` works on the row tile `t / 4` (1024 rows) and the column block
   `t % 4` (704 columns); the output's tile is summed over the four column blocks. -/
module

public import proofs.«01_k».proof.Proof.Gen.GluDownIdeal.Value
public import proofs.«01_k».proof.Proof.Gen.GluDownRefIdeal.Read
public import proofs.«01_k».proof.Proof.Tiles
public import Idealize.ShloMosaic.Lib.Pipeline.ValueKit
public import Idealize.ShloMosaic.Lib.Pipeline.ReadBack
public import Idealize.ShloMosaic.Lib.StableHlo.RunRead
public import Idealize.ShloMosaic.Lib.Claim

@[expose] public section

set_option maxRecDepth 16384

noncomputable section

namespace Cert.Proof.GluDown

open Cert.GluDownIdeal Cert.GluDownIdeal.Gen Idealize.ShloMosaic Idealize.ShloMosaic.TcCoe Idealize.SL.Sem

/-- The six arguments: the residual, the gate and up projections, the convolution's taps and bias, the weights. -/
structure In where
  h : FVec Ideal S4096x1024 .f32
  gate : FVec Ideal S4096x2816 .f32
  up : FVec Ideal S4096x2816 .f32
  w : FVec Ideal S3x2816 .f32
  b : FVec Ideal S2816 .f32
  wd : FVec Ideal S2816x1024 .f32

namespace In

variable (a : In)

/-- The gate with two rows of zeros before it. -/
def pad (q : ℕ) (ch : Fin 2816) : EReal :=
  if h : 2 ≤ q ∧ q < 4098 then a.gate (ix2 ⟨q - 2, by omega⟩ ch) else 0

/-- The convolved gate. -/
def conv (q : ℕ) (ch : Fin 2816) : EReal :=
  a.w (ix2 0 ch) * a.pad q ch + a.w (ix2 1 ch) * a.pad (q + 1) ch + a.w (ix2 2 ch) * a.pad (q + 2) ch + a.b (ix1 ch)

/-- The activation. -/
def act (q : Fin 4096) (ch : Fin 2816) : EReal :=
  a.conv q.val ch * Ideal.logistic (a.conv q.val ch) * a.up (ix2 q ch)

/-- The block's output. -/
def out : FVec Ideal S4096x1024 .f32 := fun i =>
  (a.h (ix2 (i 0) (i 1)) + ∑ ch : Fin 2816, a.act (i 0) ch * a.wd (ix2 ch (i 1)) : EReal)

/-- The column that column `l` of column block `j` is. -/
def col (j : Fin 4) (l : Fin 704) : Fin 2816 := ⟨j.val * 704 + l.val, by omega⟩

/-- The activation in column blocks. -/
def actBlocks : FVec Ideal S4x4096x704 .bf16 := fun i => a.act (i 1) (col (i 0) (i 2))

/-- The convolved gate in column blocks. -/
def convBlocks : FVec Ideal S4x4096x704 .bf16 := fun i => a.conv (i 1).val (col (i 0) (i 2))

end In

variable (m : (ℓ : Loc nD τ sig) → Buf (Elt Ideal) ℓ)

/-- The arguments as the kernel finds them on core `c`. -/
def args (c : Dev nD) : In where
  h := m ((c : Thread nD τ).loc main_arg0)
  gate := m ((c : Thread nD τ).loc main_arg1)
  up := m ((c : Thread nD τ).loc main_arg2)
  w := m ((c : Thread nD τ).loc main_arg3)
  b := m ((c : Thread nD τ).loc main_arg4)
  wd := m ((c : Thread nD τ).loc main_arg5)

theorem idx : ∀ t : Fin cfg0.N, win0_0.index t = ![0, t.val % 4, t.val / 4, 0]
    ∧ win0_1.index t = ![0, t.val % 4, t.val / 4 * 64 - 1, 0] ∧ win0_2.index t = ![t.val % 4, 0, 0]
    ∧ win0_3.index t = ![t.val % 4, 0, 0] ∧ win0_4.index t = ![t.val % 4, 0, 0] ∧ win0_5.index t = ![t.val / 4, 0]
    ∧ win0_6.index t = ![t.val / 4, 0] ∧ win0_7.index t = ![t.val % 4, t.val / 4, 0]
    ∧ win0_8.index t = ![t.val % 4, t.val / 4, 0] :=
  (by decide +kernel : ∀ t : Fin grid0.N, _)

theorem lt16 (t : Fin cfg0.N) : t.val < 16 := lt_of_lt_of_eq t.isLt N_0

/-- The column that column `l` of point `t`'s blocks is. -/
def col (t : Fin cfg0.N) (l : Fin 704) : Fin 2816 := In.col ⟨t.val % 4, by omega⟩ l

/-- The row that row `p` of point `t`'s tile is. -/
def row (t : Fin cfg0.N) (p : Fin 1024) : Fin 4096 := ⟨t.val / 4 * 1024 + p.val, by have := lt16 t; omega⟩

/-! ## The operands the host prepares -/

set_option maxHeartbeats 1000000 in
theorem entry_gu (c : Dev nD) (b : Fin 2) (j : Fin 4) (q : Fin 4096) (l : Fin 704) :
    (V m c main_v7 : FVec Ideal S2x4x4096x704 .bf16) (ix4 b j q l)
      = if b.val < 1 then (args m c).gate (ix2 q (In.col j l)) else (args m c).up (ix2 q (In.col j l)) := by
  simp only [V, hostOps0, hostOps0_1, hostOps0_2, List.flatten_cons, List.flatten_nil, List.append_nil,
    List.cons_append, List.nil_append]
  after_results_simp
  after_results_loop
  pointwise
  rfl

set_option maxHeartbeats 1000000 in
/-- The taps, below which the host puts rows of zeros. -/
theorem entry_taps (c : Dev nD) (j : Fin 4) (r : Fin 3) (l : Fin 704) :
    (V m c main_v10 : FVec Ideal S4x8x704 .f32) (ix3 j ⟨r.val, by omega⟩ l) = (args m c).w (ix2 r (In.col j l)) := by
  simp only [V, hostOps0, hostOps0_1, hostOps0_2, List.flatten_cons, List.flatten_nil, List.append_nil,
    List.cons_append, List.nil_append]
  after_results_simp
  after_results_loop
  simp only [StableHlo.TRef.ofBuf, StableHlo.TRef.toBuf, cast_eq]
  pointwise
  exact dif_pos (by omega)

set_option maxHeartbeats 1000000 in
theorem entry_bias (c : Dev nD) (j : Fin 4) (l : Fin 704) :
    (V m c main_v13 : FVec Ideal S4x1x704 .f32) (ix3 j 0 l) = (args m c).b (ix1 (In.col j l)) := by
  simp only [V, hostOps0, hostOps0_1, hostOps0_2, List.flatten_cons, List.flatten_nil, List.append_nil,
    List.cons_append, List.nil_append]
  after_results_simp
  after_results_loop
  pointwise
  rfl

set_option maxHeartbeats 1000000 in
theorem entry_wd (c : Dev nD) (j : Fin 8) (q : Fin 352) (l : Fin 1024) :
    (V m c main_v15 : FVec Ideal S8x352x1024 .bf16) (ix3 j q l)
      = (args m c).wd (ix2 ⟨j.val * 352 + q.val, by omega⟩ l) := by
  simp only [V, hostOps0, hostOps0_1, hostOps0_2, List.flatten_cons, List.flatten_nil, List.append_nil,
    List.cons_append, List.nil_append]
  after_results_simp
  after_results_loop
  pointwise
  rfl

set_option maxHeartbeats 1000000 in
theorem entry_h (c : Dev nD) (q : Fin 4096) (k : Fin 1024) :
    (V m c main_arg0 : FVec Ideal S4096x1024 .f32) (ix2 q k) = (args m c).h (ix2 q k) := by
  simp only [V, hostOps0, hostOps0_1, hostOps0_2, List.flatten_cons, List.flatten_nil, List.append_nil,
    List.cons_append, List.nil_append]
  after_results_simp
  rfl

/-! ## The blocks -/

theorem blk_gate (c : Dev nD) (t : Fin cfg0.N) (p : Fin 1024) (l : Fin 704) :
    (iblk m c 0 t : FVec Ideal S2x1x1024x704 .bf16) (ix4 0 0 p l) = (args m c).gate (ix2 (row t p) (col t l)) := by
  have ht := lt16 t
  refine Eq.trans (b := (V m c main_v7 : FVec Ideal S2x4x4096x704 .bf16) (ix4 0 ⟨t.val % 4, by omega⟩ (row t p) l)) ?_
    ((entry_gu m c 0 ⟨t.val % 4, by omega⟩ (row t p) l).trans rfl)
  blk_ext [iblk, idx t, row]

theorem blk_up (c : Dev nD) (t : Fin cfg0.N) (p : Fin 1024) (l : Fin 704) :
    (iblk m c 0 t : FVec Ideal S2x1x1024x704 .bf16) (ix4 1 0 p l) = (args m c).up (ix2 (row t p) (col t l)) := by
  have ht := lt16 t
  refine Eq.trans (b := (V m c main_v7 : FVec Ideal S2x4x4096x704 .bf16) (ix4 1 ⟨t.val % 4, by omega⟩ (row t p) l)) ?_
    ((entry_gu m c 1 ⟨t.val % 4, by omega⟩ (row t p) l).trans rfl)
  blk_ext [iblk, idx t, row]

/-- The sixteen rows before the tile (at the first tile: some rows, which the body does not use). -/
theorem blk_before (c : Dev nD) (t : Fin cfg0.N) (e : Fin 16) (l : Fin 704) :
    (iblk m c 1 t : FVec Ideal S1x1x16x704 .bf16) (ix4 0 0 e l)
      = (args m c).gate (ix2 ⟨(t.val / 4 * 64 - 1) * 16 + e.val, by have := lt16 t; omega⟩ (col t l)) := by
  have ht := lt16 t
  refine Eq.trans (b := (V m c main_v7 : FVec Ideal S2x4x4096x704 .bf16)
    (ix4 0 ⟨t.val % 4, by omega⟩ ⟨(t.val / 4 * 64 - 1) * 16 + e.val, by omega⟩ l)) ?_
    ((entry_gu m c 0 ⟨t.val % 4, by omega⟩ _ l).trans rfl)
  blk_ext [iblk, idx t]

theorem blk_tap (c : Dev nD) (t : Fin cfg0.N) (r : Fin 3) (l : Fin 704) :
    (iblk m c 2 t : FVec Ideal S1x8x704 .f32) (ix3 0 ⟨r.val, by omega⟩ l) = (args m c).w (ix2 r (col t l)) := by
  have ht := lt16 t
  refine Eq.trans (b := (V m c main_v10 : FVec Ideal S4x8x704 .f32) (ix3 ⟨t.val % 4, by omega⟩ ⟨r.val, by omega⟩ l)) ?_
    (entry_taps m c ⟨t.val % 4, by omega⟩ r l)
  blk_ext [iblk, idx t]

theorem blk_bias (c : Dev nD) (t : Fin cfg0.N) (l : Fin 704) :
    (iblk m c 3 t : FVec Ideal S1x1x704 .f32) (ix3 0 0 l) = (args m c).b (ix1 (col t l)) := by
  have ht := lt16 t
  refine Eq.trans (b := (V m c main_v13 : FVec Ideal S4x1x704 .f32) (ix3 ⟨t.val % 4, by omega⟩ 0 l)) ?_
    (entry_bias m c ⟨t.val % 4, by omega⟩ l)
  blk_ext [iblk, idx t]

theorem blk_wd (c : Dev nD) (t : Fin cfg0.N) (l : Fin 704) (k : Fin 1024) :
    (iblk m c 4 t : FVec Ideal S2x352x1024 .bf16) (ix3 ⟨l.val / 352, by omega⟩ ⟨l.val % 352, by omega⟩ k)
      = (args m c).wd (ix2 (col t l) k) := by
  have ht := lt16 t
  refine Eq.trans (b := (V m c main_v15 : FVec Ideal S8x352x1024 .bf16)
    (ix3 ⟨t.val % 4 * 2 + l.val / 352, by omega⟩ ⟨l.val % 352, by omega⟩ k)) ?_ ((entry_wd m c _ _ k).trans ?_)
  · blk_ext [iblk, idx t]
  · congr 2
    exact Fin.ext (by simp only [col, In.col]; omega)

theorem blk_h (c : Dev nD) (t : Fin cfg0.N) (p : Fin 1024) (k : Fin 1024) :
    (iblk m c 5 t : FVec Ideal S1024x1024 .f32) (ix2 p k) = (args m c).h (ix2 (row t p) k) := by
  refine Eq.trans (b := (V m c main_arg0 : FVec Ideal S4096x1024 .f32) (ix2 (row t p) k)) ?_ (entry_h m c (row t p) k)
  blk_ext [iblk, idx t, row]

/-! ## The body's values -/

theorem pay7_at (t : Fin cfg0.N) (h : Vec Ideal S1x1x16x704 .bf16) (x : Vec Ideal S2x1x1024x704 .bf16)
    (b w2 w0 w1 : Vec Ideal S1x1x704 .f32) (p : Fin 1024) (l : Fin 704) (X : ℕ → EReal)
    (hX : ∀ e : Fin 1040, X e.val = if he : e.val < 16 then (if t.val / 4 = 0 then (0 : EReal) else h (ix4 0 0 ⟨e.val, he⟩ l))
        else x (ix4 0 0 ⟨e.val - 16, by omega⟩ l)) :
    k0_pay7 (grid0.coords t) h
        (View.ld x (Rect.unit ![0, 0, 0, 0] ![1, 1, 1024, 704] inb_S2x1x1024x704_S1x1x1024x704_0_0_0_0)) b w2 w0 w1 (ix2 p l)
      = (b (ix3 0 0 l) + w2 (ix3 0 0 l) * X (16 + p.val) + w0 (ix3 0 0 l) * X (14 + p.val)
          + w1 (ix3 0 0 l) * X (15 + p.val) : EReal) := by
  have hs : ∀ t : Fin cfg0.N, (Scalar.cmpi CmpIPredicate.sgt (BitVec.ofNat 32 (grid0.coords t 0).val) 0#32 : BitVec 1)
      = if t.val / 4 = 0 then 0#1 else 1#1 := (by decide +kernel : ∀ t : Fin grid0.N, _)
  have key : ∀ e : Fin 1040, (if he : e.val < 16 then
      Scalar.select (Scalar.cmpi CmpIPredicate.sgt (BitVec.ofNat 32 (grid0.coords t 0).val) 0#32) (h (ix4 0 0 ⟨e.val, he⟩ l)) (0 : EReal)
      else x (ix4 0 0 ⟨e.val - 16, by omega⟩ l)) = X e.val := by
    intro e
    rw [hX e, hs t]
    by_cases he : e.val < 16
    · rw [dif_pos he, dif_pos he]
      by_cases h0 : t.val / 4 = 0
      · rw [if_pos h0, if_pos h0]; rfl
      · rw [if_neg h0, if_neg h0]; rfl
    · rw [dif_neg he, dif_neg he]
  pointwise [k0_pay7]
  refine congrArg₂ (· + ·) (congrArg₂ (· + ·) (congrArg (_ + ·) (congrArg (_ * ·) ?_)) (congrArg (_ * ·) ?_))
    (congrArg (_ * ·) ?_)
  · refine Eq.trans ?_ (key ⟨16 + p.val, by omega⟩)
    rw [dif_neg (by simp only; omega)]
    exact congrArg x (congrArg (fun q => ix4 0 0 q l) (Fin.ext (by simp only; omega)))
  · exact (key ⟨(16 + p.val + 1040 - 2) % 1040, by omega⟩).trans (congrArg X (by simp only; omega))
  · exact (key ⟨(16 + p.val + 1040 - 1) % 1040, by omega⟩).trans (congrArg X (by simp only; omega))

theorem pay1_at (v : FVec Ideal S1024x704 .f32) (p : Fin 1024) (l : Fin 704) :
    k0_pay1 (truncf (F := Ideal) .bf16 v bitsLt_bf16_f32) (ix3 0 p l) = v (ix2 p l) := by
  pointwise [k0_pay1]

theorem pay2_at (v : FVec Ideal S1024x704 .f32) (x : Vec Ideal S2x1x1024x704 .bf16) (p : Fin 1024) (l : Fin 704) :
    k0_pay2 v (View.ld x (Rect.unit ![1, 0, 0, 0] ![1, 1, 1024, 704] inb_S2x1x1024x704_S1x1x1024x704_1_0_0_0)) (ix2 p l)
      = (v (ix2 p l) * Ideal.logistic (v (ix2 p l)) * x (ix4 1 0 p l) : EReal) := by
  pointwise [k0_pay2]

theorem pay3_at (v : FVec Ideal S1024x704 .f32) (x : Vec Ideal S1x1x1024x704 .bf16) (p : Fin 1024) (l : Fin 704) :
    k0_pay3 v x (ix3 0 p l) = k0_pay2 v x (ix2 p l) := by
  pointwise [k0_pay3]

theorem pay4_at (v : FVec Ideal S1024x704 .f32) (x : Vec Ideal S1x1x1024x704 .bf16) (w : Vec Ideal S2x352x1024 .bf16)
    (p : Fin 1024) (k : Fin 1024) :
    k0_pay4 v x w (ix2 p k) = (∑ l : Fin 704, k0_pay2 v x (ix2 p l)
      * w (ix3 ⟨l.val / 352, by omega⟩ ⟨l.val % 352, by omega⟩ k) : EReal) := by
  pointwise [k0_pay4]

theorem pay5_at (v : FVec Ideal S1024x704 .f32) (x : Vec Ideal S1x1x1024x704 .bf16) (w : Vec Ideal S2x352x1024 .bf16)
    (o : Vec Ideal S1024x1024 .f32) (p : Fin 1024) (k : Fin 1024) :
    k0_pay5 v x w o (ix2 p k) = (o (ix2 p k) + k0_pay4 v x w (ix2 p k) : EReal) := by
  pointwise [k0_pay5]

theorem pay6_at (v : FVec Ideal S1024x704 .f32) (x : Vec Ideal S1x1x1024x704 .bf16) (w : Vec Ideal S2x352x1024 .bf16)
    (o : Vec Ideal S1024x1024 .f32) (p : Fin 1024) (k : Fin 1024) :
    k0_pay6 v x w o (ix2 p k) = (o (ix2 p k) + k0_pay4 v x w (ix2 p k) : EReal) := by
  pointwise [k0_pay6]

/-! ## A tile's values -/

/-- Row `r` of the taps' block. -/
abbrev tap (c : Dev nD) (t : Fin cfg0.N) (r : ℕ) (hr : ∀ a, ![0, r, 0] a + ![1, 1, 704] a ≤ S1x8x704.size a) :
    Vec Ideal S1x1x704 .f32 :=
  View.ld (iblk m c 2 t) (Rect.unit ![0, r, 0] ![1, 1, 704] hr)

/-- The convolved gate on the tile. -/
abbrev convTile (c : Dev nD) (t : Fin cfg0.N) : FVec Ideal S1024x704 .f32 :=
  k0_pay7 (grid0.coords t) (iblk m c 1 t)
    (View.ld (iblk m c 0 t) (Rect.unit ![0, 0, 0, 0] ![1, 1, 1024, 704] inb_S2x1x1024x704_S1x1x1024x704_0_0_0_0))
    (iblk m c 3 t) (tap m c t 2 inb_S1x8x704_S1x1x704_0_2_0) (tap m c t 0 inb_S1x8x704_S1x1x704_0_0_0)
    (tap m c t 1 inb_S1x8x704_S1x1x704_0_1_0)

/-- The up projection's tile. -/
abbrev upTile (c : Dev nD) (t : Fin cfg0.N) : Vec Ideal S1x1x1024x704 .bf16 :=
  View.ld (iblk m c 0 t) (Rect.unit ![1, 0, 0, 0] ![1, 1, 1024, 704] inb_S2x1x1024x704_S1x1x1024x704_1_0_0_0)

theorem tap_at (c : Dev nD) (t : Fin cfg0.N) (r : Fin 3) (hr : ∀ a, ![0, r.val, 0] a + ![1, 1, 704] a ≤ S1x8x704.size a)
    (l : Fin 704) : tap m c t r.val hr (ix3 0 0 l) = (args m c).w (ix2 r (col t l)) := by
  rw [← blk_tap m c t r l]
  refine congrArg (iblk m c 2 t : FVec Ideal S1x8x704 .f32) (funext fun a => Fin.ext ?_)
  fin_cases a
  · rfl
  · show r.val + 1 * 0 = r.val
    omega
  · show 0 + 1 * l.val = l.val
    omega

theorem conv_at (c : Dev nD) (t : Fin cfg0.N) (p : Fin 1024) (l : Fin 704) :
    convTile m c t (ix2 p l) = (args m c).conv (row t p).val (col t l) := by
  have ht := lt16 t
  refine (pay7_at t _ _ _ _ _ _ p l (fun e => (args m c).pad (t.val / 4 * 1024 + e - 14) (col t l)) ?_).trans ?_
  · intro e
    simp only [In.pad]
    by_cases he : e.val < 16
    · rw [dif_pos he]
      by_cases h0 : t.val / 4 = 0
      · rw [if_pos h0, dif_neg (by omega)]
      · rw [if_neg h0, dif_pos (by omega), blk_before]
        exact congrArg (args m c).gate (congrArg (ix2 · (col t l)) (Fin.ext (by simp only; omega)))
    · rw [dif_neg he, dif_pos (by omega), blk_gate]
      exact congrArg (args m c).gate (congrArg (ix2 · (col t l)) (Fin.ext (by simp only [row]; omega)))
  · rw [blk_bias, show tap m c t 2 inb_S1x8x704_S1x1x704_0_2_0 (ix3 0 0 l) = _ from tap_at m c t 2 _ l,
      show tap m c t 0 inb_S1x8x704_S1x1x704_0_0_0 (ix3 0 0 l) = _ from tap_at m c t 0 _ l,
      show tap m c t 1 inb_S1x8x704_S1x1x704_0_1_0 (ix3 0 0 l) = _ from tap_at m c t 1 _ l]
    simp only [In.conv, row]
    rw [show t.val / 4 * 1024 + (16 + p.val) - 14 = t.val / 4 * 1024 + p.val + 2 by omega,
      show t.val / 4 * 1024 + (14 + p.val) - 14 = t.val / 4 * 1024 + p.val by omega,
      show t.val / 4 * 1024 + (15 + p.val) - 14 = t.val / 4 * 1024 + p.val + 1 by omega]
    ac_rfl

theorem act_at (c : Dev nD) (t : Fin cfg0.N) (p : Fin 1024) (l : Fin 704) :
    k0_pay2 (convTile m c t) (upTile m c t) (ix2 p l) = (args m c).act (row t p) (col t l) := by
  rw [pay2_at, conv_at, blk_up]
  rfl

/-- What point `t`'s column block adds to the product. -/
def part (c : Dev nD) (t : Fin cfg0.N) (i : Fin 1024 × Fin 1024) : EReal :=
  ∑ l : Fin 704, (args m c).act (row t i.1) (col t l) * (args m c).wd (ix2 (col t l) i.2)

theorem part_at (c : Dev nD) (t : Fin cfg0.N) (p : Fin 1024) (k : Fin 1024) :
    k0_pay4 (convTile m c t) (upTile m c t) (iblk m c 4 t) (ix2 p k) = part m c t (p, k) := by
  rw [pay4_at]
  exact Finset.sum_congr rfl fun l _ => congrArg₂ (· * ·) (act_at m c t p l) (blk_wd m c t l k)

theorem conv_out (c : Dev nD) (t : Fin cfg0.N) (p : Fin 1024) (l : Fin 704) :
    (outsAt0 m c t.val t.isLt).2.2 (ix3 0 p l) = (args m c).conv (row t p).val (col t l) := by
  refine Eq.trans ?_ (conv_at m c t p l)
  by_cases h : t.val % 4 = 0
  · rw [outsAt0_A m c t h (by omega)]
    frame_out
    exact pay1_at _ p l
  · rw [outsAt0_B m c t h (by omega)]
    frame_out
    exact pay1_at _ p l

theorem act_out (c : Dev nD) (t : Fin cfg0.N) (p : Fin 1024) (l : Fin 704) :
    (outsAt0 m c t.val t.isLt).2.1 (ix3 0 p l) = (args m c).act (row t p) (col t l) := by
  refine Eq.trans ?_ (act_at m c t p l)
  by_cases h : t.val % 4 = 0
  · rw [outsAt0_A m c t h (by omega)]
    frame_out
    exact pay3_at _ _ p l
  · rw [outsAt0_B m c t h (by omega)]
    frame_out
    exact pay3_at _ _ p l

/-! ## The output's tile -/

/-- What point `t` adds to the output's tile: at the first column block, the residual too. -/
def step (c : Dev nD) (t : Fin cfg0.N) (i : Fin 1024 × Fin 1024) : EReal :=
  (if t.val % 4 = 0 then (args m c).h (ix2 (row t i.1) i.2) else 0) + part m c t i

theorem acc_first (c : Dev nD) (t : Fin cfg0.N) (h : t.val % 4 = 0) (p : Fin 1024) (k : Fin 1024) :
    (outsAt0 m c t.val t.isLt).1 (ix2 p k) = (0 + step m c t (p, k) : EReal) := by
  rw [outsAt0_A m c t h (by omega), step, if_pos h, zero_add]
  frame_out
  exact (pay5_at _ _ _ _ p k).trans (congrArg₂ (· + ·) (blk_h m c t p k) (part_at m c t p k))

theorem acc_next (c : Dev nD) (t : Fin cfg0.N) (h : ¬ t.val % 4 = 0) (p : Fin 1024) (k : Fin 1024) :
    (outsAt0 m c t.val t.isLt).1 (ix2 p k)
      = ((outsAt0 m c (t.val - 1) (by omega)).1 (ix2 p k) + step m c t (p, k) : EReal) := by
  rw [outsAt0_B m c t h (by omega), step, if_neg h, zero_add]
  frame_out
  refine (pay6_at _ _ _ _ p k).trans (congrArg₂ (· + ·) ?_ (part_at m c t p k))
  simp only [read_unread_whole]

theorem acc_last (c : Dev nD) (t : Fin cfg0.N) (hr : t.val % 4 = 3) (p : Fin 1024) (k : Fin 1024) :
    (outsAt0 m c t.val t.isLt).1 (ix2 p k) = (args m c).out (ix2 (row t p) k) := by
  have hsum := Pipeline.eq_sum_fin_of_reset_step_apply_of_flush (N := cfg0.N) (ι := Fin 1024 × Fin 1024) (M := EReal)
    (fun n h i => (outsAt0 m c n h).1 (ix2 i.1 i.2)) 4 (fun _ => 0) (fun t i => step m c t i)
    (fun t h i => acc_first m c t h i.1 i.2) (fun t h i => acc_next m c t h i.1 i.2) t hr (p, k)
  refine hsum.trans ?_
  rw [zero_add]
  have hp : ∀ s : Fin 4, row ⟨4 * (t.val / 4) + s.val, Pipeline.run_point_lt_of_flush t hr s⟩ p = row t p :=
    fun s => Fin.ext (by have := s.isLt; simp only [row]; omega)
  have hc : ∀ (s : Fin 4) (l : Fin 704), col ⟨4 * (t.val / 4) + s.val, Pipeline.run_point_lt_of_flush t hr s⟩ l
      = ⟨s.val * 704 + l.val, by omega⟩ := fun s l => Fin.ext (by have := s.isLt; simp only [col, In.col]; omega)
  simp only [step, part, Finset.sum_add_distrib, hp, hc]
  refine congrArg₂ (· + ·) ?_ ?_
  · rw [Finset.sum_eq_single 0]
    · exact if_pos (by simp)
    · intro s _ hs
      have := s.isLt
      have : s.val ≠ 0 := fun h => hs (Fin.ext h)
      exact if_neg (by omega)
    · exact fun h => absurd (Finset.mem_univ _) h
  · exact sum_tiled 4 704 rfl fun ch => (args m c).act (row t p) ch * (args m c).wd (ix2 ch k)

/-! ## The results -/

theorem final_out (c : Dev nD) : (dats m 0 c).arrAt 6 cfg0.N = (args m c).out := by
  refine (dats m 0 c).arrAt_eq_of_covers 6 _ (by decide +kernel) fun t hf y => ?_
  blk_simp
  rw [after0_6]
  have e : ∀ (p : Fin 1024) (k : Fin 1024), (outsAt0 m c t.val t.isLt).1 (ix2 p k)
      = (args m c).out ((win0_6.blk t).view.emb (ix2 p k)) := by
    intro p k
    have ht := lt16 t
    refine (acc_last m c t ((flush0_6 t).mp hf) p k).trans (congrArg _ ?_)
    blk_ext [idx t, row]
  have ey : y = ix2 (y 0) (y 1) := by funext a; fin_cases a <;> rfl
  rw [ey]
  exact e _ _

theorem final_act (c : Dev nD) : (dats m 0 c).arrAt 7 cfg0.N = (args m c).actBlocks := by
  refine (dats m 0 c).arrAt_eq_of_covers 7 _ (by decide +kernel) fun t hf y => ?_
  blk_simp
  rw [after0_7]
  have e : ∀ (p : Fin 1024) (l : Fin 704), (outsAt0 m c t.val t.isLt).2.1 (ix3 0 p l)
      = (args m c).actBlocks ((win0_7.blk t).view.emb (ix3 0 p l)) := by
    intro p l
    have ht := lt16 t
    have he : (win0_7.blk t).view.emb (ix3 0 p l) = ix3 ⟨t.val % 4, by omega⟩ (row t p) l := by blk_ext [idx t, row]
    rw [he, act_out]
    rfl
  have ey : y = ix3 0 (y 1) (y 2) := by
    funext a
    fin_cases a
    · exact Fin.ext (by have h : (y 0).val < 1 := (y 0).isLt; show (y 0).val = 0; omega)
    · rfl
    · rfl
  rw [ey]
  exact e _ _

theorem final_conv (c : Dev nD) : (dats m 0 c).arrAt 8 cfg0.N = (args m c).convBlocks := by
  refine (dats m 0 c).arrAt_eq_of_covers 8 _ (by decide +kernel) fun t hf y => ?_
  blk_simp
  rw [after0_8]
  have e : ∀ (p : Fin 1024) (l : Fin 704), (outsAt0 m c t.val t.isLt).2.2 (ix3 0 p l)
      = (args m c).convBlocks ((win0_8.blk t).view.emb (ix3 0 p l)) := by
    intro p l
    have ht := lt16 t
    have he : (win0_8.blk t).view.emb (ix3 0 p l) = ix3 ⟨t.val % 4, by omega⟩ (row t p) l := by blk_ext [idx t, row]
    rw [he, conv_out]
    rfl
  have ey : y = ix3 0 (y 1) (y 2) := by
    funext a
    fin_cases a
    · exact Fin.ext (by have h : (y 0).val < 1 := (y 0).isLt; show (y 0).val = 0; omega)
    · rfl
    · rfl
  rw [ey]
  exact e _ _

/-! ## The reference -/

section Reference

open Cert.GluDownRefIdeal.Read

variable (x0 : FVec Ideal S4096x1024 .f32) (x1 x2 : FVec Ideal S4096x2816 .f32) (x3 : FVec Ideal S3x2816 .f32)
  (x4 : FVec Ideal S2816 .f32) (x5 : FVec Ideal S2816x1024 .f32)

theorem ref_pad (q : Fin 4098) (ch : Fin 2816) :
    val_main_v1 (F := Ideal) x1 (ix2 q ch) = (In.mk x0 x1 x2 x3 x4 x5).pad q.val ch := by
  unfold In.pad
  have h : val_main_v1 (F := Ideal) x1 (ix2 q ch)
      = if h : q.val < 2 then (0 : EReal) else x1 (ix2 ⟨q.val - 2, by omega⟩ ch) := by
    pointwise [val_main_v1, val_main_v0, val_main_cst]
  rw [h]
  by_cases h2 : q.val < 2
  · rw [dif_pos h2, dif_neg (by omega)]
  · rw [dif_neg h2, dif_pos (by omega)]

theorem ref_conv (q : Fin 4096) (ch : Fin 2816) :
    val_main_v26 (F := Ideal) x1 x3 x4 (ix2 q ch) = (In.mk x0 x1 x2 x3 x4 x5).conv q.val ch := by
  have h : val_main_v26 (F := Ideal) x1 x3 x4 (ix2 q ch)
      = 0 + x3 (ix2 0 ch) * val_main_v1 (F := Ideal) x1 (ix2 ⟨q.val, by omega⟩ ch)
        + x3 (ix2 1 ch) * val_main_v1 (F := Ideal) x1 (ix2 ⟨1 + q.val, by omega⟩ ch)
        + x3 (ix2 2 ch) * val_main_v1 (F := Ideal) x1 (ix2 ⟨2 + q.val, by omega⟩ ch) + x4 (ix1 ch) := by
    pointwise [val_main_v26, val_main_v23, val_main_v16, val_main_v9, val_main_v8, val_main_cst_0, val_main_v7, val_main_v15,
      val_main_v22, val_main_v6, val_main_v14, val_main_v21, val_main_v5, val_main_v13, val_main_v20, val_main_v3,
      val_main_v11, val_main_v18, val_main_v2, val_main_v10, val_main_v17, val_main_v4, val_main_v12, val_main_v19,
      val_main_v25, val_main_v24]
  rw [h, ref_pad x0 x1 x2 x3 x4 x5, ref_pad x0 x1 x2 x3 x4 x5, ref_pad x0 x1 x2 x3 x4 x5, zero_add,
    show (⟨1 + q.val, by omega⟩ : Fin 4098).val = q.val + 1 from Nat.add_comm _ _,
    show (⟨2 + q.val, by omega⟩ : Fin 4098).val = q.val + 2 from Nat.add_comm _ _]
  rfl

theorem ref_sig (q : Fin 4096) (ch : Fin 2816) :
    val_main_call0_v5 (F := Ideal) x1 x3 x4 (ix2 q ch)
      = Ideal.logistic (val_main_v26 (F := Ideal) x1 x3 x4 (ix2 q ch)) := by
  pointwise [val_main_call0_v5, val_main_call0_v4, val_main_call0_cst_0, val_main_call0_v3, val_main_call0_v2,
    val_main_call0_cst, val_main_call0_v1, val_main_call0_v0]
  rfl

theorem ref_act (q : Fin 4096) (ch : Fin 2816) :
    val_main_v28 (F := Ideal) x1 x2 x3 x4 (ix2 q ch) = (In.mk x0 x1 x2 x3 x4 x5).act q ch := by
  have h : val_main_v28 (F := Ideal) x1 x2 x3 x4 (ix2 q ch)
      = (val_main_v26 (F := Ideal) x1 x3 x4 (ix2 q ch) * val_main_call0_v5 (F := Ideal) x1 x3 x4 (ix2 q ch)
          * x2 (ix2 q ch) : EReal) := by
    pointwise [val_main_v28, val_main_v27]
  rw [h, ref_sig, ref_conv x0 x1 x2 x3 x4 x5]
  rfl

theorem ref_out : val_main_v30 (F := Ideal) x0 x1 x2 x3 x4 x5 = (In.mk x0 x1 x2 x3 x4 x5).out := by
  have e : ∀ (q : Fin 4096) (k : Fin 1024), val_main_v30 (F := Ideal) x0 x1 x2 x3 x4 x5 (ix2 q k)
      = (In.mk x0 x1 x2 x3 x4 x5).out (ix2 q k) := by
    intro q k
    have h : val_main_v30 (F := Ideal) x0 x1 x2 x3 x4 x5 (ix2 q k)
        = (x0 (ix2 q k) + ∑ ch : Fin 2816, val_main_v28 (F := Ideal) x1 x2 x3 x4 (ix2 q ch) * x5 (ix2 ch k) : EReal) := by
      pointwise [val_main_v30, val_main_v29]
    rw [h]
    exact congrArg (_ + ·) (Finset.sum_congr rfl fun ch _ => congrArg (· * _) (ref_act x0 x1 x2 x3 x4 x5 q ch))
  funext i
  rw [show i = ix2 (i 0) (i 1) by funext a; fin_cases a <;> rfl]
  exact e _ _

theorem ref_actBlocks : val_main_v33 (F := Ideal) x1 x2 x3 x4 = (In.mk x0 x1 x2 x3 x4 x5).actBlocks := by
  have e : ∀ (j : Fin 4) (q : Fin 4096) (l : Fin 704), val_main_v33 (F := Ideal) x1 x2 x3 x4 (ix3 j q l)
      = (In.mk x0 x1 x2 x3 x4 x5).actBlocks (ix3 j q l) := by
    intro j q l
    refine Eq.trans ?_ (ref_act x0 x1 x2 x3 x4 x5 q (In.col j l))
    pointwise [val_main_v33, val_main_v32, val_main_v31]
    rfl
  funext i
  rw [show i = ix3 (i 0) (i 1) (i 2) by funext a; fin_cases a <;> rfl]
  exact e _ _ _

theorem ref_convBlocks : val_main_v36 (F := Ideal) x1 x3 x4 = (In.mk x0 x1 x2 x3 x4 x5).convBlocks := by
  have e : ∀ (j : Fin 4) (q : Fin 4096) (l : Fin 704), val_main_v36 (F := Ideal) x1 x3 x4 (ix3 j q l)
      = (In.mk x0 x1 x2 x3 x4 x5).convBlocks (ix3 j q l) := by
    intro j q l
    refine Eq.trans ?_ (ref_conv x0 x1 x2 x3 x4 x5 q (In.col j l))
    pointwise [val_main_v36, val_main_v35, val_main_v34]
    rfl
  funext i
  rw [show i = ix3 (i 0) (i 1) (i 2) by funext a; fin_cases a <;> rfl]
  exact e _ _ _

end Reference

end Cert.Proof.GluDown

end
-- ==== Proof.DWDown.lean ====
/- The gradient of the down projection's weights: `act` transposed times the cotangent of the product, summed over two
   tiles of 2048 rows. A grid point `t` works on the column block `t / 2` (704 columns) and the row tile `t % 2`. -/
module

public import proofs.«01_k».proof.Proof.Gen.DWDownIdeal.Value
public import proofs.«01_k».proof.Proof.Gen.DWDownRefIdeal.Read
public import proofs.«01_k».proof.Proof.Tiles
public import Idealize.ShloMosaic.Lib.Pipeline.ValueKit
public import Idealize.ShloMosaic.Lib.Pipeline.ReadBack
public import Idealize.ShloMosaic.Lib.StableHlo.RunRead
public import Idealize.ShloMosaic.Lib.Claim

@[expose] public section

set_option maxRecDepth 16384

noncomputable section

namespace Cert.Proof.DWDown

open Cert.DWDownIdeal Cert.DWDownIdeal.Gen Idealize.ShloMosaic Idealize.ShloMosaic.TcCoe Idealize.SL.Sem

/-- The gradient of the weights: row `b * 352 + r` of it at block `b`, row `r`. -/
def grad (act : FVec Ideal S4096x2816 .f32) (ct : FVec Ideal S4096x1024 .f32) : FVec Ideal S8x352x1024 .bf16 := fun i =>
  (∑ q : Fin 4096, act (ix2 q ⟨(i 0).val * 352 + (i 1).val, by
    have h0 : (i 0).val < 8 := (i 0).isLt
    have h1 : (i 1).val < 352 := (i 1).isLt
    omega⟩) * ct (ix2 q (i 2)) : EReal)

variable (m : (ℓ : Loc nD τ sig) → Buf (Elt Ideal) ℓ)

abbrev act (c : Dev nD) : FVec Ideal S4096x2816 .f32 := m ((c : Thread nD τ).loc main_arg0)
abbrev ct (c : Dev nD) : FVec Ideal S4096x1024 .f32 := m ((c : Thread nD τ).loc main_arg2)

theorem idx : ∀ t : Fin cfg0.N, win0_0.index t = ![t.val / 2, t.val % 2, 0] ∧ win0_1.index t = ![t.val % 2, 0]
    ∧ win0_2.index t = ![t.val / 2, 0, 0] :=
  (by decide +kernel : ∀ t : Fin grid0.N, _)

theorem lt8 (t : Fin cfg0.N) : t.val < 8 := lt_of_lt_of_eq t.isLt N_0

/-- The column that column `l` of point `t`'s blocks is. -/
def col (t : Fin cfg0.N) (l : Fin 704) : Fin 2816 := ⟨t.val / 2 * 704 + l.val, by have := lt8 t; omega⟩

/-- The row that row `p` of point `t`'s tiles is. -/
def row (t : Fin cfg0.N) (p : Fin 2048) : Fin 4096 := ⟨t.val % 2 * 2048 + p.val, by omega⟩

/-! ## The blocks -/

theorem entry_act (c : Dev nD) (j : Fin 4) (q : Fin 4096) (l : Fin 704) :
    (V m c main_v2 : FVec Ideal S4x4096x704 .bf16) (ix3 j q l) = act m c (ix2 q ⟨j.val * 704 + l.val, by omega⟩) := by
  simp only [V, hostOps0]
  after_results_simp
  after_results_loop
  pointwise

theorem entry_ct (c : Dev nD) (q : Fin 4096) (l : Fin 1024) :
    (V m c main_v3 : FVec Ideal S4096x1024 .bf16) (ix2 q l) = ct m c (ix2 q l) := by
  simp only [V, hostOps0]
  after_results_simp
  pointwise

theorem blk_act (c : Dev nD) (t : Fin cfg0.N) (p : Fin 2048) (l : Fin 704) :
    (iblk m c 0 t : FVec Ideal S1x2048x704 .bf16) (ix3 0 p l) = act m c (ix2 (row t p) (col t l)) := by
  have ht := lt8 t
  refine Eq.trans (b := (V m c main_v2 : FVec Ideal S4x4096x704 .bf16) (ix3 ⟨t.val / 2, by omega⟩ (row t p) l)) ?_
    ((entry_act m c ⟨t.val / 2, by omega⟩ (row t p) l).trans rfl)
  blk_ext [iblk, idx t, row]

theorem blk_ct (c : Dev nD) (t : Fin cfg0.N) (p : Fin 2048) (k : Fin 1024) :
    (iblk m c 1 t : FVec Ideal S2048x1024 .bf16) (ix2 p k) = ct m c (ix2 (row t p) k) := by
  refine Eq.trans (b := (V m c main_v3 : FVec Ideal S4096x1024 .bf16) (ix2 (row t p) k)) ?_ (entry_ct m c (row t p) k)
  blk_ext [iblk, idx t, row]

/-! ## The body's values -/

theorem pay1_at (l : Fin 704) (k : Fin 1024) : k0_pay1 (F := Ideal) (ix2 l k) = (0 : EReal) := by
  pointwise [k0_pay1]

theorem pay2_at (x : Vec Ideal S704x1024 .f32) (a : Vec Ideal S1x2048x704 .bf16) (b : Vec Ideal S2048x1024 .bf16)
    (l : Fin 704) (k : Fin 1024) :
    k0_pay2 x a b (ix2 l k) = (x (ix2 l k) + ∑ p : Fin 2048, a (ix3 0 p l) * b (ix2 p k) : EReal) := by
  pointwise [k0_pay2]

theorem pay3_at (x : Vec Ideal S704x1024 .f32) (b : Fin 2) (r : Fin 352) (k : Fin 1024) :
    k0_pay3 x (ix3 b r k) = x (ix2 ⟨b.val * 352 + r.val, by omega⟩ k) := by
  pointwise [k0_pay3]

/-! ## The accumulator -/

/-- What point `t`'s tile adds to the gradient. -/
def part (c : Dev nD) (t : Fin cfg0.N) (i : Fin 704 × Fin 1024) : EReal :=
  ∑ p : Fin 2048, act m c (ix2 (row t p) (col t i.1)) * ct m c (ix2 (row t p) i.2)

theorem part_eq (c : Dev nD) (t : Fin cfg0.N) (x : Vec Ideal S704x1024 .f32) (l : Fin 704) (k : Fin 1024) :
    k0_pay2 x (iblk m c 0 t) (iblk m c 1 t) (ix2 l k) = (x (ix2 l k) + part m c t (l, k) : EReal) := by
  refine (pay2_at x _ _ l k).trans (congrArg (_ + ·) (Finset.sum_congr rfl fun p _ => ?_))
  exact congrArg₂ (· * ·) (blk_act m c t p l) (blk_ct m c t p k)

theorem acc_first (c : Dev nD) (t : Fin cfg0.N) (h : t.val % 2 = 0) (l : Fin 704) (k : Fin 1024) :
    (outsAt0 m c t.val t.isLt).2 (ix2 l k) = (0 + part m c t (l, k) : EReal) := by
  rw [outsAt0_A m c t h (by omega)]
  frame_out
  refine (part_eq m c t _ l k).trans (congrArg (· + _) ?_)
  exact pay1_at l k

theorem acc_next (c : Dev nD) (t : Fin cfg0.N) (h : ¬ t.val % 2 = 0) (l : Fin 704) (k : Fin 1024) :
    (outsAt0 m c t.val t.isLt).2 (ix2 l k)
      = ((outsAt0 m c (t.val - 1) (by omega)).2 (ix2 l k) + part m c t (l, k) : EReal) := by
  rw [outsAt0_B m c t h (by omega)]
  frame_out
  refine (part_eq m c t _ l k).trans (congrArg (· + _) ?_)
  simp only [read_unread_whole]

theorem acc_last (c : Dev nD) (t : Fin cfg0.N) (hr : t.val % 2 = 1) (l : Fin 704) (k : Fin 1024) :
    (outsAt0 m c t.val t.isLt).2 (ix2 l k) = ∑ q : Fin 4096, act m c (ix2 q (col t l)) * ct m c (ix2 q k) := by
  have hsum := Pipeline.eq_sum_fin_of_reset_step_apply_of_flush (N := cfg0.N) (ι := Fin 704 × Fin 1024) (M := EReal)
    (fun n h i => (outsAt0 m c n h).2 (ix2 i.1 i.2)) 2 (fun _ => 0) (fun t i => part m c t i)
    (fun t h i => acc_first m c t h i.1 i.2) (fun t h i => acc_next m c t h i.1 i.2) t hr (l, k)
  refine hsum.trans ?_
  rw [zero_add]
  refine Eq.trans ?_ (sum_tiled 2 2048 rfl fun q => act m c (ix2 q (col t l)) * ct m c (ix2 q k))
  refine Finset.sum_congr rfl fun s _ => Finset.sum_congr rfl fun p _ => ?_
  have hs := s.isLt
  have hc : col ⟨2 * (t.val / 2) + s.val, Pipeline.run_point_lt_of_flush t hr s⟩ l = col t l :=
    Fin.ext (by simp only [col]; omega)
  have hp : row ⟨2 * (t.val / 2) + s.val, Pipeline.run_point_lt_of_flush t hr s⟩ p = ⟨s.val * 2048 + p.val, by omega⟩ :=
    Fin.ext (by simp only [row]; omega)
  rw [hc, hp]

/-! ## The result -/

theorem out_last (c : Dev nD) (t : Fin cfg0.N) (h : t.val % 2 = 1) (b : Fin 2) (r : Fin 352) (k : Fin 1024) :
    (outsAt0 m c t.val t.isLt).1 (ix3 b r k)
      = (outsAt0 m c t.val t.isLt).2 (ix2 ⟨b.val * 352 + r.val, by omega⟩ k) := by
  rw [outsAt0_B m c t (by omega) h]
  frame_out
  exact pay3_at _ b r k

theorem place (t : Fin cfg0.N) (b : Fin 2) (r : Fin 352) (k : Fin 1024) :
    (win0_2.blk t).view.emb (ix3 b r k) = ix3 ⟨t.val / 2 * 2 + b.val, by have := lt8 t; omega⟩ r k := by
  blk_ext [idx t]

theorem final (c : Dev nD) : (dats m 0 c).arrAt 2 cfg0.N = grad (act m c) (ct m c) := by
  refine (dats m 0 c).arrAt_eq_of_covers 2 _ (by decide +kernel) fun t hf y => ?_
  blk_simp
  rw [after0_2]
  have e : ∀ (b : Fin 2) (r : Fin 352) (k : Fin 1024), (outsAt0 m c t.val t.isLt).1 (ix3 b r k)
      = grad (act m c) (ct m c) ((win0_2.blk t).view.emb (ix3 b r k)) := by
    intro b r k
    have hr : t.val % 2 = 1 := (flush0_2 t).mp hf
    have ht := lt8 t
    rw [place, out_last m c t hr, acc_last m c t hr]
    refine Finset.sum_congr rfl fun q _ => congrArg (· * _) (congrArg (act m c) (congrArg (ix2 q) (Fin.ext ?_)))
    simp only [col]
    show _ = (t.val / 2 * 2 + b.val) * 352 + r.val
    omega
  have ey : y = ix3 (y 0) (y 1) (y 2) := by funext a; fin_cases a <;> rfl
  rw [ey]
  exact e _ _ _

/-! ## The reference -/

theorem ref_eq (act : FVec Ideal S4096x2816 .f32) (ct : FVec Ideal S4096x1024 .f32) :
    Cert.DWDownRefIdeal.Read.val_main_v4 (F := Ideal) act ct = grad act ct := by
  funext i
  have h0 : (i 0).val < 8 := (i 0).isLt
  have h1 : (i 1).val < 352 := (i 1).isLt
  have h2 : (i 2).val < 1024 := (i 2).isLt
  rw [Cert.DWDownRefIdeal.Read.val_main_v4_apply, Cert.DWDownRefIdeal.Read.val_main_v3_apply,
    Cert.DWDownRefIdeal.Read.val_main_v2_apply, Cert.DWDownRefIdeal.Read.val_main_v1_apply]
  refine Finset.sum_congr rfl fun q _ => ?_
  rw [mul_comm]
  refine congrArg₂ (· * ·) (congrArg act ?_) (congrArg ct ?_)
  · funext a
    fin_cases a
    · rfl
    · exact Fin.ext (show (((i 0).val * 352 + (i 1).val) * 1024 + (i 2).val) / 1024 = (i 0).val * 352 + (i 1).val by omega)
  · funext a
    fin_cases a
    · rfl
    · exact Fin.ext (show (((i 0).val * 352 + (i 1).val) * 1024 + (i 2).val) % 1024 = (i 2).val by omega)

end Cert.Proof.DWDown

end
-- ==== Proof.NormGrad.lean ====
/- The gradient of the root-mean-square norm by its rows, in the two forms it is written: with the normalised row, and by the
   chain rule. They agree on all extended reals. -/
module

public import Idealize.ShloMosaic.Lib.Pointwise
public import proofs.«01_k».proof.Proof.Norm

@[expose] public section

noncomputable section

namespace Cert.Proof

open Idealize.ShloMosaic

theorem width_eq : Ideal.ofBits FTy.f32 1149239296#32 = ((1024 : ℝ) : EReal) := by
  simp [Ideal.ofBits, Ideal.ieee, -EReal.coe_mul]; norm_num

theorem neg_half_eq : Ideal.ofBits FTy.f32 3204448256#32 = ((-(1 / 2) : ℝ) : EReal) := by
  simp [Ideal.ofBits, Ideal.ieee, -EReal.coe_mul]; norm_num

theorem eps_pos : ∃ e : ℝ, 0 < e ∧ Ideal.ofBits FTy.f32 897988541#32 = (e : EReal) := by
  refine ⟨8796093 * 2 ^ (-43 : ℤ), by positivity, ?_⟩
  simp [Ideal.ofBits, Ideal.ieee, -EReal.coe_mul]

theorem sq_nonneg_ereal (x : EReal) : 0 ≤ x * x := by
  rcases le_total 0 x with h | h
  · exact EReal.mul_nonneg h h
  · rw [← neg_mul_neg]
    exact EReal.mul_nonneg (EReal.neg_nonneg.mpr h) (EReal.neg_nonneg.mpr h)

/-- The mean square is positive: a real number, or infinite. -/
theorem meanSq_cases (h : FVec Ideal ⟨2, ![4096, 1024]⟩ .f32) (q : Fin 4096) :
    meanSq h q = ⊤ ∨ ∃ u : ℝ, 0 < u ∧ meanSq h q = (u : EReal) := by
  obtain ⟨e, he, hE⟩ := eps_pos
  unfold meanSq
  rw [width_eq, hE, Ideal.div_coe (by norm_num)]
  have hs : (0 : EReal) ≤ ∑ x : Fin 1024, h (ix2 q x) * h (ix2 q x) := Finset.sum_nonneg fun x _ => sq_nonneg_ereal _
  generalize (∑ x : Fin 1024, h (ix2 q x) * h (ix2 q x) : EReal) = s at hs
  induction s with
  | bot => simp at hs
  | top =>
    left
    rw [EReal.top_mul_coe_of_pos (by norm_num), EReal.top_add_coe]
  | coe s =>
    right
    have : 0 ≤ s := by exact_mod_cast hs
    exact ⟨s * (1 / 1024) + e, by positivity, by push_cast; rfl⟩

/-- A sum times a real factor that is not negative. -/
theorem sum_mul_real {n : ℕ} (f : Fin n → EReal) (r : ℝ) (hr : 0 ≤ r) : (∑ x, f x) * (r : EReal) = ∑ x, f x * (r : EReal) :=
  map_sum (⟨⟨fun x => x * (r : EReal), zero_mul _⟩, fun x y =>
    EReal.right_distrib_of_nonneg_of_ne_top (by exact_mod_cast hr) (EReal.coe_ne_top r) x y⟩ : EReal →+ EReal) f _

theorem neg_add_neg_self (y : EReal) : -y + -y = -(y + y) := by
  induction y with
  | bot => rfl
  | top => rfl
  | coe y => norm_cast; ring

/-- The factor by which the chain rule multiplies a row. -/
def slope (h t : Fin 1024 → EReal) (u : EReal) : EReal :=
  Ideal.div ((∑ x, h x * t x) * (Ideal.ofBits FTy.f32 3204448256#32 * Ideal.div (Ideal.rsqrt u) u))
    (Ideal.ofBits FTy.f32 1149239296#32)

/-- With the normalised row. -/
def gradNormed (h t : Fin 1024 → EReal) (u : EReal) (k : Fin 1024) : EReal :=
  Ideal.rsqrt u * (t k - h k * Ideal.rsqrt u
    * Ideal.div (∑ x, t x * (h x * Ideal.rsqrt u)) (Ideal.ofBits FTy.f32 1149239296#32))

/-- By the chain rule. -/
def gradChain (h t : Fin 1024 → EReal) (u : EReal) (k : Fin 1024) : EReal :=
  t k * Ideal.rsqrt u + h k * slope h t u + slope h t u * h k

theorem gradNormed_eq (h t : Fin 1024 → EReal) (u : EReal) (hu : u = ⊤ ∨ ∃ v : ℝ, 0 < v ∧ u = (v : EReal)) (k : Fin 1024) :
    gradNormed h t u k = gradChain h t u k := by
  unfold gradNormed gradChain slope
  rw [width_eq, neg_half_eq, Ideal.div_coe (by norm_num), Ideal.div_coe (by norm_num)]
  rcases hu with rfl | ⟨v, hv, rfl⟩
  · rw [Ideal.rsqrt_top]
    simp [Ideal.div]
  · have hr : Ideal.rsqrt (v : EReal) = (((Real.sqrt v)⁻¹ : ℝ) : EReal) := by
      rw [Ideal.rsqrt_coe, if_neg (not_lt.mpr hv.le), if_neg hv.ne']
    have hρ : (0 : ℝ) ≤ (Real.sqrt v)⁻¹ := by positivity
    have h2 : (Real.sqrt v)⁻¹ * (Real.sqrt v)⁻¹ = 1 / v := by
      rw [← mul_inv, Real.mul_self_sqrt hv.le, one_div]
    rw [hr, Ideal.div_coe hv.ne']
    generalize (Real.sqrt v)⁻¹ = ρ at hρ h2
    have hT : (∑ x, t x * (h x * (ρ : EReal))) = (∑ x, h x * t x) * (ρ : EReal) := by
      rw [sum_mul_real _ _ hρ]
      exact Finset.sum_congr rfl fun x _ => by ac_rfl
    rw [hT]
    generalize (∑ x, h x * t x : EReal) = T
    set d : ℝ := 1 / 2 * (ρ * (1 / v)) * (1 / 1024) with hd
    have hd0 : 0 ≤ d := by positivity
    have hS : T * (((-(1 / 2) : ℝ) : EReal) * ((ρ : EReal) * ((1 / v : ℝ) : EReal))) * ((1 / 1024 : ℝ) : EReal)
        = -(T * (d : EReal)) := by
      rw [← mul_neg, mul_assoc, ← EReal.coe_neg, ← EReal.coe_mul, ← EReal.coe_mul, ← EReal.coe_mul]
      congr 2
      rw [hd]; ring
    have hK : (h k * (ρ : EReal)) * (T * (ρ : EReal) * ((1 / 1024 : ℝ) : EReal)) * (ρ : EReal)
        = h k * T * (d : EReal) + h k * T * (d : EReal) := by
      rw [← EReal.left_distrib_of_nonneg (by exact_mod_cast hd0) (by exact_mod_cast hd0), ← EReal.coe_add]
      have : d + d = ρ * ρ * (1 / 1024) * ρ := by rw [hd, ← h2]; ring
      rw [this]
      push_cast
      ac_rfl
    rw [hS, sub_eq_add_neg, EReal.left_distrib_of_nonneg_of_ne_top (by exact_mod_cast hρ) (EReal.coe_ne_top ρ), mul_neg,
      mul_comm (ρ : EReal) (h k * _ * _), hK, ← neg_add_neg_self, mul_comm (ρ : EReal), add_assoc, mul_neg, neg_mul]
    congr 3 <;> ac_rfl

end Cert.Proof

end
-- ==== Proof.NormIn.lean ====
/- The gradient of a norm's input behind a product: what the product's cotangent gives the normalised rows, taken back through
   the norm and added to the residual's gradient; and the gradient of the norm's weights. For a product of any width. -/
module

public import proofs.«01_k».proof.Proof.Tiles
public import proofs.«01_k».proof.Proof.NormGrad

@[expose] public section

noncomputable section

namespace Cert.Proof

open Idealize.ShloMosaic

/-- The five arguments: the rows, the norm's weights, the product's weights, its cotangent, the residual's gradient. -/
structure NormIn (n : ℕ) where
  h : FVec Ideal ⟨2, ![4096, 1024]⟩ .f32
  g : FVec Ideal ⟨1, ![1024]⟩ .f32
  w : FVec Ideal ⟨2, ![1024, n]⟩ .f32
  ct : FVec Ideal ⟨2, ![4096, n]⟩ .f32
  dh : FVec Ideal ⟨2, ![4096, 1024]⟩ .f32

namespace NormIn

variable {n : ℕ} (a : NormIn n)

/-- The gradient of the normalised rows. -/
def back (q : Fin 4096) (k : Fin 1024) : EReal := ∑ j : Fin n, a.ct (ix2 q j) * a.w (ix2 k j)

/-- A row, and that gradient times the norm's weights. -/
abbrev hRow (q : Fin 4096) (k : Fin 1024) : EReal := a.h (ix2 q k)
abbrev tRow (q : Fin 4096) (k : Fin 1024) : EReal := a.back q k * a.g (ix1 k)

/-- The gradient of the rows. -/
def dRows : FVec Ideal ⟨2, ![4096, 1024]⟩ .f32 := fun i =>
  (a.dh (ix2 (i 0) (i 1)) + gradChain (a.hRow (i 0)) (a.tRow (i 0)) (meanSq a.h (i 0)) (i 1) : EReal)

/-- What row `q` adds to the gradient of weight `k` of the norm. -/
def weightTerm (k : Fin 1024) (q : Fin 4096) : EReal :=
  a.back q k * (a.h (ix2 q k) * Ideal.rsqrt (meanSq a.h q))

/-- The gradient of the norm's weights. -/
def dWeights : FVec Ideal ⟨2, ![1, 1024]⟩ .f32 := fun i => (∑ q : Fin 4096, a.weightTerm (i 1) q : EReal)

/-- What tile `s` of 1024 rows adds to it. -/
def tile (k : Fin 1024) (s : ℕ) : EReal :=
  if h : s < 4 then ∑ p : Fin 1024, a.weightTerm k ⟨s * 1024 + p.val, by omega⟩ else 0

/-- The four tiles are the whole sum. -/
theorem sum_tile (k : Fin 1024) : ∑ s ∈ Finset.range 4, a.tile k s = a.dWeights (ix2 0 k) := by
  rw [Finset.sum_range]
  refine Eq.trans (Finset.sum_congr rfl fun s _ => dif_pos s.isLt) ?_
  exact sum_tiled 4 1024 rfl (a.weightTerm k)

end NormIn

end Cert.Proof

end
-- ==== Proof.DFfnIn.lean ====
/- The gradient of the feed-forward's input: the cotangent of the gate and up product times the weights, taken back through
   the norm and added to the residual's gradient; and the gradient of the norm's weights. A grid point `t` works on the row
   tile `t / 8` (1024 rows) and the column block `t % 8` (704 of the product's 5632 columns). -/
module

public import proofs.«01_k».proof.Proof.Gen.DFfnInIdeal.Value
public import proofs.«01_k».proof.Proof.Gen.DFfnInRefIdeal.Read
public import proofs.«01_k».proof.Proof.NormIn
public import Idealize.ShloMosaic.Lib.Pipeline.ValueKit
public import Idealize.ShloMosaic.Lib.Pipeline.ReadBack
public import Idealize.ShloMosaic.Lib.StableHlo.RunRead
public import Idealize.ShloMosaic.Lib.Claim

@[expose] public section

set_option maxRecDepth 16384

noncomputable section

namespace Cert.Proof.DFfnIn

open Cert.DFfnInIdeal Cert.DFfnInIdeal.Gen Idealize.ShloMosaic Idealize.ShloMosaic.TcCoe Idealize.SL.Sem

variable (m : (ℓ : Loc nD τ sig) → Buf (Elt Ideal) ℓ)

/-- The arguments as the kernel finds them on core `c`. -/
def args (c : Dev nD) : NormIn 5632 where
  h := m ((c : Thread nD τ).loc main_arg0)
  g := m ((c : Thread nD τ).loc main_arg1)
  w := m ((c : Thread nD τ).loc main_arg2)
  ct := m ((c : Thread nD τ).loc main_arg3)
  dh := m ((c : Thread nD τ).loc main_arg4)

theorem idx : ∀ t : Fin cfg0.N, win0_0.index t = ![t.val % 8 / 4, t.val % 8 % 4, t.val / 8, 0]
    ∧ win0_1.index t = ![t.val % 8, 0, 0] ∧ win0_2.index t = ![t.val / 8, 0] ∧ win0_3.index t = ![0, 0]
    ∧ win0_4.index t = ![t.val / 8, 0] ∧ win0_5.index t = ![t.val / 8, 0] ∧ win0_6.index t = ![t.val / 8, 0]
    ∧ win0_7.index t = ![0, 0] :=
  (by decide +kernel : ∀ t : Fin grid0.N, _)

theorem lt32 (t : Fin cfg0.N) : t.val < 32 := lt_of_lt_of_eq t.isLt N_0

/-- The column that column `l` of point `t`'s blocks is. -/
def col (t : Fin cfg0.N) (l : Fin 704) : Fin 5632 := ⟨t.val % 8 * 704 + l.val, by omega⟩

/-- The row that row `p` of point `t`'s tile is. -/
def row (t : Fin cfg0.N) (p : Fin 1024) : Fin 4096 := ⟨t.val / 8 * 1024 + p.val, by have := lt32 t; omega⟩

/-! ## The operands the host prepares -/

theorem entry_ct (c : Dev nD) (b : Fin 2) (j : Fin 4) (q : Fin 4096) (l : Fin 704) :
    (V m c main_v2 : FVec Ideal S2x4x4096x704 .bf16) (ix4 b j q l)
      = (args m c).ct (ix2 q ⟨(b.val * 4 + j.val) * 704 + l.val, by omega⟩) := by
  simp only [V, hostOps0]
  after_results_simp
  after_results_loop
  pointwise
  exact congrArg (args m c).ct (congrArg (ix2 q) (Fin.ext (by simp only; omega)))

theorem entry_w (c : Dev nD) (j : Fin 8) (l : Fin 704) (k : Fin 1024) :
    (V m c main_v5 : FVec Ideal S8x704x1024 .bf16) (ix3 j l k)
      = (args m c).w (ix2 k ⟨j.val * 704 + l.val, by omega⟩) := by
  simp only [V, hostOps0]
  after_results_simp
  after_results_loop
  pointwise
  rfl

theorem entry_g (c : Dev nD) (k : Fin 1024) :
    (V m c main_v6 : FVec Ideal S1x1024 .f32) (ix2 0 k) = (args m c).g (ix1 k) := by
  simp only [V, hostOps0]
  after_results_simp
  after_results_loop
  pointwise
  rfl

theorem entry_h (c : Dev nD) (q : Fin 4096) (k : Fin 1024) :
    (V m c main_arg0 : FVec Ideal S4096x1024 .f32) (ix2 q k) = (args m c).h (ix2 q k) := by
  simp only [V, hostOps0]
  after_results_simp
  rfl

theorem entry_dh (c : Dev nD) (q : Fin 4096) (k : Fin 1024) :
    (V m c main_arg4 : FVec Ideal S4096x1024 .f32) (ix2 q k) = (args m c).dh (ix2 q k) := by
  simp only [V, hostOps0]
  after_results_simp
  rfl

/-! ## The blocks -/

theorem blk_ct (c : Dev nD) (t : Fin cfg0.N) (p : Fin 1024) (l : Fin 704) :
    (iblk m c 0 t : FVec Ideal S1x1x1024x704 .bf16) (ix4 0 0 p l) = (args m c).ct (ix2 (row t p) (col t l)) := by
  have ht := lt32 t
  refine Eq.trans (b := (V m c main_v2 : FVec Ideal S2x4x4096x704 .bf16)
    (ix4 ⟨t.val % 8 / 4, by omega⟩ ⟨t.val % 8 % 4, by omega⟩ (row t p) l)) ?_ ((entry_ct m c _ _ (row t p) l).trans ?_)
  · blk_ext [iblk, idx t, row]
  · exact congrArg (args m c).ct (congrArg (ix2 (row t p)) (Fin.ext (by simp only [col]; omega)))

theorem blk_w (c : Dev nD) (t : Fin cfg0.N) (l : Fin 704) (k : Fin 1024) :
    (iblk m c 1 t : FVec Ideal S1x704x1024 .bf16) (ix3 0 l k) = (args m c).w (ix2 k (col t l)) := by
  have ht := lt32 t
  refine Eq.trans (b := (V m c main_v5 : FVec Ideal S8x704x1024 .bf16) (ix3 ⟨t.val % 8, by omega⟩ l k)) ?_
    ((entry_w m c _ l k).trans rfl)
  blk_ext [iblk, idx t]

theorem blk_h (c : Dev nD) (t : Fin cfg0.N) (p : Fin 1024) (k : Fin 1024) :
    (iblk m c 2 t : FVec Ideal S1024x1024 .f32) (ix2 p k) = (args m c).h (ix2 (row t p) k) := by
  refine Eq.trans (b := (V m c main_arg0 : FVec Ideal S4096x1024 .f32) (ix2 (row t p) k)) ?_ (entry_h m c (row t p) k)
  blk_ext [iblk, idx t, row]

theorem blk_g (c : Dev nD) (t : Fin cfg0.N) (k : Fin 1024) :
    (iblk m c 3 t : FVec Ideal S1x1024 .f32) (ix2 0 k) = (args m c).g (ix1 k) := by
  refine Eq.trans (b := (V m c main_v6 : FVec Ideal S1x1024 .f32) (ix2 0 k)) ?_ (entry_g m c k)
  blk_ext [iblk, idx t]

theorem blk_dh (c : Dev nD) (t : Fin cfg0.N) (p : Fin 1024) (k : Fin 1024) :
    (iblk m c 4 t : FVec Ideal S1024x1024 .f32) (ix2 p k) = (args m c).dh (ix2 (row t p) k) := by
  refine Eq.trans (b := (V m c main_arg4 : FVec Ideal S4096x1024 .f32) (ix2 (row t p) k)) ?_ (entry_dh m c (row t p) k)
  blk_ext [iblk, idx t, row]

/-! ## The body's values -/

section Body

variable (h A dh : Vec Ideal S1024x1024 .f32) (g : Vec Ideal S1x1024 .f32)

theorem pay1_at (p k : Fin 1024) : k0_pay1 (F := Ideal) (ix2 p k) = (0 : EReal) := by
  pointwise [k0_pay1]

theorem pay2_at (a : Vec Ideal S1x1x1024x704 .bf16) (b : Vec Ideal S1x704x1024 .bf16) (p k : Fin 1024) :
    k0_pay2 A a b (ix2 p k) = (A (ix2 p k) + ∑ l : Fin 704, a (ix4 0 0 p l) * b (ix3 0 l k) : EReal) := by
  pointwise [k0_pay2]

theorem pay3_at (v : FVec Ideal S1024x1024 .f32) (p k : Fin 1024) : k0_pay3 v (ix2 p k) = v (ix2 p k) := by
  pointwise [k0_pay3]

theorem pay4_at (p : Fin 1024) :
    k0_pay4 h (ix2 p 0) = Ideal.rsqrt (Ideal.div (∑ x : Fin 1024, h (ix2 p x) * h (ix2 p x)) (Ideal.ofBits FTy.f32 1149239296#32)
      + Ideal.ofBits FTy.f32 897988541#32) := by
  pointwise [k0_pay4]

theorem pay5_at (p k : Fin 1024) : k0_pay5 h (ix2 p k) = (h (ix2 p k) * k0_pay4 h (ix2 p 0) : EReal) := by
  pointwise [k0_pay5]

theorem pay6_at (k : Fin 1024) :
    k0_pay6 h A (ix2 0 k) = (∑ p : Fin 1024, A (ix2 p k) * k0_pay5 h (ix2 p k) : EReal) := by
  pointwise [k0_pay6]

theorem pay7_at (d : Vec Ideal S1x1024 .f32) (k : Fin 1024) :
    k0_pay7 h A d (ix2 0 k) = (d (ix2 0 k) + k0_pay6 h A (ix2 0 k) : EReal) := by
  pointwise [k0_pay7]

theorem pay8_at (p k : Fin 1024) :
    k0_pay8 h A g dh (ix2 p k) = (dh (ix2 p k) + k0_pay4 h (ix2 p 0) * (A (ix2 p k) * g (ix2 0 k) - k0_pay5 h (ix2 p k)
      * Ideal.div (∑ x : Fin 1024, A (ix2 p x) * g (ix2 0 x) * k0_pay5 h (ix2 p x)) (Ideal.ofBits FTy.f32 1149239296#32)) : EReal) := by
  pointwise [k0_pay8]

end Body

/-! ## The accumulator -/

/-- What point `t`'s column block adds to the product. -/
def part (c : Dev nD) (t : Fin cfg0.N) (i : Fin 1024 × Fin 1024) : EReal :=
  ∑ l : Fin 704, (args m c).ct (ix2 (row t i.1) (col t l)) * (args m c).w (ix2 i.2 (col t l))

theorem part_eq (c : Dev nD) (t : Fin cfg0.N) (x : Vec Ideal S1024x1024 .f32) (p k : Fin 1024) :
    k0_pay2 x (iblk m c 0 t) (iblk m c 1 t) (ix2 p k) = (x (ix2 p k) + part m c t (p, k) : EReal) := by
  refine (pay2_at x _ _ p k).trans (congrArg (_ + ·) (Finset.sum_congr rfl fun l _ => ?_))
  exact congrArg₂ (· * ·) (blk_ct m c t p l) (blk_w m c t l k)

/-- The accumulator after point `n`. -/
abbrev acc (c : Dev nD) (n : ℕ) (h : n < cfg0.N) : Vec Ideal S1024x1024 .f32 := (outsAt0 m c n h).2.2.2

theorem acc_first (c : Dev nD) (t : Fin cfg0.N) (h : t.val % 8 = 0) (p k : Fin 1024) :
    acc m c t.val t.isLt (ix2 p k) = (0 + part m c t (p, k) : EReal) := by
  rw [acc, outsAt0_A m c t h (by omega)]
  frame_out
  refine (part_eq m c t _ p k).trans (congrArg (· + _) ?_)
  exact pay1_at p k

theorem acc_next (c : Dev nD) (t : Fin cfg0.N) (h : ¬ t.val % 8 = 0) (p k : Fin 1024) :
    acc m c t.val t.isLt (ix2 p k) = (acc m c (t.val - 1) (by omega) (ix2 p k) + part m c t (p, k) : EReal) := by
  by_cases h1 : t.val % 8 = 7
  · by_cases h2 : t.val < 8
    · rw [acc, outsAt0_C m c t h h1 h2 (by omega)]
      frame_out
      refine (part_eq m c t _ p k).trans (congrArg (· + _) ?_)
      simp only [read_unread_whole]
    · rw [acc, outsAt0_D m c t h h1 h2 (by omega)]
      frame_out
      refine (part_eq m c t _ p k).trans (congrArg (· + _) ?_)
      simp only [read_unread_whole]
  · rw [acc, outsAt0_B m c t h h1]
    frame_out
    refine (part_eq m c t _ p k).trans (congrArg (· + _) ?_)
    simp only [read_unread_whole]

theorem acc_last (c : Dev nD) (t : Fin cfg0.N) (hr : t.val % 8 = 7) (p k : Fin 1024) :
    acc m c t.val t.isLt (ix2 p k) = (args m c).back (row t p) k := by
  have hsum := Pipeline.eq_sum_fin_of_reset_step_apply_of_flush (N := cfg0.N) (ι := Fin 1024 × Fin 1024) (M := EReal)
    (fun n h i => acc m c n h (ix2 i.1 i.2)) 8 (fun _ => 0) (fun t i => part m c t i)
    (fun t h i => acc_first m c t h i.1 i.2) (fun t h i => acc_next m c t h i.1 i.2) t hr (p, k)
  refine hsum.trans ?_
  rw [zero_add]
  refine Eq.trans ?_ (sum_tiled 8 704 rfl fun n => (args m c).ct (ix2 (row t p) n) * (args m c).w (ix2 k n))
  refine Finset.sum_congr rfl fun s _ => Finset.sum_congr rfl fun l _ => ?_
  have hs := s.isLt
  have hc : col ⟨8 * (t.val / 8) + s.val, Pipeline.run_point_lt_of_flush t hr s⟩ l = ⟨s.val * 704 + l.val, by omega⟩ :=
    Fin.ext (by simp only [col]; omega)
  have hp : row ⟨8 * (t.val / 8) + s.val, Pipeline.run_point_lt_of_flush t hr s⟩ p = row t p :=
    Fin.ext (by simp only [row]; omega)
  rw [hc, hp]

/-! ## The tile's gradients -/

theorem inv_at (c : Dev nD) (t : Fin cfg0.N) (p : Fin 1024) :
    k0_pay4 (iblk m c 2 t) (ix2 p 0) = Ideal.rsqrt (meanSq (args m c).h (row t p)) := by
  rw [pay4_at]
  simp only [blk_h]
  rfl

theorem xhat_at (c : Dev nD) (t : Fin cfg0.N) (p k : Fin 1024) :
    k0_pay5 (iblk m c 2 t) (ix2 p k)
      = (args m c).h (ix2 (row t p) k) * Ideal.rsqrt (meanSq (args m c).h (row t p)) := by
  rw [pay5_at, inv_at, blk_h]

/-- The rows' gradient from an accumulator that holds the product. -/
theorem rows_at (c : Dev nD) (t : Fin cfg0.N) (A : Vec Ideal S1024x1024 .f32)
    (hA : ∀ p k : Fin 1024, A (ix2 p k) = (args m c).back (row t p) k) (p k : Fin 1024) :
    k0_pay8 (iblk m c 2 t) A (iblk m c 3 t) (iblk m c 4 t) (ix2 p k) = (args m c).dRows (ix2 (row t p) k) := by
  refine (pay8_at _ _ _ _ p k).trans ?_
  simp only [xhat_at, inv_at, blk_dh, blk_g, hA]
  exact congrArg (_ + ·) (gradNormed_eq ((args m c).hRow (row t p)) ((args m c).tRow (row t p)) _
    (meanSq_cases _ _) k)

theorem weights_at (c : Dev nD) (t : Fin cfg0.N) (A : Vec Ideal S1024x1024 .f32)
    (hA : ∀ p k : Fin 1024, A (ix2 p k) = (args m c).back (row t p) k) (k : Fin 1024) :
    k0_pay6 (iblk m c 2 t) A (ix2 0 k) = ∑ p : Fin 1024, (args m c).weightTerm k (row t p) := by
  refine (pay6_at _ _ k).trans (Finset.sum_congr rfl fun p _ => ?_)
  rw [xhat_at, hA]
  rfl

theorem out_rows (c : Dev nD) (t : Fin cfg0.N) (hr : t.val % 8 = 7) (p k : Fin 1024) :
    (outsAt0 m c t.val t.isLt).1 (ix2 p k) = (args m c).dRows (ix2 (row t p) k) := by
  refine Eq.trans ?_ (rows_at m c t (acc m c t.val t.isLt) (acc_last m c t hr) p k)
  by_cases h2 : t.val < 8
  · rw [acc, outsAt0_C m c t (by omega) hr h2 (by omega)]
    frame_out
  · rw [acc, outsAt0_D m c t (by omega) hr h2 (by omega)]
    frame_out

theorem out_copy (c : Dev nD) (t : Fin cfg0.N) (hr : t.val % 8 = 7) (p k : Fin 1024) :
    (outsAt0 m c t.val t.isLt).2.1 (ix2 p k) = (args m c).dRows (ix2 (row t p) k) := by
  refine Eq.trans ?_ (rows_at m c t (acc m c t.val t.isLt) (acc_last m c t hr) p k)
  by_cases h2 : t.val < 8
  · rw [acc, outsAt0_C m c t (by omega) hr h2 (by omega)]
    frame_out
    exact pay3_at _ p k
  · rw [acc, outsAt0_D m c t (by omega) hr h2 (by omega)]
    frame_out
    exact pay3_at _ p k

/-! ## The norm's weights -/

/-- What the weights' gradient holds after point `n`. -/
abbrev wacc (c : Dev nD) (n : ℕ) (h : n < cfg0.N) : Vec Ideal S1x1024 .f32 := (outsAt0 m c n h).2.2.1

/-- It changes at a tile's last point only. -/
theorem wacc_same (c : Dev nD) (t : Fin cfg0.N) (h : ¬ t.val % 8 = 7) :
    wacc m c t.val t.isLt = wacc m c (t.val - 1) (by omega) := by
  by_cases h0 : t.val % 8 = 0
  · rw [wacc, outsAt0_A m c t h0 h]
    rfl
  · rw [wacc, outsAt0_B m c t h0 h]
    rfl

theorem wacc_start (c : Dev nD) (t : Fin cfg0.N) (hr : t.val % 8 = 7) (h2 : t.val < 8) (k : Fin 1024) :
    wacc m c t.val t.isLt (ix2 0 k) = ∑ p : Fin 1024, (args m c).weightTerm k (row t p) := by
  refine Eq.trans ?_ (weights_at m c t (acc m c t.val t.isLt) (acc_last m c t hr) k)
  rw [acc, wacc, outsAt0_C m c t (by omega) hr h2 (by omega)]
  frame_out

theorem wacc_step (c : Dev nD) (t : Fin cfg0.N) (hr : t.val % 8 = 7) (h2 : ¬ t.val < 8) (k : Fin 1024) :
    wacc m c t.val t.isLt (ix2 0 k)
      = (wacc m c (t.val - 1) (by omega) (ix2 0 k) + ∑ p : Fin 1024, (args m c).weightTerm k (row t p) : EReal) := by
  rw [← weights_at m c t (acc m c t.val t.isLt) (acc_last m c t hr) k, acc, wacc,
    outsAt0_D m c t (by omega) hr h2 (by omega)]
  frame_out
  refine (pay7_at _ _ _ k).trans (congrArg (· + _) ?_)
  simp only [read_unread_whole]

theorem tile_at (c : Dev nD) (k : Fin 1024) (t : Fin cfg0.N) :
    ∑ p : Fin 1024, (args m c).weightTerm k (row t p) = (args m c).tile k (t.val / 8) := by
  have ht := lt32 t
  rw [NormIn.tile, dif_pos (by omega)]
  rfl

/-- After point `n` it holds the sum over the tiles that are done. -/
theorem wacc_tile (c : Dev nD) (k : Fin 1024) : ∀ (n : ℕ) (h : n < cfg0.N), 7 ≤ n →
    wacc m c n h (ix2 0 k) = ∑ s ∈ Finset.range ((n + 1) / 8), (args m c).tile k s := by
  intro n
  induction n with
  | zero => intro _ h; omega
  | succ n ih =>
    intro h h7
    by_cases hr : (n + 1) % 8 = 7
    · have hq : (n + 1 + 1) / 8 = (n + 1) / 8 + 1 := by omega
      rw [hq, Finset.sum_range_succ]
      by_cases h2 : n + 1 < 8
      · refine (wacc_start m c ⟨n + 1, h⟩ hr h2 k).trans ((tile_at m c k _).trans ?_)
        rw [show (n + 1) / 8 = 0 by omega, Finset.sum_range_zero, zero_add]
      · exact (wacc_step m c ⟨n + 1, h⟩ hr h2 k).trans
          (congrArg₂ (· + ·) (ih (by omega) (by omega)) (tile_at m c k ⟨n + 1, h⟩))
    · rw [show (n + 1 + 1) / 8 = (n + 1) / 8 by omega]
      exact (congrFun (wacc_same m c ⟨n + 1, h⟩ hr) _).trans (ih (by omega) (by omega))

theorem out_weights (c : Dev nD) (t : Fin cfg0.N) (hr : t.val % 32 = 31) (k : Fin 1024) :
    wacc m c t.val t.isLt (ix2 0 k) = (args m c).dWeights (ix2 0 k) := by
  have ht := lt32 t
  refine (wacc_tile m c k t.val t.isLt (by omega)).trans ?_
  rw [show (t.val + 1) / 8 = 4 by omega]
  exact (args m c).sum_tile k

/-! ## The results -/

theorem final_rows (c : Dev nD) : (dats m 0 c).arrAt 5 cfg0.N = (args m c).dRows := by
  refine (dats m 0 c).arrAt_eq_of_covers 5 _ (by decide +kernel) fun t hf y => ?_
  blk_simp
  rw [after0_5]
  have e : ∀ (p k : Fin 1024), (outsAt0 m c t.val t.isLt).1 (ix2 p k)
      = (args m c).dRows ((win0_5.blk t).view.emb (ix2 p k)) := by
    intro p k
    have ht := lt32 t
    refine (out_rows m c t ((flush0_5 t).mp hf) p k).trans (congrArg _ ?_)
    blk_ext [idx t, row]
  have ey : y = ix2 (y 0) (y 1) := by funext a; fin_cases a <;> rfl
  rw [ey]
  exact e _ _

theorem final_copy (c : Dev nD) : (dats m 0 c).arrAt 6 cfg0.N = (fun i => (args m c).dRows i : FVec Ideal S4096x1024 .bf16) := by
  refine (dats m 0 c).arrAt_eq_of_covers 6 _ (by decide +kernel) fun t hf y => ?_
  blk_simp
  rw [after0_6]
  have e : ∀ (p k : Fin 1024), (outsAt0 m c t.val t.isLt).2.1 (ix2 p k)
      = (args m c).dRows ((win0_6.blk t).view.emb (ix2 p k)) := by
    intro p k
    have ht := lt32 t
    refine (out_copy m c t ((flush0_6 t).mp hf) p k).trans (congrArg _ ?_)
    blk_ext [idx t, row]
  have ey : y = ix2 (y 0) (y 1) := by funext a; fin_cases a <;> rfl
  rw [ey]
  exact e _ _

theorem final_weights (c : Dev nD) : (dats m 0 c).arrAt 7 cfg0.N = (args m c).dWeights := by
  refine (dats m 0 c).arrAt_eq_of_covers 7 _ (by decide +kernel) fun t hf y => ?_
  blk_simp
  rw [after0_7]
  have e : ∀ (k : Fin 1024), (outsAt0 m c t.val t.isLt).2.2.1 (ix2 0 k)
      = (args m c).dWeights ((win0_7.blk t).view.emb (ix2 0 k)) := by
    intro k
    refine (out_weights m c t ((flush0_7 t).mp hf) k).trans (congrArg _ ?_)
    blk_ext [idx t]
  have ey : y = ix2 0 (y 1) := by
    funext a
    fin_cases a
    · exact Fin.ext (by have h : (y 0).val < 1 := (y 0).isLt; show (y 0).val = 0; omega)
    · rfl
  rw [ey]
  exact e _

/-! ## The reference -/

section Reference

open Cert.DFfnInRefIdeal.Read

variable (x0 : FVec Ideal S4096x1024 .f32) (x1 : FVec Ideal S1024 .f32) (x2 : FVec Ideal S1024x5632 .f32)
  (x3 : FVec Ideal S4096x5632 .f32) (x4 : FVec Ideal S4096x1024 .f32)

theorem ref_ms (q : Fin 4096) : val_main_v6 (F := Ideal) x0 (ix2 q 0) = meanSq x0 q := by
  pointwise [val_main_v6, val_main_v5, val_main_v4, val_main_v3, val_main_v2, val_main_v1, val_main_v0, val_main_cst,
    val_main_cst_0, val_main_cst_1]
  rfl

theorem ref_inv (q : Fin 4096) : val_main_v7 (F := Ideal) x0 (ix2 q 0) = Ideal.rsqrt (meanSq x0 q) := by
  rw [← ref_ms]
  pointwise [val_main_v7]

theorem ref_xhat (q : Fin 4096) (k : Fin 1024) :
    val_main_v12 (F := Ideal) x0 (ix2 q k) = (x0 (ix2 q k) * Ideal.rsqrt (meanSq x0 q) : EReal) := by
  rw [← ref_inv]
  pointwise [val_main_v12, val_main_v11]

theorem ref_back (q : Fin 4096) (k : Fin 1024) :
    val_main_v17 (F := Ideal) x2 x3 (ix2 q k) = (NormIn.mk x0 x1 x2 x3 x4).back q k := by
  pointwise [val_main_v17]
  rfl

theorem ref_t (q : Fin 4096) (k : Fin 1024) :
    val_main_v22 (F := Ideal) x1 x2 x3 (ix2 q k) = (NormIn.mk x0 x1 x2 x3 x4).tRow q k := by
  rw [NormIn.tRow, ← ref_back]
  pointwise [val_main_v22, val_main_v21, val_main_v13]

theorem ref_slope (q : Fin 4096) (k : Fin 1024) :
    val_main_v33 (F := Ideal) x0 x1 x2 x3 (ix2 q k)
      = slope ((NormIn.mk x0 x1 x2 x3 x4).hRow q) ((NormIn.mk x0 x1 x2 x3 x4).tRow q) (meanSq x0 q) := by
  unfold slope
  rw [← ref_inv, ← ref_ms]
  simp only [← ref_t x0 x1 x2 x3 x4]
  pointwise [val_main_v33, val_main_v32, val_main_v31, val_main_v30, val_main_v29, val_main_v26, val_main_v25, val_main_v24,
    val_main_v10, val_main_v9, val_main_v8, val_main_cst_2, val_main_cst_5, val_main_cst_6, val_main_cst_7]
  exact Fin.sum_univ_one _

theorem ref_rows : val_main_v38 (F := Ideal) x0 x1 x2 x3 x4 = (NormIn.mk x0 x1 x2 x3 x4).dRows := by
  have e : ∀ (q : Fin 4096) (k : Fin 1024), val_main_v38 (F := Ideal) x0 x1 x2 x3 x4 (ix2 q k)
      = (NormIn.mk x0 x1 x2 x3 x4).dRows (ix2 q k) := by
    intro q k
    have h : val_main_v38 (F := Ideal) x0 x1 x2 x3 x4 (ix2 q k)
        = (x4 (ix2 q k) + (val_main_v22 (F := Ideal) x1 x2 x3 (ix2 q k) * val_main_v7 (F := Ideal) x0 (ix2 q 0)
          + x0 (ix2 q k) * val_main_v33 (F := Ideal) x0 x1 x2 x3 (ix2 q k)
          + val_main_v33 (F := Ideal) x0 x1 x2 x3 (ix2 q k) * x0 (ix2 q k)) : EReal) := by
      pointwise [val_main_v38, val_main_v37, val_main_v36, val_main_v35, val_main_v34, val_main_v28, val_main_v27]
    rw [h, ref_slope x0 x1 x2 x3 x4, ref_t x0 x1 x2 x3 x4, ref_inv]
    rfl
  funext i
  rw [show i = ix2 (i 0) (i 1) by funext a; fin_cases a <;> rfl]
  exact e _ _

theorem ref_copy : val_main_v39 (F := Ideal) x0 x1 x2 x3 x4
    = (fun i => (NormIn.mk x0 x1 x2 x3 x4).dRows i : FVec Ideal S4096x1024 .bf16) := by
  rw [← ref_rows]
  rfl

theorem ref_weights : val_main_v40 (F := Ideal) x0 x2 x3 = (NormIn.mk x0 x1 x2 x3 x4).dWeights := by
  have e : ∀ (k : Fin 1024), val_main_v40 (F := Ideal) x0 x2 x3 (ix2 0 k)
      = (NormIn.mk x0 x1 x2 x3 x4).dWeights (ix2 0 k) := by
    intro k
    have h : val_main_v40 (F := Ideal) x0 x2 x3 (ix2 0 k)
        = (∑ q : Fin 4096, val_main_v12 (F := Ideal) x0 (ix2 q k) * val_main_v17 (F := Ideal) x2 x3 (ix2 q k) : EReal) := by
      pointwise [val_main_v40, val_main_v23, val_main_v20, val_main_v19, val_main_v18, val_main_cst_3, val_main_cst_4]
      exact Fin.sum_univ_one _
    rw [h]
    refine Finset.sum_congr rfl fun q _ => ?_
    rw [ref_xhat, ref_back x0 x1 x2 x3 x4, mul_comm]
    rfl
  funext i
  have ei : i = ix2 0 (i 1) := by
    funext a
    fin_cases a
    · exact Fin.ext (by have h : (i 0).val < 1 := (i 0).isLt; show (i 0).val = 0; omega)
    · rfl
  rw [ei]
  exact e _

end Reference

end Cert.Proof.DFfnIn

end
-- ==== Proof.DWGateUp.lean ====
/- The gradient of the gate and up projections' weights, transposed: the cotangent of the product transposed times the
   normalised rows, summed over two tiles of 2048 rows. A grid point `t` works on the column block `t / 2` (704 columns of
   5632, the gate's four blocks first) and the row tile `t % 2`. -/
module

public import proofs.«01_k».proof.Proof.Gen.DWGateUpIdeal.Value
public import proofs.«01_k».proof.Proof.Gen.DWGateUpRefIdeal.Read
public import proofs.«01_k».proof.Proof.Tiles
public import proofs.«01_k».proof.Proof.Norm
public import Idealize.ShloMosaic.Lib.Pipeline.ValueKit
public import Idealize.ShloMosaic.Lib.Pipeline.ReadBack
public import Idealize.ShloMosaic.Lib.StableHlo.RunRead
public import Idealize.ShloMosaic.Lib.Claim

@[expose] public section

set_option maxRecDepth 16384

noncomputable section

namespace Cert.Proof.DWGateUp

open Cert.DWGateUpIdeal Cert.DWGateUpIdeal.Gen Idealize.ShloMosaic Idealize.ShloMosaic.TcCoe Idealize.SL.Sem

/-- The gradient of the weights, transposed: row `b * 704 + r` of it at block `b`, row `r`. -/
def grad (h : FVec Ideal S4096x1024 .f32) (g : FVec Ideal S1024 .f32) (ct : FVec Ideal S4096x5632 .f32) :
    FVec Ideal S8x704x1024 .bf16 := fun i =>
  (∑ q : Fin 4096, ct (ix2 q ⟨(i 0).val * 704 + (i 1).val, by
    have h0 : (i 0).val < 8 := (i 0).isLt
    have h1 : (i 1).val < 704 := (i 1).isLt
    omega⟩) * normed h g q (i 2) : EReal)

variable (m : (ℓ : Loc nD τ sig) → Buf (Elt Ideal) ℓ)

abbrev rows (c : Dev nD) : FVec Ideal S4096x1024 .f32 := m ((c : Thread nD τ).loc main_arg0)
abbrev weights (c : Dev nD) : FVec Ideal S1024 .f32 := m ((c : Thread nD τ).loc main_arg1)
abbrev ct (c : Dev nD) : FVec Ideal S4096x5632 .f32 := m ((c : Thread nD τ).loc main_arg3)
abbrev hn (c : Dev nD) (q : Fin 4096) (k : Fin 1024) : EReal := normed (rows m c) (weights m c) q k

theorem idx : ∀ t : Fin cfg0.N, win0_0.index t = ![t.val / 2 / 4, t.val / 2 % 4, t.val % 2, 0] ∧ win0_1.index t = ![t.val % 2, 0]
    ∧ win0_2.index t = ![t.val / 2, 0, 0] :=
  (by decide +kernel : ∀ t : Fin grid0.N, _)

theorem lt16 (t : Fin cfg0.N) : t.val < 16 := lt_of_lt_of_eq t.isLt N_0

/-- The column that column `l` of point `t`'s blocks is. -/
def col (t : Fin cfg0.N) (l : Fin 704) : Fin 5632 := ⟨t.val / 2 * 704 + l.val, by have := lt16 t; omega⟩

/-- The row that row `p` of point `t`'s tiles is. -/
def row (t : Fin cfg0.N) (p : Fin 2048) : Fin 4096 := ⟨t.val % 2 * 2048 + p.val, by omega⟩

/-! ## The blocks -/

theorem entry_ct (c : Dev nD) (a : Fin 2) (j : Fin 4) (q : Fin 4096) (l : Fin 704) :
    (V m c main_v2 : FVec Ideal S2x4x4096x704 .bf16) (ix4 a j q l)
      = ct m c (ix2 q ⟨(a.val * 4 + j.val) * 704 + l.val, by omega⟩) := by
  simp only [V, hostOps0]
  after_results_simp
  after_results_loop
  pointwise
  exact congrArg (ct m c) (congrArg (ix2 q) (Fin.ext (by simp only; omega)))

theorem entry_hn (c : Dev nD) (q : Fin 4096) (k : Fin 1024) :
    (V m c main_v16 : FVec Ideal S4096x1024 .bf16) (ix2 q k) = hn m c q k := by
  simp only [V, hostOps0]
  after_results_simp
  pointwise
  rfl

theorem blk_ct (c : Dev nD) (t : Fin cfg0.N) (p : Fin 2048) (l : Fin 704) :
    (iblk m c 0 t : FVec Ideal S1x1x2048x704 .bf16) (ix4 0 0 p l) = ct m c (ix2 (row t p) (col t l)) := by
  have ht := lt16 t
  refine Eq.trans (b := (V m c main_v2 : FVec Ideal S2x4x4096x704 .bf16)
    (ix4 ⟨t.val / 2 / 4, by omega⟩ ⟨t.val / 2 % 4, by omega⟩ (row t p) l)) ?_ ((entry_ct m c _ _ (row t p) l).trans ?_)
  · blk_ext [iblk, idx t, row]
  · exact congrArg (ct m c) (congrArg (ix2 (row t p)) (Fin.ext (by simp only [col]; omega)))

theorem blk_hn (c : Dev nD) (t : Fin cfg0.N) (p : Fin 2048) (k : Fin 1024) :
    (iblk m c 1 t : FVec Ideal S2048x1024 .bf16) (ix2 p k) = hn m c (row t p) k := by
  refine Eq.trans (b := (V m c main_v16 : FVec Ideal S4096x1024 .bf16) (ix2 (row t p) k)) ?_ (entry_hn m c (row t p) k)
  blk_ext [iblk, idx t, row]

/-! ## The body's values -/

theorem pay1_at (l : Fin 704) (k : Fin 1024) : k0_pay1 (F := Ideal) (ix2 l k) = (0 : EReal) := by
  pointwise [k0_pay1]

theorem pay2_at (x : Vec Ideal S704x1024 .f32) (a : Vec Ideal S1x1x2048x704 .bf16) (b : Vec Ideal S2048x1024 .bf16)
    (l : Fin 704) (k : Fin 1024) :
    k0_pay2 x a b (ix2 l k) = (x (ix2 l k) + ∑ p : Fin 2048, a (ix4 0 0 p l) * b (ix2 p k) : EReal) := by
  pointwise [k0_pay2]

theorem pay3_at (x : Vec Ideal S704x1024 .f32) (l : Fin 704) (k : Fin 1024) :
    k0_pay3 x (ix3 0 l k) = x (ix2 l k) := by
  pointwise [k0_pay3]

/-! ## The accumulator -/

/-- What point `t`'s tile adds to the gradient. -/
def part (c : Dev nD) (t : Fin cfg0.N) (i : Fin 704 × Fin 1024) : EReal :=
  ∑ p : Fin 2048, ct m c (ix2 (row t p) (col t i.1)) * hn m c (row t p) i.2

theorem part_eq (c : Dev nD) (t : Fin cfg0.N) (x : Vec Ideal S704x1024 .f32) (l : Fin 704) (k : Fin 1024) :
    k0_pay2 x (iblk m c 0 t) (iblk m c 1 t) (ix2 l k) = (x (ix2 l k) + part m c t (l, k) : EReal) := by
  refine (pay2_at x _ _ l k).trans (congrArg (_ + ·) (Finset.sum_congr rfl fun p _ => ?_))
  exact congrArg₂ (· * ·) (blk_ct m c t p l) (blk_hn m c t p k)

theorem acc_first (c : Dev nD) (t : Fin cfg0.N) (h : t.val % 2 = 0) (l : Fin 704) (k : Fin 1024) :
    (outsAt0 m c t.val t.isLt).2 (ix2 l k) = (0 + part m c t (l, k) : EReal) := by
  rw [outsAt0_A m c t h (by omega)]
  frame_out
  refine (part_eq m c t _ l k).trans (congrArg (· + _) ?_)
  exact pay1_at l k

theorem acc_next (c : Dev nD) (t : Fin cfg0.N) (h : ¬ t.val % 2 = 0) (l : Fin 704) (k : Fin 1024) :
    (outsAt0 m c t.val t.isLt).2 (ix2 l k)
      = ((outsAt0 m c (t.val - 1) (by omega)).2 (ix2 l k) + part m c t (l, k) : EReal) := by
  rw [outsAt0_B m c t h (by omega)]
  frame_out
  refine (part_eq m c t _ l k).trans (congrArg (· + _) ?_)
  simp only [read_unread_whole]

theorem acc_last (c : Dev nD) (t : Fin cfg0.N) (hr : t.val % 2 = 1) (l : Fin 704) (k : Fin 1024) :
    (outsAt0 m c t.val t.isLt).2 (ix2 l k) = ∑ q : Fin 4096, ct m c (ix2 q (col t l)) * hn m c q k := by
  have hsum := Pipeline.eq_sum_fin_of_reset_step_apply_of_flush (N := cfg0.N) (ι := Fin 704 × Fin 1024) (M := EReal)
    (fun n h i => (outsAt0 m c n h).2 (ix2 i.1 i.2)) 2 (fun _ => 0) (fun t i => part m c t i)
    (fun t h i => acc_first m c t h i.1 i.2) (fun t h i => acc_next m c t h i.1 i.2) t hr (l, k)
  refine hsum.trans ?_
  rw [zero_add]
  refine Eq.trans ?_ (sum_tiled 2 2048 rfl fun q => ct m c (ix2 q (col t l)) * hn m c q k)
  refine Finset.sum_congr rfl fun s _ => Finset.sum_congr rfl fun p _ => ?_
  have hs := s.isLt
  have hc : col ⟨2 * (t.val / 2) + s.val, Pipeline.run_point_lt_of_flush t hr s⟩ l = col t l :=
    Fin.ext (by simp only [col]; omega)
  have hp : row ⟨2 * (t.val / 2) + s.val, Pipeline.run_point_lt_of_flush t hr s⟩ p = ⟨s.val * 2048 + p.val, by omega⟩ :=
    Fin.ext (by simp only [row]; omega)
  rw [hc, hp]

/-! ## The result -/

theorem out_last (c : Dev nD) (t : Fin cfg0.N) (h : t.val % 2 = 1) (l : Fin 704) (k : Fin 1024) :
    (outsAt0 m c t.val t.isLt).1 (ix3 0 l k) = (outsAt0 m c t.val t.isLt).2 (ix2 l k) := by
  rw [outsAt0_B m c t (by omega) h]
  frame_out
  exact pay3_at _ l k

theorem place (t : Fin cfg0.N) (l : Fin 704) (k : Fin 1024) :
    (win0_2.blk t).view.emb (ix3 0 l k) = ix3 ⟨t.val / 2, by have := lt16 t; omega⟩ l k := by
  blk_ext [idx t]

theorem final (c : Dev nD) : (dats m 0 c).arrAt 2 cfg0.N = grad (rows m c) (weights m c) (ct m c) := by
  refine (dats m 0 c).arrAt_eq_of_covers 2 _ (by decide +kernel) fun t hf y => ?_
  blk_simp
  rw [after0_2]
  have e : ∀ (l : Fin 704) (k : Fin 1024), (outsAt0 m c t.val t.isLt).1 (ix3 0 l k)
      = grad (rows m c) (weights m c) (ct m c) ((win0_2.blk t).view.emb (ix3 0 l k)) := by
    intro l k
    have hr : t.val % 2 = 1 := (flush0_2 t).mp hf
    rw [place, out_last m c t hr, acc_last m c t hr]
    rfl
  have ey : y = ix3 0 (y 1) (y 2) := by
    funext a
    fin_cases a
    · exact Subsingleton.elim (α := Fin 1) _ _
    · rfl
    · rfl
  rw [ey]
  exact e _ _

/-! ## The reference -/

open Cert.DWGateUpRefIdeal.Read in
theorem ref_hn (h : FVec Ideal S4096x1024 .f32) (g : FVec Ideal S1024 .f32) (q : Fin 4096) (k : Fin 1024) :
    val_main_v12 (F := Ideal) h g (ix2 q k) = normed h g q k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

open Cert.DWGateUpRefIdeal.Read in
theorem ref_eq (h : FVec Ideal S4096x1024 .f32) (g : FVec Ideal S1024 .f32) (ct : FVec Ideal S4096x5632 .f32) :
    val_main_v18 (F := Ideal) h g ct = grad h g ct := by
  funext i
  have h0 : (i 0).val < 8 := (i 0).isLt
  have h1 : (i 1).val < 704 := (i 1).isLt
  have h2 : (i 2).val < 1024 := (i 2).isLt
  rw [val_main_v18_apply, val_main_v17_apply, val_main_v16_apply, val_main_v15_apply, val_main_v14_apply]
  refine Finset.sum_congr rfl fun q _ => congrArg₂ (· * ·) (congrArg ct ?_) (Eq.trans (congrArg _ ?_) (ref_hn h g q (i 2)))
  · funext a
    fin_cases a
    · rfl
    · exact Fin.ext (show (((i 0).val * 704 + (i 1).val) * 1024 + (i 2).val) / 1024 = (i 0).val * 704 + (i 1).val by omega)
  · funext a
    fin_cases a
    · rfl
    · exact Fin.ext (show (((i 0).val * 704 + (i 1).val) * 1024 + (i 2).val) % 1024 = (i 2).val by omega)

end Cert.Proof.DWGateUp

end
-- ==== Proof.OutProj.lean ====
/- The output projection: the mixed heads times the weights, added to the residual. A grid point works on 1024 rows, with all
   the weights, which come in eight slices of 128 rows. -/
module

public import proofs.«01_k».proof.Proof.Gen.OutProjIdeal.Value
public import proofs.«01_k».proof.Proof.Gen.OutProjRefIdeal.Read
public import Idealize.ShloMosaic.Lib.Pipeline.ValueKit
public import Idealize.ShloMosaic.Lib.Pipeline.ReadBack
public import Idealize.ShloMosaic.Lib.StableHlo.RunRead
public import Idealize.ShloMosaic.Lib.Claim

@[expose] public section

set_option maxRecDepth 16384

noncomputable section

namespace Cert.Proof.OutProj

open Cert.OutProjIdeal Cert.OutProjIdeal.Gen Idealize.ShloMosaic Idealize.ShloMosaic.TcCoe Idealize.SL.Sem

/-- The residual plus the product. -/
def proj (h mix : FVec Ideal S4096x1024 .f32) (w : FVec Ideal S1024x1024 .f32) : FVec Ideal S4096x1024 .f32 := fun i =>
  (h (ix2 (i 0) (i 1)) + ∑ k : Fin 1024, mix (ix2 (i 0) k) * w (ix2 k (i 1)) : EReal)

variable (m : (ℓ : Loc nD τ sig) → Buf (Elt Ideal) ℓ)

abbrev res (c : Dev nD) : FVec Ideal S4096x1024 .f32 := m ((c : Thread nD τ).loc main_arg0)
abbrev mix (c : Dev nD) : FVec Ideal S4096x1024 .f32 := m ((c : Thread nD τ).loc main_arg1)
abbrev weights (c : Dev nD) : FVec Ideal S1024x1024 .f32 := m ((c : Thread nD τ).loc main_arg2)

theorem idx : ∀ t : Fin cfg0.N, win0_0.index t = ![t.val, 0] ∧ win0_1.index t = ![0, 0, 0, 0] ∧ win0_2.index t = ![t.val, 0]
    ∧ win0_3.index t = ![t.val, 0] :=
  (by decide +kernel : ∀ t : Fin grid0.N, _)

theorem lt4 (t : Fin cfg0.N) : t.val < 4 := lt_of_lt_of_eq t.isLt N_0

/-- The row that row `p` of point `t`'s block is. -/
def row (t : Fin cfg0.N) (p : Fin 1024) : Fin 4096 := ⟨t.val * 1024 + p.val, by have := lt4 t; omega⟩

/-! ## The blocks -/

theorem entry_mix (c : Dev nD) (q : Fin 4096) (k : Fin 1024) :
    (V m c main_v0 : FVec Ideal S4096x1024 .bf16) (ix2 q k) = mix m c (ix2 q k) := by
  simp only [V, hostOps0]
  after_results_simp
  after_results_loop
  rfl

theorem entry_w (c : Dev nD) (s : Fin 8) (r : Fin 128) (k : Fin 1024) :
    (V m c main_v2 : FVec Ideal S8x1x128x1024 .bf16) (ix4 s 0 r k) = weights m c (ix2 ⟨s.val * 128 + r.val, by omega⟩ k) := by
  simp only [V, hostOps0]
  after_results_simp
  after_results_loop
  pointwise

theorem entry_res (c : Dev nD) (q : Fin 4096) (k : Fin 1024) :
    (V m c main_arg0 : FVec Ideal S4096x1024 .f32) (ix2 q k) = res m c (ix2 q k) := by
  simp only [V, hostOps0]
  after_results_simp

theorem blk_mix (c : Dev nD) (t : Fin cfg0.N) (p : Fin 1024) (k : Fin 1024) :
    (iblk m c 0 t : FVec Ideal S1024x1024 .bf16) (ix2 p k) = mix m c (ix2 (row t p) k) := by
  refine Eq.trans (b := (V m c main_v0 : FVec Ideal S4096x1024 .bf16) (ix2 (row t p) k)) ?_ (entry_mix m c (row t p) k)
  blk_ext [iblk, idx t, row]

theorem blk_w (c : Dev nD) (t : Fin cfg0.N) (s : Fin 8) (r : Fin 128) (k : Fin 1024) :
    (iblk m c 1 t : FVec Ideal S8x1x128x1024 .bf16) (ix4 s 0 r k) = weights m c (ix2 ⟨s.val * 128 + r.val, by omega⟩ k) := by
  refine Eq.trans (b := (V m c main_v2 : FVec Ideal S8x1x128x1024 .bf16) (ix4 s 0 r k)) ?_ (entry_w m c s r k)
  blk_ext [iblk, idx t]

theorem blk_res (c : Dev nD) (t : Fin cfg0.N) (p : Fin 1024) (n : Fin 1024) :
    (iblk m c 2 t : FVec Ideal S1024x1024 .f32) (ix2 p n) = res m c (ix2 (row t p) n) := by
  refine Eq.trans (b := (V m c main_arg0 : FVec Ideal S4096x1024 .f32) (ix2 (row t p) n)) ?_ (entry_res m c (row t p) n)
  blk_ext [iblk, idx t, row]

/-! ## The result -/

theorem pay_at (a : Vec Ideal S1024x1024 .bf16) (b : Vec Ideal S8x1x128x1024 .bf16) (r : Vec Ideal S1024x1024 .f32)
    (p n : Fin 1024) :
    k0_pay2 a b r (ix2 p n) = (r (ix2 p n)
      + ∑ k : Fin 1024, a (ix2 p k) * b (ix4 ⟨k.val / 128, by omega⟩ 0 ⟨k.val % 128, by omega⟩ n) : EReal) := by
  pointwise [k0_pay2, k0_pay1]

theorem out_at (c : Dev nD) (t : Fin cfg0.N) (p n : Fin 1024) :
    outsAt0 m c t (ix2 p n) = proj (res m c) (mix m c) (weights m c) (ix2 (row t p) n) := by
  unfold outsAt0
  frame_out
  refine (pay_at _ _ _ p n).trans (congrArg₂ (· + ·) (blk_res m c t p n)
    (Finset.sum_congr rfl fun k _ => congrArg₂ (· * ·) (blk_mix m c t p k) ?_))
  refine (blk_w m c t _ _ n).trans (congrArg (weights m c) (congrArg (ix2 · n) (Fin.ext ?_)))
  show k.val / 128 * 128 + k.val % 128 = k.val
  omega

theorem final (c : Dev nD) : (dats m 0 c).arrAt 3 cfg0.N = proj (res m c) (mix m c) (weights m c) := by
  refine (dats m 0 c).arrAt_eq_of_covers 3 _ (by decide +kernel) fun t hf y => ?_
  blk_simp
  rw [after0_3]
  have e : ∀ (p n : Fin 1024), outsAt0 m c t (ix2 p n)
      = proj (res m c) (mix m c) (weights m c) ((win0_3.blk t).view.emb (ix2 p n)) := by
    intro p n
    have ht := lt4 t
    refine (out_at m c t p n).trans (congrArg _ ?_)
    blk_ext [idx t, row]
  have ey : y = ix2 (y 0) (y 1) := by funext a; fin_cases a <;> rfl
  rw [ey]
  exact e _ _

/-! ## The reference -/

open Cert.OutProjRefIdeal.Read in
theorem ref_eq (h mix : FVec Ideal S4096x1024 .f32) (w : FVec Ideal S1024x1024 .f32) :
    val_main_v1 (F := Ideal) h mix w = proj h mix w := by
  have e : ∀ (q : Fin 4096) (n : Fin 1024), val_main_v1 (F := Ideal) h mix w (ix2 q n) = proj h mix w (ix2 q n) := by
    intro q n
    pointwise [val_main_v1, val_main_v0]
    rfl
  funext i
  rw [show i = ix2 (i 0) (i 1) by funext a; fin_cases a <;> rfl]
  exact e _ _

end Cert.Proof.OutProj

end
-- ==== Proof.DMix.lean ====
/- The gradient of the mixed heads: the cotangent of the output projection times its weights, transposed. A grid point works
   on 1024 rows, with all the weights, which come in eight slices of 128 rows. -/
module

public import proofs.«01_k».proof.Proof.Gen.DMixIdeal.Value
public import proofs.«01_k».proof.Proof.Gen.DMixRefIdeal.Read
public import Idealize.ShloMosaic.Lib.Pipeline.ValueKit
public import Idealize.ShloMosaic.Lib.Pipeline.ReadBack
public import Idealize.ShloMosaic.Lib.StableHlo.RunRead
public import Idealize.ShloMosaic.Lib.Claim

@[expose] public section

set_option maxRecDepth 16384

noncomputable section

namespace Cert.Proof.DMix

open Cert.DMixIdeal Cert.DMixIdeal.Gen Idealize.ShloMosaic Idealize.ShloMosaic.TcCoe Idealize.SL.Sem

/-- The gradient from the weights and the cotangent. -/
def grad (w : FVec Ideal S1024x1024 .f32) (ct : FVec Ideal S4096x1024 .f32) : FVec Ideal S4096x1024 .bf16 := fun i =>
  (∑ k : Fin 1024, ct (ix2 (i 0) k) * w (ix2 (i 1) k) : EReal)

variable (m : (ℓ : Loc nD τ sig) → Buf (Elt Ideal) ℓ)

abbrev weights (c : Dev nD) : FVec Ideal S1024x1024 .f32 := m ((c : Thread nD τ).loc main_arg1)
abbrev ct (c : Dev nD) : FVec Ideal S4096x1024 .f32 := m ((c : Thread nD τ).loc main_arg2)

theorem idx : ∀ t : Fin cfg0.N, win0_0.index t = ![t.val, 0] ∧ win0_1.index t = ![0, 0, 0, 0] ∧ win0_2.index t = ![t.val, 0] :=
  (by decide +kernel : ∀ t : Fin grid0.N, _)

theorem lt4 (t : Fin cfg0.N) : t.val < 4 := lt_of_lt_of_eq t.isLt N_0

/-- The row that row `p` of point `t`'s block is. -/
def row (t : Fin cfg0.N) (p : Fin 1024) : Fin 4096 := ⟨t.val * 1024 + p.val, by have := lt4 t; omega⟩

/-! ## The blocks -/

theorem entry_ct (c : Dev nD) (q : Fin 4096) (k : Fin 1024) :
    (V m c main_v0 : FVec Ideal S4096x1024 .bf16) (ix2 q k) = ct m c (ix2 q k) := by
  simp only [V, hostOps0]
  after_results_simp
  after_results_loop
  rfl

theorem entry_w (c : Dev nD) (s : Fin 8) (r : Fin 128) (k : Fin 1024) :
    (V m c main_v2 : FVec Ideal S8x1x128x1024 .bf16) (ix4 s 0 r k) = weights m c (ix2 ⟨s.val * 128 + r.val, by omega⟩ k) := by
  simp only [V, hostOps0]
  after_results_simp
  after_results_loop
  pointwise

theorem blk_ct (c : Dev nD) (t : Fin cfg0.N) (p : Fin 1024) (k : Fin 1024) :
    (iblk m c 0 t : FVec Ideal S1024x1024 .bf16) (ix2 p k) = ct m c (ix2 (row t p) k) := by
  refine Eq.trans (b := (V m c main_v0 : FVec Ideal S4096x1024 .bf16) (ix2 (row t p) k)) ?_ (entry_ct m c (row t p) k)
  blk_ext [iblk, idx t, row]

theorem blk_w (c : Dev nD) (t : Fin cfg0.N) (s : Fin 8) (r : Fin 128) (k : Fin 1024) :
    (iblk m c 1 t : FVec Ideal S8x1x128x1024 .bf16) (ix4 s 0 r k) = weights m c (ix2 ⟨s.val * 128 + r.val, by omega⟩ k) := by
  refine Eq.trans (b := (V m c main_v2 : FVec Ideal S8x1x128x1024 .bf16) (ix4 s 0 r k)) ?_ (entry_w m c s r k)
  blk_ext [iblk, idx t]

/-! ## The result -/

theorem pay_at (a : Vec Ideal S1024x1024 .bf16) (b : Vec Ideal S8x1x128x1024 .bf16) (p n : Fin 1024) :
    k0_pay1 a b (ix2 p n)
      = (∑ k : Fin 1024, a (ix2 p k) * b (ix4 ⟨n.val / 128, by omega⟩ 0 ⟨n.val % 128, by omega⟩ k) : EReal) := by
  pointwise [k0_pay1]

theorem out_at (c : Dev nD) (t : Fin cfg0.N) (p n : Fin 1024) :
    out0_2 (iblk m c 0 t) (iblk m c 1 t) (ix2 p n) = grad (weights m c) (ct m c) (ix2 (row t p) n) := by
  unfold out0_2
  frame_out
  refine (pay_at _ _ p n).trans (Finset.sum_congr rfl fun k _ => congrArg₂ (· * ·) (blk_ct m c t p k) ?_)
  refine (blk_w m c t _ _ k).trans (congrArg (weights m c) (congrArg (ix2 · k) (Fin.ext ?_)))
  show n.val / 128 * 128 + n.val % 128 = n.val
  omega

theorem final (c : Dev nD) : (dats m 0 c).arrAt 2 cfg0.N = grad (weights m c) (ct m c) := by
  refine (dats m 0 c).arrAt_eq_of_covers 2 _ (by decide +kernel) fun t hf y => ?_
  blk_simp
  rw [after0_2]
  have e : ∀ (p n : Fin 1024), out0_2 (iblk m c 0 t) (iblk m c 1 t) (ix2 p n)
      = grad (weights m c) (ct m c) ((win0_2.blk t).view.emb (ix2 p n)) := by
    intro p n
    have ht := lt4 t
    refine (out_at m c t p n).trans (congrArg _ ?_)
    blk_ext [idx t, row]
  have ey : y = ix2 (y 0) (y 1) := by funext a; fin_cases a <;> rfl
  rw [ey]
  exact e _ _

/-! ## The reference -/

open Cert.DMixRefIdeal.Read in
theorem ref_eq (w : FVec Ideal S1024x1024 .f32) (ct : FVec Ideal S4096x1024 .f32) :
    val_main_v2 (F := Ideal) w ct = grad w ct := by
  have e : ∀ (q : Fin 4096) (n : Fin 1024), val_main_v2 (F := Ideal) w ct (ix2 q n) = grad w ct (ix2 q n) := by
    intro q n
    pointwise [val_main_v2, val_main_v1]
    rfl
  funext i
  rw [show i = ix2 (i 0) (i 1) by funext a; fin_cases a <;> rfl]
  exact e _ _

end Cert.Proof.DMix

end
-- ==== Proof.DWOut.lean ====
/- The gradient of the output projection's weights: the mixed heads transposed times the cotangent, summed over two tiles of
   2048 rows, one a grid point. -/
module

public import proofs.«01_k».proof.Proof.Gen.DWOutIdeal.Value
public import proofs.«01_k».proof.Proof.Gen.DWOutRefIdeal.Read
public import proofs.«01_k».proof.Proof.Tiles
public import Idealize.ShloMosaic.Lib.Pipeline.ValueKit
public import Idealize.ShloMosaic.Lib.Pipeline.ReadBack
public import Idealize.ShloMosaic.Lib.StableHlo.RunRead
public import Idealize.ShloMosaic.Lib.Claim

@[expose] public section

set_option maxRecDepth 16384

noncomputable section

namespace Cert.Proof.DWOut

open Cert.DWOutIdeal Cert.DWOutIdeal.Gen Idealize.ShloMosaic Idealize.ShloMosaic.TcCoe Idealize.SL.Sem

/-- The gradient of the weights: row `b * 128 + r` of it at block `b`, row `r`. -/
def grad (x ct : FVec Ideal S4096x1024 .f32) : FVec Ideal S8x128x1024 .bf16 := fun i =>
  (∑ q : Fin 4096, x (ix2 q ⟨(i 0).val * 128 + (i 1).val, by
    have h0 : (i 0).val < 8 := (i 0).isLt
    have h1 : (i 1).val < 128 := (i 1).isLt
    omega⟩) * ct (ix2 q (i 2)) : EReal)

variable (m : (ℓ : Loc nD τ sig) → Buf (Elt Ideal) ℓ)

abbrev mix (c : Dev nD) : FVec Ideal S4096x1024 .f32 := m ((c : Thread nD τ).loc main_arg0)
abbrev ct (c : Dev nD) : FVec Ideal S4096x1024 .f32 := m ((c : Thread nD τ).loc main_arg2)

theorem idx : ∀ t : Fin cfg0.N, win0_0.index t = ![t.val, 0] ∧ win0_1.index t = ![t.val, 0] ∧ win0_2.index t = ![0, 0, 0] :=
  (by decide +kernel : ∀ t : Fin grid0.N, _)

theorem lt2 (t : Fin cfg0.N) : t.val < 2 := lt_of_lt_of_eq t.isLt N_0

/-- The row that row `p` of point `t`'s tile is. -/
def row (t : Fin cfg0.N) (p : Fin 2048) : Fin 4096 := ⟨t.val * 2048 + p.val, by have := lt2 t; omega⟩

/-! ## The blocks -/

theorem entry_mix (c : Dev nD) (q : Fin 4096) (l : Fin 1024) :
    (V m c main_v0 : FVec Ideal S4096x1024 .bf16) (ix2 q l) = mix m c (ix2 q l) := by
  simp only [V, hostOps0]
  after_results_simp
  rfl

theorem entry_ct (c : Dev nD) (q : Fin 4096) (k : Fin 1024) :
    (V m c main_v1 : FVec Ideal S4096x1024 .bf16) (ix2 q k) = ct m c (ix2 q k) := by
  simp only [V, hostOps0]
  after_results_simp
  rfl

theorem blk_mix (c : Dev nD) (t : Fin cfg0.N) (p : Fin 2048) (l : Fin 1024) :
    (iblk m c 0 t : FVec Ideal S2048x1024 .bf16) (ix2 p l) = mix m c (ix2 (row t p) l) := by
  refine Eq.trans (b := (V m c main_v0 : FVec Ideal S4096x1024 .bf16) (ix2 (row t p) l)) ?_ (entry_mix m c (row t p) l)
  blk_ext [iblk, idx t, row]

theorem blk_ct (c : Dev nD) (t : Fin cfg0.N) (p : Fin 2048) (k : Fin 1024) :
    (iblk m c 1 t : FVec Ideal S2048x1024 .bf16) (ix2 p k) = ct m c (ix2 (row t p) k) := by
  refine Eq.trans (b := (V m c main_v1 : FVec Ideal S4096x1024 .bf16) (ix2 (row t p) k)) ?_ (entry_ct m c (row t p) k)
  blk_ext [iblk, idx t, row]

/-! ## The body's values -/

theorem pay1_at (l : Fin 1024) (k : Fin 1024) : k0_pay1 (F := Ideal) (ix2 l k) = (0 : EReal) := by
  pointwise [k0_pay1]

theorem pay2_at (x : Vec Ideal S1024x1024 .f32) (a : Vec Ideal S2048x1024 .bf16) (b : Vec Ideal S2048x1024 .bf16)
    (l : Fin 1024) (k : Fin 1024) :
    k0_pay2 x a b (ix2 l k) = (x (ix2 l k) + ∑ p : Fin 2048, a (ix2 p l) * b (ix2 p k) : EReal) := by
  pointwise [k0_pay2]

theorem pay3_at (x : Vec Ideal S1024x1024 .f32) (s : Fin 8) (r : Fin 128) (k : Fin 1024) :
    k0_pay3 x (ix3 s r k) = x (ix2 ⟨s.val * 128 + r.val, by omega⟩ k) := by
  pointwise [k0_pay3]

/-! ## The accumulator -/

/-- What point `t`'s tile adds to the gradient. -/
def part (c : Dev nD) (t : Fin cfg0.N) (i : Fin 1024 × Fin 1024) : EReal :=
  ∑ p : Fin 2048, mix m c (ix2 (row t p) i.1) * ct m c (ix2 (row t p) i.2)

theorem part_eq (c : Dev nD) (t : Fin cfg0.N) (x : Vec Ideal S1024x1024 .f32) (l : Fin 1024) (k : Fin 1024) :
    k0_pay2 x (iblk m c 0 t) (iblk m c 1 t) (ix2 l k) = (x (ix2 l k) + part m c t (l, k) : EReal) := by
  refine (pay2_at x _ _ l k).trans (congrArg (_ + ·) (Finset.sum_congr rfl fun p _ => ?_))
  exact congrArg₂ (· * ·) (blk_mix m c t p l) (blk_ct m c t p k)

theorem acc_first (c : Dev nD) (t : Fin cfg0.N) (h : t.val % 2 = 0) (l : Fin 1024) (k : Fin 1024) :
    (outsAt0 m c t.val t.isLt).2 (ix2 l k) = (0 + part m c t (l, k) : EReal) := by
  rw [outsAt0_A m c t h (by omega)]
  frame_out
  refine (part_eq m c t _ l k).trans (congrArg (· + _) ?_)
  exact pay1_at l k

theorem acc_next (c : Dev nD) (t : Fin cfg0.N) (h : ¬ t.val % 2 = 0) (l : Fin 1024) (k : Fin 1024) :
    (outsAt0 m c t.val t.isLt).2 (ix2 l k)
      = ((outsAt0 m c (t.val - 1) (by omega)).2 (ix2 l k) + part m c t (l, k) : EReal) := by
  rw [outsAt0_B m c t h (by omega)]
  frame_out
  refine (part_eq m c t _ l k).trans (congrArg (· + _) ?_)
  simp only [read_unread_whole]

theorem acc_last (c : Dev nD) (t : Fin cfg0.N) (hr : t.val % 2 = 1) (l : Fin 1024) (k : Fin 1024) :
    (outsAt0 m c t.val t.isLt).2 (ix2 l k) = ∑ q : Fin 4096, mix m c (ix2 q l) * ct m c (ix2 q k) := by
  have hsum := Pipeline.eq_sum_fin_of_reset_step_apply_of_flush (N := cfg0.N) (ι := Fin 1024 × Fin 1024) (M := EReal)
    (fun n h i => (outsAt0 m c n h).2 (ix2 i.1 i.2)) 2 (fun _ => 0) (fun t i => part m c t i)
    (fun t h i => acc_first m c t h i.1 i.2) (fun t h i => acc_next m c t h i.1 i.2) t hr (l, k)
  refine hsum.trans ?_
  rw [zero_add]
  refine Eq.trans ?_ (sum_tiled 2 2048 rfl fun q => mix m c (ix2 q l) * ct m c (ix2 q k))
  refine Finset.sum_congr rfl fun s _ => Finset.sum_congr rfl fun p _ => ?_
  have hs := s.isLt
  have ht := lt2 t
  have hp : row ⟨2 * (t.val / 2) + s.val, Pipeline.run_point_lt_of_flush t hr s⟩ p = ⟨s.val * 2048 + p.val, by omega⟩ :=
    Fin.ext (by simp only [row]; omega)
  rw [hp]

/-! ## The result -/

theorem out_last (c : Dev nD) (t : Fin cfg0.N) (h : t.val % 2 = 1) (s : Fin 8) (r : Fin 128) (k : Fin 1024) :
    (outsAt0 m c t.val t.isLt).1 (ix3 s r k) = (outsAt0 m c t.val t.isLt).2 (ix2 ⟨s.val * 128 + r.val, by omega⟩ k) := by
  rw [outsAt0_B m c t (by omega) h]
  frame_out
  exact pay3_at _ s r k

theorem place (t : Fin cfg0.N) (s : Fin 8) (r : Fin 128) (k : Fin 1024) :
    (win0_2.blk t).view.emb (ix3 s r k) = ix3 s r k := by
  blk_ext [idx t]

theorem final (c : Dev nD) : (dats m 0 c).arrAt 2 cfg0.N = grad (mix m c) (ct m c) := by
  refine (dats m 0 c).arrAt_eq_of_covers 2 _ (by decide +kernel) fun t hf y => ?_
  blk_simp
  rw [after0_2]
  have e : ∀ (s : Fin 8) (r : Fin 128) (k : Fin 1024), (outsAt0 m c t.val t.isLt).1 (ix3 s r k)
      = grad (mix m c) (ct m c) ((win0_2.blk t).view.emb (ix3 s r k)) := by
    intro s r k
    have hr : t.val % 2 = 1 := (flush0_2 t).mp hf
    rw [place, out_last m c t hr, acc_last m c t hr]
    rfl
  have ey : y = ix3 (y 0) (y 1) (y 2) := by funext a; fin_cases a <;> rfl
  rw [ey]
  exact e _ _ _

/-! ## The reference -/

open Cert.DWOutRefIdeal.Read in
theorem ref_eq (x ct : FVec Ideal S4096x1024 .f32) : val_main_v4 (F := Ideal) x ct = grad x ct := by
  funext i
  have h0 : (i 0).val < 8 := (i 0).isLt
  have h1 : (i 1).val < 128 := (i 1).isLt
  have h2 : (i 2).val < 1024 := (i 2).isLt
  rw [val_main_v4_apply, val_main_v3_apply, val_main_v2_apply, val_main_v1_apply]
  refine Finset.sum_congr rfl fun q _ => (mul_comm _ _).trans (congrArg₂ (· * ·) (congrArg x ?_) (congrArg ct ?_))
  · funext a
    fin_cases a
    · rfl
    · exact Fin.ext (show (((i 0).val * 128 + (i 1).val) * 1024 + (i 2).val) / 1024 = (i 0).val * 128 + (i 1).val by omega)
  · funext a
    fin_cases a
    · rfl
    · exact Fin.ext (show (((i 0).val * 128 + (i 1).val) * 1024 + (i 2).val) % 1024 = (i 2).val by omega)

end Cert.Proof.DWOut

end
-- ==== Proof.DInA.lean ====
/- The gradient of the first input projection's rows: the cotangent of the product times the weights, taken back through the
   norm and added to the residual's gradient; and the gradient of the norm's weights. A grid point `t` works on the row tile
   `t / 2` (1024 rows) and the column block `t % 2` (640 of the product's 1280 columns). -/
module

public import proofs.«01_k».proof.Proof.Gen.DInAIdeal.Value
public import proofs.«01_k».proof.Proof.Gen.DInARefIdeal.Read
public import proofs.«01_k».proof.Proof.DFfnIn
public import Idealize.ShloMosaic.Lib.Pipeline.ValueKit
public import Idealize.ShloMosaic.Lib.Pipeline.ReadBack
public import Idealize.ShloMosaic.Lib.StableHlo.RunRead
public import Idealize.ShloMosaic.Lib.Claim

@[expose] public section

set_option maxRecDepth 16384

noncomputable section

namespace Cert.Proof.DInA

open Cert.DInAIdeal Cert.DInAIdeal.Gen Idealize.ShloMosaic Idealize.ShloMosaic.TcCoe Idealize.SL.Sem

variable (m : (ℓ : Loc nD τ sig) → Buf (Elt Ideal) ℓ)

/-- The arguments as the kernel finds them on core `c`. -/
def args (c : Dev nD) : NormIn 1280 where
  h := m ((c : Thread nD τ).loc main_arg0)
  g := m ((c : Thread nD τ).loc main_arg1)
  w := m ((c : Thread nD τ).loc main_arg2)
  ct := m ((c : Thread nD τ).loc main_arg3)
  dh := m ((c : Thread nD τ).loc main_arg4)

theorem idx : ∀ t : Fin cfg0.N, win0_0.index t = ![t.val / 2, t.val % 2] ∧ win0_1.index t = ![t.val % 2, 0]
    ∧ win0_2.index t = ![t.val / 2, 0] ∧ win0_3.index t = ![0, 0] ∧ win0_4.index t = ![t.val / 2, 0]
    ∧ win0_5.index t = ![t.val / 2, 0] ∧ win0_6.index t = ![0, 0] :=
  (by decide +kernel : ∀ t : Fin grid0.N, _)

theorem lt8 (t : Fin cfg0.N) : t.val < 8 := lt_of_lt_of_eq t.isLt N_0

/-- The column that column `l` of point `t`'s blocks is. -/
def col (t : Fin cfg0.N) (l : Fin 640) : Fin 1280 := ⟨t.val % 2 * 640 + l.val, by omega⟩

/-- The row that row `p` of point `t`'s tile is. -/
def row (t : Fin cfg0.N) (p : Fin 1024) : Fin 4096 := ⟨t.val / 2 * 1024 + p.val, by have := lt8 t; omega⟩

/-! ## The operands the host prepares -/

theorem entry_ct (c : Dev nD) (q : Fin 4096) (l : Fin 1280) :
    (V m c main_v0 : FVec Ideal S4096x1280 .bf16) (ix2 q l) = (args m c).ct (ix2 q l) := by
  simp only [V, hostOps0]
  after_results_simp
  after_results_loop
  rfl

theorem entry_w (c : Dev nD) (l : Fin 1280) (k : Fin 1024) :
    (V m c main_v2 : FVec Ideal S1280x1024 .bf16) (ix2 l k) = (args m c).w (ix2 k l) := by
  simp only [V, hostOps0]
  after_results_simp
  after_results_loop
  pointwise
  rfl

theorem entry_g (c : Dev nD) (k : Fin 1024) :
    (V m c main_v3 : FVec Ideal S1x1024 .f32) (ix2 0 k) = (args m c).g (ix1 k) := by
  simp only [V, hostOps0]
  after_results_simp
  after_results_loop
  pointwise
  rfl

theorem entry_h (c : Dev nD) (q : Fin 4096) (k : Fin 1024) :
    (V m c main_arg0 : FVec Ideal S4096x1024 .f32) (ix2 q k) = (args m c).h (ix2 q k) := by
  simp only [V, hostOps0]
  after_results_simp
  rfl

theorem entry_dh (c : Dev nD) (q : Fin 4096) (k : Fin 1024) :
    (V m c main_arg4 : FVec Ideal S4096x1024 .f32) (ix2 q k) = (args m c).dh (ix2 q k) := by
  simp only [V, hostOps0]
  after_results_simp
  rfl

/-! ## The blocks -/

theorem blk_ct (c : Dev nD) (t : Fin cfg0.N) (p : Fin 1024) (l : Fin 640) :
    (iblk m c 0 t : FVec Ideal S1024x640 .bf16) (ix2 p l) = (args m c).ct (ix2 (row t p) (col t l)) := by
  refine Eq.trans (b := (V m c main_v0 : FVec Ideal S4096x1280 .bf16) (ix2 (row t p) (col t l))) ?_ (entry_ct m c _ _)
  blk_ext [iblk, idx t, row, col]

theorem blk_w (c : Dev nD) (t : Fin cfg0.N) (l : Fin 640) (k : Fin 1024) :
    (iblk m c 1 t : FVec Ideal S640x1024 .bf16) (ix2 l k) = (args m c).w (ix2 k (col t l)) := by
  refine Eq.trans (b := (V m c main_v2 : FVec Ideal S1280x1024 .bf16) (ix2 (col t l) k)) ?_ (entry_w m c _ k)
  blk_ext [iblk, idx t, col]

theorem blk_h (c : Dev nD) (t : Fin cfg0.N) (p : Fin 1024) (k : Fin 1024) :
    (iblk m c 2 t : FVec Ideal S1024x1024 .f32) (ix2 p k) = (args m c).h (ix2 (row t p) k) := by
  refine Eq.trans (b := (V m c main_arg0 : FVec Ideal S4096x1024 .f32) (ix2 (row t p) k)) ?_ (entry_h m c (row t p) k)
  blk_ext [iblk, idx t, row]

theorem blk_g (c : Dev nD) (t : Fin cfg0.N) (k : Fin 1024) :
    (iblk m c 3 t : FVec Ideal S1x1024 .f32) (ix2 0 k) = (args m c).g (ix1 k) := by
  refine Eq.trans (b := (V m c main_v3 : FVec Ideal S1x1024 .f32) (ix2 0 k)) ?_ (entry_g m c k)
  blk_ext [iblk, idx t]

theorem blk_dh (c : Dev nD) (t : Fin cfg0.N) (p : Fin 1024) (k : Fin 1024) :
    (iblk m c 4 t : FVec Ideal S1024x1024 .f32) (ix2 p k) = (args m c).dh (ix2 (row t p) k) := by
  refine Eq.trans (b := (V m c main_arg4 : FVec Ideal S4096x1024 .f32) (ix2 (row t p) k)) ?_ (entry_dh m c (row t p) k)
  blk_ext [iblk, idx t, row]

/-! ## The body's values -/

section Body

variable (h A dh : Vec Ideal S1024x1024 .f32) (g : Vec Ideal S1x1024 .f32)

theorem pay1_at (p k : Fin 1024) : k0_pay1 (F := Ideal) (ix2 p k) = (0 : EReal) := by
  pointwise [k0_pay1]

theorem pay2_at (a : Vec Ideal S1024x640 .bf16) (b : Vec Ideal S640x1024 .bf16) (p k : Fin 1024) :
    k0_pay2 A a b (ix2 p k) = (A (ix2 p k) + ∑ l : Fin 640, a (ix2 p l) * b (ix2 l k) : EReal) := by
  pointwise [k0_pay2]

theorem pay3_at (p : Fin 1024) :
    k0_pay3 h (ix2 p 0) = Ideal.rsqrt (Ideal.div (∑ x : Fin 1024, h (ix2 p x) * h (ix2 p x)) (Ideal.ofBits FTy.f32 1149239296#32)
      + Ideal.ofBits FTy.f32 897988541#32) := by
  pointwise [k0_pay3]

theorem pay4_at (p k : Fin 1024) : k0_pay4 h (ix2 p k) = (h (ix2 p k) * k0_pay3 h (ix2 p 0) : EReal) := by
  pointwise [k0_pay4]

theorem pay5_at (k : Fin 1024) :
    k0_pay5 h A (ix2 0 k) = (∑ p : Fin 1024, A (ix2 p k) * k0_pay4 h (ix2 p k) : EReal) := by
  pointwise [k0_pay5]

theorem pay6_at (d : Vec Ideal S1x1024 .f32) (k : Fin 1024) :
    k0_pay6 h A d (ix2 0 k) = (d (ix2 0 k) + k0_pay5 h A (ix2 0 k) : EReal) := by
  pointwise [k0_pay6]

theorem pay7_at (p k : Fin 1024) :
    k0_pay7 h A g dh (ix2 p k) = (dh (ix2 p k) + k0_pay3 h (ix2 p 0) * (A (ix2 p k) * g (ix2 0 k) - k0_pay4 h (ix2 p k)
      * Ideal.div (∑ x : Fin 1024, A (ix2 p x) * g (ix2 0 x) * k0_pay4 h (ix2 p x)) (Ideal.ofBits FTy.f32 1149239296#32)) : EReal) := by
  pointwise [k0_pay7]

end Body

/-! ## The accumulator -/

/-- What point `t`'s column block adds to the product. -/
def part (c : Dev nD) (t : Fin cfg0.N) (i : Fin 1024 × Fin 1024) : EReal :=
  ∑ l : Fin 640, (args m c).ct (ix2 (row t i.1) (col t l)) * (args m c).w (ix2 i.2 (col t l))

theorem part_eq (c : Dev nD) (t : Fin cfg0.N) (x : Vec Ideal S1024x1024 .f32) (p k : Fin 1024) :
    k0_pay2 x (iblk m c 0 t) (iblk m c 1 t) (ix2 p k) = (x (ix2 p k) + part m c t (p, k) : EReal) := by
  refine (pay2_at x _ _ p k).trans (congrArg (_ + ·) (Finset.sum_congr rfl fun l _ => ?_))
  exact congrArg₂ (· * ·) (blk_ct m c t p l) (blk_w m c t l k)

/-- The accumulator after point `n`. -/
abbrev acc (c : Dev nD) (n : ℕ) (h : n < cfg0.N) : Vec Ideal S1024x1024 .f32 := (outsAt0 m c n h).2.2

theorem acc_first (c : Dev nD) (t : Fin cfg0.N) (h : t.val % 2 = 0) (p k : Fin 1024) :
    acc m c t.val t.isLt (ix2 p k) = (0 + part m c t (p, k) : EReal) := by
  rw [acc, outsAt0_A m c t h (by omega)]
  frame_out
  refine (part_eq m c t _ p k).trans (congrArg (· + _) ?_)
  exact pay1_at p k

theorem acc_next (c : Dev nD) (t : Fin cfg0.N) (h : ¬ t.val % 2 = 0) (p k : Fin 1024) :
    acc m c t.val t.isLt (ix2 p k) = (acc m c (t.val - 1) (by omega) (ix2 p k) + part m c t (p, k) : EReal) := by
  by_cases h2 : t.val < 2
  · rw [acc, outsAt0_B m c t h (by omega) h2 (by omega)]
    frame_out
    refine (part_eq m c t _ p k).trans (congrArg (· + _) ?_)
    simp only [read_unread_whole]
  · rw [acc, outsAt0_C m c t h (by omega) h2 (by omega)]
    frame_out
    refine (part_eq m c t _ p k).trans (congrArg (· + _) ?_)
    simp only [read_unread_whole]

theorem acc_last (c : Dev nD) (t : Fin cfg0.N) (hr : t.val % 2 = 1) (p k : Fin 1024) :
    acc m c t.val t.isLt (ix2 p k) = (args m c).back (row t p) k := by
  have hsum := Pipeline.eq_sum_fin_of_reset_step_apply_of_flush (N := cfg0.N) (ι := Fin 1024 × Fin 1024) (M := EReal)
    (fun n h i => acc m c n h (ix2 i.1 i.2)) 2 (fun _ => 0) (fun t i => part m c t i)
    (fun t h i => acc_first m c t h i.1 i.2) (fun t h i => acc_next m c t h i.1 i.2) t hr (p, k)
  refine hsum.trans ?_
  rw [zero_add]
  refine Eq.trans ?_ (sum_tiled 2 640 rfl fun n => (args m c).ct (ix2 (row t p) n) * (args m c).w (ix2 k n))
  refine Finset.sum_congr rfl fun s _ => Finset.sum_congr rfl fun l _ => ?_
  have hs := s.isLt
  have hc : col ⟨2 * (t.val / 2) + s.val, Pipeline.run_point_lt_of_flush t hr s⟩ l = ⟨s.val * 640 + l.val, by omega⟩ :=
    Fin.ext (by simp only [col]; omega)
  have hp : row ⟨2 * (t.val / 2) + s.val, Pipeline.run_point_lt_of_flush t hr s⟩ p = row t p :=
    Fin.ext (by simp only [row]; omega)
  rw [hc, hp]

/-! ## The tile's gradients -/

theorem inv_at (c : Dev nD) (t : Fin cfg0.N) (p : Fin 1024) :
    k0_pay3 (iblk m c 2 t) (ix2 p 0) = Ideal.rsqrt (meanSq (args m c).h (row t p)) := by
  rw [pay3_at]
  simp only [blk_h]
  rfl

theorem xhat_at (c : Dev nD) (t : Fin cfg0.N) (p k : Fin 1024) :
    k0_pay4 (iblk m c 2 t) (ix2 p k)
      = (args m c).h (ix2 (row t p) k) * Ideal.rsqrt (meanSq (args m c).h (row t p)) := by
  rw [pay4_at, inv_at, blk_h]

/-- The rows' gradient from an accumulator that holds the product. -/
theorem rows_at (c : Dev nD) (t : Fin cfg0.N) (A : Vec Ideal S1024x1024 .f32)
    (hA : ∀ p k : Fin 1024, A (ix2 p k) = (args m c).back (row t p) k) (p k : Fin 1024) :
    k0_pay7 (iblk m c 2 t) A (iblk m c 3 t) (iblk m c 4 t) (ix2 p k) = (args m c).dRows (ix2 (row t p) k) := by
  refine (pay7_at _ _ _ _ p k).trans ?_
  simp only [xhat_at, inv_at, blk_dh, blk_g, hA]
  exact congrArg (_ + ·) (gradNormed_eq ((args m c).hRow (row t p)) ((args m c).tRow (row t p)) _
    (meanSq_cases _ _) k)

theorem weights_at (c : Dev nD) (t : Fin cfg0.N) (A : Vec Ideal S1024x1024 .f32)
    (hA : ∀ p k : Fin 1024, A (ix2 p k) = (args m c).back (row t p) k) (k : Fin 1024) :
    k0_pay5 (iblk m c 2 t) A (ix2 0 k) = ∑ p : Fin 1024, (args m c).weightTerm k (row t p) := by
  refine (pay5_at _ _ k).trans (Finset.sum_congr rfl fun p _ => ?_)
  rw [xhat_at, hA]
  rfl

theorem out_rows (c : Dev nD) (t : Fin cfg0.N) (hr : t.val % 2 = 1) (p k : Fin 1024) :
    (outsAt0 m c t.val t.isLt).1 (ix2 p k) = (args m c).dRows (ix2 (row t p) k) := by
  refine Eq.trans ?_ (rows_at m c t (acc m c t.val t.isLt) (acc_last m c t hr) p k)
  by_cases h2 : t.val < 2
  · rw [acc, outsAt0_B m c t (by omega) hr h2 (by omega)]
    frame_out
  · rw [acc, outsAt0_C m c t (by omega) hr h2 (by omega)]
    frame_out

/-! ## The norm's weights -/

/-- What the weights' gradient holds after point `n`. -/
abbrev wacc (c : Dev nD) (n : ℕ) (h : n < cfg0.N) : Vec Ideal S1x1024 .f32 := (outsAt0 m c n h).2.1

/-- It changes at a tile's last point only. -/
theorem wacc_same (c : Dev nD) (t : Fin cfg0.N) (h : ¬ t.val % 2 = 1) :
    wacc m c t.val t.isLt = wacc m c (t.val - 1) (by omega) := by
  rw [wacc, outsAt0_A m c t (by omega) h]
  rfl

theorem wacc_start (c : Dev nD) (t : Fin cfg0.N) (hr : t.val % 2 = 1) (h2 : t.val < 2) (k : Fin 1024) :
    wacc m c t.val t.isLt (ix2 0 k) = ∑ p : Fin 1024, (args m c).weightTerm k (row t p) := by
  refine Eq.trans ?_ (weights_at m c t (acc m c t.val t.isLt) (acc_last m c t hr) k)
  rw [acc, wacc, outsAt0_B m c t (by omega) hr h2 (by omega)]
  frame_out

theorem wacc_step (c : Dev nD) (t : Fin cfg0.N) (hr : t.val % 2 = 1) (h2 : ¬ t.val < 2) (k : Fin 1024) :
    wacc m c t.val t.isLt (ix2 0 k)
      = (wacc m c (t.val - 1) (by omega) (ix2 0 k) + ∑ p : Fin 1024, (args m c).weightTerm k (row t p) : EReal) := by
  rw [← weights_at m c t (acc m c t.val t.isLt) (acc_last m c t hr) k, acc, wacc,
    outsAt0_C m c t (by omega) hr h2 (by omega)]
  frame_out
  refine (pay6_at _ _ _ k).trans (congrArg (· + _) ?_)
  simp only [read_unread_whole]

theorem tile_at (c : Dev nD) (k : Fin 1024) (t : Fin cfg0.N) :
    ∑ p : Fin 1024, (args m c).weightTerm k (row t p) = (args m c).tile k (t.val / 2) := by
  have ht := lt8 t
  rw [NormIn.tile, dif_pos (by omega)]
  rfl

/-- After point `n` it holds the sum over the tiles that are done. -/
theorem wacc_tile (c : Dev nD) (k : Fin 1024) : ∀ (n : ℕ) (h : n < cfg0.N), 1 ≤ n →
    wacc m c n h (ix2 0 k) = ∑ s ∈ Finset.range ((n + 1) / 2), (args m c).tile k s := by
  intro n
  induction n with
  | zero => intro _ h; omega
  | succ n ih =>
    intro h h1
    by_cases hr : (n + 1) % 2 = 1
    · have hq : (n + 1 + 1) / 2 = (n + 1) / 2 + 1 := by omega
      rw [hq, Finset.sum_range_succ]
      by_cases h2 : n + 1 < 2
      · refine (wacc_start m c ⟨n + 1, h⟩ hr h2 k).trans ((tile_at m c k _).trans ?_)
        rw [show (n + 1) / 2 = 0 by omega, Finset.sum_range_zero, zero_add]
      · exact (wacc_step m c ⟨n + 1, h⟩ hr h2 k).trans
          (congrArg₂ (· + ·) (ih (by omega) (by omega)) (tile_at m c k ⟨n + 1, h⟩))
    · rw [show (n + 1 + 1) / 2 = (n + 1) / 2 by omega]
      exact (congrFun (wacc_same m c ⟨n + 1, h⟩ hr) _).trans (ih (by omega) (by omega))

theorem out_weights (c : Dev nD) (t : Fin cfg0.N) (hr : t.val % 8 = 7) (k : Fin 1024) :
    wacc m c t.val t.isLt (ix2 0 k) = (args m c).dWeights (ix2 0 k) := by
  have ht := lt8 t
  refine (wacc_tile m c k t.val t.isLt (by omega)).trans ?_
  rw [show (t.val + 1) / 2 = 4 by omega]
  exact (args m c).sum_tile k

/-! ## The results -/

theorem final_rows (c : Dev nD) : (dats m 0 c).arrAt 5 cfg0.N = (args m c).dRows := by
  refine (dats m 0 c).arrAt_eq_of_covers 5 _ (by decide +kernel) fun t hf y => ?_
  blk_simp
  rw [after0_5]
  have e : ∀ (p k : Fin 1024), (outsAt0 m c t.val t.isLt).1 (ix2 p k)
      = (args m c).dRows ((win0_5.blk t).view.emb (ix2 p k)) := by
    intro p k
    have ht := lt8 t
    refine (out_rows m c t ((flush0_5 t).mp hf) p k).trans (congrArg _ ?_)
    blk_ext [idx t, row]
  have ey : y = ix2 (y 0) (y 1) := by funext a; fin_cases a <;> rfl
  rw [ey]
  exact e _ _

theorem final_weights (c : Dev nD) : (dats m 0 c).arrAt 6 cfg0.N = (args m c).dWeights := by
  refine (dats m 0 c).arrAt_eq_of_covers 6 _ (by decide +kernel) fun t hf y => ?_
  blk_simp
  rw [after0_6]
  have e : ∀ (k : Fin 1024), (outsAt0 m c t.val t.isLt).2.1 (ix2 0 k)
      = (args m c).dWeights ((win0_6.blk t).view.emb (ix2 0 k)) := by
    intro k
    refine (out_weights m c t ((flush0_6 t).mp hf) k).trans (congrArg _ ?_)
    blk_ext [idx t]
  have ey : y = ix2 0 (y 1) := by
    funext a
    fin_cases a
    · exact Fin.ext (by have h : (y 0).val < 1 := (y 0).isLt; show (y 0).val = 0; omega)
    · rfl
  rw [ey]
  exact e _

/-! ## The reference -/

section Reference

open Cert.DInARefIdeal.Read

variable (x0 : FVec Ideal S4096x1024 .f32) (x1 : FVec Ideal S1024 .f32) (x2 : FVec Ideal S1024x1280 .f32)
  (x3 : FVec Ideal S4096x1280 .f32) (x4 : FVec Ideal S4096x1024 .f32)

theorem ref_ms (q : Fin 4096) : val_main_v6 (F := Ideal) x0 (ix2 q 0) = meanSq x0 q := DFfnIn.ref_ms x0 q

theorem ref_inv (q : Fin 4096) : val_main_v7 (F := Ideal) x0 (ix2 q 0) = Ideal.rsqrt (meanSq x0 q) := DFfnIn.ref_inv x0 q

theorem ref_xhat (q : Fin 4096) (k : Fin 1024) :
    val_main_v12 (F := Ideal) x0 (ix2 q k) = (x0 (ix2 q k) * Ideal.rsqrt (meanSq x0 q) : EReal) := DFfnIn.ref_xhat x0 q k

theorem ref_back (q : Fin 4096) (k : Fin 1024) :
    val_main_v17 (F := Ideal) x2 x3 (ix2 q k) = (NormIn.mk x0 x1 x2 x3 x4).back q k := by
  pointwise [val_main_v17]
  rfl

theorem ref_t (q : Fin 4096) (k : Fin 1024) :
    val_main_v22 (F := Ideal) x1 x2 x3 (ix2 q k) = (NormIn.mk x0 x1 x2 x3 x4).tRow q k := by
  rw [NormIn.tRow, ← ref_back]
  pointwise [val_main_v22, val_main_v21, val_main_v13]

theorem ref_slope (q : Fin 4096) (k : Fin 1024) :
    val_main_v33 (F := Ideal) x0 x1 x2 x3 (ix2 q k)
      = slope ((NormIn.mk x0 x1 x2 x3 x4).hRow q) ((NormIn.mk x0 x1 x2 x3 x4).tRow q) (meanSq x0 q) := by
  unfold slope
  rw [← ref_inv, ← ref_ms]
  simp only [← ref_t x0 x1 x2 x3 x4]
  pointwise [val_main_v33, val_main_v32, val_main_v31, val_main_v30, val_main_v29, val_main_v26, val_main_v25, val_main_v24,
    val_main_v10, val_main_v9, val_main_v8, val_main_cst_2, val_main_cst_5, val_main_cst_6, val_main_cst_7]
  exact Fin.sum_univ_one _

theorem ref_rows : val_main_v38 (F := Ideal) x0 x1 x2 x3 x4 = (NormIn.mk x0 x1 x2 x3 x4).dRows := by
  have e : ∀ (q : Fin 4096) (k : Fin 1024), val_main_v38 (F := Ideal) x0 x1 x2 x3 x4 (ix2 q k)
      = (NormIn.mk x0 x1 x2 x3 x4).dRows (ix2 q k) := by
    intro q k
    have h : val_main_v38 (F := Ideal) x0 x1 x2 x3 x4 (ix2 q k)
        = (x4 (ix2 q k) + (val_main_v22 (F := Ideal) x1 x2 x3 (ix2 q k) * val_main_v7 (F := Ideal) x0 (ix2 q 0)
          + x0 (ix2 q k) * val_main_v33 (F := Ideal) x0 x1 x2 x3 (ix2 q k)
          + val_main_v33 (F := Ideal) x0 x1 x2 x3 (ix2 q k) * x0 (ix2 q k)) : EReal) := by
      pointwise [val_main_v38, val_main_v37, val_main_v36, val_main_v35, val_main_v34, val_main_v28, val_main_v27]
    rw [h, ref_slope x0 x1 x2 x3 x4, ref_t x0 x1 x2 x3 x4, ref_inv]
    rfl
  funext i
  rw [show i = ix2 (i 0) (i 1) by funext a; fin_cases a <;> rfl]
  exact e _ _

theorem ref_weights : val_main_v39 (F := Ideal) x0 x2 x3 = (NormIn.mk x0 x1 x2 x3 x4).dWeights := by
  have e : ∀ (k : Fin 1024), val_main_v39 (F := Ideal) x0 x2 x3 (ix2 0 k)
      = (NormIn.mk x0 x1 x2 x3 x4).dWeights (ix2 0 k) := by
    intro k
    have h : val_main_v39 (F := Ideal) x0 x2 x3 (ix2 0 k)
        = (∑ q : Fin 4096, val_main_v12 (F := Ideal) x0 (ix2 q k) * val_main_v17 (F := Ideal) x2 x3 (ix2 q k) : EReal) := by
      pointwise [val_main_v39, val_main_v23, val_main_v20, val_main_v19, val_main_v18, val_main_cst_3, val_main_cst_4]
      exact Fin.sum_univ_one _
    rw [h]
    refine Finset.sum_congr rfl fun q _ => ?_
    rw [ref_xhat, ref_back x0 x1 x2 x3 x4, mul_comm]
    rfl
  funext i
  have ei : i = ix2 0 (i 1) := by
    funext a
    fin_cases a
    · exact Fin.ext (by have h : (i 0).val < 1 := (i 0).isLt; show (i 0).val = 0; omega)
    · rfl
  rw [ei]
  exact e _

end Reference

end Cert.Proof.DInA

end
-- ==== Proof.DWInA.lean ====
/- The gradient of the first input projection's weights, transposed: the cotangent of the product transposed times the
   normalised rows, summed over two tiles of 2048 rows, one a grid point. -/
module

public import proofs.«01_k».proof.Proof.Gen.DWInAIdeal.Value
public import proofs.«01_k».proof.Proof.Gen.DWInARefIdeal.Read
public import proofs.«01_k».proof.Proof.DWGateUp
public import Idealize.ShloMosaic.Lib.Pipeline.ValueKit
public import Idealize.ShloMosaic.Lib.Pipeline.ReadBack
public import Idealize.ShloMosaic.Lib.StableHlo.RunRead
public import Idealize.ShloMosaic.Lib.Claim

@[expose] public section

set_option maxRecDepth 16384

noncomputable section

namespace Cert.Proof.DWInA

open Cert.DWInAIdeal Cert.DWInAIdeal.Gen Idealize.ShloMosaic Idealize.ShloMosaic.TcCoe Idealize.SL.Sem

/-- The gradient of the weights, transposed: row `b * 160 + r` of it at block `b`, row `r`. -/
def grad (h : FVec Ideal S4096x1024 .f32) (g : FVec Ideal S1024 .f32) (ct : FVec Ideal S4096x1280 .f32) :
    FVec Ideal S8x160x1024 .bf16 := fun i =>
  (∑ q : Fin 4096, ct (ix2 q ⟨(i 0).val * 160 + (i 1).val, by
    have h0 : (i 0).val < 8 := (i 0).isLt
    have h1 : (i 1).val < 160 := (i 1).isLt
    omega⟩) * normed h g q (i 2) : EReal)

variable (m : (ℓ : Loc nD τ sig) → Buf (Elt Ideal) ℓ)

abbrev rows (c : Dev nD) : FVec Ideal S4096x1024 .f32 := m ((c : Thread nD τ).loc main_arg0)
abbrev weights (c : Dev nD) : FVec Ideal S1024 .f32 := m ((c : Thread nD τ).loc main_arg1)
abbrev ct (c : Dev nD) : FVec Ideal S4096x1280 .f32 := m ((c : Thread nD τ).loc main_arg3)
abbrev hn (c : Dev nD) (q : Fin 4096) (k : Fin 1024) : EReal := normed (rows m c) (weights m c) q k

theorem idx : ∀ t : Fin cfg0.N, win0_0.index t = ![t.val, 0] ∧ win0_1.index t = ![t.val, 0] ∧ win0_2.index t = ![0, 0, 0] :=
  (by decide +kernel : ∀ t : Fin grid0.N, _)

theorem lt2 (t : Fin cfg0.N) : t.val < 2 := lt_of_lt_of_eq t.isLt N_0

/-- The row that row `p` of point `t`'s tile is. -/
def row (t : Fin cfg0.N) (p : Fin 2048) : Fin 4096 := ⟨t.val * 2048 + p.val, by have := lt2 t; omega⟩

/-! ## The blocks -/

theorem entry_ct (c : Dev nD) (q : Fin 4096) (l : Fin 1280) :
    (V m c main_v0 : FVec Ideal S4096x1280 .bf16) (ix2 q l) = ct m c (ix2 q l) := by
  simp only [V, hostOps0]
  after_results_simp
  rfl

theorem entry_hn (c : Dev nD) (q : Fin 4096) (k : Fin 1024) :
    (V m c main_v14 : FVec Ideal S4096x1024 .bf16) (ix2 q k) = hn m c q k := by
  simp only [V, hostOps0]
  after_results_simp
  pointwise
  rfl

theorem blk_ct (c : Dev nD) (t : Fin cfg0.N) (p : Fin 2048) (l : Fin 1280) :
    (iblk m c 0 t : FVec Ideal S2048x1280 .bf16) (ix2 p l) = ct m c (ix2 (row t p) l) := by
  refine Eq.trans (b := (V m c main_v0 : FVec Ideal S4096x1280 .bf16) (ix2 (row t p) l)) ?_ (entry_ct m c (row t p) l)
  blk_ext [iblk, idx t, row]

theorem blk_hn (c : Dev nD) (t : Fin cfg0.N) (p : Fin 2048) (k : Fin 1024) :
    (iblk m c 1 t : FVec Ideal S2048x1024 .bf16) (ix2 p k) = hn m c (row t p) k := by
  refine Eq.trans (b := (V m c main_v14 : FVec Ideal S4096x1024 .bf16) (ix2 (row t p) k)) ?_ (entry_hn m c (row t p) k)
  blk_ext [iblk, idx t, row]

/-! ## The body's values -/

theorem pay1_at (l : Fin 1280) (k : Fin 1024) : k0_pay1 (F := Ideal) (ix2 l k) = (0 : EReal) := by
  pointwise [k0_pay1]

theorem pay2_at (x : Vec Ideal S1280x1024 .f32) (a : Vec Ideal S2048x1280 .bf16) (b : Vec Ideal S2048x1024 .bf16)
    (l : Fin 1280) (k : Fin 1024) :
    k0_pay2 x a b (ix2 l k) = (x (ix2 l k) + ∑ p : Fin 2048, a (ix2 p l) * b (ix2 p k) : EReal) := by
  pointwise [k0_pay2]

theorem pay3_at (x : Vec Ideal S1280x1024 .f32) (s : Fin 8) (r : Fin 160) (k : Fin 1024) :
    k0_pay3 x (ix3 s r k) = x (ix2 ⟨s.val * 160 + r.val, by omega⟩ k) := by
  pointwise [k0_pay3]

/-! ## The accumulator -/

/-- What point `t`'s tile adds to the gradient. -/
def part (c : Dev nD) (t : Fin cfg0.N) (i : Fin 1280 × Fin 1024) : EReal :=
  ∑ p : Fin 2048, ct m c (ix2 (row t p) i.1) * hn m c (row t p) i.2

theorem part_eq (c : Dev nD) (t : Fin cfg0.N) (x : Vec Ideal S1280x1024 .f32) (l : Fin 1280) (k : Fin 1024) :
    k0_pay2 x (iblk m c 0 t) (iblk m c 1 t) (ix2 l k) = (x (ix2 l k) + part m c t (l, k) : EReal) := by
  refine (pay2_at x _ _ l k).trans (congrArg (_ + ·) (Finset.sum_congr rfl fun p _ => ?_))
  exact congrArg₂ (· * ·) (blk_ct m c t p l) (blk_hn m c t p k)

theorem acc_first (c : Dev nD) (t : Fin cfg0.N) (h : t.val % 2 = 0) (l : Fin 1280) (k : Fin 1024) :
    (outsAt0 m c t.val t.isLt).2 (ix2 l k) = (0 + part m c t (l, k) : EReal) := by
  rw [outsAt0_A m c t h (by omega)]
  frame_out
  refine (part_eq m c t _ l k).trans (congrArg (· + _) ?_)
  exact pay1_at l k

theorem acc_next (c : Dev nD) (t : Fin cfg0.N) (h : ¬ t.val % 2 = 0) (l : Fin 1280) (k : Fin 1024) :
    (outsAt0 m c t.val t.isLt).2 (ix2 l k)
      = ((outsAt0 m c (t.val - 1) (by omega)).2 (ix2 l k) + part m c t (l, k) : EReal) := by
  rw [outsAt0_B m c t h (by omega)]
  frame_out
  refine (part_eq m c t _ l k).trans (congrArg (· + _) ?_)
  simp only [read_unread_whole]

theorem acc_last (c : Dev nD) (t : Fin cfg0.N) (hr : t.val % 2 = 1) (l : Fin 1280) (k : Fin 1024) :
    (outsAt0 m c t.val t.isLt).2 (ix2 l k) = ∑ q : Fin 4096, ct m c (ix2 q l) * hn m c q k := by
  have hsum := Pipeline.eq_sum_fin_of_reset_step_apply_of_flush (N := cfg0.N) (ι := Fin 1280 × Fin 1024) (M := EReal)
    (fun n h i => (outsAt0 m c n h).2 (ix2 i.1 i.2)) 2 (fun _ => 0) (fun t i => part m c t i)
    (fun t h i => acc_first m c t h i.1 i.2) (fun t h i => acc_next m c t h i.1 i.2) t hr (l, k)
  refine hsum.trans ?_
  rw [zero_add]
  refine Eq.trans ?_ (sum_tiled 2 2048 rfl fun q => ct m c (ix2 q l) * hn m c q k)
  refine Finset.sum_congr rfl fun s _ => Finset.sum_congr rfl fun p _ => ?_
  have hs := s.isLt
  have ht := lt2 t
  have hp : row ⟨2 * (t.val / 2) + s.val, Pipeline.run_point_lt_of_flush t hr s⟩ p = ⟨s.val * 2048 + p.val, by omega⟩ :=
    Fin.ext (by simp only [row]; omega)
  rw [hp]

/-! ## The result -/

theorem out_last (c : Dev nD) (t : Fin cfg0.N) (h : t.val % 2 = 1) (s : Fin 8) (r : Fin 160) (k : Fin 1024) :
    (outsAt0 m c t.val t.isLt).1 (ix3 s r k) = (outsAt0 m c t.val t.isLt).2 (ix2 ⟨s.val * 160 + r.val, by omega⟩ k) := by
  rw [outsAt0_B m c t (by omega) h]
  frame_out
  exact pay3_at _ s r k

theorem place (t : Fin cfg0.N) (s : Fin 8) (r : Fin 160) (k : Fin 1024) :
    (win0_2.blk t).view.emb (ix3 s r k) = ix3 s r k := by
  blk_ext [idx t]

theorem final (c : Dev nD) : (dats m 0 c).arrAt 2 cfg0.N = grad (rows m c) (weights m c) (ct m c) := by
  refine (dats m 0 c).arrAt_eq_of_covers 2 _ (by decide +kernel) fun t hf y => ?_
  blk_simp
  rw [after0_2]
  have e : ∀ (s : Fin 8) (r : Fin 160) (k : Fin 1024), (outsAt0 m c t.val t.isLt).1 (ix3 s r k)
      = grad (rows m c) (weights m c) (ct m c) ((win0_2.blk t).view.emb (ix3 s r k)) := by
    intro s r k
    have hr : t.val % 2 = 1 := (flush0_2 t).mp hf
    rw [place, out_last m c t hr, acc_last m c t hr]
    rfl
  have ey : y = ix3 (y 0) (y 1) (y 2) := by funext a; fin_cases a <;> rfl
  rw [ey]
  exact e _ _ _

/-! ## The reference -/

open Cert.DWInARefIdeal.Read in
theorem ref_hn (h : FVec Ideal S4096x1024 .f32) (g : FVec Ideal S1024 .f32) (q : Fin 4096) (k : Fin 1024) :
    val_main_v12 (F := Ideal) h g (ix2 q k) = normed h g q k :=
  DWGateUp.ref_hn h g q k

open Cert.DWInARefIdeal.Read in
theorem ref_eq (h : FVec Ideal S4096x1024 .f32) (g : FVec Ideal S1024 .f32) (ct : FVec Ideal S4096x1280 .f32) :
    val_main_v18 (F := Ideal) h g ct = grad h g ct := by
  funext i
  have h0 : (i 0).val < 8 := (i 0).isLt
  have h1 : (i 1).val < 160 := (i 1).isLt
  have h2 : (i 2).val < 1024 := (i 2).isLt
  rw [val_main_v18_apply, val_main_v17_apply, val_main_v16_apply, val_main_v15_apply, val_main_v14_apply]
  refine Finset.sum_congr rfl fun q _ => congrArg₂ (· * ·) (congrArg ct ?_) (Eq.trans (congrArg _ ?_) (ref_hn h g q (i 2)))
  · funext a
    fin_cases a
    · rfl
    · exact Fin.ext (show (((i 0).val * 160 + (i 1).val) * 1024 + (i 2).val) / 1024 = (i 0).val * 160 + (i 1).val by omega)
  · funext a
    fin_cases a
    · rfl
    · exact Fin.ext (show (((i 0).val * 160 + (i 1).val) * 1024 + (i 2).val) % 1024 = (i 2).val by omega)

end Cert.Proof.DWInA

end
-- ==== Proof.DInB.lean ====
/- The gradient of the second input projection's rows: the cotangent of the product times the weights, taken back through the
   norm and added to the residual's gradient; and the gradient of the norm's weights. A grid point `t` works on the row tile
   `t / 3` (1024 rows) and the column block `t % 3` (896 of the product's 2688 columns). -/
module

public import proofs.«01_k».proof.Proof.Gen.DInBIdeal.Value
public import proofs.«01_k».proof.Proof.Gen.DInBRefIdeal.Read
public import proofs.«01_k».proof.Proof.DFfnIn
public import Idealize.ShloMosaic.Lib.Pipeline.ValueKit
public import Idealize.ShloMosaic.Lib.Pipeline.ReadBack
public import Idealize.ShloMosaic.Lib.StableHlo.RunRead
public import Idealize.ShloMosaic.Lib.Claim

@[expose] public section

set_option maxRecDepth 16384

noncomputable section

namespace Cert.Proof.DInB

open Cert.DInBIdeal Cert.DInBIdeal.Gen Idealize.ShloMosaic Idealize.ShloMosaic.TcCoe Idealize.SL.Sem

variable (m : (ℓ : Loc nD τ sig) → Buf (Elt Ideal) ℓ)

/-- The arguments as the kernel finds them on core `c`. -/
def args (c : Dev nD) : NormIn 2688 where
  h := m ((c : Thread nD τ).loc main_arg0)
  g := m ((c : Thread nD τ).loc main_arg1)
  w := m ((c : Thread nD τ).loc main_arg2)
  ct := m ((c : Thread nD τ).loc main_arg3)
  dh := m ((c : Thread nD τ).loc main_arg4)

theorem idx : ∀ t : Fin cfg0.N, win0_0.index t = ![t.val / 3, t.val % 3] ∧ win0_1.index t = ![0, 0, 0, t.val % 3]
    ∧ win0_2.index t = ![t.val / 3, 0] ∧ win0_3.index t = ![0, 0] ∧ win0_4.index t = ![t.val / 3, 0]
    ∧ win0_5.index t = ![t.val / 3, 0] ∧ win0_6.index t = ![t.val / 3, 0] ∧ win0_7.index t = ![0, 0] :=
  (by decide +kernel : ∀ t : Fin grid0.N, _)

theorem lt12 (t : Fin cfg0.N) : t.val < 12 := lt_of_lt_of_eq t.isLt N_0

/-- The column that column `l` of point `t`'s blocks is. -/
def col (t : Fin cfg0.N) (l : Fin 896) : Fin 2688 := ⟨t.val % 3 * 896 + l.val, by omega⟩

/-- The row that row `p` of point `t`'s tile is. -/
def row (t : Fin cfg0.N) (p : Fin 1024) : Fin 4096 := ⟨t.val / 3 * 1024 + p.val, by have := lt12 t; omega⟩

/-! ## The operands the host prepares -/

theorem entry_ct (c : Dev nD) (q : Fin 4096) (l : Fin 2688) :
    (V m c main_v0 : FVec Ideal S4096x2688 .bf16) (ix2 q l) = (args m c).ct (ix2 q l) := by
  simp only [V, hostOps0]
  after_results_simp
  after_results_loop
  rfl

theorem entry_w (c : Dev nD) (s : Fin 8) (r : Fin 128) (l : Fin 2688) :
    (V m c main_v2 : FVec Ideal S8x1x128x2688 .bf16) (ix4 s 0 r l) = (args m c).w (ix2 ⟨s.val * 128 + r.val, by omega⟩ l) := by
  simp only [V, hostOps0]
  after_results_simp
  after_results_loop
  pointwise
  rfl

theorem entry_g (c : Dev nD) (k : Fin 1024) :
    (V m c main_v3 : FVec Ideal S1x1024 .f32) (ix2 0 k) = (args m c).g (ix1 k) := by
  simp only [V, hostOps0]
  after_results_simp
  after_results_loop
  pointwise
  rfl

theorem entry_h (c : Dev nD) (q : Fin 4096) (k : Fin 1024) :
    (V m c main_arg0 : FVec Ideal S4096x1024 .f32) (ix2 q k) = (args m c).h (ix2 q k) := by
  simp only [V, hostOps0]
  after_results_simp
  rfl

theorem entry_dh (c : Dev nD) (q : Fin 4096) (k : Fin 1024) :
    (V m c main_arg4 : FVec Ideal S4096x1024 .f32) (ix2 q k) = (args m c).dh (ix2 q k) := by
  simp only [V, hostOps0]
  after_results_simp
  rfl

/-! ## The blocks -/

theorem blk_ct (c : Dev nD) (t : Fin cfg0.N) (p : Fin 1024) (l : Fin 896) :
    (iblk m c 0 t : FVec Ideal S1024x896 .bf16) (ix2 p l) = (args m c).ct (ix2 (row t p) (col t l)) := by
  refine Eq.trans (b := (V m c main_v0 : FVec Ideal S4096x2688 .bf16) (ix2 (row t p) (col t l))) ?_ (entry_ct m c _ _)
  blk_ext [iblk, idx t, row, col]

theorem blk_w (c : Dev nD) (t : Fin cfg0.N) (s : Fin 8) (r : Fin 128) (l : Fin 896) :
    (iblk m c 1 t : FVec Ideal S8x1x128x896 .bf16) (ix4 s 0 r l)
      = (args m c).w (ix2 ⟨s.val * 128 + r.val, by omega⟩ (col t l)) := by
  refine Eq.trans (b := (V m c main_v2 : FVec Ideal S8x1x128x2688 .bf16) (ix4 s 0 r (col t l))) ?_ (entry_w m c s r _)
  blk_ext [iblk, idx t, col]

theorem blk_h (c : Dev nD) (t : Fin cfg0.N) (p : Fin 1024) (k : Fin 1024) :
    (iblk m c 2 t : FVec Ideal S1024x1024 .f32) (ix2 p k) = (args m c).h (ix2 (row t p) k) := by
  refine Eq.trans (b := (V m c main_arg0 : FVec Ideal S4096x1024 .f32) (ix2 (row t p) k)) ?_ (entry_h m c (row t p) k)
  blk_ext [iblk, idx t, row]

theorem blk_g (c : Dev nD) (t : Fin cfg0.N) (k : Fin 1024) :
    (iblk m c 3 t : FVec Ideal S1x1024 .f32) (ix2 0 k) = (args m c).g (ix1 k) := by
  refine Eq.trans (b := (V m c main_v3 : FVec Ideal S1x1024 .f32) (ix2 0 k)) ?_ (entry_g m c k)
  blk_ext [iblk, idx t]

theorem blk_dh (c : Dev nD) (t : Fin cfg0.N) (p : Fin 1024) (k : Fin 1024) :
    (iblk m c 4 t : FVec Ideal S1024x1024 .f32) (ix2 p k) = (args m c).dh (ix2 (row t p) k) := by
  refine Eq.trans (b := (V m c main_arg4 : FVec Ideal S4096x1024 .f32) (ix2 (row t p) k)) ?_ (entry_dh m c (row t p) k)
  blk_ext [iblk, idx t, row]

/-! ## The body's values -/

section Body

variable (h A dh : Vec Ideal S1024x1024 .f32) (g : Vec Ideal S1x1024 .f32)

theorem pay2_at (a : Vec Ideal S1024x896 .bf16) (b : Vec Ideal S8x1x128x896 .bf16) (p k : Fin 1024) :
    k0_pay2 A a b (ix2 p k)
      = (A (ix2 p k) + ∑ l : Fin 896, a (ix2 p l) * b (ix4 ⟨k.val / 128, by omega⟩ 0 ⟨k.val % 128, by omega⟩ l) : EReal) := by
  pointwise [k0_pay2]

/-! The rest of the body is that of the feed-forward's input. -/

theorem pay4_at (p : Fin 1024) :
    k0_pay4 h (ix2 p 0) = Ideal.rsqrt (Ideal.div (∑ x : Fin 1024, h (ix2 p x) * h (ix2 p x)) (Ideal.ofBits FTy.f32 1149239296#32)
      + Ideal.ofBits FTy.f32 897988541#32) := DFfnIn.pay4_at h p

theorem pay5_at (p k : Fin 1024) : k0_pay5 h (ix2 p k) = (h (ix2 p k) * k0_pay4 h (ix2 p 0) : EReal) :=
  DFfnIn.pay5_at h p k

theorem pay6_at (k : Fin 1024) : k0_pay6 h A (ix2 0 k) = (∑ p : Fin 1024, A (ix2 p k) * k0_pay5 h (ix2 p k) : EReal) :=
  DFfnIn.pay6_at h A k

theorem pay7_at (d : Vec Ideal S1x1024 .f32) (k : Fin 1024) :
    k0_pay7 h A d (ix2 0 k) = (d (ix2 0 k) + k0_pay6 h A (ix2 0 k) : EReal) := DFfnIn.pay7_at h A d k

theorem pay8_at (p k : Fin 1024) :
    k0_pay8 h A g dh (ix2 p k) = (dh (ix2 p k) + k0_pay4 h (ix2 p 0) * (A (ix2 p k) * g (ix2 0 k) - k0_pay5 h (ix2 p k)
      * Ideal.div (∑ x : Fin 1024, A (ix2 p x) * g (ix2 0 x) * k0_pay5 h (ix2 p x)) (Ideal.ofBits FTy.f32 1149239296#32)) : EReal) :=
  DFfnIn.pay8_at h A dh g p k

end Body

/-! ## The accumulator -/

/-- What point `t`'s column block adds to the product. -/
def part (c : Dev nD) (t : Fin cfg0.N) (i : Fin 1024 × Fin 1024) : EReal :=
  ∑ l : Fin 896, (args m c).ct (ix2 (row t i.1) (col t l)) * (args m c).w (ix2 i.2 (col t l))

theorem part_eq (c : Dev nD) (t : Fin cfg0.N) (x : Vec Ideal S1024x1024 .f32) (p k : Fin 1024) :
    k0_pay2 x (iblk m c 0 t) (iblk m c 1 t) (ix2 p k) = (x (ix2 p k) + part m c t (p, k) : EReal) := by
  refine (pay2_at x _ _ p k).trans (congrArg (_ + ·) (Finset.sum_congr rfl fun l _ => ?_))
  refine congrArg₂ (· * ·) (blk_ct m c t p l) ((blk_w m c t _ _ l).trans ?_)
  refine congrArg (args m c).w (congrArg (ix2 · (col t l)) (Fin.ext ?_))
  show k.val / 128 * 128 + k.val % 128 = k.val
  omega

/-- The accumulator after point `n`. -/
abbrev acc (c : Dev nD) (n : ℕ) (h : n < cfg0.N) : Vec Ideal S1024x1024 .f32 := (outsAt0 m c n h).2.2.2

theorem acc_first (c : Dev nD) (t : Fin cfg0.N) (h : t.val % 3 = 0) (p k : Fin 1024) :
    acc m c t.val t.isLt (ix2 p k) = (0 + part m c t (p, k) : EReal) := by
  rw [acc, outsAt0_A m c t h (by omega)]
  frame_out
  refine (part_eq m c t _ p k).trans (congrArg (· + _) ?_)
  exact DFfnIn.pay1_at p k

theorem acc_next (c : Dev nD) (t : Fin cfg0.N) (h : ¬ t.val % 3 = 0) (p k : Fin 1024) :
    acc m c t.val t.isLt (ix2 p k) = (acc m c (t.val - 1) (by omega) (ix2 p k) + part m c t (p, k) : EReal) := by
  by_cases h1 : t.val % 3 = 2
  · by_cases h2 : t.val < 3
    · rw [acc, outsAt0_C m c t h h1 h2 (by omega)]
      frame_out
      refine (part_eq m c t _ p k).trans (congrArg (· + _) ?_)
      simp only [read_unread_whole]
    · rw [acc, outsAt0_D m c t h h1 h2 (by omega)]
      frame_out
      refine (part_eq m c t _ p k).trans (congrArg (· + _) ?_)
      simp only [read_unread_whole]
  · rw [acc, outsAt0_B m c t h h1]
    frame_out
    refine (part_eq m c t _ p k).trans (congrArg (· + _) ?_)
    simp only [read_unread_whole]

theorem acc_last (c : Dev nD) (t : Fin cfg0.N) (hr : t.val % 3 = 2) (p k : Fin 1024) :
    acc m c t.val t.isLt (ix2 p k) = (args m c).back (row t p) k := by
  have hsum := Pipeline.eq_sum_fin_of_reset_step_apply_of_flush (N := cfg0.N) (ι := Fin 1024 × Fin 1024) (M := EReal)
    (fun n h i => acc m c n h (ix2 i.1 i.2)) 3 (fun _ => 0) (fun t i => part m c t i)
    (fun t h i => acc_first m c t h i.1 i.2) (fun t h i => acc_next m c t h i.1 i.2) t hr (p, k)
  refine hsum.trans ?_
  rw [zero_add]
  refine Eq.trans ?_ (sum_tiled 3 896 rfl fun n => (args m c).ct (ix2 (row t p) n) * (args m c).w (ix2 k n))
  refine Finset.sum_congr rfl fun s _ => Finset.sum_congr rfl fun l _ => ?_
  have hs := s.isLt
  have hc : col ⟨3 * (t.val / 3) + s.val, Pipeline.run_point_lt_of_flush t hr s⟩ l = ⟨s.val * 896 + l.val, by omega⟩ :=
    Fin.ext (by simp only [col]; omega)
  have hp : row ⟨3 * (t.val / 3) + s.val, Pipeline.run_point_lt_of_flush t hr s⟩ p = row t p :=
    Fin.ext (by simp only [row]; omega)
  rw [hc, hp]

/-! ## The tile's gradients -/

theorem inv_at (c : Dev nD) (t : Fin cfg0.N) (p : Fin 1024) :
    k0_pay4 (iblk m c 2 t) (ix2 p 0) = Ideal.rsqrt (meanSq (args m c).h (row t p)) := by
  rw [pay4_at]
  simp only [blk_h]
  rfl

theorem xhat_at (c : Dev nD) (t : Fin cfg0.N) (p k : Fin 1024) :
    k0_pay5 (iblk m c 2 t) (ix2 p k)
      = (args m c).h (ix2 (row t p) k) * Ideal.rsqrt (meanSq (args m c).h (row t p)) := by
  rw [pay5_at, inv_at, blk_h]

/-- The rows' gradient from an accumulator that holds the product. -/
theorem rows_at (c : Dev nD) (t : Fin cfg0.N) (A : Vec Ideal S1024x1024 .f32)
    (hA : ∀ p k : Fin 1024, A (ix2 p k) = (args m c).back (row t p) k) (p k : Fin 1024) :
    k0_pay8 (iblk m c 2 t) A (iblk m c 3 t) (iblk m c 4 t) (ix2 p k) = (args m c).dRows (ix2 (row t p) k) := by
  refine (pay8_at _ _ _ _ p k).trans ?_
  simp only [xhat_at, inv_at, blk_dh, blk_g, hA]
  exact congrArg (_ + ·) (gradNormed_eq ((args m c).hRow (row t p)) ((args m c).tRow (row t p)) _
    (meanSq_cases _ _) k)

theorem weights_at (c : Dev nD) (t : Fin cfg0.N) (A : Vec Ideal S1024x1024 .f32)
    (hA : ∀ p k : Fin 1024, A (ix2 p k) = (args m c).back (row t p) k) (k : Fin 1024) :
    k0_pay6 (iblk m c 2 t) A (ix2 0 k) = ∑ p : Fin 1024, (args m c).weightTerm k (row t p) := by
  refine (pay6_at _ _ k).trans (Finset.sum_congr rfl fun p _ => ?_)
  rw [xhat_at, hA]
  rfl

theorem out_rows (c : Dev nD) (t : Fin cfg0.N) (hr : t.val % 3 = 2) (p k : Fin 1024) :
    (outsAt0 m c t.val t.isLt).1 (ix2 p k) = (args m c).dRows (ix2 (row t p) k) := by
  refine Eq.trans ?_ (rows_at m c t (acc m c t.val t.isLt) (acc_last m c t hr) p k)
  by_cases h2 : t.val < 3
  · rw [acc, outsAt0_C m c t (by omega) hr h2 (by omega)]
    frame_out
  · rw [acc, outsAt0_D m c t (by omega) hr h2 (by omega)]
    frame_out

theorem out_copy (c : Dev nD) (t : Fin cfg0.N) (hr : t.val % 3 = 2) (p k : Fin 1024) :
    (outsAt0 m c t.val t.isLt).2.1 (ix2 p k) = (args m c).dRows (ix2 (row t p) k) := by
  refine Eq.trans ?_ (rows_at m c t (acc m c t.val t.isLt) (acc_last m c t hr) p k)
  by_cases h2 : t.val < 3
  · rw [acc, outsAt0_C m c t (by omega) hr h2 (by omega)]
    frame_out
    exact DFfnIn.pay3_at _ p k
  · rw [acc, outsAt0_D m c t (by omega) hr h2 (by omega)]
    frame_out
    exact DFfnIn.pay3_at _ p k

/-! ## The norm's weights -/

/-- What the weights' gradient holds after point `n`. -/
abbrev wacc (c : Dev nD) (n : ℕ) (h : n < cfg0.N) : Vec Ideal S1x1024 .f32 := (outsAt0 m c n h).2.2.1

/-- It changes at a tile's last point only. -/
theorem wacc_same (c : Dev nD) (t : Fin cfg0.N) (h : ¬ t.val % 3 = 2) :
    wacc m c t.val t.isLt = wacc m c (t.val - 1) (by omega) := by
  by_cases h0 : t.val % 3 = 0
  · rw [wacc, outsAt0_A m c t h0 h]
    rfl
  · rw [wacc, outsAt0_B m c t h0 h]
    rfl

theorem wacc_start (c : Dev nD) (t : Fin cfg0.N) (hr : t.val % 3 = 2) (h2 : t.val < 3) (k : Fin 1024) :
    wacc m c t.val t.isLt (ix2 0 k) = ∑ p : Fin 1024, (args m c).weightTerm k (row t p) := by
  refine Eq.trans ?_ (weights_at m c t (acc m c t.val t.isLt) (acc_last m c t hr) k)
  rw [acc, wacc, outsAt0_C m c t (by omega) hr h2 (by omega)]
  frame_out

theorem wacc_step (c : Dev nD) (t : Fin cfg0.N) (hr : t.val % 3 = 2) (h2 : ¬ t.val < 3) (k : Fin 1024) :
    wacc m c t.val t.isLt (ix2 0 k)
      = (wacc m c (t.val - 1) (by omega) (ix2 0 k) + ∑ p : Fin 1024, (args m c).weightTerm k (row t p) : EReal) := by
  rw [← weights_at m c t (acc m c t.val t.isLt) (acc_last m c t hr) k, acc, wacc,
    outsAt0_D m c t (by omega) hr h2 (by omega)]
  frame_out
  refine (pay7_at _ _ _ k).trans (congrArg (· + _) ?_)
  simp only [read_unread_whole]

theorem tile_at (c : Dev nD) (k : Fin 1024) (t : Fin cfg0.N) :
    ∑ p : Fin 1024, (args m c).weightTerm k (row t p) = (args m c).tile k (t.val / 3) := by
  have ht := lt12 t
  rw [NormIn.tile, dif_pos (by omega)]
  rfl

/-- After point `n` it holds the sum over the tiles that are done. -/
theorem wacc_tile (c : Dev nD) (k : Fin 1024) : ∀ (n : ℕ) (h : n < cfg0.N), 2 ≤ n →
    wacc m c n h (ix2 0 k) = ∑ s ∈ Finset.range ((n + 1) / 3), (args m c).tile k s := by
  intro n
  induction n with
  | zero => intro _ h; omega
  | succ n ih =>
    intro h h2n
    by_cases hr : (n + 1) % 3 = 2
    · have hq : (n + 1 + 1) / 3 = (n + 1) / 3 + 1 := by omega
      rw [hq, Finset.sum_range_succ]
      by_cases h2 : n + 1 < 3
      · refine (wacc_start m c ⟨n + 1, h⟩ hr h2 k).trans ((tile_at m c k _).trans ?_)
        rw [show (n + 1) / 3 = 0 by omega, Finset.sum_range_zero, zero_add]
      · exact (wacc_step m c ⟨n + 1, h⟩ hr h2 k).trans
          (congrArg₂ (· + ·) (ih (by omega) (by omega)) (tile_at m c k ⟨n + 1, h⟩))
    · rw [show (n + 1 + 1) / 3 = (n + 1) / 3 by omega]
      exact (congrFun (wacc_same m c ⟨n + 1, h⟩ hr) _).trans (ih (by omega) (by omega))

theorem out_weights (c : Dev nD) (t : Fin cfg0.N) (hr : t.val % 12 = 11) (k : Fin 1024) :
    wacc m c t.val t.isLt (ix2 0 k) = (args m c).dWeights (ix2 0 k) := by
  have ht := lt12 t
  refine (wacc_tile m c k t.val t.isLt (by omega)).trans ?_
  rw [show (t.val + 1) / 3 = 4 by omega]
  exact (args m c).sum_tile k

/-! ## The results -/

theorem final_rows (c : Dev nD) : (dats m 0 c).arrAt 5 cfg0.N = (args m c).dRows := by
  refine (dats m 0 c).arrAt_eq_of_covers 5 _ (by decide +kernel) fun t hf y => ?_
  blk_simp
  rw [after0_5]
  have e : ∀ (p k : Fin 1024), (outsAt0 m c t.val t.isLt).1 (ix2 p k)
      = (args m c).dRows ((win0_5.blk t).view.emb (ix2 p k)) := by
    intro p k
    have ht := lt12 t
    refine (out_rows m c t ((flush0_5 t).mp hf) p k).trans (congrArg _ ?_)
    blk_ext [idx t, row]
  have ey : y = ix2 (y 0) (y 1) := by funext a; fin_cases a <;> rfl
  rw [ey]
  exact e _ _

theorem final_copy (c : Dev nD) : (dats m 0 c).arrAt 6 cfg0.N = (fun i => (args m c).dRows i : FVec Ideal S4096x1024 .bf16) := by
  refine (dats m 0 c).arrAt_eq_of_covers 6 _ (by decide +kernel) fun t hf y => ?_
  blk_simp
  rw [after0_6]
  have e : ∀ (p k : Fin 1024), (outsAt0 m c t.val t.isLt).2.1 (ix2 p k)
      = (args m c).dRows ((win0_6.blk t).view.emb (ix2 p k)) := by
    intro p k
    have ht := lt12 t
    refine (out_copy m c t ((flush0_6 t).mp hf) p k).trans (congrArg _ ?_)
    blk_ext [idx t, row]
  have ey : y = ix2 (y 0) (y 1) := by funext a; fin_cases a <;> rfl
  rw [ey]
  exact e _ _

theorem final_weights (c : Dev nD) : (dats m 0 c).arrAt 7 cfg0.N = (args m c).dWeights := by
  refine (dats m 0 c).arrAt_eq_of_covers 7 _ (by decide +kernel) fun t hf y => ?_
  blk_simp
  rw [after0_7]
  have e : ∀ (k : Fin 1024), (outsAt0 m c t.val t.isLt).2.2.1 (ix2 0 k)
      = (args m c).dWeights ((win0_7.blk t).view.emb (ix2 0 k)) := by
    intro k
    refine (out_weights m c t ((flush0_7 t).mp hf) k).trans (congrArg _ ?_)
    blk_ext [idx t]
  have ey : y = ix2 0 (y 1) := by
    funext a
    fin_cases a
    · exact Fin.ext (by have h : (y 0).val < 1 := (y 0).isLt; show (y 0).val = 0; omega)
    · rfl
  rw [ey]
  exact e _

/-! ## The reference -/

section Reference

open Cert.DInBRefIdeal.Read

variable (x0 : FVec Ideal S4096x1024 .f32) (x1 : FVec Ideal S1024 .f32) (x2 : FVec Ideal S1024x2688 .f32)
  (x3 : FVec Ideal S4096x2688 .f32) (x4 : FVec Ideal S4096x1024 .f32)

theorem ref_ms (q : Fin 4096) : val_main_v6 (F := Ideal) x0 (ix2 q 0) = meanSq x0 q := DFfnIn.ref_ms x0 q

theorem ref_inv (q : Fin 4096) : val_main_v7 (F := Ideal) x0 (ix2 q 0) = Ideal.rsqrt (meanSq x0 q) := DFfnIn.ref_inv x0 q

theorem ref_xhat (q : Fin 4096) (k : Fin 1024) :
    val_main_v12 (F := Ideal) x0 (ix2 q k) = (x0 (ix2 q k) * Ideal.rsqrt (meanSq x0 q) : EReal) := DFfnIn.ref_xhat x0 q k

theorem ref_back (q : Fin 4096) (k : Fin 1024) :
    val_main_v17 (F := Ideal) x2 x3 (ix2 q k) = (NormIn.mk x0 x1 x2 x3 x4).back q k := by
  pointwise [val_main_v17]
  rfl

theorem ref_t (q : Fin 4096) (k : Fin 1024) :
    val_main_v22 (F := Ideal) x1 x2 x3 (ix2 q k) = (NormIn.mk x0 x1 x2 x3 x4).tRow q k := by
  rw [NormIn.tRow, ← ref_back]
  pointwise [val_main_v22, val_main_v21, val_main_v13]

theorem ref_slope (q : Fin 4096) (k : Fin 1024) :
    val_main_v33 (F := Ideal) x0 x1 x2 x3 (ix2 q k)
      = slope ((NormIn.mk x0 x1 x2 x3 x4).hRow q) ((NormIn.mk x0 x1 x2 x3 x4).tRow q) (meanSq x0 q) := by
  unfold slope
  rw [← ref_inv, ← ref_ms]
  simp only [← ref_t x0 x1 x2 x3 x4]
  pointwise [val_main_v33, val_main_v32, val_main_v31, val_main_v30, val_main_v29, val_main_v26, val_main_v25, val_main_v24,
    val_main_v10, val_main_v9, val_main_v8, val_main_cst_2, val_main_cst_5, val_main_cst_6, val_main_cst_7]
  exact Fin.sum_univ_one _

theorem ref_rows : val_main_v38 (F := Ideal) x0 x1 x2 x3 x4 = (NormIn.mk x0 x1 x2 x3 x4).dRows := by
  have e : ∀ (q : Fin 4096) (k : Fin 1024), val_main_v38 (F := Ideal) x0 x1 x2 x3 x4 (ix2 q k)
      = (NormIn.mk x0 x1 x2 x3 x4).dRows (ix2 q k) := by
    intro q k
    have h : val_main_v38 (F := Ideal) x0 x1 x2 x3 x4 (ix2 q k)
        = (x4 (ix2 q k) + (val_main_v22 (F := Ideal) x1 x2 x3 (ix2 q k) * val_main_v7 (F := Ideal) x0 (ix2 q 0)
          + x0 (ix2 q k) * val_main_v33 (F := Ideal) x0 x1 x2 x3 (ix2 q k)
          + val_main_v33 (F := Ideal) x0 x1 x2 x3 (ix2 q k) * x0 (ix2 q k)) : EReal) := by
      pointwise [val_main_v38, val_main_v37, val_main_v36, val_main_v35, val_main_v34, val_main_v28, val_main_v27]
    rw [h, ref_slope x0 x1 x2 x3 x4, ref_t x0 x1 x2 x3 x4, ref_inv]
    rfl
  funext i
  rw [show i = ix2 (i 0) (i 1) by funext a; fin_cases a <;> rfl]
  exact e _ _

theorem ref_copy : val_main_v39 (F := Ideal) x0 x1 x2 x3 x4
    = (fun i => (NormIn.mk x0 x1 x2 x3 x4).dRows i : FVec Ideal S4096x1024 .bf16) := by
  rw [← ref_rows]
  rfl

theorem ref_weights : val_main_v40 (F := Ideal) x0 x2 x3 = (NormIn.mk x0 x1 x2 x3 x4).dWeights := by
  have e : ∀ (k : Fin 1024), val_main_v40 (F := Ideal) x0 x2 x3 (ix2 0 k)
      = (NormIn.mk x0 x1 x2 x3 x4).dWeights (ix2 0 k) := by
    intro k
    have h : val_main_v40 (F := Ideal) x0 x2 x3 (ix2 0 k)
        = (∑ q : Fin 4096, val_main_v12 (F := Ideal) x0 (ix2 q k) * val_main_v17 (F := Ideal) x2 x3 (ix2 q k) : EReal) := by
      pointwise [val_main_v40, val_main_v23, val_main_v20, val_main_v19, val_main_v18, val_main_cst_3, val_main_cst_4]
      exact Fin.sum_univ_one _
    rw [h]
    refine Finset.sum_congr rfl fun q _ => ?_
    rw [ref_xhat, ref_back x0 x1 x2 x3 x4, mul_comm]
    rfl
  funext i
  have ei : i = ix2 0 (i 1) := by
    funext a
    fin_cases a
    · exact Fin.ext (by have h : (i 0).val < 1 := (i 0).isLt; show (i 0).val = 0; omega)
    · rfl
  rw [ei]
  exact e _

end Reference

end Cert.Proof.DInB

end
-- ==== Proof.DWInB.lean ====
/- The gradient of the second input projection's weights: the normalised rows transposed times the cotangent of the product,
   summed over two tiles of 2048 rows. A grid point `t` works on the column block `t / 2` (896 columns of 2688) and the row
   tile `t % 2`. -/
module

public import proofs.«01_k».proof.Proof.Gen.DWInBIdeal.Value
public import proofs.«01_k».proof.Proof.Gen.DWInBRefIdeal.Read
public import proofs.«01_k».proof.Proof.DWGateUp
public import Idealize.ShloMosaic.Lib.Pipeline.ValueKit
public import Idealize.ShloMosaic.Lib.Pipeline.ReadBack
public import Idealize.ShloMosaic.Lib.StableHlo.RunRead
public import Idealize.ShloMosaic.Lib.Claim

@[expose] public section

set_option maxRecDepth 16384

noncomputable section

namespace Cert.Proof.DWInB

open Cert.DWInBIdeal Cert.DWInBIdeal.Gen Idealize.ShloMosaic Idealize.ShloMosaic.TcCoe Idealize.SL.Sem

/-- The gradient of the weights: row `b * 128 + r` of it at block `b`, row `r`. -/
def grad (h : FVec Ideal S4096x1024 .f32) (g : FVec Ideal S1024 .f32) (ct : FVec Ideal S4096x2688 .f32) :
    FVec Ideal S8x128x2688 .bf16 := fun i =>
  (∑ q : Fin 4096, normed h g q ⟨(i 0).val * 128 + (i 1).val, by
    have h0 : (i 0).val < 8 := (i 0).isLt
    have h1 : (i 1).val < 128 := (i 1).isLt
    omega⟩ * ct (ix2 q (i 2)) : EReal)

variable (m : (ℓ : Loc nD τ sig) → Buf (Elt Ideal) ℓ)

abbrev rows (c : Dev nD) : FVec Ideal S4096x1024 .f32 := m ((c : Thread nD τ).loc main_arg0)
abbrev weights (c : Dev nD) : FVec Ideal S1024 .f32 := m ((c : Thread nD τ).loc main_arg1)
abbrev ct (c : Dev nD) : FVec Ideal S4096x2688 .f32 := m ((c : Thread nD τ).loc main_arg3)
abbrev hn (c : Dev nD) (q : Fin 4096) (k : Fin 1024) : EReal := normed (rows m c) (weights m c) q k

theorem idx : ∀ t : Fin cfg0.N, win0_0.index t = ![t.val % 2, 0] ∧ win0_1.index t = ![t.val % 2, t.val / 2]
    ∧ win0_2.index t = ![0, 0, t.val / 2] :=
  (by decide +kernel : ∀ t : Fin grid0.N, _)

theorem lt6 (t : Fin cfg0.N) : t.val < 6 := lt_of_lt_of_eq t.isLt N_0

/-- The column that column `l` of point `t`'s blocks is. -/
def col (t : Fin cfg0.N) (l : Fin 896) : Fin 2688 := ⟨t.val / 2 * 896 + l.val, by have := lt6 t; omega⟩

/-- The row that row `p` of point `t`'s tiles is. -/
def row (t : Fin cfg0.N) (p : Fin 2048) : Fin 4096 := ⟨t.val % 2 * 2048 + p.val, by omega⟩

/-! ## The blocks -/

theorem entry_hn (c : Dev nD) (q : Fin 4096) (k : Fin 1024) :
    (V m c main_v13 : FVec Ideal S4096x1024 .bf16) (ix2 q k) = hn m c q k := by
  simp only [V, hostOps0]
  after_results_simp
  pointwise
  rfl

theorem entry_ct (c : Dev nD) (q : Fin 4096) (l : Fin 2688) :
    (V m c main_v14 : FVec Ideal S4096x2688 .bf16) (ix2 q l) = ct m c (ix2 q l) := by
  simp only [V, hostOps0]
  after_results_simp
  rfl

theorem blk_hn (c : Dev nD) (t : Fin cfg0.N) (p : Fin 2048) (k : Fin 1024) :
    (iblk m c 0 t : FVec Ideal S2048x1024 .bf16) (ix2 p k) = hn m c (row t p) k := by
  refine Eq.trans (b := (V m c main_v13 : FVec Ideal S4096x1024 .bf16) (ix2 (row t p) k)) ?_ (entry_hn m c (row t p) k)
  blk_ext [iblk, idx t, row]

theorem blk_ct (c : Dev nD) (t : Fin cfg0.N) (p : Fin 2048) (l : Fin 896) :
    (iblk m c 1 t : FVec Ideal S2048x896 .bf16) (ix2 p l) = ct m c (ix2 (row t p) (col t l)) := by
  refine Eq.trans (b := (V m c main_v14 : FVec Ideal S4096x2688 .bf16) (ix2 (row t p) (col t l))) ?_ (entry_ct m c _ _)
  blk_ext [iblk, idx t, row, col]

/-! ## The body's values -/

theorem pay1_at (k : Fin 1024) (l : Fin 896) : k0_pay1 (F := Ideal) (ix2 k l) = (0 : EReal) := by
  pointwise [k0_pay1]

theorem pay2_at (x : Vec Ideal S1024x896 .f32) (a : Vec Ideal S2048x1024 .bf16) (b : Vec Ideal S2048x896 .bf16)
    (k : Fin 1024) (l : Fin 896) :
    k0_pay2 x a b (ix2 k l) = (x (ix2 k l) + ∑ p : Fin 2048, a (ix2 p k) * b (ix2 p l) : EReal) := by
  pointwise [k0_pay2]

theorem pay3_at (x : Vec Ideal S1024x896 .f32) (s : Fin 8) (r : Fin 128) (l : Fin 896) :
    k0_pay3 x (ix3 s r l) = x (ix2 ⟨s.val * 128 + r.val, by omega⟩ l) := by
  pointwise [k0_pay3]

/-! ## The accumulator -/

/-- What point `t`'s tile adds to the gradient. -/
def part (c : Dev nD) (t : Fin cfg0.N) (i : Fin 1024 × Fin 896) : EReal :=
  ∑ p : Fin 2048, hn m c (row t p) i.1 * ct m c (ix2 (row t p) (col t i.2))

theorem part_eq (c : Dev nD) (t : Fin cfg0.N) (x : Vec Ideal S1024x896 .f32) (k : Fin 1024) (l : Fin 896) :
    k0_pay2 x (iblk m c 0 t) (iblk m c 1 t) (ix2 k l) = (x (ix2 k l) + part m c t (k, l) : EReal) := by
  refine (pay2_at x _ _ k l).trans (congrArg (_ + ·) (Finset.sum_congr rfl fun p _ => ?_))
  exact congrArg₂ (· * ·) (blk_hn m c t p k) (blk_ct m c t p l)

theorem acc_first (c : Dev nD) (t : Fin cfg0.N) (h : t.val % 2 = 0) (k : Fin 1024) (l : Fin 896) :
    (outsAt0 m c t.val t.isLt).2 (ix2 k l) = (0 + part m c t (k, l) : EReal) := by
  rw [outsAt0_A m c t h (by omega)]
  frame_out
  refine (part_eq m c t _ k l).trans (congrArg (· + _) ?_)
  exact pay1_at k l

theorem acc_next (c : Dev nD) (t : Fin cfg0.N) (h : ¬ t.val % 2 = 0) (k : Fin 1024) (l : Fin 896) :
    (outsAt0 m c t.val t.isLt).2 (ix2 k l)
      = ((outsAt0 m c (t.val - 1) (by omega)).2 (ix2 k l) + part m c t (k, l) : EReal) := by
  rw [outsAt0_B m c t h (by omega)]
  frame_out
  refine (part_eq m c t _ k l).trans (congrArg (· + _) ?_)
  simp only [read_unread_whole]

theorem acc_last (c : Dev nD) (t : Fin cfg0.N) (hr : t.val % 2 = 1) (k : Fin 1024) (l : Fin 896) :
    (outsAt0 m c t.val t.isLt).2 (ix2 k l) = ∑ q : Fin 4096, hn m c q k * ct m c (ix2 q (col t l)) := by
  have hsum := Pipeline.eq_sum_fin_of_reset_step_apply_of_flush (N := cfg0.N) (ι := Fin 1024 × Fin 896) (M := EReal)
    (fun n h i => (outsAt0 m c n h).2 (ix2 i.1 i.2)) 2 (fun _ => 0) (fun t i => part m c t i)
    (fun t h i => acc_first m c t h i.1 i.2) (fun t h i => acc_next m c t h i.1 i.2) t hr (k, l)
  refine hsum.trans ?_
  rw [zero_add]
  refine Eq.trans ?_ (sum_tiled 2 2048 rfl fun q => hn m c q k * ct m c (ix2 q (col t l)))
  refine Finset.sum_congr rfl fun s _ => Finset.sum_congr rfl fun p _ => ?_
  have hs := s.isLt
  have hc : col ⟨2 * (t.val / 2) + s.val, Pipeline.run_point_lt_of_flush t hr s⟩ l = col t l :=
    Fin.ext (by simp only [col]; omega)
  have hp : row ⟨2 * (t.val / 2) + s.val, Pipeline.run_point_lt_of_flush t hr s⟩ p = ⟨s.val * 2048 + p.val, by omega⟩ :=
    Fin.ext (by simp only [row]; omega)
  rw [hc, hp]

/-! ## The result -/

theorem out_last (c : Dev nD) (t : Fin cfg0.N) (h : t.val % 2 = 1) (s : Fin 8) (r : Fin 128) (l : Fin 896) :
    (outsAt0 m c t.val t.isLt).1 (ix3 s r l) = (outsAt0 m c t.val t.isLt).2 (ix2 ⟨s.val * 128 + r.val, by omega⟩ l) := by
  rw [outsAt0_B m c t (by omega) h]
  frame_out
  exact pay3_at _ s r l

theorem place (t : Fin cfg0.N) (s : Fin 8) (r : Fin 128) (l : Fin 896) :
    (win0_2.blk t).view.emb (ix3 s r l) = ix3 s r (col t l) := by
  blk_ext [idx t, col]

theorem final (c : Dev nD) : (dats m 0 c).arrAt 2 cfg0.N = grad (rows m c) (weights m c) (ct m c) := by
  refine (dats m 0 c).arrAt_eq_of_covers 2 _ (by decide +kernel) fun t hf y => ?_
  blk_simp
  rw [after0_2]
  have e : ∀ (s : Fin 8) (r : Fin 128) (l : Fin 896), (outsAt0 m c t.val t.isLt).1 (ix3 s r l)
      = grad (rows m c) (weights m c) (ct m c) ((win0_2.blk t).view.emb (ix3 s r l)) := by
    intro s r l
    have hr : t.val % 2 = 1 := (flush0_2 t).mp hf
    rw [place, out_last m c t hr, acc_last m c t hr]
    rfl
  have ey : y = ix3 (y 0) (y 1) (y 2) := by funext a; fin_cases a <;> rfl
  rw [ey]
  exact e _ _ _

/-! ## The reference -/

open Cert.DWInBRefIdeal.Read in
theorem ref_hn (h : FVec Ideal S4096x1024 .f32) (g : FVec Ideal S1024 .f32) (q : Fin 4096) (k : Fin 1024) :
    val_main_v12 (F := Ideal) h g (ix2 q k) = normed h g q k :=
  DWGateUp.ref_hn h g q k

open Cert.DWInBRefIdeal.Read in
theorem ref_eq (h : FVec Ideal S4096x1024 .f32) (g : FVec Ideal S1024 .f32) (ct : FVec Ideal S4096x2688 .f32) :
    val_main_v17 (F := Ideal) h g ct = grad h g ct := by
  funext i
  have h0 : (i 0).val < 8 := (i 0).isLt
  have h1 : (i 1).val < 128 := (i 1).isLt
  have h2 : (i 2).val < 2688 := (i 2).isLt
  rw [val_main_v17_apply, val_main_v16_apply, val_main_v15_apply, val_main_v14_apply]
  refine Finset.sum_congr rfl fun q _ => (mul_comm _ _).trans
    (congrArg₂ (· * ·) (Eq.trans (congrArg _ ?_) (ref_hn h g q ⟨(i 0).val * 128 + (i 1).val, by omega⟩)) (congrArg ct ?_))
  · funext a
    fin_cases a
    · rfl
    · exact Fin.ext (show (((i 0).val * 128 + (i 1).val) * 2688 + (i 2).val) / 2688 = (i 0).val * 128 + (i 1).val by omega)
  · funext a
    fin_cases a
    · rfl
    · exact Fin.ext (show (((i 0).val * 128 + (i 1).val) * 2688 + (i 2).val) % 2688 = (i 2).val by omega)

end Cert.Proof.DWInB

end
-- ==== Proof.InARun.lean ====
/- The first input projection: what one point of its grid does to the two results' buffers. -/
module

public import proofs.«01_k».proof.Proof.Gen.InAIdeal.Frame
public import proofs.«01_k».proof.Proof.Gen.InAIdeal.Skeleton
public import Idealize.ShloMosaic.Lib.Pipeline.ValueKit
public import Idealize.ShloMosaic.Lib.Pipeline.TableIdle
public import proofs.«01_k».proof.Proof.Stored

@[expose] public section

set_option maxRecDepth 16384

noncomputable section

namespace Cert.Proof.InA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.InAIdeal Cert.InAIdeal.Gen

variable {F : FTy → Type} [FloatOps F]

/-- The resources a run of the program is stated over. -/
abbrev Res (F : FTy → Type) [FloatOps F] := MT nD τ sig Unit (Elt F) ℕ (UR sig nD τ) ℕ

/-- At the first point of a band of rows the body stores the band's norm and the product of that norm. -/
theorem run_first (c : Dev nD) (i : grid0.Coords) (a2 : Memref sig .tc .vmem S1024x1024 .f32) (h2 : a2.IsWhole)
    (a3 : Memref sig .tc .vmem S1x1024 .f32) (h3 : a3.IsWhole) (a4 : Memref sig .tc .vmem S640x1024 .bf16) (h4 : a4.IsWhole)
    (a5 : Memref sig .tc .vmem S1024x640 .bf16) (h5 : a5.IsWhole) (a6 : Memref sig .tc .vmem S1024x1024 .bf16) (h6 : a6.IsWhole)
    (hc : k0_cond1 i = 1#1) (x0 : Vec F S1024x1024 .f32) (x1 : Vec F S1x1024 .f32) (x2 : Vec F S640x1024 .bf16)
    (E : Set ℕ) (K : PUnit → sProp (Res F)) :
    iprop(owns (c : Thread nD τ) a2 fullShare x0 ∗ owns (c : Thread nD τ) a3 fullShare x1 ∗ owns (c : Thread nD τ) a4 fullShare x2
        ∗ (∃ d, owns (c : Thread nD τ) a5 fullShare d) ∗ (∃ d, owns (c : Thread nD τ) a6 fullShare d)
        ∗ (iprop(owns (c : Thread nD τ) a2 fullShare x0 ∗ owns (c : Thread nD τ) a3 fullShare x1 ∗ owns (c : Thread nD τ) a4 fullShare x2
            ∗ owns (c : Thread nD τ) a5 fullShare (k0_pay2 (k0_pay1 x0 x1) x2) ∗ owns (c : Thread nD τ) a6 fullShare (k0_pay1 x0 x1)) -∗ K ⟨⟩))
      ⊢ wp frame (wpE (defs₀ (F := F)) Variants.none c none) E (cc0_in_proj_a i a2 h2 a3 h3 a4 h4 a5 h5 a6 h6) K := by
  simp only [cc0_in_proj_a_eq_skeleton]; unfold cc0_in_proj_a_skel
  unfold owns
  iintro ⟨⟨%f0, %e0, H0⟩, ⟨%f1, %e1, H1⟩, ⟨%f2, %e2, H2⟩, ⟨%d3, %f3, -, H3⟩, ⟨%d4, %f4, -, H4⟩, Hk⟩
  obtain rfl := h2.eq_unread e0; obtain rfl := h3.eq_unread e1; obtain rfl := h4.eq_unread e2
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    refine (read_stored _ _ _ _ (by decide)).trans ?_
    unfold run_first.sl.v3 run_first.sl.H4_1
    simp (disch := decide) only [View.readCov_unit_lit, View.readAt_eq_ld, View.ld_unit_lit, Memref.IsWhole.read_unread]
  iexists _; isplitr
  swap; · iexact H4
  ipureintro
  unfold run_first.sl.H4_1
  refine (read_stored _ _ _ _ (by decide)).trans ?_
  simp (disch := decide) only [View.readAt_eq_ld, View.ld_unit_lit, Memref.IsWhole.read_unread]

/-- At the other points it stores the product of the norm it finds, and leaves that norm as it is. -/
theorem run_later (c : Dev nD) (i : grid0.Coords) (a2 : Memref sig .tc .vmem S1024x1024 .f32) (h2 : a2.IsWhole)
    (a3 : Memref sig .tc .vmem S1x1024 .f32) (h3 : a3.IsWhole) (a4 : Memref sig .tc .vmem S640x1024 .bf16) (h4 : a4.IsWhole)
    (a5 : Memref sig .tc .vmem S1024x640 .bf16) (h5 : a5.IsWhole) (a6 : Memref sig .tc .vmem S1024x1024 .bf16) (h6 : a6.IsWhole)
    (hc : ¬k0_cond1 i = 1#1) (x0 : Vec F S1024x1024 .f32) (x1 : Vec F S1x1024 .f32) (x2 : Vec F S640x1024 .bf16)
    (x4 : Vec F S1024x1024 .bf16) (E : Set ℕ) (K : PUnit → sProp (Res F)) :
    iprop(owns (c : Thread nD τ) a2 fullShare x0 ∗ owns (c : Thread nD τ) a3 fullShare x1 ∗ owns (c : Thread nD τ) a4 fullShare x2
        ∗ (∃ d, owns (c : Thread nD τ) a5 fullShare d) ∗ owns (c : Thread nD τ) a6 fullShare x4
        ∗ (iprop(owns (c : Thread nD τ) a2 fullShare x0 ∗ owns (c : Thread nD τ) a3 fullShare x1 ∗ owns (c : Thread nD τ) a4 fullShare x2
            ∗ owns (c : Thread nD τ) a5 fullShare (k0_pay2 x4 x2) ∗ owns (c : Thread nD τ) a6 fullShare x4) -∗ K ⟨⟩))
      ⊢ wp frame (wpE (defs₀ (F := F)) Variants.none c none) E (cc0_in_proj_a i a2 h2 a3 h3 a4 h4 a5 h5 a6 h6) K := by
  simp only [cc0_in_proj_a_eq_skeleton]; unfold cc0_in_proj_a_skel
  unfold owns
  iintro ⟨⟨%f0, %e0, H0⟩, ⟨%f1, %e1, H1⟩, ⟨%f2, %e2, H2⟩, ⟨%d3, %f3, -, H3⟩, ⟨%f4, %e4, H4⟩, Hk⟩
  obtain rfl := h2.eq_unread e0; obtain rfl := h3.eq_unread e1; obtain rfl := h4.eq_unread e2; obtain rfl := h6.eq_unread e4
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    refine (read_stored _ _ _ _ (by decide)).trans ?_
    simp (disch := decide) only [View.readAt_eq_ld, View.ld_unit_lit, Memref.IsWhole.read_unread]
  iexists _; isplitr; · ipureintro; exact h6.read_unread _
  iexact H4

/-! ## The grid -/

/-- The body takes its first branch at the first of a band's two points. -/
theorem cond_iff : ∀ t : Fin cfg0.N, k0_cond1 (grid0.coords t) = 1#1 ↔ t.val % 2 = 0 :=
  (by decide +kernel : ∀ t : Fin grid0.N, k0_cond1 (grid0.coords t) = 1#1 ↔ t.val % 2 = 0)

/-- Only there does it store into the norm's buffer. -/
theorem idle_eq : ∀ t : Fin cfg0.N, cfg0.idle 4 (grid0.coords t) = decide (t.val % 2 ≠ 0) :=
  (by decide +kernel : ∀ t : Fin grid0.N, idle0 4 (grid0.coords t) = decide (t.val % 2 ≠ 0))

/-- The norm's buffer holds nothing of the band yet only before the band's first point. -/
theorem fresh_eq (t : Fin cfg0.N) : cfg0.fresh 4 t.val = decide (t.val % 2 = 0) :=
  Pipeline.Cfg.fresh_tab cfg0 4 (fun n => decide (n % 2 = 0)) rfl
    (by decide +kernel : ∀ t : Fin grid0.N, decide ((t.val + 1) % 2 = 0) = (win0_4.flush t || (idle0 4 (grid0.coords t) && decide (t.val % 2 = 0))))
    t.val (Nat.le_of_lt t.isLt)

theorem idx : ∀ t : Fin cfg0.N, win0_0.index t = ![t.val / 2, 0] ∧ win0_1.index t = ![0, 0] ∧ win0_2.index t = ![t.val % 2, 0]
    ∧ win0_3.index t = ![t.val / 2, t.val % 2] ∧ win0_4.index t = ![t.val / 2, 0] :=
  (by decide +kernel : ∀ t : Fin grid0.N, _)

variable (m : (ℓ : Loc nD τ sig) → Buf (Elt F) ℓ) (ρ : Dev nD → PrngReg)

/-- The norm of the rows a point works on, times the norm's weights. -/
def normed (c : Dev nD) (t : Fin cfg0.N) : Vec F S1024x1024 .bf16 := k0_pay1 (iblk m c 0 t) (iblk m c 1 t)

/-- Two points of one band have the same norm. -/
theorem normed_prev (c : Dev nD) (t : Fin cfg0.N) (h : t.val % 2 ≠ 0) :
    normed m c t = normed m c ⟨t.val - 1, Nat.lt_of_le_of_lt (Nat.sub_le _ _) t.isLt⟩ := by
  have e0 : (iblk m c 0 t : Vec F S1024x1024 .f32) = iblk m c 0 ⟨t.val - 1, Nat.lt_of_le_of_lt (Nat.sub_le _ _) t.isLt⟩ := by
    funext y
    blk_ext [iblk, idx t, idx ⟨t.val - 1, Nat.lt_of_le_of_lt (Nat.sub_le _ _) t.isLt⟩]
  have e1 : (iblk m c 1 t : Vec F S1x1024 .f32) = iblk m c 1 ⟨t.val - 1, Nat.lt_of_le_of_lt (Nat.sub_le _ _) t.isLt⟩ := by
    funext y
    blk_ext [iblk, idx t, idx ⟨t.val - 1, Nat.lt_of_le_of_lt (Nat.sub_le _ _) t.isLt⟩]
  unfold normed
  rw [e0, e1]

/-! ## The buffers at every point -/

/-- What the buffers hold after each point: the inputs their blocks, the results the product and the norm. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (normed m c t) (iblk m c 2 t)
    | ⟨4, _⟩ => normed m c t
  Φ _ := Pipeline.ΦA spec0 c
  q _ := fullShare
  owed _ := 0

theorem arr_eq (c : Dev nD) (w : Fin cfg0.W) : (dats m 0 c).A w = V m c (Pipeline.arrRef spec0 w) := by dsimp only [dats]
theorem after_rows (c : Dev nD) (t : Fin cfg0.N) : (dats m 0 c).after 0 t = iblk m c 0 t := by dsimp only [dats]
theorem after_scale (c : Dev nD) (t : Fin cfg0.N) : (dats m 0 c).after 1 t = iblk m c 1 t := by dsimp only [dats]
theorem after_weights (c : Dev nD) (t : Fin cfg0.N) : (dats m 0 c).after 2 t = iblk m c 2 t := by dsimp only [dats]
theorem after_product (c : Dev nD) (t : Fin cfg0.N) : (dats m 0 c).after 3 t = k0_pay2 (normed m c t) (iblk m c 2 t) := by dsimp only [dats]
theorem after_norm (c : Dev nD) (t : Fin cfg0.N) : (dats m 0 c).after 4 t = normed m c t := by dsimp only [dats]

/-- After a band's first point the norm's buffer is found holding the norm. -/
theorem before_norm (c : Dev nD) (t : Fin cfg0.N) (h : t.val % 2 ≠ 0) (d) : (dats m 0 c).before 4 t d = normed m c t := by
  rw [Dat.before_out_traj _ 4 rfl (fun _ _ => rfl) (fun s _ hi _ => ?_) t.val t rfl d,
    if_neg (by rw [fresh_eq]; simpa using h), after_norm, ← normed_prev m c t h]
  rw [after_norm, after_norm]
  refine normed_prev m c s fun hs => ?_
  rw [show cfg0.idle 4 (cfg0.grid.coords s) = decide (s.val % 2 ≠ 0) from idle_eq s] at hi
  exact of_decide_eq_true hi hs

theorem leaves_first (c : Dev nD) (t : Fin cfg0.N) (h : t.val % 2 = 0) :
    (dats m 0 c).leavesExact 4 t = owns (c : Thread nD τ) (st0_4 t) fullShare (normed m c t) := by
  unfold Dat.leavesExact
  rw [show cfg0.idle 4 (cfg0.grid.coords t) = decide (t.val % 2 ≠ 0) from idle_eq t, decide_eq_false (not_not.mpr h)]
  dsimp only [dats]

theorem leaves_later (c : Dev nD) (t : Fin cfg0.N) (h : t.val % 2 ≠ 0) :
    owns (c : Thread nD τ) (st0_4 t) fullShare (normed m c t) ⊢ ((dats m 0 c).leavesExact 4 t : sProp (Res F)) := by
  unfold Dat.leavesExact
  rw [show cfg0.idle 4 (cfg0.grid.coords t) = decide (t.val % 2 ≠ 0) from idle_eq t, decide_eq_true h]
  cases hf : (cfg0.win 4).flush t
  · dsimp only
    iintro H
    iexists normed m c t
    rw [before_norm m c t h]
    iexact H
  · dsimp only [dats]
    exact .rfl

set_option maxHeartbeats 800000 in
/-- The body at any point: from what it finds to what it leaves. -/
theorem body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d)))
      ⊢ wp frame (wpE (defs₀ (F := F)) Variants.none c none) Set.univ (bodyAt0 t) fun _ =>
        iprop((dats m 0 c).Φ t.succ ∗ (dats m 0 c).owesAt () t.succ ∗ (dats m 0 c).leavesExact 0 t ∗ (dats m 0 c).leavesExact 1 t
          ∗ (dats m 0 c).leavesExact 2 t ∗ (dats m 0 c).leavesExact 3 t ∗ (dats m 0 c).leavesExact 4 t) := by
  simp only [before0_0_of m (dats m 0 c) (arr_eq m c 0) (after_rows m c), before0_1_of m (dats m 0 c) (arr_eq m c 1) (after_scale m c),
    before0_2_of m (dats m 0 c) (arr_eq m c 2) (after_weights m c)]
  rw [show (dats m 0 c).leavesExact 0 t = owns (c : Thread nD τ) (st0_0 t) fullShare (iblk m c 0 t) from by
      unfold Dat.leavesExact; rw [← after_rows m c t],
    show (dats m 0 c).leavesExact 1 t = owns (c : Thread nD τ) (st0_1 t) fullShare (iblk m c 1 t) from by
      unfold Dat.leavesExact; rw [← after_scale m c t],
    show (dats m 0 c).leavesExact 2 t = owns (c : Thread nD τ) (st0_2 t) fullShare (iblk m c 2 t) from by
      unfold Dat.leavesExact; rw [← after_weights m c t],
    show (dats m 0 c).leavesExact 3 t = owns (c : Thread nD τ) (st0_3 t) fullShare (k0_pay2 (normed m c t) (iblk m c 2 t)) from by
      unfold Dat.leavesExact; rw [← after_product m c t]]
  rw [show (dats m 0 c).Φ t.succ = (dats m 0 c).Φ t.castSucc from rfl,
    show (dats m 0 c).owesAt () t.succ = (dats m 0 c).owesAt () t.castSucc from rfl]
  unfold bodyAt0
  by_cases h : t.val % 2 = 0
  · rw [leaves_first m c t h]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((cond_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before_norm m c t h]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (fun e => h ((cond_iff t).mp e)) (iblk m c 0 t) (iblk m c 1 t) (iblk m c 2 t)
      (normed m c t) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_later m c t h)
    iexact H4

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body m c t) rfl .rfl fun _ => .rfl

/-! ## The run -/

set_option backward.isDefEq.respectTransparency.types false in
/-- Every run ends, with the arrays as the points leave them and every semaphore at zero. -/
theorem run_arrays : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := arr_eq m) (hΦ := fun _ _ => rfl)

/-- The arguments end as they began, and the two results hold what the points write. -/
theorem run : θ_run defs (onTc (τ := τ) (main (F := F))) ⟨m, fun _ => 0, ρ⟩ (fun r => (∀ c : Dev nD,
      r.2.mem ((c.tc : Thread nD τ).loc main_v3_0) = (dats m 0 c).arrAt 3 cfg0.N
      ∧ r.2.mem ((c.tc : Thread nD τ).loc main_v3_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1.1 c).1 3, (h.1.1 c).1 4, h.2 c⟩, h.1.2⟩)
    (θ_run_and (run_arrays m ρ) (frame_of m ρ (dats m) (arr_eq m) ((θ_run defs _ _).mono (fun _ h => h.1) (run_arrays m ρ))))

end Cert.Proof.InA

end
-- ==== Proof.NormOut.lean ====
/- An input projection's two results at the reals: the product of the normed rows and the weights, and the normed rows. -/
module

public import proofs.«01_k».proof.Proof.Norm

@[expose] public section

noncomputable section

namespace Cert.Proof

open Idealize.ShloMosaic

/-- The three arguments: the rows, the norm's weights, the product's weights. -/
structure NormOut (n : ℕ) where
  h : FVec Ideal ⟨2, ![4096, 1024]⟩ .f32
  g : FVec Ideal ⟨1, ![1024]⟩ .f32
  w : FVec Ideal ⟨2, ![1024, n]⟩ .f32

namespace NormOut

variable {n : ℕ} (a : NormOut n)

/-- The product at row `q` and column `l`. -/
def up (q : Fin 4096) (l : Fin n) : EReal := ∑ k : Fin 1024, normed a.h a.g q k * a.w (ix2 k l)

/-- The first result: the product, at either float type the calls store it in. -/
def product (e : FTy) : FVec Ideal ⟨2, ![4096, n]⟩ e := fun i => (a.up (i 0) (i 1) : EReal)

/-- The second result: the normed rows. -/
def norm : FVec Ideal ⟨2, ![4096, 1024]⟩ .bf16 := fun i => (normed a.h a.g (i 0) (i 1) : EReal)

end NormOut

end Cert.Proof

end
-- ==== Proof.InA.lean ====
/- The first input projection: the rows' norm, and its product with the weights. A grid point `t` works on the row tile `t / 2`
   (1024 rows) and the column block `t % 2` (640 of the product's 1280 columns). -/
module

public import proofs.«01_k».proof.Proof.InARun
public import proofs.«01_k».proof.Proof.Gen.InARefIdeal.Read
public import proofs.«01_k».proof.Proof.NormOut
public import proofs.«01_k».proof.Proof.DWGateUp
public import Idealize.ShloMosaic.Lib.Pipeline.ReadBack
public import Idealize.ShloMosaic.Lib.StableHlo.RunRead
public import Idealize.ShloMosaic.Lib.Claim

@[expose] public section

set_option maxRecDepth 16384

noncomputable section

namespace Cert.Proof.InA

open Cert.InAIdeal Cert.InAIdeal.Gen Idealize.ShloMosaic Idealize.ShloMosaic.TcCoe Idealize.SL.Sem

variable (m : (ℓ : Loc nD τ sig) → Buf (Elt Ideal) ℓ)

/-- The arguments as the kernel finds them on core `c`. -/
def args (c : Dev nD) : NormOut 1280 where
  h := m ((c : Thread nD τ).loc main_arg0)
  g := m ((c : Thread nD τ).loc main_arg1)
  w := m ((c : Thread nD τ).loc main_arg2)

theorem lt8 (t : Fin cfg0.N) : t.val < 8 := lt_of_lt_of_eq t.isLt N_0

/-- The row that row `p` of point `t`'s tile is. -/
def row (t : Fin cfg0.N) (p : Fin 1024) : Fin 4096 := ⟨t.val / 2 * 1024 + p.val, by have := lt8 t; omega⟩

/-- The column that column `l` of point `t`'s block is. -/
def col (t : Fin cfg0.N) (l : Fin 640) : Fin 1280 := ⟨t.val % 2 * 640 + l.val, by omega⟩

/-! ## The operands the host prepares -/

theorem entry_g (c : Dev nD) (k : Fin 1024) :
    (V m c main_v0 : FVec Ideal S1x1024 .f32) (ix2 0 k) = (args m c).g (ix1 k) := by
  simp only [V, hostOps0]
  after_results_simp
  after_results_loop
  pointwise
  rfl

theorem entry_w (c : Dev nD) (l : Fin 1280) (k : Fin 1024) :
    (V m c main_v2 : FVec Ideal S1280x1024 .bf16) (ix2 l k) = (args m c).w (ix2 k l) := by
  simp only [V, hostOps0]
  after_results_simp
  after_results_loop
  pointwise
  rfl

theorem entry_h (c : Dev nD) (q : Fin 4096) (k : Fin 1024) :
    (V m c main_arg0 : FVec Ideal S4096x1024 .f32) (ix2 q k) = (args m c).h (ix2 q k) := by
  simp only [V, hostOps0]
  after_results_simp
  rfl

/-! ## The blocks -/

theorem blk_h (c : Dev nD) (t : Fin cfg0.N) (p : Fin 1024) (k : Fin 1024) :
    (iblk m c 0 t : FVec Ideal S1024x1024 .f32) (ix2 p k) = (args m c).h (ix2 (row t p) k) := by
  refine Eq.trans (b := (V m c main_arg0 : FVec Ideal S4096x1024 .f32) (ix2 (row t p) k)) ?_ (entry_h m c (row t p) k)
  blk_ext [iblk, idx t, row]

theorem blk_g (c : Dev nD) (t : Fin cfg0.N) (k : Fin 1024) :
    (iblk m c 1 t : FVec Ideal S1x1024 .f32) (ix2 0 k) = (args m c).g (ix1 k) := by
  refine Eq.trans (b := (V m c main_v0 : FVec Ideal S1x1024 .f32) (ix2 0 k)) ?_ (entry_g m c k)
  blk_ext [iblk, idx t]

theorem blk_w (c : Dev nD) (t : Fin cfg0.N) (l : Fin 640) (k : Fin 1024) :
    (iblk m c 2 t : FVec Ideal S640x1024 .bf16) (ix2 l k) = (args m c).w (ix2 k (col t l)) := by
  refine Eq.trans (b := (V m c main_v2 : FVec Ideal S1280x1024 .bf16) (ix2 (col t l) k)) ?_ (entry_w m c _ k)
  blk_ext [iblk, idx t, col]

/-! ## The body's values -/

theorem pay1_at (h : Vec Ideal S1024x1024 .f32) (g : Vec Ideal S1x1024 .f32) (p k : Fin 1024) :
    k0_pay1 h g (ix2 p k) = (h (ix2 p k) * Ideal.rsqrt (Ideal.div (∑ x : Fin 1024, h (ix2 p x) * h (ix2 p x))
      (Ideal.ofBits FTy.f32 1149239296#32) + Ideal.ofBits FTy.f32 897988541#32) * g (ix2 0 k) : EReal) := by
  pointwise [k0_pay1]

theorem pay2_at (a : Vec Ideal S1024x1024 .bf16) (b : Vec Ideal S640x1024 .bf16) (p : Fin 1024) (l : Fin 640) :
    k0_pay2 a b (ix2 p l) = (∑ k : Fin 1024, a (ix2 p k) * b (ix2 l k) : EReal) := by
  pointwise [k0_pay2]

theorem norm_at (c : Dev nD) (t : Fin cfg0.N) (p k : Fin 1024) :
    normed m c t (ix2 p k) = (args m c).norm (ix2 (row t p) k) := by
  refine (pay1_at _ _ p k).trans ?_
  simp only [blk_h, blk_g]
  rfl

theorem product_at (c : Dev nD) (t : Fin cfg0.N) (p : Fin 1024) (l : Fin 640) :
    k0_pay2 (normed m c t) (iblk m c 2 t) (ix2 p l) = (args m c).up (row t p) (col t l) := by
  refine (pay2_at _ _ p l).trans (Finset.sum_congr rfl fun k _ => ?_)
  refine congrArg₂ (· * ·) (norm_at m c t p k) (blk_w m c t l k)

/-! ## The results -/

theorem final_product (c : Dev nD) : (dats m 0 c).arrAt 3 cfg0.N = (args m c).product .bf16 := by
  refine (dats m 0 c).arrAt_eq_of_covers 3 _ (by decide +kernel) fun t hf y => ?_
  blk_simp
  rw [after_product]
  have e : ∀ (p : Fin 1024) (l : Fin 640), k0_pay2 (normed m c t) (iblk m c 2 t) (ix2 p l)
      = (args m c).product .bf16 ((win0_3.blk t).view.emb (ix2 p l)) := by
    intro p l
    have ht := lt8 t
    refine (product_at m c t p l).trans ?_
    refine Eq.trans (b := (args m c).product .bf16 (ix2 (row t p) (col t l))) rfl (congrArg _ ?_)
    blk_ext [idx t, row, col]
  have ey : y = ix2 (y 0) (y 1) := by funext a; fin_cases a <;> rfl
  rw [ey]
  exact e _ _

theorem final_norm (c : Dev nD) : (dats m 0 c).arrAt 4 cfg0.N = (args m c).norm := by
  refine (dats m 0 c).arrAt_eq_of_covers 4 _ (by decide +kernel) fun t hf y => ?_
  blk_simp
  rw [after_norm]
  have e : ∀ (p k : Fin 1024), normed m c t (ix2 p k) = (args m c).norm ((win0_4.blk t).view.emb (ix2 p k)) := by
    intro p k
    have ht := lt8 t
    refine (norm_at m c t p k).trans (congrArg _ ?_)
    blk_ext [idx t, row]
  have ey : y = ix2 (y 0) (y 1) := by funext a; fin_cases a <;> rfl
  rw [ey]
  exact e _ _

/-! ## The reference -/

section Reference

open Cert.InARefIdeal.Read

variable (x0 : FVec Ideal S4096x1024 .f32) (x1 : FVec Ideal S1024 .f32) (x2 : FVec Ideal S1024x1280 .f32)

theorem ref_norm_at (q : Fin 4096) (k : Fin 1024) :
    val_main_v12 (F := Ideal) x0 x1 (ix2 q k) = Cert.Proof.normed x0 x1 q k := DWGateUp.ref_hn x0 x1 q k

theorem ref_product : val_main_v14 (F := Ideal) x0 x1 x2 = (NormOut.mk x0 x1 x2).product .bf16 := by
  have e : ∀ (q : Fin 4096) (l : Fin 1280), val_main_v14 (F := Ideal) x0 x1 x2 (ix2 q l) = (NormOut.mk x0 x1 x2).up q l := by
    intro q l
    unfold NormOut.up
    simp only [← ref_norm_at]
    pointwise [val_main_v14, val_main_v13]
  funext i
  rw [show i = ix2 (i 0) (i 1) by funext a; fin_cases a <;> rfl]
  exact e _ _

theorem ref_norm : val_main_v15 (F := Ideal) x0 x1 = (NormOut.mk x0 x1 x2).norm := by
  have e : ∀ (q : Fin 4096) (k : Fin 1024), val_main_v15 (F := Ideal) x0 x1 (ix2 q k) = (NormOut.mk x0 x1 x2).norm (ix2 q k) :=
    fun q k => ref_norm_at x0 x1 q k
  funext i
  rw [show i = ix2 (i 0) (i 1) by funext a; fin_cases a <;> rfl]
  exact e _ _

end Reference

end Cert.Proof.InA

end
-- ==== Proof.InBRun.lean ====
/- The second input projection: what one point of its grid does to the two results' buffers. -/
module

public import proofs.«01_k».proof.Proof.Gen.InBIdeal.Frame
public import proofs.«01_k».proof.Proof.Gen.InBIdeal.Skeleton
public import Idealize.ShloMosaic.Lib.Pipeline.ValueKit
public import Idealize.ShloMosaic.Lib.Pipeline.TableIdle
public import proofs.«01_k».proof.Proof.Stored

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.InBIdeal Cert.InBIdeal.Gen

variable {F : FTy → Type} [FloatOps F]

/-- The resources a run of the program is stated over. -/
abbrev Res (F : FTy → Type) [FloatOps F] := MT nD τ sig Unit (Elt F) ℕ (UR sig nD τ) ℕ

/-- At the first point of a band of rows the body stores the band's norm and the product of that norm. -/
theorem run_first (c : Dev nD) (i : grid0.Coords) (a2 : Memref sig .tc .vmem S1024x1024 .f32) (h2 : a2.IsWhole)
    (a3 : Memref sig .tc .vmem S1x1024 .f32) (h3 : a3.IsWhole) (a4 : Memref sig .tc .vmem S8x1x128x896 .bf16) (h4 : a4.IsWhole)
    (a5 : Memref sig .tc .vmem S1024x896 .f32) (h5 : a5.IsWhole) (a6 : Memref sig .tc .vmem S1024x1024 .bf16) (h6 : a6.IsWhole)
    (hc : k0_cond1 i = 1#1) (x0 : Vec F S1024x1024 .f32) (x1 : Vec F S1x1024 .f32) (x2 : Vec F S8x1x128x896 .bf16)
    (E : Set ℕ) (K : PUnit → sProp (Res F)) :
    iprop(owns (c : Thread nD τ) a2 fullShare x0 ∗ owns (c : Thread nD τ) a3 fullShare x1 ∗ owns (c : Thread nD τ) a4 fullShare x2
        ∗ (∃ d, owns (c : Thread nD τ) a5 fullShare d) ∗ (∃ d, owns (c : Thread nD τ) a6 fullShare d)
        ∗ (iprop(owns (c : Thread nD τ) a2 fullShare x0 ∗ owns (c : Thread nD τ) a3 fullShare x1 ∗ owns (c : Thread nD τ) a4 fullShare x2
            ∗ owns (c : Thread nD τ) a5 fullShare (k0_pay2 (k0_pay1 x0 x1) x2) ∗ owns (c : Thread nD τ) a6 fullShare (k0_pay1 x0 x1)) -∗ K ⟨⟩))
      ⊢ wp frame (wpE (defs₀ (F := F)) Variants.none c none) E (cc0_in_proj_b i a2 h2 a3 h3 a4 h4 a5 h5 a6 h6) K := by
  simp only [cc0_in_proj_b_eq_skeleton]; unfold cc0_in_proj_b_skel
  unfold owns
  iintro ⟨⟨%f0, %e0, H0⟩, ⟨%f1, %e1, H1⟩, ⟨%f2, %e2, H2⟩, ⟨%d3, %f3, -, H3⟩, ⟨%d4, %f4, -, H4⟩, Hk⟩
  obtain rfl := h2.eq_unread e0; obtain rfl := h3.eq_unread e1; obtain rfl := h4.eq_unread e2
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    refine (read_stored _ _ _ _ (by decide)).trans ?_
    unfold run_first.sl.v3 run_first.sl.H4_1
    simp (disch := decide) only [View.readCov_unit_lit, View.readAt_eq_ld, View.ld_unit_lit, Memref.IsWhole.read_unread]
  iexists _; isplitr
  swap; · iexact H4
  ipureintro
  unfold run_first.sl.H4_1
  refine (read_stored _ _ _ _ (by decide)).trans ?_
  simp (disch := decide) only [View.readAt_eq_ld, View.ld_unit_lit, Memref.IsWhole.read_unread]

/-- At the other points it stores the product of the norm it finds, and leaves that norm as it is. -/
theorem run_later (c : Dev nD) (i : grid0.Coords) (a2 : Memref sig .tc .vmem S1024x1024 .f32) (h2 : a2.IsWhole)
    (a3 : Memref sig .tc .vmem S1x1024 .f32) (h3 : a3.IsWhole) (a4 : Memref sig .tc .vmem S8x1x128x896 .bf16) (h4 : a4.IsWhole)
    (a5 : Memref sig .tc .vmem S1024x896 .f32) (h5 : a5.IsWhole) (a6 : Memref sig .tc .vmem S1024x1024 .bf16) (h6 : a6.IsWhole)
    (hc : ¬k0_cond1 i = 1#1) (x0 : Vec F S1024x1024 .f32) (x1 : Vec F S1x1024 .f32) (x2 : Vec F S8x1x128x896 .bf16)
    (x4 : Vec F S1024x1024 .bf16) (E : Set ℕ) (K : PUnit → sProp (Res F)) :
    iprop(owns (c : Thread nD τ) a2 fullShare x0 ∗ owns (c : Thread nD τ) a3 fullShare x1 ∗ owns (c : Thread nD τ) a4 fullShare x2
        ∗ (∃ d, owns (c : Thread nD τ) a5 fullShare d) ∗ owns (c : Thread nD τ) a6 fullShare x4
        ∗ (iprop(owns (c : Thread nD τ) a2 fullShare x0 ∗ owns (c : Thread nD τ) a3 fullShare x1 ∗ owns (c : Thread nD τ) a4 fullShare x2
            ∗ owns (c : Thread nD τ) a5 fullShare (k0_pay2 x4 x2) ∗ owns (c : Thread nD τ) a6 fullShare x4) -∗ K ⟨⟩))
      ⊢ wp frame (wpE (defs₀ (F := F)) Variants.none c none) E (cc0_in_proj_b i a2 h2 a3 h3 a4 h4 a5 h5 a6 h6) K := by
  simp only [cc0_in_proj_b_eq_skeleton]; unfold cc0_in_proj_b_skel
  unfold owns
  iintro ⟨⟨%f0, %e0, H0⟩, ⟨%f1, %e1, H1⟩, ⟨%f2, %e2, H2⟩, ⟨%d3, %f3, -, H3⟩, ⟨%f4, %e4, H4⟩, Hk⟩
  obtain rfl := h2.eq_unread e0; obtain rfl := h3.eq_unread e1; obtain rfl := h4.eq_unread e2; obtain rfl := h6.eq_unread e4
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr
    swap; · iexact H3
    ipureintro
    refine (read_stored _ _ _ _ (by decide)).trans ?_
    simp (disch := decide) only [View.readAt_eq_ld, View.ld_unit_lit, Memref.IsWhole.read_unread]
  iexists _; isplitr; · ipureintro; exact h6.read_unread _
  iexact H4

/-! ## The grid -/

/-- The body takes its first branch at the first of a band's three points. -/
theorem cond_iff : ∀ t : Fin cfg0.N, k0_cond1 (grid0.coords t) = 1#1 ↔ t.val % 3 = 0 :=
  (by decide +kernel : ∀ t : Fin grid0.N, k0_cond1 (grid0.coords t) = 1#1 ↔ t.val % 3 = 0)

/-- Only there does it store into the norm's buffer. -/
theorem idle_eq : ∀ t : Fin cfg0.N, cfg0.idle 4 (grid0.coords t) = decide (t.val % 3 ≠ 0) :=
  (by decide +kernel : ∀ t : Fin grid0.N, idle0 4 (grid0.coords t) = decide (t.val % 3 ≠ 0))

/-- The norm's buffer holds nothing of the band yet only before the band's first point. -/
theorem fresh_eq (t : Fin cfg0.N) : cfg0.fresh 4 t.val = decide (t.val % 3 = 0) :=
  Pipeline.Cfg.fresh_tab cfg0 4 (fun n => decide (n % 3 = 0)) rfl
    (by decide +kernel : ∀ t : Fin grid0.N, decide ((t.val + 1) % 3 = 0) = (win0_4.flush t || (idle0 4 (grid0.coords t) && decide (t.val % 3 = 0))))
    t.val (Nat.le_of_lt t.isLt)

theorem idx : ∀ t : Fin cfg0.N, win0_0.index t = ![t.val / 3, 0] ∧ win0_1.index t = ![0, 0] ∧ win0_2.index t = ![0, 0, 0, t.val % 3]
    ∧ win0_3.index t = ![t.val / 3, t.val % 3] ∧ win0_4.index t = ![t.val / 3, 0] :=
  (by decide +kernel : ∀ t : Fin grid0.N, _)

variable (m : (ℓ : Loc nD τ sig) → Buf (Elt F) ℓ) (ρ : Dev nD → PrngReg)

/-- The norm of the rows a point works on, times the norm's weights. -/
def normed (c : Dev nD) (t : Fin cfg0.N) : Vec F S1024x1024 .bf16 := k0_pay1 (iblk m c 0 t) (iblk m c 1 t)

/-- Two points of one band have the same norm. -/
theorem normed_prev (c : Dev nD) (t : Fin cfg0.N) (h : t.val % 3 ≠ 0) :
    normed m c t = normed m c ⟨t.val - 1, Nat.lt_of_le_of_lt (Nat.sub_le _ _) t.isLt⟩ := by
  have e0 : (iblk m c 0 t : Vec F S1024x1024 .f32) = iblk m c 0 ⟨t.val - 1, Nat.lt_of_le_of_lt (Nat.sub_le _ _) t.isLt⟩ := by
    funext y
    blk_ext [iblk, idx t, idx ⟨t.val - 1, Nat.lt_of_le_of_lt (Nat.sub_le _ _) t.isLt⟩]
  have e1 : (iblk m c 1 t : Vec F S1x1024 .f32) = iblk m c 1 ⟨t.val - 1, Nat.lt_of_le_of_lt (Nat.sub_le _ _) t.isLt⟩ := by
    funext y
    blk_ext [iblk, idx t, idx ⟨t.val - 1, Nat.lt_of_le_of_lt (Nat.sub_le _ _) t.isLt⟩]
  unfold normed
  rw [e0, e1]

/-! ## The buffers at every point -/

/-- What the buffers hold after each point: the inputs their blocks, the results the product and the norm. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (normed m c t) (iblk m c 2 t)
    | ⟨4, _⟩ => normed m c t
  Φ _ := Pipeline.ΦA spec0 c
  q _ := fullShare
  owed _ := 0

theorem arr_eq (c : Dev nD) (w : Fin cfg0.W) : (dats m 0 c).A w = V m c (Pipeline.arrRef spec0 w) := by dsimp only [dats]
theorem after_rows (c : Dev nD) (t : Fin cfg0.N) : (dats m 0 c).after 0 t = iblk m c 0 t := by dsimp only [dats]
theorem after_scale (c : Dev nD) (t : Fin cfg0.N) : (dats m 0 c).after 1 t = iblk m c 1 t := by dsimp only [dats]
theorem after_weights (c : Dev nD) (t : Fin cfg0.N) : (dats m 0 c).after 2 t = iblk m c 2 t := by dsimp only [dats]
theorem after_product (c : Dev nD) (t : Fin cfg0.N) : (dats m 0 c).after 3 t = k0_pay2 (normed m c t) (iblk m c 2 t) := by dsimp only [dats]
theorem after_norm (c : Dev nD) (t : Fin cfg0.N) : (dats m 0 c).after 4 t = normed m c t := by dsimp only [dats]

/-- After a band's first point the norm's buffer is found holding the norm. -/
theorem before_norm (c : Dev nD) (t : Fin cfg0.N) (h : t.val % 3 ≠ 0) (d) : (dats m 0 c).before 4 t d = normed m c t := by
  rw [Dat.before_out_traj _ 4 rfl (fun _ _ => rfl) (fun s _ hi _ => ?_) t.val t rfl d,
    if_neg (by rw [fresh_eq]; simpa using h), after_norm, ← normed_prev m c t h]
  rw [after_norm, after_norm]
  refine normed_prev m c s fun hs => ?_
  rw [show cfg0.idle 4 (cfg0.grid.coords s) = decide (s.val % 3 ≠ 0) from idle_eq s] at hi
  exact of_decide_eq_true hi hs

theorem leaves_first (c : Dev nD) (t : Fin cfg0.N) (h : t.val % 3 = 0) :
    (dats m 0 c).leavesExact 4 t = owns (c : Thread nD τ) (st0_4 t) fullShare (normed m c t) := by
  unfold Dat.leavesExact
  rw [show cfg0.idle 4 (cfg0.grid.coords t) = decide (t.val % 3 ≠ 0) from idle_eq t, decide_eq_false (not_not.mpr h)]
  dsimp only [dats]

theorem leaves_later (c : Dev nD) (t : Fin cfg0.N) (h : t.val % 3 ≠ 0) :
    owns (c : Thread nD τ) (st0_4 t) fullShare (normed m c t) ⊢ ((dats m 0 c).leavesExact 4 t : sProp (Res F)) := by
  unfold Dat.leavesExact
  rw [show cfg0.idle 4 (cfg0.grid.coords t) = decide (t.val % 3 ≠ 0) from idle_eq t, decide_eq_true h]
  cases hf : (cfg0.win 4).flush t
  · dsimp only
    iintro H
    iexists normed m c t
    rw [before_norm m c t h]
    iexact H
  · dsimp only [dats]
    exact .rfl

set_option maxHeartbeats 800000 in
/-- The body at any point: from what it finds to what it leaves. -/
theorem body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d)))
      ⊢ wp frame (wpE (defs₀ (F := F)) Variants.none c none) Set.univ (bodyAt0 t) fun _ =>
        iprop((dats m 0 c).Φ t.succ ∗ (dats m 0 c).owesAt () t.succ ∗ (dats m 0 c).leavesExact 0 t ∗ (dats m 0 c).leavesExact 1 t
          ∗ (dats m 0 c).leavesExact 2 t ∗ (dats m 0 c).leavesExact 3 t ∗ (dats m 0 c).leavesExact 4 t) := by
  simp only [before0_0_of m (dats m 0 c) (arr_eq m c 0) (after_rows m c), before0_1_of m (dats m 0 c) (arr_eq m c 1) (after_scale m c),
    before0_2_of m (dats m 0 c) (arr_eq m c 2) (after_weights m c)]
  rw [show (dats m 0 c).leavesExact 0 t = owns (c : Thread nD τ) (st0_0 t) fullShare (iblk m c 0 t) from by
      unfold Dat.leavesExact; rw [← after_rows m c t],
    show (dats m 0 c).leavesExact 1 t = owns (c : Thread nD τ) (st0_1 t) fullShare (iblk m c 1 t) from by
      unfold Dat.leavesExact; rw [← after_scale m c t],
    show (dats m 0 c).leavesExact 2 t = owns (c : Thread nD τ) (st0_2 t) fullShare (iblk m c 2 t) from by
      unfold Dat.leavesExact; rw [← after_weights m c t],
    show (dats m 0 c).leavesExact 3 t = owns (c : Thread nD τ) (st0_3 t) fullShare (k0_pay2 (normed m c t) (iblk m c 2 t)) from by
      unfold Dat.leavesExact; rw [← after_product m c t]]
  rw [show (dats m 0 c).Φ t.succ = (dats m 0 c).Φ t.castSucc from rfl,
    show (dats m 0 c).owesAt () t.succ = (dats m 0 c).owesAt () t.castSucc from rfl]
  unfold bodyAt0
  by_cases h : t.val % 3 = 0
  · rw [leaves_first m c t h]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((cond_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before_norm m c t h]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (fun e => h ((cond_iff t).mp e)) (iblk m c 0 t) (iblk m c 1 t) (iblk m c 2 t)
      (normed m c t) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_later m c t h)
    iexact H4

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body m c t) rfl .rfl fun _ => .rfl

/-! ## The run -/

set_option backward.isDefEq.respectTransparency.types false in
/-- Every run ends, with the arrays as the points leave them and every semaphore at zero. -/
theorem run_arrays : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := arr_eq m) (hΦ := fun _ _ => rfl)

/-- The arguments end as they began, and the two results hold what the points write. -/
theorem run : θ_run defs (onTc (τ := τ) (main (F := F))) ⟨m, fun _ => 0, ρ⟩ (fun r => (∀ c : Dev nD,
      r.2.mem ((c.tc : Thread nD τ).loc main_v3_0) = (dats m 0 c).arrAt 3 cfg0.N
      ∧ r.2.mem ((c.tc : Thread nD τ).loc main_v3_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1.1 c).1 3, (h.1.1 c).1 4, h.2 c⟩, h.1.2⟩)
    (θ_run_and (run_arrays m ρ) (frame_of m ρ (dats m) (arr_eq m) ((θ_run defs _ _).mono (fun _ h => h.1) (run_arrays m ρ))))

end Cert.Proof.InB

end
-- ==== Proof.InB.lean ====
/- The second input projection: the rows' norm, and its product with the weights, which come split by rows into eight parts. A
   grid point `t` works on the row tile `t / 3` (1024 rows) and the column block `t % 3` (896 of the product's 2688 columns). -/
module

public import proofs.«01_k».proof.Proof.InBRun
public import proofs.«01_k».proof.Proof.Gen.InBRefIdeal.Read
public import proofs.«01_k».proof.Proof.NormOut
public import proofs.«01_k».proof.Proof.InA
public import proofs.«01_k».proof.Proof.DWGateUp
public import Idealize.ShloMosaic.Lib.Pipeline.ReadBack
public import Idealize.ShloMosaic.Lib.StableHlo.RunRead
public import Idealize.ShloMosaic.Lib.Claim

@[expose] public section

set_option maxRecDepth 16384

noncomputable section

namespace Cert.Proof.InB

open Cert.InBIdeal Cert.InBIdeal.Gen Idealize.ShloMosaic Idealize.ShloMosaic.TcCoe Idealize.SL.Sem

variable (m : (ℓ : Loc nD τ sig) → Buf (Elt Ideal) ℓ)

/-- The arguments as the kernel finds them on core `c`. -/
def args (c : Dev nD) : NormOut 2688 where
  h := m ((c : Thread nD τ).loc main_arg0)
  g := m ((c : Thread nD τ).loc main_arg1)
  w := m ((c : Thread nD τ).loc main_arg2)

theorem lt12 (t : Fin cfg0.N) : t.val < 12 := lt_of_lt_of_eq t.isLt N_0

/-- The row that row `p` of point `t`'s tile is. -/
def row (t : Fin cfg0.N) (p : Fin 1024) : Fin 4096 := ⟨t.val / 3 * 1024 + p.val, by have := lt12 t; omega⟩

/-- The column that column `l` of point `t`'s block is. -/
def col (t : Fin cfg0.N) (l : Fin 896) : Fin 2688 := ⟨t.val % 3 * 896 + l.val, by omega⟩

/-! ## The operands the host prepares -/

theorem entry_g (c : Dev nD) (k : Fin 1024) :
    (V m c main_v0 : FVec Ideal S1x1024 .f32) (ix2 0 k) = (args m c).g (ix1 k) := by
  simp only [V, hostOps0]
  after_results_simp
  after_results_loop
  pointwise
  rfl

theorem entry_w (c : Dev nD) (s : Fin 8) (r : Fin 128) (l : Fin 2688) :
    (V m c main_v2 : FVec Ideal S8x1x128x2688 .bf16) (ix4 s 0 r l) = (args m c).w (ix2 ⟨s.val * 128 + r.val, by omega⟩ l) := by
  simp only [V, hostOps0]
  after_results_simp
  after_results_loop
  pointwise
  rfl

theorem entry_h (c : Dev nD) (q : Fin 4096) (k : Fin 1024) :
    (V m c main_arg0 : FVec Ideal S4096x1024 .f32) (ix2 q k) = (args m c).h (ix2 q k) := by
  simp only [V, hostOps0]
  after_results_simp
  rfl

/-! ## The blocks -/

theorem blk_h (c : Dev nD) (t : Fin cfg0.N) (p : Fin 1024) (k : Fin 1024) :
    (iblk m c 0 t : FVec Ideal S1024x1024 .f32) (ix2 p k) = (args m c).h (ix2 (row t p) k) := by
  refine Eq.trans (b := (V m c main_arg0 : FVec Ideal S4096x1024 .f32) (ix2 (row t p) k)) ?_ (entry_h m c (row t p) k)
  blk_ext [iblk, idx t, row]

theorem blk_g (c : Dev nD) (t : Fin cfg0.N) (k : Fin 1024) :
    (iblk m c 1 t : FVec Ideal S1x1024 .f32) (ix2 0 k) = (args m c).g (ix1 k) := by
  refine Eq.trans (b := (V m c main_v0 : FVec Ideal S1x1024 .f32) (ix2 0 k)) ?_ (entry_g m c k)
  blk_ext [iblk, idx t]

theorem blk_w (c : Dev nD) (t : Fin cfg0.N) (s : Fin 8) (r : Fin 128) (l : Fin 896) :
    (iblk m c 2 t : FVec Ideal S8x1x128x896 .bf16) (ix4 s 0 r l)
      = (args m c).w (ix2 ⟨s.val * 128 + r.val, by omega⟩ (col t l)) := by
  refine Eq.trans (b := (V m c main_v2 : FVec Ideal S8x1x128x2688 .bf16) (ix4 s 0 r (col t l))) ?_ (entry_w m c s r _)
  blk_ext [iblk, idx t, col]

/-! ## The body's values -/

theorem pay2_at (a : Vec Ideal S1024x1024 .bf16) (b : Vec Ideal S8x1x128x896 .bf16) (p : Fin 1024) (l : Fin 896) :
    k0_pay2 a b (ix2 p l)
      = (∑ k : Fin 1024, a (ix2 p k) * b (ix4 ⟨k.val / 128, by omega⟩ 0 ⟨k.val % 128, by omega⟩ l) : EReal) := by
  pointwise [k0_pay2]

theorem norm_at (c : Dev nD) (t : Fin cfg0.N) (p k : Fin 1024) :
    normed m c t (ix2 p k) = (args m c).norm (ix2 (row t p) k) := by
  refine (InA.pay1_at _ _ p k).trans ?_
  simp only [blk_h, blk_g]
  rfl

theorem product_at (c : Dev nD) (t : Fin cfg0.N) (p : Fin 1024) (l : Fin 896) :
    k0_pay2 (normed m c t) (iblk m c 2 t) (ix2 p l) = (args m c).up (row t p) (col t l) := by
  refine (pay2_at _ _ p l).trans (Finset.sum_congr rfl fun k _ => ?_)
  refine congrArg₂ (· * ·) (norm_at m c t p k) ((blk_w m c t _ _ l).trans ?_)
  refine congrArg (args m c).w (congrArg (ix2 · (col t l)) (Fin.ext ?_))
  show k.val / 128 * 128 + k.val % 128 = k.val
  omega

/-! ## The results -/

theorem final_product (c : Dev nD) : (dats m 0 c).arrAt 3 cfg0.N = (args m c).product .f32 := by
  refine (dats m 0 c).arrAt_eq_of_covers 3 _ (by decide +kernel) fun t hf y => ?_
  blk_simp
  rw [after_product]
  have e : ∀ (p : Fin 1024) (l : Fin 896), k0_pay2 (normed m c t) (iblk m c 2 t) (ix2 p l)
      = (args m c).product .f32 ((win0_3.blk t).view.emb (ix2 p l)) := by
    intro p l
    have ht := lt12 t
    refine (product_at m c t p l).trans ?_
    refine Eq.trans (b := (args m c).product .f32 (ix2 (row t p) (col t l))) rfl (congrArg _ ?_)
    blk_ext [idx t, row, col]
  have ey : y = ix2 (y 0) (y 1) := by funext a; fin_cases a <;> rfl
  rw [ey]
  exact e _ _

theorem final_norm (c : Dev nD) : (dats m 0 c).arrAt 4 cfg0.N = (args m c).norm := by
  refine (dats m 0 c).arrAt_eq_of_covers 4 _ (by decide +kernel) fun t hf y => ?_
  blk_simp
  rw [after_norm]
  have e : ∀ (p k : Fin 1024), normed m c t (ix2 p k) = (args m c).norm ((win0_4.blk t).view.emb (ix2 p k)) := by
    intro p k
    have ht := lt12 t
    refine (norm_at m c t p k).trans (congrArg _ ?_)
    blk_ext [idx t, row]
  have ey : y = ix2 (y 0) (y 1) := by funext a; fin_cases a <;> rfl
  rw [ey]
  exact e _ _

/-! ## The reference -/

section Reference

open Cert.InBRefIdeal.Read

variable (x0 : FVec Ideal S4096x1024 .f32) (x1 : FVec Ideal S1024 .f32) (x2 : FVec Ideal S1024x2688 .f32)

theorem ref_norm_at (q : Fin 4096) (k : Fin 1024) :
    val_main_v12 (F := Ideal) x0 x1 (ix2 q k) = Cert.Proof.normed x0 x1 q k := DWGateUp.ref_hn x0 x1 q k

theorem ref_product : val_main_v13 (F := Ideal) x0 x1 x2 = (NormOut.mk x0 x1 x2).product .f32 := by
  have e : ∀ (q : Fin 4096) (l : Fin 2688), val_main_v13 (F := Ideal) x0 x1 x2 (ix2 q l) = (NormOut.mk x0 x1 x2).up q l := by
    intro q l
    unfold NormOut.up
    simp only [← ref_norm_at]
    pointwise [val_main_v13]
  funext i
  rw [show i = ix2 (i 0) (i 1) by funext a; fin_cases a <;> rfl]
  exact e _ _

theorem ref_norm : val_main_v14 (F := Ideal) x0 x1 = (NormOut.mk x0 x1 x2).norm := by
  have e : ∀ (q : Fin 4096) (k : Fin 1024), val_main_v14 (F := Ideal) x0 x1 (ix2 q k) = (NormOut.mk x0 x1 x2).norm (ix2 q k) :=
    fun q k => ref_norm_at x0 x1 q k
  funext i
  rw [show i = ix2 (i 0) (i 1) by funext a; fin_cases a <;> rfl]
  exact e _ _

end Reference

end Cert.Proof.InB

end
-- ==== Proof.GateUpBits.lean ====
/- The up projection at the machine's own floats: the program read there is, operation for operation, the one read at the
   reals, so the run proved for any floats is a run of it too. -/
module

public import proofs.«01_k».proof.Proof.GateUpRun
public import proofs.«01_k».proof.Proof.Gen.GateUp.Frame
public import proofs.«01_k».proof.Defs

@[expose] public section

set_option maxRecDepth 16384

noncomputable section

namespace Cert.Proof.GateUp

open Idealize.ShloMosaic Idealize.SL.Sem

attribute [local instance] Cert.GateUp.Gen.facts

/-- The two programs run the same body. -/
theorem body_same : @Cert.GateUpIdeal.defs₀ Bits _ _ = @Cert.GateUp.defs₀ Bits _ _ := by
  unfold Cert.GateUpIdeal.defs₀ Cert.GateUp.defs₀
  refine congrArg Defs.onTc ?_
  funext l a
  match l, a with
  | ⟨0, _⟩, _ => rfl

theorem defs_same : @Cert.GateUpIdeal.defs Bits _ _ = @Cert.GateUp.defs Bits _ _ := by
  unfold Cert.GateUpIdeal.defs Cert.GateUp.defs
  rw [body_same]
  rfl

/-- The run ends, the arguments as they began and every semaphore at zero. -/
theorem frame_bits : Cert.quiescent_GateUp (hGateUp := Cert.GateUp.Gen.facts) := fun m ρ _ => by
  have h := (θ_run Cert.GateUpIdeal.defs _ _).mono
    (fun r h => (⟨fun c => (h.1 c).2.2, h.2⟩ : (∀ c : Dev Cert.GateUpIdeal.nD, _) ∧ _)) (run (F := Bits) m ρ)
  exact Eq.mp (congrArg (fun d => θ_run d _ _ _) defs_same) h

end Cert.Proof.GateUp

end
-- ==== Proof.InABits.lean ====
/- The first input projection at the machine's own floats: the program read there is, operation for operation, the one read at the
   reals, so the run proved for any floats is a run of it too. -/
module

public import proofs.«01_k».proof.Proof.InARun
public import proofs.«01_k».proof.Proof.Gen.InA.Frame
public import proofs.«01_k».proof.Defs

@[expose] public section

set_option maxRecDepth 16384

noncomputable section

namespace Cert.Proof.InA

open Idealize.ShloMosaic Idealize.SL.Sem

attribute [local instance] Cert.InA.Gen.facts

/-- The two programs run the same body. -/
theorem body_same : @Cert.InAIdeal.defs₀ Bits _ _ = @Cert.InA.defs₀ Bits _ _ := by
  unfold Cert.InAIdeal.defs₀ Cert.InA.defs₀
  refine congrArg Defs.onTc ?_
  funext l a
  match l, a with
  | ⟨0, _⟩, _ => rfl

theorem defs_same : @Cert.InAIdeal.defs Bits _ _ = @Cert.InA.defs Bits _ _ := by
  unfold Cert.InAIdeal.defs Cert.InA.defs
  rw [body_same]
  rfl

/-- The run ends, the arguments as they began and every semaphore at zero. -/
theorem frame_bits : Cert.quiescent_InA (hInA := Cert.InA.Gen.facts) := fun m ρ _ => by
  have h := (θ_run Cert.InAIdeal.defs _ _).mono
    (fun r h => (⟨fun c => (h.1 c).2.2, h.2⟩ : (∀ c : Dev Cert.InAIdeal.nD, _) ∧ _)) (run (F := Bits) m ρ)
  exact Eq.mp (congrArg (fun d => θ_run d _ _ _) defs_same) h

end Cert.Proof.InA

end
-- ==== Proof.InBBits.lean ====
/- The second input projection at the machine's own floats: the program read there is, operation for operation, the one read at the
   reals, so the run proved for any floats is a run of it too. -/
module

public import proofs.«01_k».proof.Proof.InBRun
public import proofs.«01_k».proof.Proof.Gen.InB.Frame
public import proofs.«01_k».proof.Defs

@[expose] public section

set_option maxRecDepth 16384

noncomputable section

namespace Cert.Proof.InB

open Idealize.ShloMosaic Idealize.SL.Sem

attribute [local instance] Cert.InB.Gen.facts

/-- The two programs run the same body. -/
theorem body_same : @Cert.InBIdeal.defs₀ Bits _ _ = @Cert.InB.defs₀ Bits _ _ := by
  unfold Cert.InBIdeal.defs₀ Cert.InB.defs₀
  refine congrArg Defs.onTc ?_
  funext l a
  match l, a with
  | ⟨0, _⟩, _ => rfl

theorem defs_same : @Cert.InBIdeal.defs Bits _ _ = @Cert.InB.defs Bits _ _ := by
  unfold Cert.InBIdeal.defs Cert.InB.defs
  rw [body_same]
  rfl

/-- The run ends, the arguments as they began and every semaphore at zero. -/
theorem frame_bits : Cert.quiescent_InB (hInB := Cert.InB.Gen.facts) := fun m ρ _ => by
  have h := (θ_run Cert.InBIdeal.defs _ _).mono
    (fun r h => (⟨fun c => (h.1 c).2.2, h.2⟩ : (∀ c : Dev Cert.InBIdeal.nD, _) ∧ _)) (run (F := Bits) m ρ)
  exact Eq.mp (congrArg (fun d => θ_run d _ _ _) defs_same) h

end Cert.Proof.InB

end
-- ==== Proof.lean ====
/- The certificate's claims: each program terminates and leaves its arguments and its semaphores as they were, and each
   of the calls returns its reference's arrays over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GluDown
public import proofs.«01_k».proof.Proof.Gen.GluDown.Skeleton
public import proofs.«01_k».proof.Proof.Gen.GluDown.Launch
public import proofs.«01_k».proof.Proof.Gen.GluDown.Points
public import proofs.«01_k».proof.Proof.Gen.GluDown.Frame
public import proofs.«01_k».proof.Proof.Gen.GluDownIdeal
public import proofs.«01_k».proof.Proof.Gen.GluDownIdeal.Skeleton
public import proofs.«01_k».proof.Proof.Gen.GluDownIdeal.Launch
public import proofs.«01_k».proof.Proof.Gen.GluDownIdeal.Points
public import proofs.«01_k».proof.Proof.Gen.GluDownIdeal.Frame
public import proofs.«01_k».proof.Proof.Gen.GluDownRefIdeal
public import proofs.«01_k».proof.Proof.Gen.DWDown
public import proofs.«01_k».proof.Proof.Gen.DWDown.Skeleton
public import proofs.«01_k».proof.Proof.Gen.DWDown.Launch
public import proofs.«01_k».proof.Proof.Gen.DWDown.Points
public import proofs.«01_k».proof.Proof.Gen.DWDown.Frame
public import proofs.«01_k».proof.Proof.Gen.DWDownIdeal
public import proofs.«01_k».proof.Proof.Gen.DWDownIdeal.Skeleton
public import proofs.«01_k».proof.Proof.Gen.DWDownIdeal.Launch
public import proofs.«01_k».proof.Proof.Gen.DWDownIdeal.Points
public import proofs.«01_k».proof.Proof.Gen.DWDownIdeal.Frame
public import proofs.«01_k».proof.Proof.Gen.DWDownRefIdeal
public import proofs.«01_k».proof.Proof.Gen.DFfnIn
public import proofs.«01_k».proof.Proof.Gen.DFfnIn.Skeleton
public import proofs.«01_k».proof.Proof.Gen.DFfnIn.Launch
public import proofs.«01_k».proof.Proof.Gen.DFfnIn.Points
public import proofs.«01_k».proof.Proof.Gen.DFfnIn.Frame
public import proofs.«01_k».proof.Proof.Gen.DFfnInIdeal
public import proofs.«01_k».proof.Proof.Gen.DFfnInIdeal.Skeleton
public import proofs.«01_k».proof.Proof.Gen.DFfnInIdeal.Launch
public import proofs.«01_k».proof.Proof.Gen.DFfnInIdeal.Points
public import proofs.«01_k».proof.Proof.Gen.DFfnInIdeal.Frame
public import proofs.«01_k».proof.Proof.Gen.DFfnInRefIdeal
public import proofs.«01_k».proof.Proof.Gen.DWGateUp
public import proofs.«01_k».proof.Proof.Gen.DWGateUp.Skeleton
public import proofs.«01_k».proof.Proof.Gen.DWGateUp.Launch
public import proofs.«01_k».proof.Proof.Gen.DWGateUp.Points
public import proofs.«01_k».proof.Proof.Gen.DWGateUp.Frame
public import proofs.«01_k».proof.Proof.Gen.DWGateUpIdeal
public import proofs.«01_k».proof.Proof.Gen.DWGateUpIdeal.Skeleton
public import proofs.«01_k».proof.Proof.Gen.DWGateUpIdeal.Launch
public import proofs.«01_k».proof.Proof.Gen.DWGateUpIdeal.Points
public import proofs.«01_k».proof.Proof.Gen.DWGateUpIdeal.Frame
public import proofs.«01_k».proof.Proof.Gen.DWGateUpRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.DMix
public import proofs.«01_k».proof.Proof.Gen.DMix.Skeleton
public import proofs.«01_k».proof.Proof.Gen.DMix.Launch
public import proofs.«01_k».proof.Proof.Gen.DMix.Points
public import proofs.«01_k».proof.Proof.Gen.DMix.Frame
public import proofs.«01_k».proof.Proof.Gen.DMixIdeal
public import proofs.«01_k».proof.Proof.Gen.DMixIdeal.Skeleton
public import proofs.«01_k».proof.Proof.Gen.DMixIdeal.Launch
public import proofs.«01_k».proof.Proof.Gen.DMixIdeal.Points
public import proofs.«01_k».proof.Proof.Gen.DMixIdeal.Frame
public import proofs.«01_k».proof.Proof.Gen.DMixRefIdeal
public import proofs.«01_k».proof.Proof.Gen.DWOut
public import proofs.«01_k».proof.Proof.Gen.DWOut.Skeleton
public import proofs.«01_k».proof.Proof.Gen.DWOut.Launch
public import proofs.«01_k».proof.Proof.Gen.DWOut.Points
public import proofs.«01_k».proof.Proof.Gen.DWOut.Frame
public import proofs.«01_k».proof.Proof.Gen.DWOutIdeal
public import proofs.«01_k».proof.Proof.Gen.DWOutIdeal.Skeleton
public import proofs.«01_k».proof.Proof.Gen.DWOutIdeal.Launch
public import proofs.«01_k».proof.Proof.Gen.DWOutIdeal.Points
public import proofs.«01_k».proof.Proof.Gen.DWOutIdeal.Frame
public import proofs.«01_k».proof.Proof.Gen.DWOutRefIdeal
public import proofs.«01_k».proof.Proof.Gen.DInA
public import proofs.«01_k».proof.Proof.Gen.DInA.Skeleton
public import proofs.«01_k».proof.Proof.Gen.DInA.Launch
public import proofs.«01_k».proof.Proof.Gen.DInA.Points
public import proofs.«01_k».proof.Proof.Gen.DInA.Frame
public import proofs.«01_k».proof.Proof.Gen.DInAIdeal
public import proofs.«01_k».proof.Proof.Gen.DInAIdeal.Skeleton
public import proofs.«01_k».proof.Proof.Gen.DInAIdeal.Launch
public import proofs.«01_k».proof.Proof.Gen.DInAIdeal.Points
public import proofs.«01_k».proof.Proof.Gen.DInAIdeal.Frame
public import proofs.«01_k».proof.Proof.Gen.DInARefIdeal
public import proofs.«01_k».proof.Proof.Gen.DWInA
public import proofs.«01_k».proof.Proof.Gen.DWInA.Skeleton
public import proofs.«01_k».proof.Proof.Gen.DWInA.Launch
public import proofs.«01_k».proof.Proof.Gen.DWInA.Points
public import proofs.«01_k».proof.Proof.Gen.DWInA.Frame
public import proofs.«01_k».proof.Proof.Gen.DWInAIdeal
public import proofs.«01_k».proof.Proof.Gen.DWInAIdeal.Skeleton
public import proofs.«01_k».proof.Proof.Gen.DWInAIdeal.Launch
public import proofs.«01_k».proof.Proof.Gen.DWInAIdeal.Points
public import proofs.«01_k».proof.Proof.Gen.DWInAIdeal.Frame
public import proofs.«01_k».proof.Proof.Gen.DWInARefIdeal
public import proofs.«01_k».proof.Proof.Gen.DInB
public import proofs.«01_k».proof.Proof.Gen.DInB.Skeleton
public import proofs.«01_k».proof.Proof.Gen.DInB.Launch
public import proofs.«01_k».proof.Proof.Gen.DInB.Points
public import proofs.«01_k».proof.Proof.Gen.DInB.Frame
public import proofs.«01_k».proof.Proof.Gen.DInBIdeal
public import proofs.«01_k».proof.Proof.Gen.DInBIdeal.Skeleton
public import proofs.«01_k».proof.Proof.Gen.DInBIdeal.Launch
public import proofs.«01_k».proof.Proof.Gen.DInBIdeal.Points
public import proofs.«01_k».proof.Proof.Gen.DInBIdeal.Frame
public import proofs.«01_k».proof.Proof.Gen.DInBRefIdeal
public import proofs.«01_k».proof.Proof.Gen.DWInB
public import proofs.«01_k».proof.Proof.Gen.DWInB.Skeleton
public import proofs.«01_k».proof.Proof.Gen.DWInB.Launch
public import proofs.«01_k».proof.Proof.Gen.DWInB.Points
public import proofs.«01_k».proof.Proof.Gen.DWInB.Frame
public import proofs.«01_k».proof.Proof.Gen.DWInBIdeal
public import proofs.«01_k».proof.Proof.Gen.DWInBIdeal.Skeleton
public import proofs.«01_k».proof.Proof.Gen.DWInBIdeal.Launch
public import proofs.«01_k».proof.Proof.Gen.DWInBIdeal.Points
public import proofs.«01_k».proof.Proof.Gen.DWInBIdeal.Frame
public import proofs.«01_k».proof.Proof.Gen.DWInBRefIdeal
public import proofs.«01_k».proof.Proof.Gen.InA
public import proofs.«01_k».proof.Proof.Gen.InA.Skeleton
public import proofs.«01_k».proof.Proof.Gen.InA.Launch
public import proofs.«01_k».proof.Proof.Gen.InA.Points
public import proofs.«01_k».proof.Proof.Gen.InA.Frame
public import proofs.«01_k».proof.Proof.Gen.InAIdeal
public import proofs.«01_k».proof.Proof.Gen.InAIdeal.Skeleton
public import proofs.«01_k».proof.Proof.Gen.InAIdeal.Launch
public import proofs.«01_k».proof.Proof.Gen.InAIdeal.Points
public import proofs.«01_k».proof.Proof.Gen.InAIdeal.Frame
public import proofs.«01_k».proof.Proof.Gen.InARefIdeal
public import proofs.«01_k».proof.Proof.Gen.InB
public import proofs.«01_k».proof.Proof.Gen.InB.Skeleton
public import proofs.«01_k».proof.Proof.Gen.InB.Launch
public import proofs.«01_k».proof.Proof.Gen.InB.Points
public import proofs.«01_k».proof.Proof.Gen.InB.Frame
public import proofs.«01_k».proof.Proof.Gen.InBIdeal
public import proofs.«01_k».proof.Proof.Gen.InBIdeal.Skeleton
public import proofs.«01_k».proof.Proof.Gen.InBIdeal.Launch
public import proofs.«01_k».proof.Proof.Gen.InBIdeal.Points
public import proofs.«01_k».proof.Proof.Gen.InBIdeal.Frame
public import proofs.«01_k».proof.Proof.Gen.InBRefIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.GateUpRefIdeal.Run
public import proofs.«01_k».proof.Proof.Gen.GateUpRefIdeal.Read
public import proofs.«01_k».proof.Proof.Gen.GluDownIdeal.Value
public import proofs.«01_k».proof.Proof.Gen.GluDownRefIdeal.Run
public import proofs.«01_k».proof.Proof.Gen.GluDownRefIdeal.Read
public import proofs.«01_k».proof.Proof.Gen.DWDownIdeal.Value
public import proofs.«01_k».proof.Proof.Gen.DWDownRefIdeal.Run
public import proofs.«01_k».proof.Proof.Gen.DWDownRefIdeal.Read
public import proofs.«01_k».proof.Proof.Gen.DFfnInIdeal.Value
public import proofs.«01_k».proof.Proof.Gen.DFfnInRefIdeal.Run
public import proofs.«01_k».proof.Proof.Gen.DFfnInRefIdeal.Read
public import proofs.«01_k».proof.Proof.Gen.DWGateUpIdeal.Value
public import proofs.«01_k».proof.Proof.Gen.DWGateUpRefIdeal.Run
public import proofs.«01_k».proof.Proof.Gen.DWGateUpRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.DMixIdeal.Value
public import proofs.«01_k».proof.Proof.Gen.DMixRefIdeal.Run
public import proofs.«01_k».proof.Proof.Gen.DMixRefIdeal.Read
public import proofs.«01_k».proof.Proof.Gen.DWOutIdeal.Value
public import proofs.«01_k».proof.Proof.Gen.DWOutRefIdeal.Run
public import proofs.«01_k».proof.Proof.Gen.DWOutRefIdeal.Read
public import proofs.«01_k».proof.Proof.Gen.DInAIdeal.Value
public import proofs.«01_k».proof.Proof.Gen.DInARefIdeal.Run
public import proofs.«01_k».proof.Proof.Gen.DInARefIdeal.Read
public import proofs.«01_k».proof.Proof.Gen.DWInAIdeal.Value
public import proofs.«01_k».proof.Proof.Gen.DWInARefIdeal.Run
public import proofs.«01_k».proof.Proof.Gen.DWInARefIdeal.Read
public import proofs.«01_k».proof.Proof.Gen.DInBIdeal.Value
public import proofs.«01_k».proof.Proof.Gen.DInBRefIdeal.Run
public import proofs.«01_k».proof.Proof.Gen.DInBRefIdeal.Read
public import proofs.«01_k».proof.Proof.Gen.DWInBIdeal.Value
public import proofs.«01_k».proof.Proof.Gen.DWInBRefIdeal.Run
public import proofs.«01_k».proof.Proof.Gen.DWInBRefIdeal.Read
public import proofs.«01_k».proof.Proof.Gen.InARefIdeal.Run
public import proofs.«01_k».proof.Proof.Gen.InARefIdeal.Read
public import proofs.«01_k».proof.Proof.Gen.InBRefIdeal.Run
public import proofs.«01_k».proof.Proof.Gen.InBRefIdeal.Read
public import proofs.«01_k».proof.Proof.Equation
public import proofs.«01_k».proof.Proof.GateUp
public import proofs.«01_k».proof.Proof.GluDown
public import proofs.«01_k».proof.Proof.DWDown
public import proofs.«01_k».proof.Proof.DFfnIn
public import proofs.«01_k».proof.Proof.DWGateUp
public import proofs.«01_k».proof.Proof.OutProj
public import proofs.«01_k».proof.Proof.DMix
public import proofs.«01_k».proof.Proof.DWOut
public import proofs.«01_k».proof.Proof.DInA
public import proofs.«01_k».proof.Proof.DWInA
public import proofs.«01_k».proof.Proof.DInB
public import proofs.«01_k».proof.Proof.DWInB
public import proofs.«01_k».proof.Proof.InA
public import proofs.«01_k».proof.Proof.InB
public import proofs.«01_k».proof.Proof.GateUpBits
public import proofs.«01_k».proof.Proof.InABits
public import proofs.«01_k».proof.Proof.InBBits
public import Idealize.ShloMosaic.Adequacy
public import Idealize.ShloMosaic.Init

@[expose] public section

noncomputable section

namespace Cert.Proof

open Idealize.ShloMosaic Idealize.SL.Sem

/-- The reference ends with its arguments unchanged; it declares no semaphore, so every counter is zero. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2.2, sem_eq_zero_of_no_sems (by decide) r.2⟩)
    (Cert.ReferenceIdeal.Value.run (F := Ideal) m ρ)

/-- The kernel and the reference return the same three arrays: the gradients of the two projections, of the taps and
    of the bias. -/
theorem glu_gradients : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => (args m c).projections, fun c => (args m c).taps, fun c => (args m c).bias, ?_, ?_⟩
  · refine (θ_run Cert.KernelIdeal.defs _ _).mono (fun r h c => ?_) (Cert.KernelIdeal.Value.run_blocks (F := Ideal) m g)
    obtain ⟨h0, h1, h2, hr⟩ := h c
    exact ⟨h0.trans (final_projections m c), h1.trans (final_taps m c), h2.trans (final_bias m c), hr⟩
  · refine (θ_run Cert.ReferenceIdeal.defs _ _).mono (fun r h c => ?_) (Cert.ReferenceIdeal.Value.run (F := Ideal) m' g')
    obtain ⟨h0, h1, h2, hr⟩ := h c
    obtain ⟨a0, a1, a2, a3, a4, a5⟩ := hargs c
    have hf := finite_of_pre m hpre c
    refine ⟨h0.trans ?_, h1.trans ?_, h2.trans ?_, hr⟩
    · rw [Cert.ReferenceIdeal.Read.val_main_v78_eq, a0, a1, a2, a3, a4, a5]
      exact ref_projections _ _ _ _ _ _ hf
    · rw [Cert.ReferenceIdeal.Read.val_main_v81_eq, a0, a1, a2, a3, a4, a5]
      exact ref_taps _ _ _ _ _ _ hf
    · rw [Cert.ReferenceIdeal.Read.val_main_v82_eq, a0, a1, a2, a3, a4, a5]
      exact ref_bias _ _ _ _ _ _ hf

/-! ## The products -/

theorem frame_GluDownRef : Cert.quiescent_GluDownRefIdeal (hGluDownRefIdeal := Cert.GluDownRefIdeal.Gen.facts) :=
  fun m ρ _ => (θ_run Cert.GluDownRefIdeal.defs _ _).mono
    (fun r h => ⟨fun c => (h c).2.2.2, sem_eq_zero_of_no_sems (by decide) r.2⟩)
    (Cert.GluDownRefIdeal.Value.run (F := Ideal) m ρ)

theorem frame_DWDownRef : Cert.quiescent_DWDownRefIdeal (hDWDownRefIdeal := Cert.DWDownRefIdeal.Gen.facts) :=
  fun m ρ _ => (θ_run Cert.DWDownRefIdeal.defs _ _).mono
    (fun r h => ⟨fun c => (h c).2, sem_eq_zero_of_no_sems (by decide) r.2⟩)
    (Cert.DWDownRefIdeal.Value.run (F := Ideal) m ρ)

theorem frame_DWGateUpRef : Cert.quiescent_DWGateUpRefIdeal (hDWGateUpRefIdeal := Cert.DWGateUpRefIdeal.Gen.facts) :=
  fun m ρ _ => (θ_run Cert.DWGateUpRefIdeal.defs _ _).mono
    (fun r h => ⟨fun c => (h c).2, sem_eq_zero_of_no_sems (by decide) r.2⟩)
    (Cert.DWGateUpRefIdeal.Value.run (F := Ideal) m ρ)

theorem frame_DFfnInRef : Cert.quiescent_DFfnInRefIdeal (hDFfnInRefIdeal := Cert.DFfnInRefIdeal.Gen.facts) :=
  fun m ρ _ => (θ_run Cert.DFfnInRefIdeal.defs _ _).mono
    (fun r h => ⟨fun c => (h c).2.2.2, sem_eq_zero_of_no_sems (by decide) r.2⟩)
    (Cert.DFfnInRefIdeal.Value.run (F := Ideal) m ρ)

theorem frame_GateUpIdeal : Cert.quiescent_GateUpIdeal (hGateUpIdeal := Cert.GateUpIdeal.Gen.facts) :=
  fun m ρ _ => (θ_run Cert.GateUpIdeal.defs _ _).mono (fun r h => ⟨fun c => (h.1 c).2.2, h.2⟩) (GateUp.run (F := Ideal) m ρ)

theorem frame_GateUpRef : Cert.quiescent_GateUpRefIdeal (hGateUpRefIdeal := Cert.GateUpRefIdeal.Gen.facts) :=
  fun m ρ _ => (θ_run Cert.GateUpRefIdeal.defs _ _).mono
    (fun r h => ⟨fun c => (h c).2.2, sem_eq_zero_of_no_sems (by decide) r.2⟩)
    (Cert.GateUpRefIdeal.Value.run (F := Ideal) m ρ)

theorem frame_InAIdeal : Cert.quiescent_InAIdeal (hInAIdeal := Cert.InAIdeal.Gen.facts) :=
  fun m ρ _ => (θ_run Cert.InAIdeal.defs _ _).mono (fun r h => ⟨fun c => (h.1 c).2.2, h.2⟩) (InA.run (F := Ideal) m ρ)

theorem frame_InARef : Cert.quiescent_InARefIdeal (hInARefIdeal := Cert.InARefIdeal.Gen.facts) :=
  fun m ρ _ => (θ_run Cert.InARefIdeal.defs _ _).mono
    (fun r h => ⟨fun c => (h c).2.2, sem_eq_zero_of_no_sems (by decide) r.2⟩)
    (Cert.InARefIdeal.Value.run (F := Ideal) m ρ)

theorem frame_InBIdeal : Cert.quiescent_InBIdeal (hInBIdeal := Cert.InBIdeal.Gen.facts) :=
  fun m ρ _ => (θ_run Cert.InBIdeal.defs _ _).mono (fun r h => ⟨fun c => (h.1 c).2.2, h.2⟩) (InB.run (F := Ideal) m ρ)

theorem frame_InBRef : Cert.quiescent_InBRefIdeal (hInBRefIdeal := Cert.InBRefIdeal.Gen.facts) :=
  fun m ρ _ => (θ_run Cert.InBRefIdeal.defs _ _).mono
    (fun r h => ⟨fun c => (h c).2.2, sem_eq_zero_of_no_sems (by decide) r.2⟩)
    (Cert.InBRefIdeal.Value.run (F := Ideal) m ρ)

theorem frame_OutProjRef : Cert.quiescent_OutProjRefIdeal (hOutProjRefIdeal := Cert.OutProjRefIdeal.Gen.facts) :=
  fun m ρ _ => (θ_run Cert.OutProjRefIdeal.defs _ _).mono
    (fun r h => ⟨fun c => (h c).2, sem_eq_zero_of_no_sems (by decide) r.2⟩)
    (Cert.OutProjRefIdeal.Value.run (F := Ideal) m ρ)

theorem frame_DMixRef : Cert.quiescent_DMixRefIdeal (hDMixRefIdeal := Cert.DMixRefIdeal.Gen.facts) :=
  fun m ρ _ => (θ_run Cert.DMixRefIdeal.defs _ _).mono
    (fun r h => ⟨fun c => (h c).2, sem_eq_zero_of_no_sems (by decide) r.2⟩)
    (Cert.DMixRefIdeal.Value.run (F := Ideal) m ρ)

theorem frame_DWOutRef : Cert.quiescent_DWOutRefIdeal (hDWOutRefIdeal := Cert.DWOutRefIdeal.Gen.facts) :=
  fun m ρ _ => (θ_run Cert.DWOutRefIdeal.defs _ _).mono
    (fun r h => ⟨fun c => (h c).2, sem_eq_zero_of_no_sems (by decide) r.2⟩)
    (Cert.DWOutRefIdeal.Value.run (F := Ideal) m ρ)

theorem frame_DInARef : Cert.quiescent_DInARefIdeal (hDInARefIdeal := Cert.DInARefIdeal.Gen.facts) :=
  fun m ρ _ => (θ_run Cert.DInARefIdeal.defs _ _).mono
    (fun r h => ⟨fun c => (h c).2.2, sem_eq_zero_of_no_sems (by decide) r.2⟩)
    (Cert.DInARefIdeal.Value.run (F := Ideal) m ρ)

theorem frame_DWInARef : Cert.quiescent_DWInARefIdeal (hDWInARefIdeal := Cert.DWInARefIdeal.Gen.facts) :=
  fun m ρ _ => (θ_run Cert.DWInARefIdeal.defs _ _).mono
    (fun r h => ⟨fun c => (h c).2, sem_eq_zero_of_no_sems (by decide) r.2⟩)
    (Cert.DWInARefIdeal.Value.run (F := Ideal) m ρ)

theorem frame_DInBRef : Cert.quiescent_DInBRefIdeal (hDInBRefIdeal := Cert.DInBRefIdeal.Gen.facts) :=
  fun m ρ _ => (θ_run Cert.DInBRefIdeal.defs _ _).mono
    (fun r h => ⟨fun c => (h c).2.2.2, sem_eq_zero_of_no_sems (by decide) r.2⟩)
    (Cert.DInBRefIdeal.Value.run (F := Ideal) m ρ)

theorem frame_DWInBRef : Cert.quiescent_DWInBRefIdeal (hDWInBRefIdeal := Cert.DWInBRefIdeal.Gen.facts) :=
  fun m ρ _ => (θ_run Cert.DWInBRefIdeal.defs _ _).mono
    (fun r h => ⟨fun c => (h c).2, sem_eq_zero_of_no_sems (by decide) r.2⟩)
    (Cert.DWInBRefIdeal.Value.run (F := Ideal) m ρ)

/-- The gate and up projections of the normalised rows, which are the second result. -/
theorem gate_up : Cert.algebraic_GateUpIdeal_GateUpRefIdeal (hGateUpIdeal := Cert.GateUpIdeal.Gen.facts)
    (hGateUpRefIdeal := Cert.GateUpRefIdeal.Gen.facts) := by
  intro m g m' g' _ hargs
  refine ⟨fun c => (GateUp.args m c).product, fun c => (GateUp.args m c).norm, ?_, ?_⟩
  · refine (θ_run Cert.GateUpIdeal.defs _ _).mono (fun r h c => ?_) (GateUp.run (F := Ideal) m g)
    obtain ⟨h0, h1, hr⟩ := h.1 c
    exact ⟨h0.trans (GateUp.final_product m c), h1.trans (GateUp.final_norm m c), hr⟩
  · refine (θ_run Cert.GateUpRefIdeal.defs _ _).mono (fun r h c => ?_) (Cert.GateUpRefIdeal.Value.run (F := Ideal) m' g')
    obtain ⟨h0, h1, hr⟩ := h c
    obtain ⟨a0, a1, a2⟩ := hargs c
    refine ⟨h0.trans ?_, h1.trans ?_, hr⟩
    · rw [Cert.GateUpRefIdeal.Read.val_main_v16_eq, a0, a1, a2]
      exact GateUp.ref_product _ _ _
    · rw [Cert.GateUpRefIdeal.Read.val_main_v17_eq, a0, a1]
      exact GateUp.ref_norm _ _ (GateUp.args m c).w

/-- The down projection, with the activation and the convolved gate that the forward pass keeps. -/
theorem glu_down : Cert.algebraic_GluDownIdeal_GluDownRefIdeal (hGluDownIdeal := Cert.GluDownIdeal.Gen.facts)
    (hGluDownRefIdeal := Cert.GluDownRefIdeal.Gen.facts) := by
  intro m g m' g' _ hargs
  refine ⟨fun c => (GluDown.args m c).out, fun c => (GluDown.args m c).actBlocks, fun c => (GluDown.args m c).convBlocks, ?_, ?_⟩
  · refine (θ_run Cert.GluDownIdeal.defs _ _).mono (fun r h c => ?_) (Cert.GluDownIdeal.Value.run_blocks (F := Ideal) m g)
    obtain ⟨h0, h1, h2, hr⟩ := h c
    exact ⟨h0.trans (GluDown.final_out m c), h1.trans (GluDown.final_act m c), h2.trans (GluDown.final_conv m c), hr⟩
  · refine (θ_run Cert.GluDownRefIdeal.defs _ _).mono (fun r h c => ?_) (Cert.GluDownRefIdeal.Value.run (F := Ideal) m' g')
    obtain ⟨h0, h1, h2, hr⟩ := h c
    obtain ⟨a0, a1, a2, a3, a4, a5⟩ := hargs c
    refine ⟨h0.trans ?_, h1.trans ?_, h2.trans ?_, hr⟩
    · rw [Cert.GluDownRefIdeal.Read.val_main_v30_eq, a0, a1, a2, a3, a4, a5]
      exact GluDown.ref_out _ _ _ _ _ _
    · rw [Cert.GluDownRefIdeal.Read.val_main_v33_eq, a1, a2, a3, a4]
      exact GluDown.ref_actBlocks (GluDown.args m c).h _ _ _ _ (GluDown.args m c).wd
    · rw [Cert.GluDownRefIdeal.Read.val_main_v36_eq, a1, a3, a4]
      exact GluDown.ref_convBlocks (GluDown.args m c).h _ (GluDown.args m c).up _ _ (GluDown.args m c).wd

/-- The gradient of the down projection's weights. -/
theorem d_w_down : Cert.algebraic_DWDownIdeal_DWDownRefIdeal (hDWDownIdeal := Cert.DWDownIdeal.Gen.facts)
    (hDWDownRefIdeal := Cert.DWDownRefIdeal.Gen.facts) := by
  intro m g m' g' _ hargs
  refine ⟨fun c => DWDown.grad (DWDown.act m c) (DWDown.ct m c), ?_, ?_⟩
  · refine (θ_run Cert.DWDownIdeal.defs _ _).mono (fun r h c => ?_) (Cert.DWDownIdeal.Value.run_blocks (F := Ideal) m g)
    obtain ⟨h0, hr⟩ := h c
    exact ⟨h0.trans (DWDown.final m c), hr⟩
  · refine (θ_run Cert.DWDownRefIdeal.defs _ _).mono (fun r h c => ?_) (Cert.DWDownRefIdeal.Value.run (F := Ideal) m' g')
    obtain ⟨h0, hr⟩ := h c
    obtain ⟨a0, _, a2⟩ := hargs c
    refine ⟨h0.trans ?_, hr⟩
    rw [Cert.DWDownRefIdeal.Read.val_main_v4_eq, a0, a2]
    exact DWDown.ref_eq _ _

/-- The gradient of the feed-forward's input, its copy, and the gradient of the norm's weights. -/
theorem d_ffn_in : Cert.algebraic_DFfnInIdeal_DFfnInRefIdeal (hDFfnInIdeal := Cert.DFfnInIdeal.Gen.facts)
    (hDFfnInRefIdeal := Cert.DFfnInRefIdeal.Gen.facts) := by
  intro m g m' g' _ hargs
  refine ⟨fun c => (DFfnIn.args m c).dRows, fun c => (DFfnIn.args m c).dRows, fun c => (DFfnIn.args m c).dWeights, ?_, ?_⟩
  · refine (θ_run Cert.DFfnInIdeal.defs _ _).mono (fun r h c => ?_) (Cert.DFfnInIdeal.Value.run_blocks (F := Ideal) m g)
    obtain ⟨h0, h1, h2, hr⟩ := h c
    exact ⟨h0.trans (DFfnIn.final_rows m c), h1.trans (DFfnIn.final_copy m c), h2.trans (DFfnIn.final_weights m c), hr⟩
  · refine (θ_run Cert.DFfnInRefIdeal.defs _ _).mono (fun r h c => ?_) (Cert.DFfnInRefIdeal.Value.run (F := Ideal) m' g')
    obtain ⟨h0, h1, h2, hr⟩ := h c
    obtain ⟨a0, a1, a2, a3, a4⟩ := hargs c
    refine ⟨h0.trans ?_, h1.trans ?_, h2.trans ?_, hr⟩
    · rw [Cert.DFfnInRefIdeal.Read.val_main_v38_eq, a0, a1, a2, a3, a4]
      exact DFfnIn.ref_rows _ _ _ _ _
    · rw [Cert.DFfnInRefIdeal.Read.val_main_v39_eq, a0, a1, a2, a3, a4]
      exact DFfnIn.ref_copy _ _ _ _ _
    · rw [Cert.DFfnInRefIdeal.Read.val_main_v40_eq, a0, a2, a3]
      exact DFfnIn.ref_weights _ (DFfnIn.args m c).g _ _ (DFfnIn.args m c).dh

/-- The gradient of the gate and up projections' weights. -/
theorem d_w_gate_up : Cert.algebraic_DWGateUpIdeal_DWGateUpRefIdeal (hDWGateUpIdeal := Cert.DWGateUpIdeal.Gen.facts)
    (hDWGateUpRefIdeal := Cert.DWGateUpRefIdeal.Gen.facts) := by
  intro m g m' g' _ hargs
  refine ⟨fun c => DWGateUp.grad (DWGateUp.rows m c) (DWGateUp.weights m c) (DWGateUp.ct m c), ?_, ?_⟩
  · refine (θ_run Cert.DWGateUpIdeal.defs _ _).mono (fun r h c => ?_) (Cert.DWGateUpIdeal.Value.run_blocks (F := Ideal) m g)
    obtain ⟨h0, hr⟩ := h c
    exact ⟨h0.trans (DWGateUp.final m c), hr⟩
  · refine (θ_run Cert.DWGateUpRefIdeal.defs _ _).mono (fun r h c => ?_) (Cert.DWGateUpRefIdeal.Value.run (F := Ideal) m' g')
    obtain ⟨h0, hr⟩ := h c
    obtain ⟨a0, a1, _, a3⟩ := hargs c
    refine ⟨h0.trans ?_, hr⟩
    rw [Cert.DWGateUpRefIdeal.Read.val_main_v18_eq, a0, a1, a3]
    exact DWGateUp.ref_eq _ _ _

/-- The output projection, added to the residual. -/
theorem out_proj : Cert.algebraic_OutProjIdeal_OutProjRefIdeal (hOutProjIdeal := Cert.OutProjIdeal.Gen.facts)
    (hOutProjRefIdeal := Cert.OutProjRefIdeal.Gen.facts) := by
  intro m g m' g' _ hargs
  refine ⟨fun c => OutProj.proj (OutProj.res m c) (OutProj.mix m c) (OutProj.weights m c), ?_, ?_⟩
  · refine (θ_run Cert.OutProjIdeal.defs _ _).mono (fun r h c => ?_) (Cert.OutProjIdeal.Value.run_blocks (F := Ideal) m g)
    obtain ⟨h0, hr⟩ := h c
    exact ⟨h0.trans (OutProj.final m c), hr⟩
  · refine (θ_run Cert.OutProjRefIdeal.defs _ _).mono (fun r h c => ?_) (Cert.OutProjRefIdeal.Value.run (F := Ideal) m' g')
    obtain ⟨h0, hr⟩ := h c
    obtain ⟨a0, a1, a2⟩ := hargs c
    refine ⟨h0.trans ?_, hr⟩
    rw [Cert.OutProjRefIdeal.Read.val_main_v1_eq, a0, a1, a2]
    exact OutProj.ref_eq _ _ _

/-- The gradient of the mixed heads. -/
theorem d_mix : Cert.algebraic_DMixIdeal_DMixRefIdeal (hDMixIdeal := Cert.DMixIdeal.Gen.facts)
    (hDMixRefIdeal := Cert.DMixRefIdeal.Gen.facts) := by
  intro m g m' g' _ hargs
  refine ⟨fun c => DMix.grad (DMix.weights m c) (DMix.ct m c), ?_, ?_⟩
  · refine (θ_run Cert.DMixIdeal.defs _ _).mono (fun r h c => ?_) (Cert.DMixIdeal.Value.run_blocks (F := Ideal) m g)
    obtain ⟨h0, hr⟩ := h c
    exact ⟨h0.trans (DMix.final m c), hr⟩
  · refine (θ_run Cert.DMixRefIdeal.defs _ _).mono (fun r h c => ?_) (Cert.DMixRefIdeal.Value.run (F := Ideal) m' g')
    obtain ⟨h0, hr⟩ := h c
    obtain ⟨_, a1, a2⟩ := hargs c
    refine ⟨h0.trans ?_, hr⟩
    rw [Cert.DMixRefIdeal.Read.val_main_v2_eq, a1, a2]
    exact DMix.ref_eq _ _

/-- The gradient of the output projection's weights. -/
theorem d_w_out : Cert.algebraic_DWOutIdeal_DWOutRefIdeal (hDWOutIdeal := Cert.DWOutIdeal.Gen.facts)
    (hDWOutRefIdeal := Cert.DWOutRefIdeal.Gen.facts) := by
  intro m g m' g' _ hargs
  refine ⟨fun c => DWOut.grad (DWOut.mix m c) (DWOut.ct m c), ?_, ?_⟩
  · refine (θ_run Cert.DWOutIdeal.defs _ _).mono (fun r h c => ?_) (Cert.DWOutIdeal.Value.run_blocks (F := Ideal) m g)
    obtain ⟨h0, hr⟩ := h c
    exact ⟨h0.trans (DWOut.final m c), hr⟩
  · refine (θ_run Cert.DWOutRefIdeal.defs _ _).mono (fun r h c => ?_) (Cert.DWOutRefIdeal.Value.run (F := Ideal) m' g')
    obtain ⟨h0, hr⟩ := h c
    obtain ⟨a0, _, a2⟩ := hargs c
    refine ⟨h0.trans ?_, hr⟩
    rw [Cert.DWOutRefIdeal.Read.val_main_v4_eq, a0, a2]
    exact DWOut.ref_eq _ _

/-- The gradient of the first input projection's rows, and the gradient of the norm's weights. -/
theorem d_in_a : Cert.algebraic_DInAIdeal_DInARefIdeal (hDInAIdeal := Cert.DInAIdeal.Gen.facts)
    (hDInARefIdeal := Cert.DInARefIdeal.Gen.facts) := by
  intro m g m' g' _ hargs
  refine ⟨fun c => (DInA.args m c).dRows, fun c => (DInA.args m c).dWeights, ?_, ?_⟩
  · refine (θ_run Cert.DInAIdeal.defs _ _).mono (fun r h c => ?_) (Cert.DInAIdeal.Value.run_blocks (F := Ideal) m g)
    obtain ⟨h0, h1, hr⟩ := h c
    exact ⟨h0.trans (DInA.final_rows m c), h1.trans (DInA.final_weights m c), hr⟩
  · refine (θ_run Cert.DInARefIdeal.defs _ _).mono (fun r h c => ?_) (Cert.DInARefIdeal.Value.run (F := Ideal) m' g')
    obtain ⟨h0, h1, hr⟩ := h c
    obtain ⟨a0, a1, a2, a3, a4⟩ := hargs c
    refine ⟨h0.trans ?_, h1.trans ?_, hr⟩
    · rw [Cert.DInARefIdeal.Read.val_main_v38_eq, a0, a1, a2, a3, a4]
      exact DInA.ref_rows _ _ _ _ _
    · rw [Cert.DInARefIdeal.Read.val_main_v39_eq, a0, a2, a3]
      exact DInA.ref_weights _ (DInA.args m c).g _ _ (DInA.args m c).dh

/-- The gradient of the first input projection's weights. -/
theorem d_w_in_a : Cert.algebraic_DWInAIdeal_DWInARefIdeal (hDWInAIdeal := Cert.DWInAIdeal.Gen.facts)
    (hDWInARefIdeal := Cert.DWInARefIdeal.Gen.facts) := by
  intro m g m' g' _ hargs
  refine ⟨fun c => DWInA.grad (DWInA.rows m c) (DWInA.weights m c) (DWInA.ct m c), ?_, ?_⟩
  · refine (θ_run Cert.DWInAIdeal.defs _ _).mono (fun r h c => ?_) (Cert.DWInAIdeal.Value.run_blocks (F := Ideal) m g)
    obtain ⟨h0, hr⟩ := h c
    exact ⟨h0.trans (DWInA.final m c), hr⟩
  · refine (θ_run Cert.DWInARefIdeal.defs _ _).mono (fun r h c => ?_) (Cert.DWInARefIdeal.Value.run (F := Ideal) m' g')
    obtain ⟨h0, hr⟩ := h c
    obtain ⟨a0, a1, _, a3⟩ := hargs c
    refine ⟨h0.trans ?_, hr⟩
    rw [Cert.DWInARefIdeal.Read.val_main_v18_eq, a0, a1, a3]
    exact DWInA.ref_eq _ _ _

/-- The gradient of the second input projection's rows, its copy, and the gradient of the norm's weights. -/
theorem d_in_b : Cert.algebraic_DInBIdeal_DInBRefIdeal (hDInBIdeal := Cert.DInBIdeal.Gen.facts)
    (hDInBRefIdeal := Cert.DInBRefIdeal.Gen.facts) := by
  intro m g m' g' _ hargs
  refine ⟨fun c => (DInB.args m c).dRows, fun c => (DInB.args m c).dRows, fun c => (DInB.args m c).dWeights, ?_, ?_⟩
  · refine (θ_run Cert.DInBIdeal.defs _ _).mono (fun r h c => ?_) (Cert.DInBIdeal.Value.run_blocks (F := Ideal) m g)
    obtain ⟨h0, h1, h2, hr⟩ := h c
    exact ⟨h0.trans (DInB.final_rows m c), h1.trans (DInB.final_copy m c), h2.trans (DInB.final_weights m c), hr⟩
  · refine (θ_run Cert.DInBRefIdeal.defs _ _).mono (fun r h c => ?_) (Cert.DInBRefIdeal.Value.run (F := Ideal) m' g')
    obtain ⟨h0, h1, h2, hr⟩ := h c
    obtain ⟨a0, a1, a2, a3, a4⟩ := hargs c
    refine ⟨h0.trans ?_, h1.trans ?_, h2.trans ?_, hr⟩
    · rw [Cert.DInBRefIdeal.Read.val_main_v38_eq, a0, a1, a2, a3, a4]
      exact DInB.ref_rows _ _ _ _ _
    · rw [Cert.DInBRefIdeal.Read.val_main_v39_eq, a0, a1, a2, a3, a4]
      exact DInB.ref_copy _ _ _ _ _
    · rw [Cert.DInBRefIdeal.Read.val_main_v40_eq, a0, a2, a3]
      exact DInB.ref_weights _ (DInB.args m c).g _ _ (DInB.args m c).dh

/-- The gradient of the second input projection's weights. -/
theorem d_w_in_b : Cert.algebraic_DWInBIdeal_DWInBRefIdeal (hDWInBIdeal := Cert.DWInBIdeal.Gen.facts)
    (hDWInBRefIdeal := Cert.DWInBRefIdeal.Gen.facts) := by
  intro m g m' g' _ hargs
  refine ⟨fun c => DWInB.grad (DWInB.rows m c) (DWInB.weights m c) (DWInB.ct m c), ?_, ?_⟩
  · refine (θ_run Cert.DWInBIdeal.defs _ _).mono (fun r h c => ?_) (Cert.DWInBIdeal.Value.run_blocks (F := Ideal) m g)
    obtain ⟨h0, hr⟩ := h c
    exact ⟨h0.trans (DWInB.final m c), hr⟩
  · refine (θ_run Cert.DWInBRefIdeal.defs _ _).mono (fun r h c => ?_) (Cert.DWInBRefIdeal.Value.run (F := Ideal) m' g')
    obtain ⟨h0, hr⟩ := h c
    obtain ⟨a0, a1, _, a3⟩ := hargs c
    refine ⟨h0.trans ?_, hr⟩
    rw [Cert.DWInBRefIdeal.Read.val_main_v17_eq, a0, a1, a3]
    exact DWInB.ref_eq _ _ _

/-- The first input projection, and the normed rows that the forward pass keeps. -/
theorem in_a : Cert.algebraic_InAIdeal_InARefIdeal (hInAIdeal := Cert.InAIdeal.Gen.facts)
    (hInARefIdeal := Cert.InARefIdeal.Gen.facts) := by
  intro m g m' g' _ hargs
  refine ⟨fun c => (InA.args m c).product .bf16, fun c => (InA.args m c).norm, ?_, ?_⟩
  · refine (θ_run Cert.InAIdeal.defs _ _).mono (fun r h c => ?_) (InA.run (F := Ideal) m g)
    obtain ⟨h0, h1, hr⟩ := h.1 c
    exact ⟨h0.trans (InA.final_product m c), h1.trans (InA.final_norm m c), hr⟩
  · refine (θ_run Cert.InARefIdeal.defs _ _).mono (fun r h c => ?_) (Cert.InARefIdeal.Value.run (F := Ideal) m' g')
    obtain ⟨h0, h1, hr⟩ := h c
    obtain ⟨a0, a1, a2⟩ := hargs c
    refine ⟨h0.trans ?_, h1.trans ?_, hr⟩
    · rw [Cert.InARefIdeal.Read.val_main_v14_eq, a0, a1, a2]
      exact InA.ref_product _ _ _
    · rw [Cert.InARefIdeal.Read.val_main_v15_eq, a0, a1]
      exact InA.ref_norm _ _ (InA.args m c).w

/-- The second input projection, and the normed rows that the forward pass keeps. -/
theorem in_b : Cert.algebraic_InBIdeal_InBRefIdeal (hInBIdeal := Cert.InBIdeal.Gen.facts)
    (hInBRefIdeal := Cert.InBRefIdeal.Gen.facts) := by
  intro m g m' g' _ hargs
  refine ⟨fun c => (InB.args m c).product .f32, fun c => (InB.args m c).norm, ?_, ?_⟩
  · refine (θ_run Cert.InBIdeal.defs _ _).mono (fun r h c => ?_) (InB.run (F := Ideal) m g)
    obtain ⟨h0, h1, hr⟩ := h.1 c
    exact ⟨h0.trans (InB.final_product m c), h1.trans (InB.final_norm m c), hr⟩
  · refine (θ_run Cert.InBRefIdeal.defs _ _).mono (fun r h c => ?_) (Cert.InBRefIdeal.Value.run (F := Ideal) m' g')
    obtain ⟨h0, h1, hr⟩ := h c
    obtain ⟨a0, a1, a2⟩ := hargs c
    refine ⟨h0.trans ?_, h1.trans ?_, hr⟩
    · rw [Cert.InBRefIdeal.Read.val_main_v13_eq, a0, a1, a2]
      exact InB.ref_product _ _ _
    · rw [Cert.InBRefIdeal.Read.val_main_v14_eq, a0, a1]
      exact InB.ref_norm _ _ (InB.args m c).w

theorem claim : Cert.Claim :=
  ⟨Cert.Kernel.Gen.facts, Cert.KernelIdeal.Gen.facts, Cert.ReferenceIdeal.Gen.facts,
    Cert.GateUp.Gen.facts, Cert.GateUpIdeal.Gen.facts, Cert.GateUpRefIdeal.Gen.facts,
    Cert.GluDown.Gen.facts, Cert.GluDownIdeal.Gen.facts, Cert.GluDownRefIdeal.Gen.facts,
    Cert.DWDown.Gen.facts, Cert.DWDownIdeal.Gen.facts, Cert.DWDownRefIdeal.Gen.facts,
    Cert.DFfnIn.Gen.facts, Cert.DFfnInIdeal.Gen.facts, Cert.DFfnInRefIdeal.Gen.facts,
    Cert.DWGateUp.Gen.facts, Cert.DWGateUpIdeal.Gen.facts, Cert.DWGateUpRefIdeal.Gen.facts,
    Cert.OutProj.Gen.facts, Cert.OutProjIdeal.Gen.facts, Cert.OutProjRefIdeal.Gen.facts,
    Cert.DMix.Gen.facts, Cert.DMixIdeal.Gen.facts, Cert.DMixRefIdeal.Gen.facts,
    Cert.DWOut.Gen.facts, Cert.DWOutIdeal.Gen.facts, Cert.DWOutRefIdeal.Gen.facts,
    Cert.DInA.Gen.facts, Cert.DInAIdeal.Gen.facts, Cert.DInARefIdeal.Gen.facts,
    Cert.DWInA.Gen.facts, Cert.DWInAIdeal.Gen.facts, Cert.DWInARefIdeal.Gen.facts,
    Cert.DInB.Gen.facts, Cert.DInBIdeal.Gen.facts, Cert.DInBRefIdeal.Gen.facts,
    Cert.DWInB.Gen.facts, Cert.DWInBIdeal.Gen.facts, Cert.DWInBRefIdeal.Gen.facts,
    Cert.InA.Gen.facts, Cert.InAIdeal.Gen.facts, Cert.InARefIdeal.Gen.facts,
    Cert.InB.Gen.facts, Cert.InBIdeal.Gen.facts, Cert.InBRefIdeal.Gen.facts,
    Cert.Pre_finite.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    GateUp.frame_bits, frame_GateUpIdeal, frame_GateUpRef,
    fun m ρ _ => Cert.GluDown.Gen.frame m ρ, fun m ρ _ => Cert.GluDownIdeal.Gen.frame m ρ, frame_GluDownRef,
    fun m ρ _ => Cert.DWDown.Gen.frame m ρ, fun m ρ _ => Cert.DWDownIdeal.Gen.frame m ρ, frame_DWDownRef,
    fun m ρ _ => Cert.DFfnIn.Gen.frame m ρ, fun m ρ _ => Cert.DFfnInIdeal.Gen.frame m ρ, frame_DFfnInRef,
    fun m ρ _ => Cert.DWGateUp.Gen.frame m ρ, fun m ρ _ => Cert.DWGateUpIdeal.Gen.frame m ρ, frame_DWGateUpRef,
    fun m ρ _ => Cert.OutProj.Gen.frame m ρ, fun m ρ _ => Cert.OutProjIdeal.Gen.frame m ρ, frame_OutProjRef,
    fun m ρ _ => Cert.DMix.Gen.frame m ρ, fun m ρ _ => Cert.DMixIdeal.Gen.frame m ρ, frame_DMixRef,
    fun m ρ _ => Cert.DWOut.Gen.frame m ρ, fun m ρ _ => Cert.DWOutIdeal.Gen.frame m ρ, frame_DWOutRef,
    fun m ρ _ => Cert.DInA.Gen.frame m ρ, fun m ρ _ => Cert.DInAIdeal.Gen.frame m ρ, frame_DInARef,
    fun m ρ _ => Cert.DWInA.Gen.frame m ρ, fun m ρ _ => Cert.DWInAIdeal.Gen.frame m ρ, frame_DWInARef,
    fun m ρ _ => Cert.DInB.Gen.frame m ρ, fun m ρ _ => Cert.DInBIdeal.Gen.frame m ρ, frame_DInBRef,
    fun m ρ _ => Cert.DWInB.Gen.frame m ρ, fun m ρ _ => Cert.DWInBIdeal.Gen.frame m ρ, frame_DWInBRef,
    InA.frame_bits, frame_InAIdeal, frame_InARef, InB.frame_bits, frame_InBIdeal, frame_InBRef,
    trivial, glu_gradients, trivial, gate_up, trivial, glu_down, trivial, d_w_down, trivial, d_ffn_in, trivial, d_w_gate_up,
    trivial, out_proj, trivial, d_mix, trivial, d_w_out, trivial, d_in_a, trivial, d_w_in_a, trivial, d_in_b, trivial, d_w_in_b,
    trivial, in_a, trivial, in_b⟩

end Cert.Proof

end
